-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x2x8448x256 : Shape := ⟨4, ![16, 2, 8448, 256]⟩
abbrev S32x2x8448x256 : Shape := ⟨4, ![32, 2, 8448, 256]⟩
abbrev S1x128 : Shape := ⟨2, ![1, 128]⟩
abbrev S1x256 : Shape := ⟨2, ![1, 256]⟩
abbrev S_ : Shape := ⟨0, ![]⟩
abbrev S8x2x8448x256 : Shape := ⟨4, ![8, 2, 8448, 256]⟩

class Facts : Prop where
  bitsLt_bf16_f32 : FTy.bits .bf16 < FTy.bits .f32
  bcast_S_S16x2x8448x256 : S_.BroadcastsInDim S16x2x8448x256 (![] : Fin 0 → Fin S16x2x8448x256.rank)
  slices_S32x2x8448x256_S8x2x8448x256_0_0_0_0 : S32x2x8448x256.Slices ![0, 0, 0, 0] S8x2x8448x256
  bcast_S_S8x2x8448x256 : S_.BroadcastsInDim S8x2x8448x256 (![] : Fin 0 → Fin S8x2x8448x256.rank)
  bcast_S_S1x128 : S_.BroadcastsInDim S1x128 (![] : Fin 0 → Fin S1x128.rank)

variable [Facts]

def fn_part1 {F : FTy → Type} [FloatOps F] (main_v3 : IVec S16x2x8448x256 1) (main_v8 : IVec S8x2x8448x256 1) (main_v11 : IVec S1x128 1) (main_v14 : IVec S1x128 1) (main_v17 : IVec S1x128 1) (main_v18 : FVec F S1x128 .f32) : IVec S16x2x8448x256 1 × IVec S8x2x8448x256 1 × IVec S1x128 1 × IVec S1x128 1 × IVec S1x128 1 × IVec S1x128 1 :=
  let main_cst_4 : FVec F S_ .f32 := constant S_ .f32 0x7F800000#32
  let main_v19 : FVec F S1x128 .f32 := broadcastInDim S1x128 ![] bcast_S_S1x128 main_cst_4
  let main_v20 : IVec S1x128 1 := cmpf .olt main_v18 main_v19
  (main_v3, main_v8, main_v11, main_v14, main_v17, main_v20)

def fn {F : FTy → Type} [FloatOps F] (main_arg0 : FVec F S16x2x8448x256 .bf16) (main_arg1 : FVec F S32x2x8448x256 .bf16) (main_arg2 : FVec F S1x128 .f32) (main_arg3 : FVec F S1x128 .f32) (main_arg4 : FVec F S1x128 .f32) (main_arg5 : FVec F S1x128 .f32) (main_arg6 : FVec F S1x256 .f32) : IVec S16x2x8448x256 1 × IVec S8x2x8448x256 1 × IVec S1x128 1 × IVec S1x128 1 × IVec S1x128 1 × IVec S1x128 1 :=
  let main_v0 : FVec F S16x2x8448x256 .f32 := (extf .f32 · bitsLt_bf16_f32) main_arg0
  let main_v1 : FVec F S16x2x8448x256 .f32 := Host.absf main_v0
  let main_cst : FVec F S_ .f32 := constant S_ .f32 0x7F800000#32
  let main_v2 : FVec F S16x2x8448x256 .f32 := broadcastInDim S16x2x8448x256 ![] bcast_S_S16x2x8448x256 main_cst
  let main_v3 : IVec S16x2x8448x256 1 := cmpf .olt main_v1 main_v2
  let main_v4 : FVec F S8x2x8448x256 .bf16 := (extractStridedSlice S8x2x8448x256 ![0, 0, 0, 0] · slices_S32x2x8448x256_S8x2x8448x256_0_0_0_0) main_arg1
  let main_v5 : FVec F S8x2x8448x256 .f32 := (extf .f32 · bitsLt_bf16_f32) main_v4
  let main_v6 : FVec F S8x2x8448x256 .f32 := Host.absf main_v5
  let main_cst_0 : FVec F S_ .f32 := constant S_ .f32 0x7F800000#32
  let main_v7 : FVec F S8x2x8448x256 .f32 := broadcastInDim S8x2x8448x256 ![] bcast_S_S8x2x8448x256 main_cst_0
  let main_v8 : IVec S8x2x8448x256 1 := cmpf .olt main_v6 main_v7
  let main_v9 : FVec F S1x128 .f32 := Host.absf main_arg2
  let main_cst_1 : FVec F S_ .f32 := constant S_ .f32 0x7F800000#32
  let main_v10 : FVec F S1x128 .f32 := broadcastInDim S1x128 ![] bcast_S_S1x128 main_cst_1
  let main_v11 : IVec S1x128 1 := cmpf .olt main_v9 main_v10
  let main_v12 : FVec F S1x128 .f32 := Host.absf main_arg3
  let main_cst_2 : FVec F S_ .f32 := constant S_ .f32 0x7F800000#32
  let main_v13 : FVec F S1x128 .f32 := broadcastInDim S1x128 ![] bcast_S_S1x128 main_cst_2
  let main_v14 : IVec S1x128 1 := cmpf .olt main_v12 main_v13
  let main_v15 : FVec F S1x128 .f32 := Host.absf main_arg4
  let main_cst_3 : FVec F S_ .f32 := constant S_ .f32 0x7F800000#32
  let main_v16 : FVec F S1x128 .f32 := broadcastInDim S1x128 ![] bcast_S_S1x128 main_cst_3
  let main_v17 : IVec S1x128 1 := cmpf .olt main_v15 main_v16
  let main_v18 : FVec F S1x128 .f32 := Host.absf main_arg5
  fn_part1 (F := F) main_v3 main_v8 main_v11 main_v14 main_v17 main_v18
-- ==== Kernel.lean ====
abbrev S16x2x8448x256 : Shape := ⟨4, ![16, 2, 8448, 256]⟩
abbrev S32x2x8448x256 : Shape := ⟨4, ![32, 2, 8448, 256]⟩
abbrev S1x128 : Shape := ⟨2, ![1, 128]⟩
abbrev S1x256 : Shape := ⟨2, ![1, 256]⟩
abbrev S128 : Shape := ⟨1, ![128]⟩
abbrev S4x128 : Shape := ⟨2, ![4, 128]⟩
abbrev S256 : Shape := ⟨1, ![256]⟩
abbrev S2x8192x2048 : Shape := ⟨3, ![2, 8192, 2048]⟩
abbrev S1x1x1024x256 : Shape := ⟨4, ![1, 1, 1024, 256]⟩
abbrev S1x1x8448x256 : Shape := ⟨4, ![1, 1, 8448, 256]⟩
abbrev S1x1024x256 : Shape := ⟨3, ![1, 1024, 256]⟩
abbrev S4x256x2048 : Shape := ⟨3, ![4, 256, 2048]⟩
abbrev S256x256 : Shape := ⟨2, ![256, 256]⟩
abbrev S2x2048x1024 : Shape := ⟨3, ![2, 2048, 1024]⟩
abbrev S2x256x1024 : Shape := ⟨3, ![2, 256, 1024]⟩
abbrev S1x1x2048x256 : Shape := ⟨4, ![1, 1, 2048, 256]⟩
abbrev S2048x256 : Shape := ⟨2, ![2048, 256]⟩
abbrev S256x2048 : Shape := ⟨2, ![256, 2048]⟩
abbrev S1x256x2048 : Shape := ⟨3, ![1, 256, 2048]⟩
abbrev S1x1x256x256 : Shape := ⟨4, ![1, 1, 256, 256]⟩
abbrev S1024x256 : Shape := ⟨2, ![1024, 256]⟩
abbrev S256x1024 : Shape := ⟨2, ![256, 1024]⟩
abbrev S128x1024 : Shape := ⟨2, ![128, 1024]⟩
abbrev S1x1024 : Shape := ⟨2, ![1, 1024]⟩
abbrev S8x1024 : Shape := ⟨2, ![8, 1024]⟩
abbrev S256x128 : Shape := ⟨2, ![256, 128]⟩
abbrev S1x256x1024 : Shape := ⟨3, ![1, 256, 1024]⟩
abbrev S1024 : Shape := ⟨1, ![1024]⟩
abbrev S32x8x1024 : Shape := ⟨3, ![32, 8, 1024]⟩
abbrev S2048x128 : Shape := ⟨2, ![2048, 128]⟩
abbrev S2048x1024 : Shape := ⟨2, ![2048, 1024]⟩
abbrev S1x2048x1024 : Shape := ⟨3, ![1, 2048, 1024]⟩
abbrev S256x8x1024 : Shape := ⟨3, ![256, 8, 1024]⟩
abbrev S1 : Shape := ⟨1, ![1]⟩
abbrev S1x1 : Shape := ⟨2, ![1, 1]⟩
abbrev S1024x1 : Shape := ⟨2, ![1024, 1]⟩

abbrev nBuf : Space → Nat
  | .hbm => 19
  | .vmem => 17
  | .smem => 0
  | _ => 0

abbrev bufTy : (tb : Table) → Fin (tcTables nBuf tb) → BufTy
  | .hbm, ⟨0, _⟩ => ⟨S16x2x8448x256, .bf16⟩
  | .hbm, ⟨1, _⟩ => ⟨S32x2x8448x256, .bf16⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S4x128, .f32⟩
  | .hbm, ⟨16, _⟩ => ⟨S256, .f32⟩
  | .hbm, ⟨17, _⟩ => ⟨S1x256, .f32⟩
  | .hbm, ⟨18, _⟩ => ⟨S2x8192x2048, .bf16⟩
  | .local _ .vmem, ⟨0, _⟩ => ⟨S4x128, .f32⟩
  | .local _ .vmem, ⟨1, _⟩ => ⟨S1x1x1024x256, .bf16⟩
  | .local _ .vmem, ⟨2, _⟩ => ⟨S1x1x1024x256, .bf16⟩
  | .local _ .vmem, ⟨3, _⟩ => ⟨S1x1x8448x256, .bf16⟩
  | .local _ .vmem, ⟨4, _⟩ => ⟨S1x1x8448x256, .bf16⟩
  | .local _ .vmem, ⟨5, _⟩ => ⟨S1x1x8448x256, .bf16⟩
  | .local _ .vmem, ⟨6, _⟩ => ⟨S1x1x8448x256, .bf16⟩
  | .local _ .vmem, ⟨7, _⟩ => ⟨S1x1x1024x256, .bf16⟩
  | .local _ .vmem, ⟨8, _⟩ => ⟨S1x1x1024x256, .bf16⟩
  | .local _ .vmem, ⟨9, _⟩ => ⟨S1x256, .f32⟩
  | .local _ .vmem, ⟨10, _⟩ => ⟨S1x1024x256, .bf16⟩
  | .local _ .vmem, ⟨11, _⟩ => ⟨S1x1024x256, .bf16⟩
  | .local _ .vmem, ⟨12, _⟩ => ⟨S4x256x2048, .bf16⟩
  | .local _ .vmem, ⟨13, _⟩ => ⟨S256x256, .bf16⟩
  | .local _ .vmem, ⟨14, _⟩ => ⟨S2x2048x1024, .f32⟩
  | .local _ .vmem, ⟨15, _⟩ => ⟨S2x2048x1024, .bf16⟩
  | .local _ .vmem, ⟨16, _⟩ => ⟨S2x256x1024, .f32⟩
  | _, _ => ⟨S16x2x8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_202 : BitVec 32 := 0#32
  let c4_i32 : BitVec 32 := 4#32
  let v336 : BitVec 32 := Scalar.addi c0_i32_202 c4_i32
  let c1_i32_203 : BitVec 32 := 1#32
  ⟨c0_i32_202, v336, c1_i32_203⟩
def k0_mult1 (k0_t1 : Fin k0_t1_loop.trips) : BitVec 32 :=
  let c0_i32_202 : BitVec 32 := 0#32
  let c1_i32_203 : BitVec 32 := 1#32
  let arg15 : BitVec 32 := Scf.iv c0_i32_202 c1_i32_203 k0_t1
  let c2048_i32 : BitVec 32 := 2048#32
  let v345 : BitVec 32 := Scalar.muli arg15 c2048_i32
  v345
def k0_off1 (k0_t1 : Fin k0_t1_loop.trips) : Fin 4 → Nat :=
  let c0_211 : Index := 0#32
  let c0_212 : Index := 0#32
  let c0_i32_202 : BitVec 32 := 0#32
  let c1_i32_203 : BitVec 32 := 1#32
  let arg15 : BitVec 32 := Scf.iv c0_i32_202 c1_i32_203 k0_t1
  let c2048_i32 : BitVec 32 := 2048#32
  let v345 : BitVec 32 := Scalar.muli arg15 c2048_i32
  let v346 : BitVec 32 := v345
  let v347 : Index := Scalar.indexCast v346
  let c0_213 : Index := 0#32
  ![0, 0, v347.toNat, 0]
def k0_off2 (k0_t1 : Fin k0_t1_loop.trips) : Fin 3 → Nat :=
  let c0_i32_202 : BitVec 32 := 0#32
  let c1_i32_203 : BitVec 32 := 1#32
  let arg15 : BitVec 32 := Scf.iv c0_i32_202 c1_i32_203 k0_t1
  let v353 : Index := Scalar.indexCast arg15
  let c0_214 : Index := 0#32
  let c0_215 : Index := 0#32
  ![v353.toNat, 0, 0]
@[reducible] def k0_t2_loop : Scf.Loop 32 :=
  let c3_i32 : BitVec 32 := 3#32
  let c2_i32 : BitVec 32 := 2#32
  let v179 : BitVec 32 := Scalar.addi c3_i32 c2_i32
  let c1_i32 : BitVec 32 := 1#32
  ⟨c3_i32, v179, c1_i32⟩
def k0_off3 (k0_t2 : Fin k0_t2_loop.trips) : Fin 3 → Nat :=
  let c3_i32 : BitVec 32 := 3#32
  let c1_i32 : BitVec 32 := 1#32
  let arg15 : BitVec 32 := Scf.iv c3_i32 c1_i32 k0_t2
  let c2_i32_202 : BitVec 32 := 2#32
  let v336 : BitVec 32 := Scalar.subi arg15 c2_i32_202
  let c1_i32_203 : BitVec 32 := 1#32
  let v337 : BitVec 32 := Scalar.subi v336 c1_i32_203
  let v338 : Index := Scalar.indexCast v337
  let c0_204 : Index := 0#32
  let c0_205 : Index := 0#32
  ![v338.toNat, 0, 0]
def k0_mult2 (k0_t2 : Fin k0_t2_loop.trips) : BitVec 32 :=
  let c3_i32 : BitVec 32 := 3#32
  let c1_i32 : BitVec 32 := 1#32
  let arg15 : BitVec 32 := Scf.iv c3_i32 c1_i32 k0_t2
  let c1_i32_246 : BitVec 32 := 1#32
  let v409 : BitVec 32 := Scalar.subi arg15 c1_i32_246
  let c2048_i32 : BitVec 32 := 2048#32
  let v410 : BitVec 32 := Scalar.muli v409 c2048_i32
  v410
def k0_off4 (k0_t2 : Fin k0_t2_loop.trips) : Fin 4 → Nat :=
  let c0_247 : Index := 0#32
  let c0_248 : Index := 0#32
  let c3_i32 : BitVec 32 := 3#32
  let c1_i32 : BitVec 32 := 1#32
  let arg15 : BitVec 32 := Scf.iv c3_i32 c1_i32 k0_t2
  let c1_i32_246 : BitVec 32 := 1#32
  let v409 : BitVec 32 := Scalar.subi arg15 c1_i32_246
  let c2048_i32 : BitVec 32 := 2048#32
  let v410 : BitVec 32 := Scalar.muli v409 c2048_i32
  let v411 : BitVec 32 := v410
  let v412 : Index := Scalar.indexCast v411
  let c0_249 : Index := 0#32
  ![0, 0, v412.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![v0.toNat, arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8448x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S16x2x8448x256 : Shape := ⟨4, ![16, 2, 8448, 256]⟩
abbrev S32x2x8448x256 : Shape := ⟨4, ![32, 2, 8448, 256]⟩
abbrev S1x128 : Shape := ⟨2, ![1, 128]⟩
abbrev S1x256 : Shape := ⟨2, ![1, 256]⟩
abbrev S8x2x8192x256 : Shape := ⟨4, ![8, 2, 8192, 256]⟩
abbrev S8x2x8192x2x128 : Shape := ⟨5, ![8, 2, 8192, 2, 128]⟩
abbrev S2x8x2x8192x128 : Shape := ⟨5, ![2, 8, 2, 8192, 128]⟩
abbrev S8x2x8448x256 : Shape := ⟨4, ![8, 2, 8448, 256]⟩
abbrev S8x2x8448x2x128 : Shape := ⟨5, ![8, 2, 8448, 2, 128]⟩
abbrev S2x8x2x8448x128 : Shape := ⟨5, ![2, 8, 2, 8448, 128]⟩
abbrev S2x8x8448x256 : Shape := ⟨4, ![2, 8, 8448, 256]⟩
abbrev S2x8192x8x256 : Shape := ⟨4, ![2, 8192, 8, 256]⟩
abbrev S2x8192x2048 : Shape := ⟨3, ![2, 8192, 2048]⟩
abbrev S128 : Shape := ⟨1, ![128]⟩
abbrev S_ : Shape := ⟨0, ![]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x256x8192 : Shape := ⟨4, ![2, 8, 256, 8192]⟩
abbrev S2x8192x8 : Shape := ⟨3, ![2, 8192, 8]⟩
abbrev S2x8192x8x1 : Shape := ⟨4, ![2, 8192, 8, 1]⟩
abbrev S256 : Shape := ⟨1, ![256]⟩
abbrev S1x1x1x256 : Shape := ⟨4, ![1, 1, 1, 256]⟩

abbrev nBuf : Space → Nat
  | .hbm => 97
  | .vmem => 0
  | .smem => 0
  | _ => 0

abbrev bufTy : (tb : Table) → Fin (tcTables nBuf tb) → BufTy
  | .hbm, ⟨0, _⟩ => ⟨S16x2x8448x256, .bf16⟩
  | .hbm, ⟨1, _⟩ => ⟨S32x2x8448x256, .bf16⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x256, .f32⟩
  | .hbm, ⟨7, _⟩ => ⟨S8x2x8192x256, .bf16⟩
  | .hbm, ⟨8, _⟩ => ⟨S8x2x8192x256, .f32⟩
  | .hbm, ⟨9, _⟩ => ⟨S8x2x8192x2x128, .f32⟩
  | .hbm, ⟨10, _⟩ => ⟨S2x8x2x8192x128, .f32⟩
  | .hbm, ⟨11, _⟩ => ⟨S8x2x8448x256, .bf16⟩
  | .hbm, ⟨12, _⟩ => ⟨S8x2x8448x256, .f32⟩
  | .hbm, ⟨13, _⟩ => ⟨S8x2x8448x2x128, .f32⟩
  | .hbm, ⟨14, _⟩ => ⟨S2x8x2x8448x128, .f32⟩
  | .hbm, ⟨15, _⟩ => ⟨S8x2x8448x256, .bf16⟩
  | .hbm, ⟨16, _⟩ => ⟨S8x2x8448x256, .f32⟩
  | .hbm, ⟨17, _⟩ => ⟨S2x8x8448x256, .f32⟩
  | .hbm, ⟨18, _⟩ => ⟨S8x2x8192x256, .bf16⟩
  | .hbm, ⟨19, _⟩ => ⟨S8x2x8192x256, .f32⟩
  | .hbm, ⟨20, _⟩ => ⟨S2x8192x8x256, .f32⟩
  | .hbm, ⟨21, _⟩ => ⟨S2x8192x2048, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x8x2x8192x8448, .f32⟩
  | .hbm, ⟨38, _⟩ => ⟨S_, .f32⟩
  | .hbm, ⟨39, _⟩ => ⟨S_, .f32⟩
  | .hbm, ⟨40, _⟩ => ⟨S2x8x2x8192x8448, .f32⟩
  | .hbm, ⟨41, _⟩ => ⟨S2x8x2x8192x8448, .f32⟩
  | .hbm, ⟨42, _⟩ => ⟨S_, .f32⟩
  | .hbm, ⟨43, _⟩ => ⟨S2x8x2x8192, .f32⟩
  | .hbm, ⟨44, _⟩ => ⟨S_, .f32⟩
  | .hbm, ⟨45, _⟩ => ⟨S2x8x2x8192, .f32⟩
  | .hbm, ⟨46, _⟩ => ⟨S2x8x2x8192, .f32⟩
  | .hbm, ⟨47, _⟩ => ⟨S2x8x2x8192x1, .f32⟩
  | .hbm, ⟨48, _⟩ => ⟨S2x8x2x8192x8448, .f32⟩
  | .hbm, ⟨49, _⟩ => ⟨S2x8x2x8192x8448, .f32⟩
  | .hbm, ⟨50, _⟩ => ⟨S2x8x2x8192x8448, .f32⟩
  | .hbm, ⟨51, _⟩ => ⟨S_, .f32⟩
  | .hbm, ⟨52, _⟩ => ⟨S2x8x2x8192, .f32⟩
  | .hbm, ⟨53, _⟩ => ⟨S2x8x2x8192x1, .f32⟩
  | .hbm, ⟨54, _⟩ => ⟨S2x8x2x8192x8448, .f32⟩
  | .hbm, ⟨55, _⟩ => ⟨S2x8x2x8192x8448, .f32⟩
  | .hbm, ⟨56, _⟩ => ⟨S2x8x1x8192x8448, .f32⟩
  | .hbm, ⟨57, _⟩ => ⟨S2x8x8192x8448, .f32⟩
  | .hbm, ⟨58, _⟩ => ⟨S2x8x1x8192x8448, .f32⟩
  | .hbm, ⟨59, _⟩ => ⟨S2x8x8192x8448, .f32⟩
  | .hbm, ⟨60, _⟩ => ⟨S2x8x8192x8448, .f32⟩
  | .hbm, ⟨61, _⟩ => ⟨S2x8x8192x8448, .f32⟩
  | .hbm, ⟨62, _⟩ => ⟨S2x8x8192x8448, .f32⟩
  | .hbm, ⟨63, _⟩ => ⟨S2x8x256x8192, .f32⟩
  | .hbm, ⟨64, _⟩ => ⟨S2x8192x8x256, .f32⟩
  | .hbm, ⟨65, _⟩ => ⟨S2x8192x8x256, .f32⟩
  | .hbm, ⟨66, _⟩ => ⟨S_, .f32⟩
  | .hbm, ⟨67, _⟩ => ⟨S2x8192x8, .f32⟩
  | .hbm, ⟨68, _⟩ => ⟨S2x8192x8x1, .f32⟩
  | .hbm, ⟨69, _⟩ => ⟨S_, .f32⟩
  | .hbm, ⟨70, _⟩ => ⟨S2x8192x8x1, .f32⟩
  | .hbm, ⟨71, _⟩ => ⟨S2x8192x8x1, .f32⟩
  | .hbm, ⟨72, _⟩ => ⟨S_, .f32⟩
  | .hbm, ⟨73, _⟩ => ⟨S2x8192x8x1, .f32⟩
  | .hbm, ⟨74, _⟩ => ⟨S2x8192x8x1, .f32⟩
  | .hbm, ⟨75, _⟩ => ⟨S2x8192x8x1, .f32⟩
  | .hbm, ⟨76, _⟩ => ⟨S2x8192x8x256, .f32⟩
  | .hbm, ⟨77, _⟩ => ⟨S2x8192x8x256, .f32⟩
  | .hbm, ⟨78, _⟩ => ⟨S256, .f32⟩
  | .hbm, ⟨79, _⟩ => ⟨S1x1x1x256, .f32⟩
  | .hbm, ⟨80, _⟩ => ⟨S2x8192x8x256, .f32⟩
  | .hbm, ⟨81, _⟩ => ⟨S2x8192x8x256, .f32⟩
  | .hbm, ⟨82, _⟩ => ⟨S_, .f32⟩
  | .hbm, ⟨83, _⟩ => ⟨S2x8192x8x256, .f32⟩
  | .hbm, ⟨84, _⟩ => ⟨S2x8192x8x256, .f32⟩
  | .hbm, ⟨85, _⟩ => ⟨S2x8192x2048, .f32⟩
  | .hbm, ⟨86, _⟩ => ⟨S2x8192x2048, .f32⟩
  | .hbm, ⟨87, _⟩ => ⟨S2x8192x2048, .f32⟩
  | .hbm, ⟨88, _⟩ => ⟨S_, .f32⟩
  | .hbm, ⟨89, _⟩ => ⟨S2x8192x2048, .f32⟩
  | .hbm, ⟨90, _⟩ => ⟨S2x8192x2048, .f32⟩
  | .hbm, ⟨91, _⟩ => ⟨S_, .f32⟩
  | .hbm, ⟨92, _⟩ => ⟨S2x8192x2048, .f32⟩
  | .hbm, ⟨93, _⟩ => ⟨S2x8192x2048, .f32⟩
  | .hbm, ⟨94, _⟩ => ⟨S2x8192x2048, .f32⟩
  | .hbm, ⟨95, _⟩ => ⟨S2x8192x2048, .f32⟩
  | .hbm, ⟨96, _⟩ => ⟨S2x8192x2048, .bf16⟩
  | _, _ => ⟨S16x2x8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel2.lean ====
abbrev S2x8192x2048 : Shape := ⟨3, ![2, 8192, 2048]⟩
abbrev S4096x4096 : Shape := ⟨2, ![4096, 4096]⟩
abbrev S2x8192x4096 : Shape := ⟨3, ![2, 8192, 4096]⟩
abbrev S2x4096 : Shape := ⟨2, ![2, 4096]⟩
abbrev S16384x2048 : Shape := ⟨2, ![16384, 2048]⟩
abbrev S16384x4096 : Shape := ⟨2, ![16384, 4096]⟩
abbrev S2x1x4096 : Shape := ⟨3, ![2, 1, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S4096x4096, .bf16⟩
  | .hbm, ⟨3, _⟩ => ⟨S2x8192x4096, .f32⟩
  | .hbm, ⟨4, _⟩ => ⟨S2x4096, .f32⟩
  | .hbm, ⟨5, _⟩ => ⟨S16384x2048, .bf16⟩
  | .hbm, ⟨6, _⟩ => ⟨S16384x2048, .bf16⟩
  | .hbm, ⟨7, _⟩ => ⟨S16384x4096, .f32⟩
  | .hbm, ⟨8, _⟩ => ⟨S2x1x4096, .f32⟩
  | .hbm, ⟨9, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x2048 : Shape := ⟨3, ![2, 8192, 2048]⟩
abbrev S4096x4096 : Shape := ⟨2, ![4096, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S4096x4096, .bf16⟩
  | .hbm, ⟨3, _⟩ => ⟨S2x8192x4096, .f32⟩
  | .hbm, ⟨4, _⟩ => ⟨S2x4096, .f32⟩
  | .hbm, ⟨5, _⟩ => ⟨S2x8192x4096, .bf16⟩
  | .hbm, ⟨6, _⟩ => ⟨S2x8192x4096, .f32⟩
  | .hbm, ⟨7, _⟩ => ⟨S4096x4096, .f32⟩
  | .hbm, ⟨8, _⟩ => ⟨S2x8192x4096, .f32⟩
  | .hbm, ⟨9, _⟩ => ⟨S2x1x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S16384x4096, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S16896x4096 : Shape := ⟨2, ![16896, 4096]⟩
abbrev S4096x10240 : Shape := ⟨2, ![4096, 10240]⟩
abbrev S8 : Shape := ⟨1, ![8]⟩
abbrev S32x16896x256 : Shape := ⟨3, ![32, 16896, 256]⟩
abbrev S768x4096 : Shape := ⟨2, ![768, 4096]⟩
abbrev S4096x1024 : Shape := ⟨2, ![4096, 1024]⟩
abbrev S1 : Shape := ⟨1, ![1]⟩
abbrev S4x768x256 : Shape := ⟨3, ![4, 768, 256]⟩
abbrev S768x1024 : Shape := ⟨2, ![768, 1024]⟩
abbrev S768x256 : Shape := ⟨2, ![768, 256]⟩
abbrev S1x768x256 : Shape := ⟨3, ![1, 768, 256]⟩

abbrev nBuf : Space → Nat
  | .hbm => 3
  | .vmem => 6
  | .smem => 1
  | _ => 0

abbrev bufTy : (tb : Table) → Fin (tcTables nBuf tb) → BufTy
  | .hbm, ⟨0, _⟩ => ⟨S16896x4096, .bf16⟩
  | .hbm, ⟨1, _⟩ => ⟨S4096x10240, .bf16⟩
  | .hbm, ⟨2, _⟩ => ⟨S32x16896x256, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4x768x256, .bf16⟩
  | .local _ .vmem, ⟨5, _⟩ => ⟨S4x768x256, .bf16⟩
  | .local _ .smem, ⟨0, _⟩ => ⟨S8, .i32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![22, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16896x4096 : Shape := ⟨2, ![16896, 4096]⟩
abbrev S4096x10240 : Shape := ⟨2, ![4096, 10240]⟩
abbrev S16896x10240 : Shape := ⟨2, ![16896, 10240]⟩
abbrev S16896x2048 : Shape := ⟨2, ![16896, 2048]⟩
abbrev S16896x1024 : Shape := ⟨2, ![16896, 1024]⟩
abbrev S16896x8x256 : Shape := ⟨3, ![16896, 8, 256]⟩
abbrev S8x16896x256 : Shape := ⟨3, ![8, 16896, 256]⟩
abbrev S32x16896x256 : Shape := ⟨3, ![32, 16896, 256]⟩

abbrev nBuf : Space → Nat
  | .hbm => 21
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x10240, .bf16⟩
  | .hbm, ⟨2, _⟩ => ⟨S16896x4096, .f32⟩
  | .hbm, ⟨3, _⟩ => ⟨S4096x10240, .f32⟩
  | .hbm, ⟨4, _⟩ => ⟨S16896x10240, .f32⟩
  | .hbm, ⟨5, _⟩ => ⟨S16896x2048, .f32⟩
  | .hbm, ⟨6, _⟩ => ⟨S16896x2048, .f32⟩
  | .hbm, ⟨7, _⟩ => ⟨S16896x1024, .f32⟩
  | .hbm, ⟨8, _⟩ => ⟨S16896x1024, .f32⟩
  | .hbm, ⟨9, _⟩ => ⟨S16896x2048, .f32⟩
  | .hbm, ⟨10, _⟩ => ⟨S16896x2048, .f32⟩
  | .hbm, ⟨11, _⟩ => ⟨S16896x8x256, .f32⟩
  | .hbm, ⟨12, _⟩ => ⟨S8x16896x256, .f32⟩
  | .hbm, ⟨13, _⟩ => ⟨S16896x8x256, .f32⟩
  | .hbm, ⟨14, _⟩ => ⟨S8x16896x256, .f32⟩
  | .hbm, ⟨15, _⟩ => ⟨S16896x8x256, .f32⟩
  | .hbm, ⟨16, _⟩ => ⟨S8x16896x256, .f32⟩
  | .hbm, ⟨17, _⟩ => ⟨S16896x8x256, .f32⟩
  | .hbm, ⟨18, _⟩ => ⟨S8x16896x256, .f32⟩
  | .hbm, ⟨19, _⟩ => ⟨S32x16896x256, .f32⟩
  | .hbm, ⟨20, _⟩ => ⟨S32x16896x256, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Kernel4.lean ====
abbrev S16896x4096 : Shape := ⟨2, ![16896, 4096]⟩
abbrev S4096x14336 : Shape := ⟨2, ![4096, 14336]⟩
abbrev S1x128 : Shape := ⟨2, ![1, 128]⟩
abbrev S8192x128 : Shape := ⟨2, ![8192, 128]⟩
abbrev S4 : Shape := ⟨1, ![4]⟩
abbrev S128 : Shape := ⟨1, ![128]⟩
abbrev S4096x4096 : Shape := ⟨2, ![4096, 4096]⟩
abbrev S_ : Shape := ⟨0, ![]⟩
abbrev S256x128 : Shape := ⟨2, ![256, 128]⟩
abbrev S8448x128 : Shape := ⟨2, ![8448, 128]⟩
abbrev S2x128 : Shape := ⟨2, ![2, 128]⟩
abbrev S2x1x128 : Shape := ⟨3, ![2, 1, 128]⟩
abbrev S16x16896x256 : Shape := ⟨3, ![16, 16896, 256]⟩
abbrev S4096x10240 : Shape := ⟨2, ![4096, 10240]⟩
abbrev S768x4096 : Shape := ⟨2, ![768, 4096]⟩
abbrev S4096x1024 : Shape := ⟨2, ![4096, 1024]⟩
abbrev S1 : Shape := ⟨1, ![1]⟩
abbrev S768x128 : Shape := ⟨2, ![768, 128]⟩
abbrev S1x1x128 : Shape := ⟨3, ![1, 1, 128]⟩
abbrev S256x2048 : Shape := ⟨2, ![256, 2048]⟩
abbrev S4x768x256 : Shape := ⟨3, ![4, 768, 256]⟩
abbrev S768x1024 : Shape := ⟨2, ![768, 1024]⟩
abbrev S768 : Shape := ⟨1, ![768]⟩
abbrev S768x1 : Shape := ⟨2, ![768, 1]⟩
abbrev S1x768x128 : Shape := ⟨3, ![1, 768, 128]⟩

abbrev nBuf : Space → Nat
  | .hbm => 62
  | .vmem => 19
  | .smem => 1
  | _ => 0

abbrev bufTy : (tb : Table) → Fin (tcTables nBuf tb) → BufTy
  | .hbm, ⟨0, _⟩ => ⟨S16896x4096, .bf16⟩
  | .hbm, ⟨1, _⟩ => ⟨S4096x14336, .f32⟩
  | .hbm, ⟨2, _⟩ => ⟨S1x128, .f32⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S128, .f32⟩
  | .hbm, ⟨7, _⟩ => ⟨S128, .f32⟩
  | .hbm, ⟨8, _⟩ => ⟨S4096x4096, .f32⟩
  | .hbm, ⟨9, _⟩ => ⟨S4096x4096, .bf16⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S_, .i1⟩
  | .hbm, ⟨27, _⟩ => ⟨S128, .i1⟩
  | .hbm, ⟨28, _⟩ => ⟨S128, .i1⟩
  | .hbm, ⟨29, _⟩ => ⟨S128, .i1⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .f32⟩
  | .hbm, ⟨37, _⟩ => ⟨S256x128, .f32⟩
  | .hbm, ⟨38, _⟩ => ⟨S8448x128, .f32⟩
  | .hbm, ⟨39, _⟩ => ⟨S8192x128, .f32⟩
  | .hbm, ⟨40, _⟩ => ⟨S_, .f32⟩
  | .hbm, ⟨41, _⟩ => ⟨S_, .f32⟩
  | .hbm, ⟨42, _⟩ => ⟨S8192x128, .i1⟩
  | .hbm, ⟨43, _⟩ => ⟨S8192x128, .f32⟩
  | .hbm, ⟨44, _⟩ => ⟨S8192x128, .f32⟩
  | .hbm, ⟨45, _⟩ => ⟨S_, .f32⟩
  | .hbm, ⟨46, _⟩ => ⟨S256x128, .f32⟩
  | .hbm, ⟨47, _⟩ => ⟨S8448x128, .f32⟩
  | .hbm, ⟨48, _⟩ => ⟨S_, .f32⟩
  | .hbm, ⟨49, _⟩ => ⟨S_, .f32⟩
  | .hbm, ⟨50, _⟩ => ⟨S8192x128, .i1⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S256x128, .f32⟩
  | .hbm, ⟨55, _⟩ => ⟨S8448x128, .f32⟩
  | .hbm, ⟨56, _⟩ => ⟨S1x128, .f32⟩
  | .hbm, ⟨57, _⟩ => ⟨S1x128, .f32⟩
  | .hbm, ⟨58, _⟩ => ⟨S2x128, .f32⟩
  | .hbm, ⟨59, _⟩ => ⟨S2x1x128, .f32⟩
  | .hbm, ⟨60, _⟩ => ⟨S16x16896x256, .bf16⟩
  | .hbm, ⟨61, _⟩ => ⟨S4096x10240, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S1x1x128, .f32⟩
  | .local _ .vmem, ⟨11, _⟩ => ⟨S1x1x128, .f32⟩
  | .local _ .vmem, ⟨12, _⟩ => ⟨S256x2048, .f32⟩
  | .local _ .vmem, ⟨13, _⟩ => ⟨S256x2048, .f32⟩
  | .local _ .vmem, ⟨14, _⟩ => ⟨S4x768x256, .bf16⟩
  | .local _ .vmem, ⟨15, _⟩ => ⟨S4x768x256, .bf16⟩
  | .local _ .vmem, ⟨16, _⟩ => ⟨S256x2048, .bf16⟩
  | .local _ .vmem, ⟨17, _⟩ => ⟨S256x2048, .bf16⟩
  | .local _ .vmem, ⟨18, _⟩ => ⟨S768x1024, .f32⟩
  | .local _ .smem, ⟨0, _⟩ => ⟨S4, .i32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v11 : Ref sig .tc := ⟨.hbm, 44, rfl⟩
abbrev main_cst_3 : Ref sig .tc := ⟨.hbm, 45, rfl⟩
abbrev main_v12 : Ref sig .tc := ⟨.hbm, 46, rfl⟩
abbrev main_v13 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v14 : Ref sig .tc := ⟨.hbm, 52, rfl⟩
abbrev main_cst_5 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21_0 : Ref sig .tc := ⟨.hbm, 60, rfl⟩
abbrev main_v21_1 : Ref sig .tc := ⟨.hbm, 61, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![89], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c87_i32 : BitVec 32 := 87#32
  let v0 : BitVec 32 := Scalar.minsi arg0 c87_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : Index := Scalar.indexCast v10
  ![v11.toNat]
def k0_cond1 (i : grid0.Coords) : BitVec 1 :=
  let arg0 : BitVec 32 := BitVec.ofNat 32 (i 0).val
  let c80_i32 : BitVec 32 := 80#32
  let v0 : BitVec 1 := Scalar.cmpi .slt arg0 c80_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c87_i32 : BitVec 32 := 87#32
  let v0 : BitVec 32 := Scalar.minsi arg0 c87_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let c87_i32 : BitVec 32 := 87#32
  let v0 : BitVec 32 := Scalar.minsi arg0 c87_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let v11 : Index := Scalar.indexCast v10
  let v12 : BitVec 32 := pf.at 0 (Rect.unit (s := S4) ![v11.toNat] S1.size (k0_off1_inb i)) numel1_S1
  let c0_i32_3 : BitVec 32 := 0#32
  let c0_i32_4 : BitVec 32 := 0#32
  ![c0_i32_3.toNat, v12.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32 : BitVec 32 := 11#32
  let c0_i32_6 : BitVec 32 := 0#32
  let v19 : BitVec 1 := Scalar.cmpi .eq c11_i32 c0_i32_6
  let c1_i32_7 : BitVec 32 := 1#32
  let v20 : BitVec 32 := Scalar.select v19 c1_i32_7 c11_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32 : BitVec 32 := 11#32
  let c0_i32_6 : BitVec 32 := 0#32
  let v19 : BitVec 1 := Scalar.cmpi .eq c11_i32 c0_i32_6
  let c1_i32_7 : BitVec 32 := 1#32
  let v20 : BitVec 32 := Scalar.select v19 c1_i32_7 c11_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32 : BitVec 32 := 11#32
  let c0_i32_6 : BitVec 32 := 0#32
  let v19 : BitVec 1 := Scalar.cmpi .eq c11_i32 c0_i32_6
  let c1_i32_7 : BitVec 32 := 1#32
  let v20 : BitVec 32 := Scalar.select v19 c1_i32_7 c11_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32 : BitVec 32 := 2#32
  let v12 : BitVec 32 := Scalar.divsi v11 c2_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi v11 c2_i32
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  let c0_i32_13 : BitVec 32 := 0#32
  ![v28.toNat, c0_i32_11.toNat, c0_i32_12.toNat]

def cc0_transform_6 (i : grid0.Coords) : Fin 2 → Nat :=
  let arg0 : BitVec 32 := BitVec.ofNat 32 (i 0).val
  let c79_i32 : BitVec 32 := 79#32
  let v0 : BitVec 32 := Scalar.minsi arg0 c79_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c79_i32_4 : BitVec 32 := 79#32
  let v18 : BitVec 32 := Scalar.minsi arg0 c79_i32_4
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.addi c2_i32 v28
  let c0_i32_11 : BitVec 32 := 0#32
  ![v17.toNat, v29.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c4_i32_7 : BitVec 32 := 4#32
  let v14 : BitVec 32 := Scalar.divsi v13 c4_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c4_i32_7 c0_i32_10
  let v21 : BitVec 32 := Scalar.extui v20
  let c0_i32_11 : BitVec 32 := 0#32
  let v22 : BitVec 1 := Scalar.cmpi .slt c4_i32_7 c0_i32_11
  let v23 : BitVec 32 := Scalar.extui v22
  let v24 : BitVec 32 := Scalar.subi v21 v23
  let v25 : BitVec 1 := Scalar.cmpi .ne v19 v24
  let v26 : BitVec 32 := Scalar.remsi v13 c4_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

def cc0_transform_8 (i : grid0.Coords) : Fin 2 → Nat :=
  let arg0 : BitVec 32 := BitVec.ofNat 32 (i 0).val
  let c79_i32 : BitVec 32 := 79#32
  let v0 : BitVec 32 := Scalar.minsi arg0 c79_i32
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c79_i32_4 : BitVec 32 := 79#32
  let v18 : BitVec 32 := Scalar.minsi arg0 c79_i32_4
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, v28.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16896x4096 : Shape := ⟨2, ![16896, 4096]⟩
abbrev S4096x14336 : Shape := ⟨2, ![4096, 14336]⟩
abbrev S1x128 : Shape := ⟨2, ![1, 128]⟩
abbrev S8192x128 : Shape := ⟨2, ![8192, 128]⟩
abbrev S4096x4096 : Shape := ⟨2, ![4096, 4096]⟩
abbrev S2x8448x2x16x128 : Shape := ⟨5, ![2, 8448, 2, 16, 128]⟩
abbrev S2x128 : Shape := ⟨2, ![2, 128]⟩
abbrev S1x1x2x1x128 : Shape := ⟨5, ![1, 1, 2, 1, 128]⟩
abbrev S_ : Shape := ⟨0, ![]⟩
abbrev S2x8448x2x16 : Shape := ⟨4, ![2, 8448, 2, 16]⟩
abbrev S2x8448x2x16x1 : Shape := ⟨5, ![2, 8448, 2, 16, 1]⟩
abbrev S2x8192x2x16x128 : Shape := ⟨5, ![2, 8192, 2, 16, 128]⟩
abbrev S2x8192x2x16x32 : Shape := ⟨5, ![2, 8192, 2, 16, 32]⟩
abbrev S1x8192x1x1x128 : Shape := ⟨5, ![1, 8192, 1, 1, 128]⟩
abbrev S2x256x2x16x128 : Shape := ⟨5, ![2, 256, 2, 16, 128]⟩
abbrev S16896x16x256 : Shape := ⟨3, ![16896, 16, 256]⟩
abbrev S16x16896x256 : Shape := ⟨3, ![16, 16896, 256]⟩
abbrev S4096x10240 : Shape := ⟨2, ![4096, 10240]⟩

abbrev nBuf : Space → Nat
  | .hbm => 49
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x14336, .f32⟩
  | .hbm, ⟨2, _⟩ => ⟨S1x128, .f32⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S16896x4096, .f32⟩
  | .hbm, ⟨7, _⟩ => ⟨S4096x4096, .f32⟩
  | .hbm, ⟨8, _⟩ => ⟨S16896x4096, .f32⟩
  | .hbm, ⟨9, _⟩ => ⟨S2x8448x2x16x128, .f32⟩
  | .hbm, ⟨10, _⟩ => ⟨S2x128, .f32⟩
  | .hbm, ⟨11, _⟩ => ⟨S1x1x2x1x128, .f32⟩
  | .hbm, ⟨12, _⟩ => ⟨S2x8448x2x16x128, .f32⟩
  | .hbm, ⟨13, _⟩ => ⟨S_, .f32⟩
  | .hbm, ⟨14, _⟩ => ⟨S2x8448x2x16, .f32⟩
  | .hbm, ⟨15, _⟩ => ⟨S2x8448x2x16x1, .f32⟩
  | .hbm, ⟨16, _⟩ => ⟨S_, .f32⟩
  | .hbm, ⟨17, _⟩ => ⟨S2x8448x2x16x1, .f32⟩
  | .hbm, ⟨18, _⟩ => ⟨S2x8448x2x16x1, .f32⟩
  | .hbm, ⟨19, _⟩ => ⟨S_, .f32⟩
  | .hbm, ⟨20, _⟩ => ⟨S2x8448x2x16x1, .f32⟩
  | .hbm, ⟨21, _⟩ => ⟨S2x8448x2x16x1, .f32⟩
  | .hbm, ⟨22, _⟩ => ⟨S2x8448x2x16x1, .f32⟩
  | .hbm, ⟨23, _⟩ => ⟨S2x8448x2x16x128, .f32⟩
  | .hbm, ⟨24, _⟩ => ⟨S2x8448x2x16x128, .f32⟩
  | .hbm, ⟨25, _⟩ => ⟨S2x8448x2x16x128, .f32⟩
  | .hbm, ⟨26, _⟩ => ⟨S2x8448x2x16x128, .f32⟩
  | .hbm, ⟨27, _⟩ => ⟨S2x8192x2x16x128, .f32⟩
  | .hbm, ⟨28, _⟩ => ⟨S2x8192x2x16x32, .f32⟩
  | .hbm, ⟨29, _⟩ => ⟨S2x8192x2x16x32, .f32⟩
  | .hbm, ⟨30, _⟩ => ⟨S2x8192x2x16x32, .f32⟩
  | .hbm, ⟨31, _⟩ => ⟨S2x8192x2x16x32, .f32⟩
  | .hbm, ⟨32, _⟩ => ⟨S2x8192x2x16x32, .f32⟩
  | .hbm, ⟨33, _⟩ => ⟨S2x8192x2x16x32, .f32⟩
  | .hbm, ⟨34, _⟩ => ⟨S2x8192x2x16x128, .f32⟩
  | .hbm, ⟨35, _⟩ => ⟨S1x8192x1x1x128, .f32⟩
  | .hbm, ⟨36, _⟩ => ⟨S2x8192x2x16x128, .f32⟩
  | .hbm, ⟨37, _⟩ => ⟨S2x8192x2x16x128, .f32⟩
  | .hbm, ⟨38, _⟩ => ⟨S1x8192x1x1x128, .f32⟩
  | .hbm, ⟨39, _⟩ => ⟨S2x8192x2x16x128, .f32⟩
  | .hbm, ⟨40, _⟩ => ⟨S2x8192x2x16x128, .f32⟩
  | .hbm, ⟨41, _⟩ => ⟨S2x8192x2x16x128, .f32⟩
  | .hbm, ⟨42, _⟩ => ⟨S2x256x2x16x128, .f32⟩
  | .hbm, ⟨43, _⟩ => ⟨S2x8448x2x16x128, .f32⟩
  | .hbm, ⟨44, _⟩ => ⟨S16896x16x256, .f32⟩
  | .hbm, ⟨45, _⟩ => ⟨S16x16896x256, .f32⟩
  | .hbm, ⟨46, _⟩ => ⟨S16x16896x256, .bf16⟩
  | .hbm, ⟨47, _⟩ => ⟨S4096x10240, .f32⟩
  | .hbm, ⟨48, _⟩ => ⟨S4096x10240, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel5.lean ====
abbrev S16896x4096 : Shape := ⟨2, ![16896, 4096]⟩
abbrev S4096x10240 : Shape := ⟨2, ![4096, 10240]⟩
abbrev S4096x4096 : Shape := ⟨2, ![4096, 4096]⟩
abbrev S8192x128 : Shape := ⟨2, ![8192, 128]⟩
abbrev S2 : Shape := ⟨1, ![2]⟩
abbrev S128 : Shape := ⟨1, ![128]⟩
abbrev S_ : Shape := ⟨0, ![]⟩
abbrev S256x128 : Shape := ⟨2, ![256, 128]⟩
abbrev S8448x128 : Shape := ⟨2, ![8448, 128]⟩
abbrev S1x128 : Shape := ⟨2, ![1, 128]⟩
abbrev S2x128 : Shape := ⟨2, ![2, 128]⟩
abbrev S2x1x128 : Shape := ⟨3, ![2, 1, 128]⟩
abbrev S16x16896x128 : Shape := ⟨3, ![16, 16896, 128]⟩
abbrev S768x4096 : Shape := ⟨2, ![768, 4096]⟩
abbrev S4096x1024 : Shape := ⟨2, ![4096, 1024]⟩
abbrev S1 : Shape := ⟨1, ![1]⟩
abbrev S768x128 : Shape := ⟨2, ![768, 128]⟩
abbrev S1x1x128 : Shape := ⟨3, ![1, 1, 128]⟩
abbrev S256x2048 : Shape := ⟨2, ![256, 2048]⟩
abbrev S8x768x128 : Shape := ⟨3, ![8, 768, 128]⟩
abbrev S768x1024 : Shape := ⟨2, ![768, 1024]⟩
abbrev S1x768x128 : Shape := ⟨3, ![1, 768, 128]⟩

abbrev nBuf : Space → Nat
  | .hbm => 61
  | .vmem => 19
  | .smem => 1
  | _ => 0

abbrev bufTy : (tb : Table) → Fin (tcTables nBuf tb) → BufTy
  | .hbm, ⟨0, _⟩ => ⟨S16896x4096, .bf16⟩
  | .hbm, ⟨1, _⟩ => ⟨S4096x10240, .bf16⟩
  | .hbm, ⟨2, _⟩ => ⟨S4096x4096, .f32⟩
  | .hbm, ⟨3, _⟩ => ⟨S8192x128, .f32⟩
  | .hbm, ⟨4, _⟩ => ⟨S8192x128, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S_, .i1⟩
  | .hbm, ⟨22, _⟩ => ⟨S128, .i1⟩
  | .hbm, ⟨23, _⟩ => ⟨S128, .i1⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .f32⟩
  | .hbm, ⟨32, _⟩ => ⟨S256x128, .f32⟩
  | .hbm, ⟨33, _⟩ => ⟨S8448x128, .f32⟩
  | .hbm, ⟨34, _⟩ => ⟨S8192x128, .f32⟩
  | .hbm, ⟨35, _⟩ => ⟨S_, .f32⟩
  | .hbm, ⟨36, _⟩ => ⟨S_, .f32⟩
  | .hbm, ⟨37, _⟩ => ⟨S8192x128, .i1⟩
  | .hbm, ⟨38, _⟩ => ⟨S8192x128, .f32⟩
  | .hbm, ⟨39, _⟩ => ⟨S8192x128, .f32⟩
  | .hbm, ⟨40, _⟩ => ⟨S_, .f32⟩
  | .hbm, ⟨41, _⟩ => ⟨S256x128, .f32⟩
  | .hbm, ⟨42, _⟩ => ⟨S8448x128, .f32⟩
  | .hbm, ⟨43, _⟩ => ⟨S_, .f32⟩
  | .hbm, ⟨44, _⟩ => ⟨S_, .f32⟩
  | .hbm, ⟨45, _⟩ => ⟨S8192x128, .i1⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S256x128, .f32⟩
  | .hbm, ⟨50, _⟩ => ⟨S8448x128, .f32⟩
  | .hbm, ⟨51, _⟩ => ⟨S_, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S2x128, .f32⟩
  | .hbm, ⟨58, _⟩ => ⟨S2x1x128, .f32⟩
  | .hbm, ⟨59, _⟩ => ⟨S16x16896x128, .bf16⟩
  | .hbm, ⟨60, _⟩ => ⟨S4096x4096, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S1x1x128, .f32⟩
  | .local _ .vmem, ⟨11, _⟩ => ⟨S1x1x128, .f32⟩
  | .local _ .vmem, ⟨12, _⟩ => ⟨S256x2048, .f32⟩
  | .local _ .vmem, ⟨13, _⟩ => ⟨S256x2048, .f32⟩
  | .local _ .vmem, ⟨14, _⟩ => ⟨S8x768x128, .bf16⟩
  | .local _ .vmem, ⟨15, _⟩ => ⟨S8x768x128, .bf16⟩
  | .local _ .vmem, ⟨16, _⟩ => ⟨S256x2048, .bf16⟩
  | .local _ .vmem, ⟨17, _⟩ => ⟨S256x2048, .bf16⟩
  | .local _ .vmem, ⟨18, _⟩ => ⟨S768x1024, .f32⟩
  | .local _ .smem, ⟨0, _⟩ => ⟨S2, .i32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v7 : Ref sig .tc := ⟨.hbm, 39, rfl⟩
abbrev main_cst_3 : Ref sig .tc := ⟨.hbm, 40, rfl⟩
abbrev main_v8 : Ref sig .tc := ⟨.hbm, 41, rfl⟩
abbrev main_v9 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v10 : Ref sig .tc := ⟨.hbm, 47, rfl⟩
abbrev main_cst_5 : Ref sig .tc := ⟨.hbm, 48, rfl⟩
abbrev main_v11 : Ref sig .tc := ⟨.hbm, 49, rfl⟩
abbrev main_v12 : Ref sig .tc := ⟨.hbm, 50, rfl⟩
abbrev main_cst_6 : Ref sig .tc := ⟨.hbm, 51, rfl⟩
abbrev main_v13 : Ref sig .tc := ⟨.hbm, 52, rfl⟩
abbrev main_cst_7 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19_0 : Ref sig .tc := ⟨.hbm, 59, rfl⟩
abbrev main_v19_1 : Ref sig .tc := ⟨.hbm, 60, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![45], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c43_i32 : BitVec 32 := 43#32
  let v0 : BitVec 32 := Scalar.minsi arg0 c43_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : Index := Scalar.indexCast v10
  ![v11.toNat]
def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c43_i32 : BitVec 32 := 43#32
  let v0 : BitVec 32 := Scalar.minsi arg0 c43_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let c43_i32 : BitVec 32 := 43#32
  let v0 : BitVec 32 := Scalar.minsi arg0 c43_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let v11 : Index := Scalar.indexCast v10
  let v12 : BitVec 32 := pf.at 0 (Rect.unit (s := S2) ![v11.toNat] S1.size (k0_off1_inb i)) numel1_S1
  let c0_i32_3 : BitVec 32 := 0#32
  let c0_i32_4 : BitVec 32 := 0#32
  ![c0_i32_3.toNat, v12.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32 : BitVec 32 := 11#32
  let c0_i32_6 : BitVec 32 := 0#32
  let v19 : BitVec 1 := Scalar.cmpi .eq c11_i32 c0_i32_6
  let c1_i32_7 : BitVec 32 := 1#32
  let v20 : BitVec 32 := Scalar.select v19 c1_i32_7 c11_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32 : BitVec 32 := 11#32
  let c0_i32_6 : BitVec 32 := 0#32
  let v19 : BitVec 1 := Scalar.cmpi .eq c11_i32 c0_i32_6
  let c1_i32_7 : BitVec 32 := 1#32
  let v20 : BitVec 32 := Scalar.select v19 c1_i32_7 c11_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32 : BitVec 32 := 11#32
  let c0_i32_6 : BitVec 32 := 0#32
  let v19 : BitVec 1 := Scalar.cmpi .eq c11_i32 c0_i32_6
  let c1_i32_7 : BitVec 32 := 1#32
  let v20 : BitVec 32 := Scalar.select v19 c1_i32_7 c11_i32
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v28.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.divsi v11 c1_i32_5
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi v11 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  let c0_i32_14 : BitVec 32 := 0#32
  ![v28.toNat, c0_i32_12.toNat, c0_i32_13.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v28
  let c0_i32_12 : BitVec 32 := 0#32
  ![v17.toNat, v29.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c2_i32_7 : BitVec 32 := 2#32
  let v14 : BitVec 32 := Scalar.divsi v13 c2_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c2_i32_7 c0_i32_10
  let v21 : BitVec 32 := Scalar.extui v20
  let c0_i32_11 : BitVec 32 := 0#32
  let v22 : BitVec 1 := Scalar.cmpi .slt c2_i32_7 c0_i32_11
  let v23 : BitVec 32 := Scalar.extui v22
  let v24 : BitVec 32 := Scalar.subi v21 v23
  let v25 : BitVec 1 := Scalar.cmpi .ne v19 v24
  let v26 : BitVec 32 := Scalar.remsi v13 c2_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, v28.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x768x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16896x4096 : Shape := ⟨2, ![16896, 4096]⟩
abbrev S4096x10240 : Shape := ⟨2, ![4096, 10240]⟩
abbrev S4096x4096 : Shape := ⟨2, ![4096, 4096]⟩
abbrev S8192x128 : Shape := ⟨2, ![8192, 128]⟩
abbrev S4096x2048 : Shape := ⟨2, ![4096, 2048]⟩
abbrev S16896x2048 : Shape := ⟨2, ![16896, 2048]⟩
abbrev S2x8448x2x8x128 : Shape := ⟨5, ![2, 8448, 2, 8, 128]⟩
abbrev S2x8192x2x8x128 : Shape := ⟨5, ![2, 8192, 2, 8, 128]⟩
abbrev S2x8192x2x8x32 : Shape := ⟨5, ![2, 8192, 2, 8, 32]⟩
abbrev S1x8192x1x1x128 : Shape := ⟨5, ![1, 8192, 1, 1, 128]⟩
abbrev S2x256x2x8x128 : Shape := ⟨5, ![2, 256, 2, 8, 128]⟩
abbrev S2x8448x1x8x128 : Shape := ⟨5, ![2, 8448, 1, 8, 128]⟩
abbrev S_ : Shape := ⟨0, ![]⟩
abbrev S16896x16x128 : Shape := ⟨3, ![16896, 16, 128]⟩
abbrev S16x16896x128 : Shape := ⟨3, ![16, 16896, 128]⟩

abbrev nBuf : Space → Nat
  | .hbm => 37
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x10240, .bf16⟩
  | .hbm, ⟨2, _⟩ => ⟨S4096x4096, .f32⟩
  | .hbm, ⟨3, _⟩ => ⟨S8192x128, .f32⟩
  | .hbm, ⟨4, _⟩ => ⟨S8192x128, .f32⟩
  | .hbm, ⟨5, _⟩ => ⟨S4096x2048, .bf16⟩
  | .hbm, ⟨6, _⟩ => ⟨S4096x2048, .f32⟩
  | .hbm, ⟨7, _⟩ => ⟨S16896x4096, .f32⟩
  | .hbm, ⟨8, _⟩ => ⟨S16896x2048, .f32⟩
  | .hbm, ⟨9, _⟩ => ⟨S2x8448x2x8x128, .f32⟩
  | .hbm, ⟨10, _⟩ => ⟨S2x8192x2x8x128, .f32⟩
  | .hbm, ⟨11, _⟩ => ⟨S2x8192x2x8x32, .f32⟩
  | .hbm, ⟨12, _⟩ => ⟨S2x8192x2x8x32, .f32⟩
  | .hbm, ⟨13, _⟩ => ⟨S2x8192x2x8x32, .f32⟩
  | .hbm, ⟨14, _⟩ => ⟨S2x8192x2x8x32, .f32⟩
  | .hbm, ⟨15, _⟩ => ⟨S2x8192x2x8x32, .f32⟩
  | .hbm, ⟨16, _⟩ => ⟨S2x8192x2x8x32, .f32⟩
  | .hbm, ⟨17, _⟩ => ⟨S2x8192x2x8x128, .f32⟩
  | .hbm, ⟨18, _⟩ => ⟨S1x8192x1x1x128, .f32⟩
  | .hbm, ⟨19, _⟩ => ⟨S2x8192x2x8x128, .f32⟩
  | .hbm, ⟨20, _⟩ => ⟨S2x8192x2x8x128, .f32⟩
  | .hbm, ⟨21, _⟩ => ⟨S1x8192x1x1x128, .f32⟩
  | .hbm, ⟨22, _⟩ => ⟨S2x8192x2x8x128, .f32⟩
  | .hbm, ⟨23, _⟩ => ⟨S2x8192x2x8x128, .f32⟩
  | .hbm, ⟨24, _⟩ => ⟨S2x8192x2x8x128, .f32⟩
  | .hbm, ⟨25, _⟩ => ⟨S2x256x2x8x128, .f32⟩
  | .hbm, ⟨26, _⟩ => ⟨S2x8448x2x8x128, .f32⟩
  | .hbm, ⟨27, _⟩ => ⟨S2x8448x1x8x128, .f32⟩
  | .hbm, ⟨28, _⟩ => ⟨S2x8448x1x8x128, .f32⟩
  | .hbm, ⟨29, _⟩ => ⟨S_, .f32⟩
  | .hbm, ⟨30, _⟩ => ⟨S2x8448x1x8x128, .f32⟩
  | .hbm, ⟨31, _⟩ => ⟨S2x8448x1x8x128, .f32⟩
  | .hbm, ⟨32, _⟩ => ⟨S2x8448x2x8x128, .f32⟩
  | .hbm, ⟨33, _⟩ => ⟨S16896x16x128, .f32⟩
  | .hbm, ⟨34, _⟩ => ⟨S16x16896x128, .f32⟩
  | .hbm, ⟨35, _⟩ => ⟨S16x16896x128, .bf16⟩
  | .hbm, ⟨36, _⟩ => ⟨S4096x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Proof.Attn.State.lean ====
module

public import proofs.«01_k».proof.Proof.Gen.KernelIdeal.Frame
public import proofs.«01_k».proof.Proof.Gen.KernelIdeal.Skeleton

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The attention kernel's values, step by step

The kernel walks the keys in five chunks (the 256 rows at the end first, then four times 2048), software-pipelined: at
any time one chunk's scores, the chunk before's weights and the accumulator of the chunks before that are held. -/

/-- Half 0 / half 1 of the scores' and the weights' buffers, and of the accumulator's. -/
abbrev RS0 : Rect S2x2048x1024 := Rect.unit (s := S2x2048x1024) ![0, 0, 0] S1x2048x1024.size inb_S2x2048x1024_S1x2048x1024_0_0_0
abbrev RS1 : Rect S2x2048x1024 := Rect.unit (s := S2x2048x1024) ![1, 0, 0] S1x2048x1024.size inb_S2x2048x1024_S1x2048x1024_1_0_0
abbrev RA0 : Rect S2x256x1024 := Rect.unit (s := S2x256x1024) ![0, 0, 0] S1x256x1024.size inb_S2x256x1024_S1x256x1024_0_0_0
abbrev RA1 : Rect S2x256x1024 := Rect.unit (s := S2x256x1024) ![1, 0, 0] S1x256x1024.size inb_S2x256x1024_S1x256x1024_1_0_0
abbrev RT0 : Rect S2x2048x1024 := Rect.unit (s := S2x2048x1024) ![0, 0, 0] S1x256x1024.size inb_S2x2048x1024_S1x256x1024_0_0_0
abbrev RT1 : Rect S2x2048x1024 := Rect.unit (s := S2x2048x1024) ![1, 0, 0] S1x256x1024.size inb_S2x2048x1024_S1x256x1024_1_0_0

/-- The kernel's values between two chunks: per half (one of the two attention maps) the chunk's own column maxima
    `cm`, the running maxima `m`, the running sums `l`, the rescaling factors `a`, the scores `s`, the weights `p` and
    the accumulators `o`. -/
@[ext] structure St (F : FTy → Type) where
  cm0 : FVec F S1x1024 .f32
  cm1 : FVec F S1x1024 .f32
  m0 : FVec F S1x1024 .f32
  m1 : FVec F S1x1024 .f32
  l0 : FVec F S8x1024 .f32
  l1 : FVec F S8x1024 .f32
  a0 : FVec F S1x1024 .f32
  a1 : FVec F S1x1024 .f32
  s0 : Vec F S1x2048x1024 .f32
  s1 : Vec F S1x2048x1024 .f32
  p0 : Vec F S1x2048x1024 .bf16
  p1 : Vec F S1x2048x1024 .bf16
  o0 : Vec F S1x256x1024 .f32
  o1 : Vec F S1x256x1024 .f32

/-- The carried values of the counted loop, as the program writes them. -/
abbrev Acc (F : FTy → Type) := FVec F S1x1024 .f32 × FVec F S1x1024 .f32 × FVec F S1x1024 .f32 × FVec F S1x1024 .f32 × FVec F S8x1024 .f32 × FVec F S8x1024 .f32 × FVec F S1x1024 .f32 × FVec F S1x1024 .f32

/-- A state from the carried values and the three buffers' contents. -/
def St.of (a : Acc F) (s : Vec F S2x2048x1024 .f32) (p : Vec F S2x2048x1024 .bf16) (o : Vec F S2x256x1024 .f32) : St F :=
  ⟨a.1, a.2.1, a.2.2.1, a.2.2.2.1, a.2.2.2.2.1, a.2.2.2.2.2.1, a.2.2.2.2.2.2.1, a.2.2.2.2.2.2.2,
    View.ld (Val := Elt F) s RS0, View.ld (Val := Elt F) s RS1, View.ld (Val := Elt F) p RS0, View.ld (Val := Elt F) p RS1,
    View.ld (Val := Elt F) o RA0, View.ld (Val := Elt F) o RA1⟩

/-- The carried values of a state. -/
def St.acc (S : St F) : Acc F := (S.cm0, S.cm1, S.m0, S.m1, S.l0, S.l1, S.a0, S.a1)

/-- The rows of the keys a chunk reads. -/
abbrev kTail (x2 : Vec F S1x1x8448x256 .bf16) : Vec F S1x1x256x256 .bf16 :=
  View.ld (Val := Elt F) x2 (Rect.unit (s := S1x1x8448x256) ![0, 0, 8192, 0] S1x1x256x256.size inb_S1x1x8448x256_S1x1x256x256_0_0_8192_0)
abbrev kRows (off : Fin 4 → ℕ) (h : ∀ a, off a + S1x1x2048x256.size a ≤ S1x1x8448x256.size a) (x2 : Vec F S1x1x8448x256 .bf16) : Vec F S1x1x2048x256 .bf16 :=
  View.ld (Val := Elt F) x2 (Rect.unit (s := S1x1x8448x256) off S1x1x2048x256.size h)
abbrev k1 (x2 : Vec F S1x1x8448x256 .bf16) := kRows ![0, 0, 0, 0] inb_S1x1x8448x256_S1x1x2048x256_0_0_0_0 x2
abbrev k2 (x2 : Vec F S1x1x8448x256 .bf16) := kRows ![0, 0, 2048, 0] inb_S1x1x8448x256_S1x1x2048x256_0_0_2048_0 x2

/-- What the end chunk's part of the body computes, per half: the scores, the running maximum, the factor, the
    weights, the sums. -/
def tS0 (x1 : Vec F S1x1x1024x256 .bf16) (x2 : Vec F S1x1x8448x256 .bf16) : FVec F S1x256x1024 .f32 := k0_pay25 x1 (kTail x2)
def tS1 (x1 : Vec F S1x1x1024x256 .bf16) (x2 : Vec F S1x1x8448x256 .bf16) : FVec F S1x256x1024 .f32 := k0_pay28 (k0_pay27 x1 (kTail x2))
def tM0 (x1 : Vec F S1x1x1024x256 .bf16) (x2 : Vec F S1x1x8448x256 .bf16) : FVec F S1x1024 .f32 := k0_pay29 k0_pay21 (k0_pay26 x1 (kTail x2))
def tA0 (x1 : Vec F S1x1x1024x256 .bf16) (x2 : Vec F S1x1x8448x256 .bf16) : FVec F S1x1024 .f32 := k0_pay30 k0_pay21 (k0_pay26 x1 (kTail x2))
def tL0 (x1 : Vec F S1x1x1024x256 .bf16) (x2 : Vec F S1x1x8448x256 .bf16) : FVec F S8x1024 .f32 := k0_pay32 k0_pay21 k0_pay22 (k0_pay26 x1 (kTail x2)) (tS0 x1 x2)
def tP0 (x1 : Vec F S1x1x1024x256 .bf16) (x2 : Vec F S1x1x8448x256 .bf16) : FVec F S1x256x1024 .bf16 := k0_pay33 k0_pay21 (k0_pay26 x1 (kTail x2)) (tS0 x1 x2)
def tM1 (x1 : Vec F S1x1x1024x256 .bf16) (x2 : Vec F S1x1x8448x256 .bf16) : FVec F S1x1024 .f32 := k0_pay34 k0_pay21 (k0_pay27 x1 (kTail x2))
def tA1 (x1 : Vec F S1x1x1024x256 .bf16) (x2 : Vec F S1x1x8448x256 .bf16) : FVec F S1x1024 .f32 := k0_pay35 k0_pay21 (k0_pay27 x1 (kTail x2))
def tW1 (x1 : Vec F S1x1x1024x256 .bf16) (x2 : Vec F S1x1x8448x256 .bf16) : FVec F S256x1024 .f32 := k0_pay36 k0_pay21 (k0_pay27 x1 (kTail x2)) (tS1 x1 x2)
def tL1 (x1 : Vec F S1x1x1024x256 .bf16) (x2 : Vec F S1x1x8448x256 .bf16) : FVec F S8x1024 .f32 := k0_pay38 k0_pay22 (tW1 x1 x2) (k0_pay37 k0_pay21 (k0_pay27 x1 (kTail x2)))
def tP1 (x1 : Vec F S1x1x1024x256 .bf16) (x2 : Vec F S1x1x8448x256 .bf16) : FVec F S1x256x1024 .bf16 := k0_pay39 (tW1 x1 x2)
/-- The accumulator's half before anything is added. -/
def oZero : Vec F S1x256x1024 .f32 := fun _ => (k0_pay20 (F := F)) (fun a => ⟨0, by fin_cases a <;> decide⟩)
def tO0 (x1 : Vec F S1x1x1024x256 .bf16) (x2 : Vec F S1x1x8448x256 .bf16) (xt : Vec F S256x256 .bf16) : FVec F S1x256x1024 .f32 := k0_pay49 xt (k0_pay47 (tA0 x1 x2) oZero) (k0_pay48 (tP0 x1 x2))
def tO1 (x1 : Vec F S1x1x1024x256 .bf16) (x2 : Vec F S1x1x8448x256 .bf16) (xt : Vec F S256x256 .bf16) : FVec F S1x256x1024 .f32 := k0_pay50 (tA1 x1 x2) xt oZero (tP1 x1 x2)

/-- The state as the counted loop begins: the end chunk accumulated, chunk 1 weighted, chunk 2 scored. -/
def preSt (x1 : Vec F S1x1x1024x256 .bf16) (x2 : Vec F S1x1x8448x256 .bf16) (xt : Vec F S256x256 .bf16) : St F where
  cm0 := k0_pay65 (k0_pay18 x1) (k2 x2)
  cm1 := k0_pay69 (k0_pay19 x1) (k0_pay66 (k2 x2))
  m0 := k0_pay51 (tM0 x1 x2) (k0_pay43 (k0_pay18 x1) (k1 x2))
  m1 := k0_pay57 (tM1 x1 x2) (k0_pay46 (k0_pay19 x1) (k1 x2))
  l0 := k0_pay54 (tM0 x1 x2) (tL0 x1 x2) (k0_pay43 (k0_pay18 x1) (k1 x2)) (k0_pay42 (k0_pay18 x1) (k1 x2))
  l1 := k0_pay60 (tM1 x1 x2) (tL1 x1 x2) (k0_pay46 (k0_pay19 x1) (k1 x2)) (k0_pay45 (k0_pay19 x1) (k1 x2))
  a0 := k0_pay52 (tM0 x1 x2) (k0_pay43 (k0_pay18 x1) (k1 x2))
  a1 := k0_pay58 (tM1 x1 x2) (k0_pay46 (k0_pay19 x1) (k1 x2))
  s0 := k0_pay64 (k0_pay18 x1) (k2 x2)
  s1 := k0_pay68 (k0_pay19 x1) (k0_pay66 (k2 x2))
  p0 := k0_pay56 (k0_pay55 (tM0 x1 x2) (k0_pay43 (k0_pay18 x1) (k1 x2)) (k0_pay42 (k0_pay18 x1) (k1 x2)))
  p1 := k0_pay61 (tM1 x1 x2) (k0_pay46 (k0_pay19 x1) (k1 x2)) (k0_pay45 (k0_pay19 x1) (k1 x2))
  o0 := tO0 x1 x2 xt
  o1 := tO1 x1 x2 xt

/-- One trip of the counted loop: the weights' chunk (its values `xv`) accumulated, the scores' chunk weighted, the
    next chunk (its keys `xk`) scored. -/
def stepSt (q0 q1 : FVec F S128x1024 .bf16) (xk : Vec F S1x1x2048x256 .bf16) (xv : Vec F S1x256x2048 .bf16) (S : St F) : St F where
  cm0 := k0_pay74 q0 xk
  cm1 := k0_pay77 q1 xk
  m0 := k0_pay5 S.cm0 S.m0
  m1 := k0_pay10 S.cm1 S.m1
  l0 := k0_pay8 S.l0 (k0_pay5 S.cm0 S.m0) (k0_pay6 S.cm0 S.m0) S.s0
  l1 := k0_pay13 S.cm1 S.m1 S.l1 S.s1
  a0 := k0_pay6 S.cm0 S.m0
  a1 := k0_pay11 S.cm1 S.m1
  s0 := k0_pay73 q0 xk
  s1 := k0_pay76 q1 xk
  p0 := k0_pay9 (k0_pay5 S.cm0 S.m0) S.s0
  p1 := k0_pay70 (k0_pay14 S.cm1 S.m1 S.s1)
  o0 := k0_pay3 S.a0 xv S.o0 S.p0
  o1 := k0_pay4 S.a1 xv S.o1 S.p1

/-- The states before the trips of the counted loop, from the one it begins with. -/
def iterSt (q0 q1 : FVec F S128x1024 .bf16) (x2 : Vec F S1x1x8448x256 .bf16) (xv : Fin k0_t2_loop.trips → Vec F S1x256x2048 .bf16) (S : St F) : ℕ → St F
  | 0 => S
  | k + 1 => if h : k < k0_t2_loop.trips then
      stepSt q0 q1 (kRows (k0_off4 ⟨k, h⟩) (k0_off4_inb ⟨k, h⟩) x2) (xv ⟨k, h⟩) (iterSt q0 q1 x2 xv S k)
    else iterSt q0 q1 x2 xv S k

/-- What the end of the body computes from the state the loop leaves: chunk 3 accumulated, chunk 4 weighted and
    accumulated, the two maps' difference, its root-mean-square normalization and the gate. -/
def finO0 (xv2 xv3 : Vec F S1x256x2048 .bf16) (S : St F) : FVec F S1x256x1024 .f32 :=
  k0_pay94 (k0_pay83 S.cm0 S.m0) xv3 (k0_pay79 S.a0 xv2 S.o0 S.p0) (k0_pay86 S.cm0 S.m0 S.s0)
def finO1 (xv2 xv3 : Vec F S1x256x2048 .bf16) (S : St F) : FVec F S1x256x1024 .f32 :=
  k0_pay96 (k0_pay95 (k0_pay88 S.cm1 S.m1) xv3 (k0_pay81 (k0_pay80 S.a1 xv2 S.o1 S.p1)) (k0_pay92 (k0_pay89 S.cm1 S.m1 S.s1)))
def finL0 (S : St F) : FVec F S8x1024 .f32 := k0_pay85 S.cm0 S.m0 S.l0 S.s0
def finL1 (S : St F) : FVec F S8x1024 .f32 := k0_pay91 S.l1 (k0_pay88 S.cm1 S.m1) (k0_pay89 S.cm1 S.m1 S.s1)
def finOut (x0 : Vec F S4x128 .f32) (x4 : Vec F S1x1x1024x256 .bf16) (x5 : Vec F S1x256 .f32) (xv2 xv3 : Vec F S1x256x2048 .bf16) (S : St F) : FVec F S1x1024x256 .bf16 :=
  k0_pay1 (k0_pay97 (finL0 S) (finL1 S) x0 (finO0 xv2 xv3 S) (finO1 xv2 xv3 S)) (k0_pay98 (finL0 S) (finL1 S) x0 (finO0 xv2 xv3 S) (finO1 xv2 xv3 S)) x5 x4

/-- The values' blocks, transposed, as the kernel keeps them: four of 2048 columns and one of 256. -/
def vT (x3 : Vec F S1x1x8448x256 .bf16) (g : Fin 4) : Vec F S1x256x2048 .bf16 :=
  k0_pay15 (kRows ![0, 0, 2048 * g.val, 0] (by intro a; fin_cases a <;> simp <;> omega) x3)
def vTail (x3 : Vec F S1x1x8448x256 .bf16) : Vec F S256x256 .bf16 := k0_pay16 (kTail x3)

/-- THE BLOCK THE BODY STORES, from the blocks it is handed. -/
def attnOut (x0 : Vec F S4x128 .f32) (x1 : Vec F S1x1x1024x256 .bf16) (x2 x3 : Vec F S1x1x8448x256 .bf16) (x4 : Vec F S1x1x1024x256 .bf16) (x5 : Vec F S1x256 .f32) : FVec F S1x1024x256 .bf16 :=
  finOut x0 x4 x5 (vT x3 2) (vT x3 3)
    (iterSt (k0_pay18 x1) (k0_pay19 x1) x2 (fun k => vT x3 ⟨k.val, lt_of_lt_of_le k.isLt (by decide)⟩) (preSt x1 x2 (vTail x3)) 2)

end Cert.Proof.Attn
end
-- ==== Proof.Attn.Loop2.lean ====
module

public import proofs.«01_k».proof.Proof.Attn.State
public import Idealize.ShloMosaic.Lib.Exec
public import Idealize.ShloMosaic.Lib.Tactic
public import Idealize.ShloMosaic.Lib.Pipeline.Kit

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The counted loop over chunks 3 and 4 -/

section
variable {sg : RefSig} {κ : Kind} {sp : Space} {s : Shape} {e : EltTy} {Val : EltTy → Type}
variable (v : View sg κ sp s e) (f : v.ty.Contents Val)

/-- A rectangle reads what was stored into it last, … -/
theorem rd_hit (r : Rect s) (w : r.shape.Idx → Val e) (L : List (View.Piece Val s e)) :
    v.readAt Val r.toLoadRect (v.writes Val f (⟨r, w⟩ :: L)) = w :=
  funext fun x => View.read_writes_cons_emb v f r w L x

/-- … and one a store does not meet reads what was there before it. -/
theorem rd_miss {off size off' size' : Fin s.rank → ℕ} {inb : ∀ a, off a + size a ≤ s.size a} {inb' : ∀ a, off' a + size' a ≤ s.size a}
    (w : (Rect.unit off' size' inb').shape.Idx → Val e) (L : List (View.Piece Val s e))
    (a : Fin s.rank) (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext x
  refine View.read_slice_write_of_not_mem _ _ _ _ ?_
  intro hm
  obtain ⟨y, -, hy⟩ := Finset.mem_map.mp hm
  have e : off' a + 1 * (y a).val = off a + 1 * (x a).val := congrArg (fun z => (z a).val) hy
  have hx : (x a).val < size a := (x a).isLt
  have hy' : (y a).val < size' a := (y a).isLt
  omega

/-- A rectangle's reads depend on its offsets alone. -/
theorem ld_off {off off' size : Fin s.rank → ℕ} {inb : ∀ a, off a + size a ≤ s.size a} {inb' : ∀ a, off' a + size a ≤ s.size a}
    (X : s.Idx → Val e) (h : off = off') :
    (View.ld X (Rect.unit off size inb) : (Rect.unit off size inb).shape.Idx → Val e) = View.ld X (Rect.unit off' size inb') := by
  subst h; rfl

end

set_option warn.classDefReducibility false in
set_option maxHeartbeats 1000000 in
/-- THE LOOP: before trip `k` the carried values and the three buffers are the state `iterSt` gives, from the one the
    loop is entered with. -/
@[sl_loop] def loop2 (𝒱 : Variants) (c : Dev nD) (bd : Option 𝒱.V) (E : Set ℕ) (i : grid0.Coords) (arg3 : Memref sig .tc .vmem S4x128 .f32) (harg3 : arg3.IsWhole) (arg4 : Memref sig .tc .vmem S1x1x1024x256 .bf16) (harg4 : arg4.IsWhole) (arg5 : Memref sig .tc .vmem S1x1x8448x256 .bf16) (harg5 : arg5.IsWhole) (arg6 : Memref sig .tc .vmem S1x1x8448x256 .bf16) (harg6 : arg6.IsWhole) (arg7 : Memref sig .tc .vmem S1x1x1024x256 .bf16) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S4x256x2048 .bf16) (harg10 : arg10.IsWhole) (arg11 : Memref sig .tc .vmem S256x256 .bf16) (harg11 : arg11.IsWhole) (arg12 : Memref sig .tc .vmem S2x2048x1024 .f32) (harg12 : arg12.IsWhole) (arg13 : Memref sig .tc .vmem S2x2048x1024 .bf16) (harg13 : arg13.IsWhole) (arg14 : Memref sig .tc .vmem S2x256x1024 .f32) (harg14 : arg14.IsWhole) (v8 : FVec F S128x1024 .bf16) (v9 : FVec F S128x1024 .bf16) (v117 : FVec F S1x1024 .f32) (v121 : FVec F S1x1024 .f32) (v135 : FVec F S8x1024 .f32) (v140 : FVec F S1x1024 .f32) (v144 : FVec F S1x1024 .f32) (v158 : FVec F S8x1024 .f32) (v171 : FVec F S1x1024 .f32) (v172 : FVec F S2048x128 .bf16) (init : Acc F) (X5 : BufTy.Contents (Elt F) arg5.view.ty) (X10 : BufTy.Contents (Elt F) arg10.view.ty) (G12 : BufTy.Contents (Elt F) arg12.view.ty) (G13 : BufTy.Contents (Elt F) arg13.view.ty) (G14 : BufTy.Contents (Elt F) arg14.view.ty) :
    Idealize.ShloMosaic.LoopInv (M := 𝕄) Idealize.ShloMosaic.frame (wpE (defs₀ (F := F)) 𝒱 (c : Thread nD τ) bd) E k0_t2_loop.lb k0_t2_loop.ub k0_t2_loop.st k0_t2_ok init
      (k0_t2_body (F := F) i arg3 harg3 arg4 harg4 arg5 harg5 arg6 harg6 arg7 harg7 arg8 harg8 arg9 harg9 arg10 harg10 arg11 harg11 arg12 harg12 arg13 harg13 arg14 harg14 v8 v9 v117 v121 v135 v140 v144 v158 v171 v172) where
  inv k acc := iprop((arg5.view.loc (c : Thread nD τ) ↦[arg5.view.set]{fullShare} X5) ∗ (arg10.view.loc (c : Thread nD τ) ↦[arg10.view.set]{fullShare} X10) ∗ (∃ f, (arg12.view.loc (c : Thread nD τ) ↦[arg12.view.set]{fullShare} f) ∗ ∃ g, (arg13.view.loc (c : Thread nD τ) ↦[arg13.view.set]{fullShare} g) ∗ ∃ h, (arg14.view.loc (c : Thread nD τ) ↦[arg14.view.set]{fullShare} h) ∗
    ⌜St.of acc (arg12.view.read (Elt F) f) (arg13.view.read (Elt F) g) (arg14.view.read (Elt F) h) = iterSt v8 v9 (arg5.view.read (Elt F) X5) (fun k => View.ld (Val := Elt F) (arg10.view.read (Elt F) X10) (Rect.unit (s := S4x256x2048) (k0_off3 k) S1x256x2048.size (k0_off3_inb k))) (St.of init (arg12.view.read (Elt F) G12) (arg13.view.read (Elt F) G13) (arg14.view.read (Elt F) G14)) k⌝))
  step k acc := by
    iintro ⟨H5, H10, ⟨%f, H12, ⟨%g, H13, ⟨%h, H14, %hS⟩⟩⟩⟩
    have hk : k.val < 2 := Nat.lt_of_lt_of_le k.isLt k0_t2_abs.2.1
    unfold k0_t2_body
    sl_exec
    sl_step
    isplitl [H5]; · iexact H5
    isplitl [H10]; · iexact H10
    iexists _; isplitl [H12]; · iexact H12
    iexists _; isplitl [H13]; · iexact H13
    iexists _; isplitl [H14]; · iexact H14
    ipureintro
    rw [iterSt, dif_pos k.isLt, ← hS]
    have e352 : loop2.sl.v352 c arg14 h = View.ld (Val := Elt F) (arg14.view.read (Elt F) h) RA1 := by
      unfold loop2.sl.v352
      exact rfl
    simp only [St.of, stepSt, St.mk.injEq]
    refine ⟨rfl, rfl, rfl, rfl, rfl, rfl, rfl, rfl, ?_, ?_, ?_, ?_, ?_, ?_⟩
    · exact (rd_miss arg12.view f _ _ 0 (Or.inl (by decide))).trans (rd_hit arg12.view f _ _ _)
    · exact rd_hit arg12.view f _ _ _
    · exact (rd_miss arg13.view g _ _ 0 (Or.inl (by decide))).trans (rd_hit arg13.view g _ _ _)
    · exact rd_hit arg13.view g _ _ _
    · exact (rd_miss arg14.view h _ _ 0 (Or.inl (by decide))).trans (rd_hit arg14.view h _ _ _)
    · refine (rd_hit arg14.view h _ _ _).trans ?_
      rw [e352]
      rfl

end Cert.Proof.Attn
end
-- ==== Proof.Attn.Loop1.lean ====
module

public import proofs.«01_k».proof.Proof.Attn.Loop2

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The transposed values: the loop that fills them, and what it leaves -/

/-- Slab `g` of the transposed values' buffer. -/
abbrev slab (g : Fin 4) : Rect S4x256x2048 := Rect.unit (s := S4x256x2048) ![g.val, 0, 0] S1x256x2048.size (by intro a; fin_cases a <;> simp <;> omega)

/-- WHAT THE TWO VALUE SCRATCHES HOLD: the transposed values of the block `x3`. -/
def VOk (x3 : Vec F S1x1x8448x256 .bf16) (y10 : Vec F S4x256x2048 .bf16) (y11 : Vec F S256x256 .bf16) : Prop :=
  (∀ g : Fin 4, View.ld (Val := Elt F) y10 (slab g) = vT x3 g) ∧ y11 = vTail x3

theorem off1_eq (i : grid0.Coords) (h1 : k0_cond1 i = 1#1) : ∀ t : Fin k0_t1_loop.trips, k0_off1 t = ![0, 0, 2048 * t.val, 0] := by decide +kernel
theorem off2_eq : ∀ t : Fin k0_t1_loop.trips, k0_off2 t = ![t.val, 0, 0] := by decide +kernel
theorem off3_eq : ∀ t : Fin k0_t2_loop.trips, k0_off3 t = ![t.val, 0, 0] := by decide +kernel
theorem off4_eq : ∀ t : Fin k0_t2_loop.trips, k0_off4 t = ![0, 0, (t.val + 2) * 2048, 0] := by decide +kernel

section
variable {sg : RefSig} {κ : Kind} {sp : Space} (v : View sg κ sp S4x256x2048 .bf16) (f : v.ty.Contents (Elt F))

theorem slab_hit {off : Fin 3 → ℕ} {inb : ∀ a, off a + S1x256x2048.size a ≤ S4x256x2048.size a} (w : Vec F S1x256x2048 .bf16) (L : List (View.Piece (Elt F) S4x256x2048 .bf16))
    (g : Fin 4) (h : off = ![g.val, 0, 0]) :
    View.ld (Val := Elt F) (v.read (Elt F) (v.writes (Elt F) f (⟨Rect.unit (s := S4x256x2048) off S1x256x2048.size inb, w⟩ :: L))) (slab g) = w := by
  subst h; exact rd_hit v f (slab g) w L

theorem slab_miss {off : Fin 3 → ℕ} {inb : ∀ a, off a + S1x256x2048.size a ≤ S4x256x2048.size a} (w : Vec F S1x256x2048 .bf16) (L : List (View.Piece (Elt F) S4x256x2048 .bf16))
    (g : Fin 4) (j : ℕ) (h : off = ![j, 0, 0]) (hj : g.val ≠ j) :
    View.ld (Val := Elt F) (v.read (Elt F) (v.writes (Elt F) f (⟨Rect.unit (s := S4x256x2048) off S1x256x2048.size inb, w⟩ :: L))) (slab g)
      = View.ld (Val := Elt F) (v.read (Elt F) (v.writes (Elt F) f L)) (slab g) := by
  subst h
  refine rd_miss v f w L (0 : Fin 3) ?_
  show g.val + 1 ≤ j ∨ j + 1 ≤ g.val
  omega
end

set_option warn.classDefReducibility false in
/-- THE LOOP: before trip `k` the slabs below `k` hold the transposed values. -/
@[sl_loop] def loop1 (𝒱 : Variants) (c : Dev nD) (bd : Option 𝒱.V) (E : Set ℕ) (i : grid0.Coords) (arg3 : Memref sig .tc .vmem S4x128 .f32) (harg3 : arg3.IsWhole) (arg4 : Memref sig .tc .vmem S1x1x1024x256 .bf16) (harg4 : arg4.IsWhole) (arg5 : Memref sig .tc .vmem S1x1x8448x256 .bf16) (harg5 : arg5.IsWhole) (arg6 : Memref sig .tc .vmem S1x1x8448x256 .bf16) (harg6 : arg6.IsWhole) (arg7 : Memref sig .tc .vmem S1x1x1024x256 .bf16) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S4x256x2048 .bf16) (harg10 : arg10.IsWhole) (arg11 : Memref sig .tc .vmem S256x256 .bf16) (harg11 : arg11.IsWhole) (arg12 : Memref sig .tc .vmem S2x2048x1024 .f32) (harg12 : arg12.IsWhole) (arg13 : Memref sig .tc .vmem S2x2048x1024 .bf16) (harg13 : arg13.IsWhole) (arg14 : Memref sig .tc .vmem S2x256x1024 .f32) (harg14 : arg14.IsWhole) (h1 : k0_cond1 i = 1#1) (X6 : BufTy.Contents (Elt F) arg6.view.ty) :
    Idealize.ShloMosaic.LoopInv (M := 𝕄) Idealize.ShloMosaic.frame (wpE (defs₀ (F := F)) 𝒱 (c : Thread nD τ) bd) E k0_t1_loop.lb k0_t1_loop.ub k0_t1_loop.st (k0_t1_ok i h1) ⟨⟩
      (k0_t1_body (F := F) i arg3 harg3 arg4 harg4 arg5 harg5 arg6 harg6 arg7 harg7 arg8 harg8 arg9 harg9 arg10 harg10 arg11 harg11 arg12 harg12 arg13 harg13 arg14 harg14 h1) where
  inv k _ := iprop((arg6.view.loc (c : Thread nD τ) ↦[arg6.view.set]{fullShare} X6) ∗ ∃ f, (arg10.view.loc (c : Thread nD τ) ↦[arg10.view.set]{fullShare} f) ∗
    ⌜∀ g : Fin 4, g.val < k → View.ld (Val := Elt F) (arg10.view.read (Elt F) f) (slab g) = vT (arg6.view.read (Elt F) X6) g⌝)
  step k acc := by
    iintro ⟨H6, ⟨%f, H10, %hS⟩⟩
    have hk : k.val < 4 := Nat.lt_of_lt_of_le k.isLt k0_t1_abs.2.1
    unfold k0_t1_body
    sl_exec
    sl_step
    isplitl [H6]; · iexact H6
    iexists _; isplitl [H10]; · iexact H10
    ipureintro
    intro g hg
    by_cases e : g.val = k.val
    · refine (slab_hit _ _ _ _ g (by rw [off2_eq, e])).trans ?_
      refine congrArg k0_pay15 ?_
      refine ld_off _ ?_
      rw [off1_eq i h1, e]
    · refine (slab_miss _ _ _ _ g k.val (off2_eq k) e).trans ?_
      exact hS g (by omega)

end Cert.Proof.Attn
end
-- ==== Proof.Attn.Rd.lean ====
module

public import proofs.«01_k».proof.Proof.Attn.Loop1
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # Reading back what was stored -/

section
variable {sg : RefSig} {κ : Kind} {sp : Space} {s : Shape} {e : EltTy} {Val : EltTy → Type}
variable (v : View sg κ sp s e) (f : v.ty.Contents Val)

theorem ld_hit (r : Rect s) (w : r.shape.Idx → Val e) (L : List (View.Piece Val s e)) :
    View.ld (v.read Val (v.writes Val f (⟨r, w⟩ :: L))) r = w := rd_hit v f r w L

theorem ld_miss01 {d : Fin 3 → ℕ} (v : View sg κ sp ⟨3, d⟩ e) (f : v.ty.Contents Val) {size size' : Fin 3 → ℕ} {inb : ∀ a, (![0, 0, 0] : Fin 3 → ℕ) a + size a ≤ d a} {inb' : ∀ a, (![1, 0, 0] : Fin 3 → ℕ) a + size' a ≤ d a}
    (hs : size 0 = 1) (w : (Rect.unit (s := ⟨3, d⟩) ![1, 0, 0] size' inb').shape.Idx → Val e) (L : List (View.Piece Val ⟨3, d⟩ e)) :
    View.ld (v.read Val (v.writes Val f (⟨Rect.unit ![1, 0, 0] size' inb', w⟩ :: L))) (Rect.unit ![0, 0, 0] size inb)
      = View.ld (v.read Val (v.writes Val f L)) (Rect.unit (s := ⟨3, d⟩) ![0, 0, 0] size inb) :=
  rd_miss v f w L (0 : Fin 3) (Or.inl (by rw [hs]; simp))

theorem ld_miss10 {d : Fin 3 → ℕ} (v : View sg κ sp ⟨3, d⟩ e) (f : v.ty.Contents Val) {size size' : Fin 3 → ℕ} {inb : ∀ a, (![1, 0, 0] : Fin 3 → ℕ) a + size a ≤ d a} {inb' : ∀ a, (![0, 0, 0] : Fin 3 → ℕ) a + size' a ≤ d a}
    (hs : size' 0 = 1) (w : (Rect.unit (s := ⟨3, d⟩) ![0, 0, 0] size' inb').shape.Idx → Val e) (L : List (View.Piece Val ⟨3, d⟩ e)) :
    View.ld (v.read Val (v.writes Val f (⟨Rect.unit ![0, 0, 0] size' inb', w⟩ :: L))) (Rect.unit ![1, 0, 0] size inb)
      = View.ld (v.read Val (v.writes Val f L)) (Rect.unit (s := ⟨3, d⟩) ![1, 0, 0] size inb) :=
  rd_miss v f w L (0 : Fin 3) (Or.inr (by rw [hs]; simp))

theorem whole_w {off : Fin s.rank → ℕ} {inb : ∀ a, off a + s.size a ≤ s.size a} (w : (Rect.unit off s.size inb).shape.Idx → Val e) (h : off = fun _ => 0) :
    v.read Val (v.writes Val f [⟨Rect.unit off s.size inb, w⟩]) = w :=
  (View.ld_unit_zero h inb _).symm.trans (ld_hit v f (Rect.unit off s.size inb) w [])

/-- A constant stored over a whole buffer reads as the constant, through any rectangle. -/
theorem ld_const {off : Fin s.rank → ℕ} {inb : ∀ a, off a + s.size a ≤ s.size a} (c : Val e) (L : List (View.Piece Val s e)) (B : Rect s) (h : ∀ a, off a = 0) :
    View.ld (v.read Val (v.writes Val f (⟨Rect.unit off s.size inb, fun _ => c⟩ :: L))) B = fun _ => c := by
  funext x
  have e : B.idx x = (Rect.unit off s.size inb).emb (B.idx x) := by
    funext a; refine Fin.ext ?_
    show (B.idx x a).val = off a + 1 * (B.idx x a).val
    rw [h a]; omega
  show v.read Val _ (B.idx x) = c
  rw [e]
  exact View.read_writes_cons_emb v f (Rect.unit off s.size inb) (fun _ => c) L (B.idx x)
end

section
variable {sg : RefSig} {κ : Kind} {sp : Space}
variable (vs : View sg κ sp S2x2048x1024 .f32) (fs : vs.ty.Contents (Elt F)) (vp : View sg κ sp S2x2048x1024 .bf16) (fp : vp.ty.Contents (Elt F)) (vo : View sg κ sp S2x256x1024 .f32) (fo : vo.ty.Contents (Elt F))

theorem miss_sRS0RS1 (w : (Rect.unit (s := S2x2048x1024) ![1, 0, 0] ![1, 2048, 1024] inb_S2x2048x1024_S1x2048x1024_1_0_0).shape.Idx → Elt F .f32) (L) : View.ld (vs.read (Elt F) (vs.writes (Elt F) fs (⟨(Rect.unit (s := S2x2048x1024) ![1, 0, 0] ![1, 2048, 1024] inb_S2x2048x1024_S1x2048x1024_1_0_0), w⟩ :: L))) (Rect.unit (s := S2x2048x1024) ![0, 0, 0] ![1, 2048, 1024] inb_S2x2048x1024_S1x2048x1024_0_0_0) = View.ld (vs.read (Elt F) (vs.writes (Elt F) fs L)) (Rect.unit (s := S2x2048x1024) ![0, 0, 0] ![1, 2048, 1024] inb_S2x2048x1024_S1x2048x1024_0_0_0) :=
  ld_miss01 vs fs rfl w L

theorem miss_sRS1RS0 (w : (Rect.unit (s := S2x2048x1024) ![0, 0, 0] ![1, 2048, 1024] inb_S2x2048x1024_S1x2048x1024_0_0_0).shape.Idx → Elt F .f32) (L) : View.ld (vs.read (Elt F) (vs.writes (Elt F) fs (⟨(Rect.unit (s := S2x2048x1024) ![0, 0, 0] ![1, 2048, 1024] inb_S2x2048x1024_S1x2048x1024_0_0_0), w⟩ :: L))) (Rect.unit (s := S2x2048x1024) ![1, 0, 0] ![1, 2048, 1024] inb_S2x2048x1024_S1x2048x1024_1_0_0) = View.ld (vs.read (Elt F) (vs.writes (Elt F) fs L)) (Rect.unit (s := S2x2048x1024) ![1, 0, 0] ![1, 2048, 1024] inb_S2x2048x1024_S1x2048x1024_1_0_0) :=
  ld_miss10 vs fs rfl w L

theorem miss_sRS0RT1 (w : (Rect.unit (s := S2x2048x1024) ![1, 0, 0] ![1, 256, 1024] inb_S2x2048x1024_S1x256x1024_1_0_0).shape.Idx → Elt F .f32) (L) : View.ld (vs.read (Elt F) (vs.writes (Elt F) fs (⟨(Rect.unit (s := S2x2048x1024) ![1, 0, 0] ![1, 256, 1024] inb_S2x2048x1024_S1x256x1024_1_0_0), w⟩ :: L))) (Rect.unit (s := S2x2048x1024) ![0, 0, 0] ![1, 2048, 1024] inb_S2x2048x1024_S1x2048x1024_0_0_0) = View.ld (vs.read (Elt F) (vs.writes (Elt F) fs L)) (Rect.unit (s := S2x2048x1024) ![0, 0, 0] ![1, 2048, 1024] inb_S2x2048x1024_S1x2048x1024_0_0_0) :=
  ld_miss01 vs fs rfl w L

theorem miss_sRS1RT0 (w : (Rect.unit (s := S2x2048x1024) ![0, 0, 0] ![1, 256, 1024] inb_S2x2048x1024_S1x256x1024_0_0_0).shape.Idx → Elt F .f32) (L) : View.ld (vs.read (Elt F) (vs.writes (Elt F) fs (⟨(Rect.unit (s := S2x2048x1024) ![0, 0, 0] ![1, 256, 1024] inb_S2x2048x1024_S1x256x1024_0_0_0), w⟩ :: L))) (Rect.unit (s := S2x2048x1024) ![1, 0, 0] ![1, 2048, 1024] inb_S2x2048x1024_S1x2048x1024_1_0_0) = View.ld (vs.read (Elt F) (vs.writes (Elt F) fs L)) (Rect.unit (s := S2x2048x1024) ![1, 0, 0] ![1, 2048, 1024] inb_S2x2048x1024_S1x2048x1024_1_0_0) :=
  ld_miss10 vs fs rfl w L

theorem miss_sRT0RS1 (w : (Rect.unit (s := S2x2048x1024) ![1, 0, 0] ![1, 2048, 1024] inb_S2x2048x1024_S1x2048x1024_1_0_0).shape.Idx → Elt F .f32) (L) : View.ld (vs.read (Elt F) (vs.writes (Elt F) fs (⟨(Rect.unit (s := S2x2048x1024) ![1, 0, 0] ![1, 2048, 1024] inb_S2x2048x1024_S1x2048x1024_1_0_0), w⟩ :: L))) (Rect.unit (s := S2x2048x1024) ![0, 0, 0] ![1, 256, 1024] inb_S2x2048x1024_S1x256x1024_0_0_0) = View.ld (vs.read (Elt F) (vs.writes (Elt F) fs L)) (Rect.unit (s := S2x2048x1024) ![0, 0, 0] ![1, 256, 1024] inb_S2x2048x1024_S1x256x1024_0_0_0) :=
  ld_miss01 vs fs rfl w L

theorem miss_sRT1RS0 (w : (Rect.unit (s := S2x2048x1024) ![0, 0, 0] ![1, 2048, 1024] inb_S2x2048x1024_S1x2048x1024_0_0_0).shape.Idx → Elt F .f32) (L) : View.ld (vs.read (Elt F) (vs.writes (Elt F) fs (⟨(Rect.unit (s := S2x2048x1024) ![0, 0, 0] ![1, 2048, 1024] inb_S2x2048x1024_S1x2048x1024_0_0_0), w⟩ :: L))) (Rect.unit (s := S2x2048x1024) ![1, 0, 0] ![1, 256, 1024] inb_S2x2048x1024_S1x256x1024_1_0_0) = View.ld (vs.read (Elt F) (vs.writes (Elt F) fs L)) (Rect.unit (s := S2x2048x1024) ![1, 0, 0] ![1, 256, 1024] inb_S2x2048x1024_S1x256x1024_1_0_0) :=
  ld_miss10 vs fs rfl w L

theorem miss_sRT0RT1 (w : (Rect.unit (s := S2x2048x1024) ![1, 0, 0] ![1, 256, 1024] inb_S2x2048x1024_S1x256x1024_1_0_0).shape.Idx → Elt F .f32) (L) : View.ld (vs.read (Elt F) (vs.writes (Elt F) fs (⟨(Rect.unit (s := S2x2048x1024) ![1, 0, 0] ![1, 256, 1024] inb_S2x2048x1024_S1x256x1024_1_0_0), w⟩ :: L))) (Rect.unit (s := S2x2048x1024) ![0, 0, 0] ![1, 256, 1024] inb_S2x2048x1024_S1x256x1024_0_0_0) = View.ld (vs.read (Elt F) (vs.writes (Elt F) fs L)) (Rect.unit (s := S2x2048x1024) ![0, 0, 0] ![1, 256, 1024] inb_S2x2048x1024_S1x256x1024_0_0_0) :=
  ld_miss01 vs fs rfl w L

theorem miss_sRT1RT0 (w : (Rect.unit (s := S2x2048x1024) ![0, 0, 0] ![1, 256, 1024] inb_S2x2048x1024_S1x256x1024_0_0_0).shape.Idx → Elt F .f32) (L) : View.ld (vs.read (Elt F) (vs.writes (Elt F) fs (⟨(Rect.unit (s := S2x2048x1024) ![0, 0, 0] ![1, 256, 1024] inb_S2x2048x1024_S1x256x1024_0_0_0), w⟩ :: L))) (Rect.unit (s := S2x2048x1024) ![1, 0, 0] ![1, 256, 1024] inb_S2x2048x1024_S1x256x1024_1_0_0) = View.ld (vs.read (Elt F) (vs.writes (Elt F) fs L)) (Rect.unit (s := S2x2048x1024) ![1, 0, 0] ![1, 256, 1024] inb_S2x2048x1024_S1x256x1024_1_0_0) :=
  ld_miss10 vs fs rfl w L

theorem miss_pRS0RS1 (w : (Rect.unit (s := S2x2048x1024) ![1, 0, 0] ![1, 2048, 1024] inb_S2x2048x1024_S1x2048x1024_1_0_0).shape.Idx → Elt F .bf16) (L) : View.ld (vp.read (Elt F) (vp.writes (Elt F) fp (⟨(Rect.unit (s := S2x2048x1024) ![1, 0, 0] ![1, 2048, 1024] inb_S2x2048x1024_S1x2048x1024_1_0_0), w⟩ :: L))) (Rect.unit (s := S2x2048x1024) ![0, 0, 0] ![1, 2048, 1024] inb_S2x2048x1024_S1x2048x1024_0_0_0) = View.ld (vp.read (Elt F) (vp.writes (Elt F) fp L)) (Rect.unit (s := S2x2048x1024) ![0, 0, 0] ![1, 2048, 1024] inb_S2x2048x1024_S1x2048x1024_0_0_0) :=
  ld_miss01 vp fp rfl w L

theorem miss_pRS1RS0 (w : (Rect.unit (s := S2x2048x1024) ![0, 0, 0] ![1, 2048, 1024] inb_S2x2048x1024_S1x2048x1024_0_0_0).shape.Idx → Elt F .bf16) (L) : View.ld (vp.read (Elt F) (vp.writes (Elt F) fp (⟨(Rect.unit (s := S2x2048x1024) ![0, 0, 0] ![1, 2048, 1024] inb_S2x2048x1024_S1x2048x1024_0_0_0), w⟩ :: L))) (Rect.unit (s := S2x2048x1024) ![1, 0, 0] ![1, 2048, 1024] inb_S2x2048x1024_S1x2048x1024_1_0_0) = View.ld (vp.read (Elt F) (vp.writes (Elt F) fp L)) (Rect.unit (s := S2x2048x1024) ![1, 0, 0] ![1, 2048, 1024] inb_S2x2048x1024_S1x2048x1024_1_0_0) :=
  ld_miss10 vp fp rfl w L

theorem miss_pRS0RT1 (w : (Rect.unit (s := S2x2048x1024) ![1, 0, 0] ![1, 256, 1024] inb_S2x2048x1024_S1x256x1024_1_0_0).shape.Idx → Elt F .bf16) (L) : View.ld (vp.read (Elt F) (vp.writes (Elt F) fp (⟨(Rect.unit (s := S2x2048x1024) ![1, 0, 0] ![1, 256, 1024] inb_S2x2048x1024_S1x256x1024_1_0_0), w⟩ :: L))) (Rect.unit (s := S2x2048x1024) ![0, 0, 0] ![1, 2048, 1024] inb_S2x2048x1024_S1x2048x1024_0_0_0) = View.ld (vp.read (Elt F) (vp.writes (Elt F) fp L)) (Rect.unit (s := S2x2048x1024) ![0, 0, 0] ![1, 2048, 1024] inb_S2x2048x1024_S1x2048x1024_0_0_0) :=
  ld_miss01 vp fp rfl w L

theorem miss_pRS1RT0 (w : (Rect.unit (s := S2x2048x1024) ![0, 0, 0] ![1, 256, 1024] inb_S2x2048x1024_S1x256x1024_0_0_0).shape.Idx → Elt F .bf16) (L) : View.ld (vp.read (Elt F) (vp.writes (Elt F) fp (⟨(Rect.unit (s := S2x2048x1024) ![0, 0, 0] ![1, 256, 1024] inb_S2x2048x1024_S1x256x1024_0_0_0), w⟩ :: L))) (Rect.unit (s := S2x2048x1024) ![1, 0, 0] ![1, 2048, 1024] inb_S2x2048x1024_S1x2048x1024_1_0_0) = View.ld (vp.read (Elt F) (vp.writes (Elt F) fp L)) (Rect.unit (s := S2x2048x1024) ![1, 0, 0] ![1, 2048, 1024] inb_S2x2048x1024_S1x2048x1024_1_0_0) :=
  ld_miss10 vp fp rfl w L

theorem miss_pRT0RS1 (w : (Rect.unit (s := S2x2048x1024) ![1, 0, 0] ![1, 2048, 1024] inb_S2x2048x1024_S1x2048x1024_1_0_0).shape.Idx → Elt F .bf16) (L) : View.ld (vp.read (Elt F) (vp.writes (Elt F) fp (⟨(Rect.unit (s := S2x2048x1024) ![1, 0, 0] ![1, 2048, 1024] inb_S2x2048x1024_S1x2048x1024_1_0_0), w⟩ :: L))) (Rect.unit (s := S2x2048x1024) ![0, 0, 0] ![1, 256, 1024] inb_S2x2048x1024_S1x256x1024_0_0_0) = View.ld (vp.read (Elt F) (vp.writes (Elt F) fp L)) (Rect.unit (s := S2x2048x1024) ![0, 0, 0] ![1, 256, 1024] inb_S2x2048x1024_S1x256x1024_0_0_0) :=
  ld_miss01 vp fp rfl w L

theorem miss_pRT1RS0 (w : (Rect.unit (s := S2x2048x1024) ![0, 0, 0] ![1, 2048, 1024] inb_S2x2048x1024_S1x2048x1024_0_0_0).shape.Idx → Elt F .bf16) (L) : View.ld (vp.read (Elt F) (vp.writes (Elt F) fp (⟨(Rect.unit (s := S2x2048x1024) ![0, 0, 0] ![1, 2048, 1024] inb_S2x2048x1024_S1x2048x1024_0_0_0), w⟩ :: L))) (Rect.unit (s := S2x2048x1024) ![1, 0, 0] ![1, 256, 1024] inb_S2x2048x1024_S1x256x1024_1_0_0) = View.ld (vp.read (Elt F) (vp.writes (Elt F) fp L)) (Rect.unit (s := S2x2048x1024) ![1, 0, 0] ![1, 256, 1024] inb_S2x2048x1024_S1x256x1024_1_0_0) :=
  ld_miss10 vp fp rfl w L

theorem miss_pRT0RT1 (w : (Rect.unit (s := S2x2048x1024) ![1, 0, 0] ![1, 256, 1024] inb_S2x2048x1024_S1x256x1024_1_0_0).shape.Idx → Elt F .bf16) (L) : View.ld (vp.read (Elt F) (vp.writes (Elt F) fp (⟨(Rect.unit (s := S2x2048x1024) ![1, 0, 0] ![1, 256, 1024] inb_S2x2048x1024_S1x256x1024_1_0_0), w⟩ :: L))) (Rect.unit (s := S2x2048x1024) ![0, 0, 0] ![1, 256, 1024] inb_S2x2048x1024_S1x256x1024_0_0_0) = View.ld (vp.read (Elt F) (vp.writes (Elt F) fp L)) (Rect.unit (s := S2x2048x1024) ![0, 0, 0] ![1, 256, 1024] inb_S2x2048x1024_S1x256x1024_0_0_0) :=
  ld_miss01 vp fp rfl w L

theorem miss_pRT1RT0 (w : (Rect.unit (s := S2x2048x1024) ![0, 0, 0] ![1, 256, 1024] inb_S2x2048x1024_S1x256x1024_0_0_0).shape.Idx → Elt F .bf16) (L) : View.ld (vp.read (Elt F) (vp.writes (Elt F) fp (⟨(Rect.unit (s := S2x2048x1024) ![0, 0, 0] ![1, 256, 1024] inb_S2x2048x1024_S1x256x1024_0_0_0), w⟩ :: L))) (Rect.unit (s := S2x2048x1024) ![1, 0, 0] ![1, 256, 1024] inb_S2x2048x1024_S1x256x1024_1_0_0) = View.ld (vp.read (Elt F) (vp.writes (Elt F) fp L)) (Rect.unit (s := S2x2048x1024) ![1, 0, 0] ![1, 256, 1024] inb_S2x2048x1024_S1x256x1024_1_0_0) :=
  ld_miss10 vp fp rfl w L

theorem miss_oRA0RA1 (w : (Rect.unit (s := S2x256x1024) ![1, 0, 0] ![1, 256, 1024] inb_S2x256x1024_S1x256x1024_1_0_0).shape.Idx → Elt F .f32) (L) : View.ld (vo.read (Elt F) (vo.writes (Elt F) fo (⟨(Rect.unit (s := S2x256x1024) ![1, 0, 0] ![1, 256, 1024] inb_S2x256x1024_S1x256x1024_1_0_0), w⟩ :: L))) (Rect.unit (s := S2x256x1024) ![0, 0, 0] ![1, 256, 1024] inb_S2x256x1024_S1x256x1024_0_0_0) = View.ld (vo.read (Elt F) (vo.writes (Elt F) fo L)) (Rect.unit (s := S2x256x1024) ![0, 0, 0] ![1, 256, 1024] inb_S2x256x1024_S1x256x1024_0_0_0) :=
  ld_miss01 vo fo rfl w L

theorem miss_oRA1RA0 (w : (Rect.unit (s := S2x256x1024) ![0, 0, 0] ![1, 256, 1024] inb_S2x256x1024_S1x256x1024_0_0_0).shape.Idx → Elt F .f32) (L) : View.ld (vo.read (Elt F) (vo.writes (Elt F) fo (⟨(Rect.unit (s := S2x256x1024) ![0, 0, 0] ![1, 256, 1024] inb_S2x256x1024_S1x256x1024_0_0_0), w⟩ :: L))) (Rect.unit (s := S2x256x1024) ![1, 0, 0] ![1, 256, 1024] inb_S2x256x1024_S1x256x1024_1_0_0) = View.ld (vo.read (Elt F) (vo.writes (Elt F) fo L)) (Rect.unit (s := S2x256x1024) ![1, 0, 0] ![1, 256, 1024] inb_S2x256x1024_S1x256x1024_1_0_0) :=
  ld_miss10 vo fo rfl w L

theorem zero_o (off : Fin 3 → ℕ) (inb : ∀ a, off a + (![1, 256, 1024] : Fin 3 → ℕ) a ≤ S2x256x1024.size a) :
    View.ld (Val := Elt F) (vo.read (Elt F) (vo.writes (Elt F) fo [⟨Rect.unit (s := S2x256x1024) ![0, 0, 0] ![2, 256, 1024] inb_S2x256x1024_S2x256x1024_0_0_0, k0_pay20⟩])) (Rect.unit (s := S2x256x1024) off ![1, 256, 1024] inb) = oZero := by
  have hc : (k0_pay20 : FVec F S2x256x1024 .f32) = fun _ => Scalar.ofBits .f32 0x00000000#32 := rfl
  have hz : (oZero : Vec F S1x256x1024 .f32) = fun _ => Scalar.ofBits .f32 0x00000000#32 := rfl
  rw [hz, hc]
  exact ld_const vo fo _ _ _ (by intro a; fin_cases a <;> rfl)
end

theorem whole_x0 (X : Vec F S4x128 .f32) (inb) : View.ld (Val := Elt F) X (Rect.unit (s := S4x128) ![0, 0] ![4, 128] inb) = X := View.ld_unit_zero (by funext a; fin_cases a <;> rfl) _ X
theorem whole_x1 (X : Vec F S1x1x1024x256 .bf16) (inb) : View.ld (Val := Elt F) X (Rect.unit (s := S1x1x1024x256) ![0, 0, 0, 0] S1x1x1024x256.size inb) = X := View.ld_unit_zero (by funext a; fin_cases a <;> rfl) _ X
theorem whole_x1' (X : Vec F S1x1x1024x256 .bf16) (inb) : View.ld (Val := Elt F) X (Rect.unit (s := S1x1x1024x256) ![0, 0, 0, 0] ![1, 1, 1024, 256] inb) = X := View.ld_unit_zero (by funext a; fin_cases a <;> rfl) _ X
theorem whole_x5 (X : Vec F S1x256 .f32) (inb) : View.ld (Val := Elt F) X (Rect.unit (s := S1x256) ![0, 0] ![1, 256] inb) = X := View.ld_unit_zero (by funext a; fin_cases a <;> rfl) _ X
theorem whole_11 (X : Vec F S256x256 .bf16) (inb) : View.ld (Val := Elt F) X (Rect.unit (s := S256x256) ![0, 0] ![256, 256] inb) = X := View.ld_unit_zero (by funext a; fin_cases a <;> rfl) _ X
theorem whole_9 {sg : RefSig} {κ : Kind} {sp : Space} (v : View sg κ sp S1x1024x256 .bf16) (f : v.ty.Contents (Elt F)) (inb) (w : (Rect.unit (s := S1x1024x256) ![0, 0, 0] ![1, 1024, 256] inb).shape.Idx → Elt F .bf16) :
    v.read (Elt F) (v.writes (Elt F) f [⟨Rect.unit (s := S1x1024x256) ![0, 0, 0] ![1, 1024, 256] inb, w⟩]) = w :=
  whole_w v f (inb := inb) w (by funext a; fin_cases a <;> rfl)
theorem whole_11w {sg : RefSig} {κ : Kind} {sp : Space} (v : View sg κ sp S256x256 .bf16) (f : v.ty.Contents (Elt F)) (w : Vec F S256x256 .bf16) :
    v.read (Elt F) (v.writes (Elt F) f [⟨Rect.unit (s := S256x256) ![0, 0] S256x256.size inb_S256x256_S256x256_0_0, w⟩]) = w :=
  whole_w v f (inb := inb_S256x256_S256x256_0_0) w (by funext a; fin_cases a <;> rfl)

theorem whole_11w' {sg : RefSig} {κ : Kind} {sp : Space} (v : View sg κ sp S256x256 .bf16) (f : v.ty.Contents (Elt F)) (w : Vec F S256x256 .bf16) :
    v.read (Elt F) (v.writes (Elt F) f [⟨Rect.unit (s := S256x256) ![0, 0] ![256, 256] inb_S256x256_S256x256_0_0, w⟩]) = w :=
  whole_11w v f w

/-- The loop's states, with the transposed values known slab by slab. -/
theorem iterSt_slabs (q0 q1 : FVec F S128x1024 .bf16) (x2 x3 : Vec F S1x1x8448x256 .bf16) (y10 : Vec F S4x256x2048 .bf16) (y11 : Vec F S256x256 .bf16) (h : VOk x3 y10 y11) (S : St F) (n : ℕ) :
    iterSt q0 q1 x2 (fun k => View.ld (Val := Elt F) y10 (Rect.unit (s := S4x256x2048) (k0_off3 k) S1x256x2048.size (k0_off3_inb k))) S n
      = iterSt q0 q1 x2 (fun k => vT x3 ⟨k.val, lt_of_lt_of_le k.isLt (by decide)⟩) S n := by
  congr 1
  funext k
  rw [← h.1]
  exact ld_off _ (off3_eq k)

end Cert.Proof.Attn
end
-- ==== Proof.Attn.BodyA.lean ====
module

public import proofs.«01_k».proof.Proof.Attn.Rd

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
theorem bodyA (c : Dev nD) (i : grid0.Coords) (arg3 : Memref sig .tc .vmem S4x128 .f32) (harg3 : arg3.IsWhole) (arg4 : Memref sig .tc .vmem S1x1x1024x256 .bf16) (harg4 : arg4.IsWhole) (arg5 : Memref sig .tc .vmem S1x1x8448x256 .bf16) (harg5 : arg5.IsWhole) (arg6 : Memref sig .tc .vmem S1x1x8448x256 .bf16) (harg6 : arg6.IsWhole) (arg7 : Memref sig .tc .vmem S1x1x1024x256 .bf16) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S4x256x2048 .bf16) (harg10 : arg10.IsWhole) (arg11 : Memref sig .tc .vmem S256x256 .bf16) (harg11 : arg11.IsWhole) (arg12 : Memref sig .tc .vmem S2x2048x1024 .f32) (harg12 : arg12.IsWhole) (arg13 : Memref sig .tc .vmem S2x2048x1024 .bf16) (harg13 : arg13.IsWhole) (arg14 : Memref sig .tc .vmem S2x256x1024 .f32) (harg14 : arg14.IsWhole) (hc0 : k0_cond1 i = 1#1)
    (x0 : Vec F S4x128 .f32) (x1 : Vec F S1x1x1024x256 .bf16) (x2 : Vec F S1x1x8448x256 .bf16) (x3 : Vec F S1x1x8448x256 .bf16) (x4 : Vec F S1x1x1024x256 .bf16) (x5 : Vec F S1x256 .f32)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (E : Set ℕ) (K : PUnit → sProp 𝕄) :
    iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗
      (((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (∃ f, (arg9.view.loc (c : Thread nD τ) ↦[arg9.view.set]{fullShare} f) ∗ ⌜arg9.view.read (Elt F) f = attnOut x0 x1 x2 x3 x4 x5⌝) ∗
        (∃ f, (arg10.view.loc (c : Thread nD τ) ↦[arg10.view.set]{fullShare} f) ∗ ∃ g, (arg11.view.loc (c : Thread nD τ) ↦[arg11.view.set]{fullShare} g) ∗ ⌜VOk x3 (arg10.view.read (Elt F) f) (arg11.view.read (Elt F) g)⌝) ∗
        (∃ f, (arg12.view.loc (c : Thread nD τ) ↦[arg12.view.set]{fullShare} f)) ∗ (∃ f, (arg13.view.loc (c : Thread nD τ) ↦[arg13.view.set]{fullShare} f)) ∗ ∃ f, (arg14.view.loc (c : Thread nD τ) ↦[arg14.view.set]{fullShare} f)) -∗ K ⟨⟩))
    ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14) K := by
  simp only [cc0_diff_attn_eq_skeleton]; unfold cc0_diff_attn_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  iintro ⟨H0, H1, H2, H3, H4, H5, H6, HS0, HS1, HS2, HS3, HS4, Hk⟩
  sl_exec (disch := first | sl_exact hc0)
  sl_step
  rename_i acc
  have hv : VOk x3 (arg10.view.read (Elt F) fL0) (arg11.view.read (Elt F) (arg11.view.writes (Elt F) arg11.view.junk (bodyA.sl.HS1_1 arg6 harg6 x3))) := by
    refine ⟨fun g => ?_, ?_⟩
    · refine (hL2 g (lt_of_lt_of_le g.isLt (by decide))).trans ?_
      rw [harg6.read_unread]
    · delta bodyA.sl.HS1_1
      refine (whole_11w _ _ _).trans ?_
      simp only [View.readAt_eq_ld, Memref.IsWhole.read_unread]
      rfl
  have hS : St.of acc (arg12.view.read (Elt F) fL1) (arg13.view.read (Elt F) gL2) (arg14.view.read (Elt F) hL3)
      = iterSt (k0_pay18 x1) (k0_pay19 x1) x2 (fun k => vT x3 ⟨k.val, lt_of_lt_of_le k.isLt (by decide)⟩) (preSt x1 x2 (vTail x3)) 2 := by
    refine hL8.trans ?_
    rw [show Scf.trips k0_t2_loop.lb k0_t2_loop.ub k0_t2_loop.st = 2 from by decide]
    refine (iterSt_slabs _ _ _ x3 _ _ hv _ _).trans ?_
    have e : ∀ q0 q0' q1 q1' y2 S S', q0 = q0' → q1 = q1' → y2 = x2 → S = S' →
        iterSt q0 q1 y2 (fun k => vT x3 ⟨k.val, lt_of_lt_of_le k.isLt (by decide)⟩) S 2 = iterSt (F := F) q0' q1' x2 (fun k => vT x3 ⟨k.val, lt_of_lt_of_le k.isLt (by decide)⟩) S' 2 := by
      intro q0 q0' q1 q1' y2 S S' h1 h2 h3 h4; rw [h1, h2, h3, h4]
    refine e _ _ _ _ _ _ _ ?_ ?_ (harg5.read_unread _) ?_
    · delta bodyA.sl.r; simp only [View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread]
    · delta bodyA.sl.r_1; simp only [View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread]
    · have h11 : arg11.view.read (Elt F) (arg11.view.writes (Elt F) arg11.view.junk (bodyA.sl.HS1_1 arg6 harg6 x3)) = vTail x3 := hv.2
      simp only [St.of, preSt, St.mk.injEq, RS0, RS1, RA0, RA1]
      repeat delta bodyA.sl.r bodyA.sl.r_1 bodyA.sl.r_2 bodyA.sl.r_3 bodyA.sl.r_4 bodyA.sl.r_5 bodyA.sl.r_6 bodyA.sl.r_7 bodyA.sl.r_8 bodyA.sl.r_9 bodyA.sl.r_10 bodyA.sl.r_11 bodyA.sl.r_12 bodyA.sl.r_13 bodyA.sl.r_14 bodyA.sl.r_15 bodyA.sl.r_16 bodyA.sl.r_17 bodyA.sl.r_18 bodyA.sl.r_19 bodyA.sl.r_20 bodyA.sl.r_21 bodyA.sl.r_22 bodyA.sl.r_23 bodyA.sl.r_24 bodyA.sl.r_25 bodyA.sl.r_26 bodyA.sl.r_27 bodyA.sl.r_28 bodyA.sl.r_29 bodyA.sl.r_30 bodyA.sl.r_31 bodyA.sl.r_32 bodyA.sl.r_33 bodyA.sl.r_34 bodyA.sl.r_35 bodyA.sl.r_36 bodyA.sl.r_37 bodyA.sl.r_38 bodyA.sl.r_39 bodyA.sl.v37 bodyA.sl.v60 bodyA.sl.v95 bodyA.sl.v99 bodyA.sl.v106 bodyA.sl.v110 bodyA.sl.v122 bodyA.sl.v145 bodyA.sl.v194 bodyA.sl.v253 bodyA.sl.v257 bodyA.sl.v264 bodyA.sl.v268 bodyA.sl.v300 bodyA.sl.v304 bodyA.sl.v326 bodyA.sl.HS2_2 bodyA.sl.HS2_4 bodyA.sl.HS2_6 bodyA.sl.HS3_2 bodyA.sl.HS3_4 bodyA.sl.HS4_1 bodyA.sl.HS4_2 bodyA.sl.HS4_3 bodyA.sl.HS3_2_1 bodyA.sl.HS4_2_1 bodyA.sl.HS4_3_1 bodyA.sl.HS4_4 bodyA.sl.HS1_1 bodyA.sl.v94
      simp only [tS0, tS1, tM0, tA0, tL0, tP0, tM1, tA1, tW1, tL1, tP1, tO0, tO1, kTail, k1, k2, kRows, View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread, vTail, whole_11w']
      simp only [and_self]
  have hv2 : View.ld (Val := Elt F) (arg10.view.read (Elt F) fL0) (Rect.unit (s := S4x256x2048) ![2, 0, 0] ![1, 256, 2048] inb_S4x256x2048_S1x256x2048_2_0_0) = vT x3 2 := hv.1 2
  have hv3 : View.ld (Val := Elt F) (arg10.view.read (Elt F) fL0) (Rect.unit (s := S4x256x2048) ![3, 0, 0] ![1, 256, 2048] inb_S4x256x2048_S1x256x2048_3_0_0) = vT x3 3 := hv.1 3
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitl [H6]; · iexact H6
    ipureintro
    refine (whole_9 _ _ _ _).trans ?_
    unfold attnOut; rw [← hS]
    repeat delta bodyA.sl.r bodyA.sl.r_1 bodyA.sl.r_2 bodyA.sl.r_3 bodyA.sl.r_4 bodyA.sl.r_5 bodyA.sl.r_6 bodyA.sl.r_7 bodyA.sl.r_8 bodyA.sl.r_9 bodyA.sl.r_10 bodyA.sl.r_11 bodyA.sl.r_12 bodyA.sl.r_13 bodyA.sl.r_14 bodyA.sl.r_15 bodyA.sl.r_16 bodyA.sl.r_17 bodyA.sl.r_18 bodyA.sl.r_19 bodyA.sl.r_20 bodyA.sl.r_21 bodyA.sl.r_22 bodyA.sl.r_23 bodyA.sl.r_24 bodyA.sl.r_25 bodyA.sl.r_26 bodyA.sl.r_27 bodyA.sl.r_28 bodyA.sl.r_29 bodyA.sl.r_30 bodyA.sl.r_31 bodyA.sl.r_32 bodyA.sl.r_33 bodyA.sl.r_34 bodyA.sl.r_35 bodyA.sl.r_36 bodyA.sl.r_37 bodyA.sl.r_38 bodyA.sl.r_39 bodyA.sl.v37 bodyA.sl.v60 bodyA.sl.v95 bodyA.sl.v99 bodyA.sl.v106 bodyA.sl.v110 bodyA.sl.v122 bodyA.sl.v145 bodyA.sl.v194 bodyA.sl.v253 bodyA.sl.v257 bodyA.sl.v264 bodyA.sl.v268 bodyA.sl.v300 bodyA.sl.v304 bodyA.sl.v326 bodyA.sl.HS2_2 bodyA.sl.HS2_4 bodyA.sl.HS2_6 bodyA.sl.HS3_2 bodyA.sl.HS3_4 bodyA.sl.HS4_1 bodyA.sl.HS4_2 bodyA.sl.HS4_3 bodyA.sl.HS3_2_1 bodyA.sl.HS4_2_1 bodyA.sl.HS4_3_1 bodyA.sl.HS4_4 bodyA.sl.HS1_1 bodyA.sl.v94
    simp only [finOut, finO0, finO1, finL0, finL1, St.of, RS0, RS1, RA0, RA1, hv2, hv3, View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread]
  isplitl [HS0 HS1]
  · iexists _; isplitl [HS0]; · iexact HS0
    iexists _; isplitl [HS1]; · iexact HS1
    ipureintro; exact hv
  isplitl [HS2]; · iexists _; iexact HS2
  isplitl [HS3]; · iexists _; iexact HS3
  iexists _; iexact HS4

end Cert.Proof.Attn
end
-- ==== Proof.Attn.BodyB.lean ====
module

public import proofs.«01_k».proof.Proof.Attn.Rd

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
theorem bodyB (c : Dev nD) (i : grid0.Coords) (arg3 : Memref sig .tc .vmem S4x128 .f32) (harg3 : arg3.IsWhole) (arg4 : Memref sig .tc .vmem S1x1x1024x256 .bf16) (harg4 : arg4.IsWhole) (arg5 : Memref sig .tc .vmem S1x1x8448x256 .bf16) (harg5 : arg5.IsWhole) (arg6 : Memref sig .tc .vmem S1x1x8448x256 .bf16) (harg6 : arg6.IsWhole) (arg7 : Memref sig .tc .vmem S1x1x1024x256 .bf16) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S4x256x2048 .bf16) (harg10 : arg10.IsWhole) (arg11 : Memref sig .tc .vmem S256x256 .bf16) (harg11 : arg11.IsWhole) (arg12 : Memref sig .tc .vmem S2x2048x1024 .f32) (harg12 : arg12.IsWhole) (arg13 : Memref sig .tc .vmem S2x2048x1024 .bf16) (harg13 : arg13.IsWhole) (arg14 : Memref sig .tc .vmem S2x256x1024 .f32) (harg14 : arg14.IsWhole) (hc0 : ¬ (k0_cond1 i = 1#1))
    (x0 : Vec F S4x128 .f32) (x1 : Vec F S1x1x1024x256 .bf16) (x2 : Vec F S1x1x8448x256 .bf16) (x3 : Vec F S1x1x8448x256 .bf16) (x4 : Vec F S1x1x1024x256 .bf16) (x5 : Vec F S1x256 .f32)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (hv : VOk x3 (arg10.view.read (Elt F) f10) (arg11.view.read (Elt F) f11))
    (E : Set ℕ) (K : PUnit → sProp 𝕄) :
    iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗
      (((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (∃ f, (arg9.view.loc (c : Thread nD τ) ↦[arg9.view.set]{fullShare} f) ∗ ⌜arg9.view.read (Elt F) f = attnOut x0 x1 x2 x3 x4 x5⌝) ∗
        (∃ f, (arg10.view.loc (c : Thread nD τ) ↦[arg10.view.set]{fullShare} f) ∗ ∃ g, (arg11.view.loc (c : Thread nD τ) ↦[arg11.view.set]{fullShare} g) ∗ ⌜VOk x3 (arg10.view.read (Elt F) f) (arg11.view.read (Elt F) g)⌝) ∗
        (∃ f, (arg12.view.loc (c : Thread nD τ) ↦[arg12.view.set]{fullShare} f)) ∗ (∃ f, (arg13.view.loc (c : Thread nD τ) ↦[arg13.view.set]{fullShare} f)) ∗ ∃ f, (arg14.view.loc (c : Thread nD τ) ↦[arg14.view.set]{fullShare} f)) -∗ K ⟨⟩))
    ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14) K := by
  simp only [cc0_diff_attn_eq_skeleton]; unfold cc0_diff_attn_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  iintro ⟨H0, H1, H2, H3, H4, H5, H6, HS0, HS1, HS2, HS3, HS4, Hk⟩
  sl_exec (disch := first | sl_exact hc0)
  sl_step
  rename_i acc
  have hS : St.of acc (arg12.view.read (Elt F) fL0) (arg13.view.read (Elt F) gL1) (arg14.view.read (Elt F) hL2)
      = iterSt (k0_pay18 x1) (k0_pay19 x1) x2 (fun k => vT x3 ⟨k.val, lt_of_lt_of_le k.isLt (by decide)⟩) (preSt x1 x2 (vTail x3)) 2 := by
    refine hL5.trans ?_
    rw [show Scf.trips k0_t2_loop.lb k0_t2_loop.ub k0_t2_loop.st = 2 from by decide]
    refine (iterSt_slabs _ _ _ x3 _ _ hv _ _).trans ?_
    have e : ∀ q0 q0' q1 q1' y2 S S', q0 = q0' → q1 = q1' → y2 = x2 → S = S' →
        iterSt q0 q1 y2 (fun k => vT x3 ⟨k.val, lt_of_lt_of_le k.isLt (by decide)⟩) S 2 = iterSt (F := F) q0' q1' x2 (fun k => vT x3 ⟨k.val, lt_of_lt_of_le k.isLt (by decide)⟩) S' 2 := by
      intro q0 q0' q1 q1' y2 S S' h1 h2 h3 h4; rw [h1, h2, h3, h4]
    refine e _ _ _ _ _ _ _ ?_ ?_ (harg5.read_unread _) ?_
    · delta bodyB.sl.r; simp only [View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread]
    · delta bodyB.sl.r_1; simp only [View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread]
    · have h11 : arg11.view.read (Elt F) f11 = vTail x3 := hv.2
      simp only [St.of, preSt, St.mk.injEq, RS0, RS1, RA0, RA1]
      repeat delta bodyB.sl.r bodyB.sl.r_1 bodyB.sl.r_2 bodyB.sl.r_3 bodyB.sl.r_4 bodyB.sl.r_5 bodyB.sl.r_6 bodyB.sl.r_7 bodyB.sl.r_8 bodyB.sl.r_9 bodyB.sl.r_10 bodyB.sl.r_11 bodyB.sl.r_12 bodyB.sl.r_13 bodyB.sl.r_14 bodyB.sl.r_15 bodyB.sl.r_16 bodyB.sl.r_17 bodyB.sl.r_18 bodyB.sl.r_19 bodyB.sl.r_20 bodyB.sl.r_21 bodyB.sl.r_22 bodyB.sl.r_23 bodyB.sl.r_24 bodyB.sl.r_25 bodyB.sl.r_26 bodyB.sl.r_27 bodyB.sl.r_28 bodyB.sl.r_29 bodyB.sl.r_30 bodyB.sl.r_31 bodyB.sl.r_32 bodyB.sl.r_33 bodyB.sl.r_34 bodyB.sl.r_35 bodyB.sl.r_36 bodyB.sl.r_37 bodyB.sl.r_38 bodyB.sl.r_39 bodyB.sl.v37 bodyB.sl.v60 bodyB.sl.v95 bodyB.sl.v99 bodyB.sl.v106 bodyB.sl.v110 bodyB.sl.v122 bodyB.sl.v145 bodyB.sl.v194 bodyB.sl.v253 bodyB.sl.v257 bodyB.sl.v264 bodyB.sl.v268 bodyB.sl.v300 bodyB.sl.v304 bodyB.sl.v326 bodyB.sl.HS2_2 bodyB.sl.HS2_4 bodyB.sl.HS2_6 bodyB.sl.HS3_2 bodyB.sl.HS3_4 bodyB.sl.HS4_1 bodyB.sl.HS4_2 bodyB.sl.HS4_3 bodyB.sl.HS3_2_1 bodyB.sl.HS4_2_1 bodyB.sl.HS4_3_1 bodyB.sl.HS4_4 bodyB.sl.r_40
      simp only [tS0, tS1, tM0, tA0, tL0, tP0, tM1, tA1, tW1, tL1, tP1, tO0, tO1, kTail, k1, k2, kRows, View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread, h11]
      simp only [and_self]
  have hv2 : View.ld (Val := Elt F) (arg10.view.read (Elt F) f10) (Rect.unit (s := S4x256x2048) ![2, 0, 0] ![1, 256, 2048] inb_S4x256x2048_S1x256x2048_2_0_0) = vT x3 2 := hv.1 2
  have hv3 : View.ld (Val := Elt F) (arg10.view.read (Elt F) f10) (Rect.unit (s := S4x256x2048) ![3, 0, 0] ![1, 256, 2048] inb_S4x256x2048_S1x256x2048_3_0_0) = vT x3 3 := hv.1 3
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitl [H6]; · iexact H6
    ipureintro
    refine (whole_9 _ _ _ _).trans ?_
    unfold attnOut; rw [← hS]
    repeat delta bodyB.sl.r bodyB.sl.r_1 bodyB.sl.r_2 bodyB.sl.r_3 bodyB.sl.r_4 bodyB.sl.r_5 bodyB.sl.r_6 bodyB.sl.r_7 bodyB.sl.r_8 bodyB.sl.r_9 bodyB.sl.r_10 bodyB.sl.r_11 bodyB.sl.r_12 bodyB.sl.r_13 bodyB.sl.r_14 bodyB.sl.r_15 bodyB.sl.r_16 bodyB.sl.r_17 bodyB.sl.r_18 bodyB.sl.r_19 bodyB.sl.r_20 bodyB.sl.r_21 bodyB.sl.r_22 bodyB.sl.r_23 bodyB.sl.r_24 bodyB.sl.r_25 bodyB.sl.r_26 bodyB.sl.r_27 bodyB.sl.r_28 bodyB.sl.r_29 bodyB.sl.r_30 bodyB.sl.r_31 bodyB.sl.r_32 bodyB.sl.r_33 bodyB.sl.r_34 bodyB.sl.r_35 bodyB.sl.r_36 bodyB.sl.r_37 bodyB.sl.r_38 bodyB.sl.r_39 bodyB.sl.v37 bodyB.sl.v60 bodyB.sl.v95 bodyB.sl.v99 bodyB.sl.v106 bodyB.sl.v110 bodyB.sl.v122 bodyB.sl.v145 bodyB.sl.v194 bodyB.sl.v253 bodyB.sl.v257 bodyB.sl.v264 bodyB.sl.v268 bodyB.sl.v300 bodyB.sl.v304 bodyB.sl.v326 bodyB.sl.HS2_2 bodyB.sl.HS2_4 bodyB.sl.HS2_6 bodyB.sl.HS3_2 bodyB.sl.HS3_4 bodyB.sl.HS4_1 bodyB.sl.HS4_2 bodyB.sl.HS4_3 bodyB.sl.HS3_2_1 bodyB.sl.HS4_2_1 bodyB.sl.HS4_3_1 bodyB.sl.HS4_4 bodyB.sl.r_40
    simp only [finOut, finO0, finO1, finL0, finL1, St.of, RS0, RS1, RA0, RA1, hv2, hv3, View.readAt_eq_ld, View.readCov, ld_hit, miss_sRS0RS1, miss_sRS1RS0, miss_sRS0RT1, miss_sRS1RT0, miss_sRT0RS1, miss_sRT1RS0, miss_sRT0RT1, miss_sRT1RT0, miss_pRS0RS1, miss_pRS1RS0, miss_pRS0RT1, miss_pRS1RT0, miss_pRT0RS1, miss_pRT1RS0, miss_pRT0RT1, miss_pRT1RT0, miss_oRA0RA1, miss_oRA1RA0, zero_o, whole_x0, whole_x1, whole_x1', whole_x5, whole_11, Memref.IsWhole.read_unread]
  isplitl [HS0 HS1]
  · iexists _; isplitl [HS0]; · iexact HS0
    iexists _; isplitl [HS1]; · iexact HS1
    ipureintro; exact hv
  isplitl [HS2]; · iexists _; iexact HS2
  isplitl [HS3]; · iexists _; iexact HS3
  iexists _; iexact HS4

end Cert.Proof.Attn
end
-- ==== Proof.Attn.BodyOwn.lean ====
module

public import proofs.«01_k».proof.Proof.Attn.BodyA
public import proofs.«01_k».proof.Proof.Attn.BodyB
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
/-- The body at one grid point, from the contents of its buffers: it leaves the inputs, writes the attention's block and
    keeps the transposed values of the head. -/
theorem bodyOwn (c : Dev nD) (i : grid0.Coords) (arg3 : Memref sig .tc .vmem S4x128 .f32) (harg3 : arg3.IsWhole) (arg4 : Memref sig .tc .vmem S1x1x1024x256 .bf16) (harg4 : arg4.IsWhole) (arg5 : Memref sig .tc .vmem S1x1x8448x256 .bf16) (harg5 : arg5.IsWhole) (arg6 : Memref sig .tc .vmem S1x1x8448x256 .bf16) (harg6 : arg6.IsWhole) (arg7 : Memref sig .tc .vmem S1x1x1024x256 .bf16) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S4x256x2048 .bf16) (harg10 : arg10.IsWhole) (arg11 : Memref sig .tc .vmem S256x256 .bf16) (harg11 : arg11.IsWhole) (arg12 : Memref sig .tc .vmem S2x2048x1024 .f32) (harg12 : arg12.IsWhole) (arg13 : Memref sig .tc .vmem S2x2048x1024 .bf16) (harg13 : arg13.IsWhole) (arg14 : Memref sig .tc .vmem S2x256x1024 .f32) (harg14 : arg14.IsWhole) (x0 : Vec F S4x128 .f32) (x1 : Vec F S1x1x1024x256 .bf16) (x2 : Vec F S1x1x8448x256 .bf16) (x3 : Vec F S1x1x8448x256 .bf16) (x4 : Vec F S1x1x1024x256 .bf16) (x5 : Vec F S1x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ y10, owns (c : Thread nD τ) arg10 fullShare y10 ∗ ∃ y11, owns (c : Thread nD τ) arg11 fullShare y11 ∗ ⌜¬ (k0_cond1 i = 1#1) → VOk x3 y10 y11⌝) ∗ (∃ d, owns (c : Thread nD τ) arg12 fullShare d) ∗ (∃ d, owns (c : Thread nD τ) arg13 fullShare d) ∗ (∃ d, owns (c : Thread nD τ) arg14 fullShare d)
      ∗ ((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (attnOut x0 x1 x2 x3 x4 x5) ∗ (∃ y10, owns (c : Thread nD τ) arg10 fullShare y10 ∗ ∃ y11, owns (c : Thread nD τ) arg11 fullShare y11 ∗ ⌜VOk x3 y10 y11⌝) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, %hf9, H6⟩, ⟨%y10, ⟨%f10, %hf10, HS0⟩, %y11, ⟨%f11, %hf11, HS1⟩, %hv⟩, ⟨%d12, %f12, %hf12, HS2⟩, ⟨%d13, %f13, %hf13, HS3⟩, ⟨%d14, %f14, %hf14, HS4⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  subst hf10; subst hf11
  by_cases hc0 : k0_cond1 i = 1#1
  · iapply (bodyA c i arg3 harg3 arg4 harg4 arg5 harg5 arg6 harg6 arg7 harg7 arg8 harg8 arg9 harg9 arg10 harg10 arg11 harg11 arg12 harg12 arg13 harg13 arg14 harg14 hc0 x0 x1 x2 x3 x4 x5 f9 f10 f11 f12 f13 f14 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%g9, H6, %h9⟩, ⟨%g10, HS0, %g11, HS1, %hv'⟩, ⟨%g12, HS2⟩, ⟨%g13, HS3⟩, ⟨%g14, HS4⟩⟩
    iapply Hk
    isplitl [H0]
    · iexists _; isplitr
      swap; · iexact H0
      ipureintro; exact harg3.read_unread _
    isplitl [H1]
    · iexists _; isplitr
      swap; · iexact H1
      ipureintro; exact harg4.read_unread _
    isplitl [H2]
    · iexists _; isplitr
      swap; · iexact H2
      ipureintro; exact harg5.read_unread _
    isplitl [H3]
    · iexists _; isplitr
      swap; · iexact H3
      ipureintro; exact harg6.read_unread _
    isplitl [H4]
    · iexists _; isplitr
      swap; · iexact H4
      ipureintro; exact harg7.read_unread _
    isplitl [H5]
    · iexists _; isplitr
      swap; · iexact H5
      ipureintro; exact harg8.read_unread _
    isplitl [H6]
    · iexists _; isplitr
      swap; · iexact H6
      ipureintro; exact h9
    isplitl [HS0 HS1]
    · iexists (arg10.view.read (Elt F) g10); isplitl [HS0]
      · iexists _; isplitr
        swap; · iexact HS0
        ipureintro; rfl
      iexists (arg11.view.read (Elt F) g11); isplitl [HS1]
      · iexists _; isplitr
        swap; · iexact HS1
        ipureintro; rfl
      ipureintro; exact hv'
    isplitl [HS2]
    · iexists _, _; isplitr
      swap; · iexact HS2
      ipureintro; rfl
    isplitl [HS3]
    · iexists _, _; isplitr
      swap; · iexact HS3
      ipureintro; rfl
    iexists _, _; isplitr
    swap; · iexact HS4
    ipureintro; rfl
  · iapply (bodyB c i arg3 harg3 arg4 harg4 arg5 harg5 arg6 harg6 arg7 harg7 arg8 harg8 arg9 harg9 arg10 harg10 arg11 harg11 arg12 harg12 arg13 harg13 arg14 harg14 hc0 x0 x1 x2 x3 x4 x5 f9 f10 f11 f12 f13 f14 (hv hc0) E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%g9, H6, %h9⟩, ⟨%g10, HS0, %g11, HS1, %hv'⟩, ⟨%g12, HS2⟩, ⟨%g13, HS3⟩, ⟨%g14, HS4⟩⟩
    iapply Hk
    isplitl [H0]
    · iexists _; isplitr
      swap; · iexact H0
      ipureintro; exact harg3.read_unread _
    isplitl [H1]
    · iexists _; isplitr
      swap; · iexact H1
      ipureintro; exact harg4.read_unread _
    isplitl [H2]
    · iexists _; isplitr
      swap; · iexact H2
      ipureintro; exact harg5.read_unread _
    isplitl [H3]
    · iexists _; isplitr
      swap; · iexact H3
      ipureintro; exact harg6.read_unread _
    isplitl [H4]
    · iexists _; isplitr
      swap; · iexact H4
      ipureintro; exact harg7.read_unread _
    isplitl [H5]
    · iexists _; isplitr
      swap; · iexact H5
      ipureintro; exact harg8.read_unread _
    isplitl [H6]
    · iexists _; isplitr
      swap; · iexact H6
      ipureintro; exact h9
    isplitl [HS0 HS1]
    · iexists (arg10.view.read (Elt F) g10); isplitl [HS0]
      · iexists _; isplitr
        swap; · iexact HS0
        ipureintro; rfl
      iexists (arg11.view.read (Elt F) g11); isplitl [HS1]
      · iexists _; isplitr
        swap; · iexact HS1
        ipureintro; rfl
      ipureintro; exact hv'
    isplitl [HS2]
    · iexists _, _; isplitr
      swap; · iexact HS2
      ipureintro; rfl
    isplitl [HS3]
    · iexists _, _; isplitr
      swap; · iexact HS3
      ipureintro; rfl
    iexists _, _; isplitr
    swap; · iexact HS4
    ipureintro; rfl

end Cert.Proof.Attn
end
-- ==== Proof.Attn.Blocks.lean ====
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ)

/-- The grid's coordinates at a point: the batch, the head and the block of queries. -/
theorem tlt (t : Fin cfg0.N) : t.val < 128 := Nat.lt_of_lt_of_eq t.isLt N_0
abbrev tB (t : Fin cfg0.N) : Fin 2 := ⟨t.val / 64, by have := tlt t; omega⟩
abbrev tH (t : Fin cfg0.N) : Fin 8 := ⟨t.val / 8 % 8, by omega⟩
abbrev tI (t : Fin cfg0.N) : Fin 8 := ⟨t.val % 8, by omega⟩
theorem wi0 : ∀ t : Fin cfg0.N, win0_0.index t 0 = 0 ∧ win0_0.index t 1 = 0 := by decide +kernel
theorem wi1 : ∀ t : Fin cfg0.N, win0_1.index t 0 = t.val / 8 % 8 ∧ win0_1.index t 1 = t.val / 64 ∧ win0_1.index t 2 = t.val % 8 ∧ win0_1.index t 3 = 0 := by decide +kernel
theorem wi2 : ∀ t : Fin cfg0.N, win0_2.index t 0 = 8 + t.val / 8 % 8 ∧ win0_2.index t 1 = t.val / 64 ∧ win0_2.index t 2 = 0 ∧ win0_2.index t 3 = 0 := by decide +kernel
theorem wi3 : ∀ t : Fin cfg0.N, win0_3.index t 0 = t.val / 8 % 8 ∧ win0_3.index t 1 = t.val / 64 ∧ win0_3.index t 2 = 0 ∧ win0_3.index t 3 = 0 := by decide +kernel
theorem wi4 : ∀ t : Fin cfg0.N, win0_4.index t 0 = 8 + t.val / 8 % 8 ∧ win0_4.index t 1 = t.val / 64 ∧ win0_4.index t 2 = t.val % 8 ∧ win0_4.index t 3 = 0 := by decide +kernel
theorem wi5 : ∀ t : Fin cfg0.N, win0_5.index t 0 = 0 ∧ win0_5.index t 1 = 0 := by decide +kernel
theorem wi6 : ∀ t : Fin cfg0.N, win0_6.index t 0 = t.val / 64 ∧ win0_6.index t 1 = t.val % 8 ∧ win0_6.index t 2 = t.val / 8 % 8 := by decide +kernel

theorem ib0 (c : Dev nD) (t : Fin cfg0.N) (j : S4x128.Idx) : (iblk m c 0 t j : Elt F .f32) = V m c main_v8 j := by
  have hi := wi0 t
  unfold iblk
  rw [View.read_apply]
  show V m c main_v8 _ = V m c main_v8 _
  congr 1
  funext a
  apply Fin.ext
  match a with
  | ⟨0, _⟩ => show win0_0.index t 0 * 4 + 1 * (j 0).val = (j 0).val; rw [hi.1]; have hj : (j 0).val < 4 := (j 0).isLt; omega
  | ⟨1, _⟩ => show win0_0.index t 1 * 128 + 1 * (j 1).val = (j 1).val; rw [hi.2]; have hj : (j 1).val < 128 := (j 1).isLt; omega

theorem ib5 (c : Dev nD) (t : Fin cfg0.N) (j : S1x256.Idx) : (iblk m c 5 t j : Elt F .f32) = V m c main_v10 j := by
  have hi := wi5 t
  unfold iblk
  rw [View.read_apply]
  show V m c main_v10 _ = V m c main_v10 _
  congr 1
  funext a
  apply Fin.ext
  match a with
  | ⟨0, _⟩ => show win0_5.index t 0 * 1 + 1 * (j 0).val = (j 0).val; rw [hi.1]; have hj : (j 0).val < 1 := (j 0).isLt; omega
  | ⟨1, _⟩ => show win0_5.index t 1 * 256 + 1 * (j 1).val = (j 1).val; rw [hi.2]; have hj : (j 1).val < 256 := (j 1).isLt; omega

theorem ib1 (c : Dev nD) (t : Fin cfg0.N) (j : S1x1x1024x256.Idx) : (X0_1 m c t j : Elt F .bf16) = V m c main_arg0 (ix4 (⟨t.val / 8 % 8, by omega⟩ : Fin 16) (tB t) (⟨1024 * (t.val % 8) + (j 2).val, by have h2 : (j 2).val < 1024 := (j 2).isLt; omega⟩ : Fin 8448) (j 3)) := by
  have hi := wi1 t
  unfold X0_1 Pipeline.Window.fill; rw [dif_pos (moved0_1 t j)]
  unfold iblk
  rw [View.read_apply]
  show V m c main_arg0 _ = V m c main_arg0 _
  congr 1
  funext a
  apply Fin.ext
  match a with
  | ⟨0, _⟩ => show win0_1.index t 0 * 1 + 1 * (j 0).val = t.val / 8 % 8; rw [hi.1]; have hj : (j 0).val < 1 := (j 0).isLt; omega
  | ⟨1, _⟩ => show win0_1.index t 1 * 1 + 1 * (j 1).val = t.val / 64; rw [hi.2.1]; have hj : (j 1).val < 1 := (j 1).isLt; omega
  | ⟨2, _⟩ => show win0_1.index t 2 * 1024 + 1 * (j 2).val = 1024 * (t.val % 8) + (j 2).val; rw [hi.2.2.1]; have hj : (j 2).val < 1024 := (j 2).isLt; omega
  | ⟨3, _⟩ => show win0_1.index t 3 * 256 + 1 * (j 3).val = (j 3).val; rw [hi.2.2.2]; have hj : (j 3).val < 256 := (j 3).isLt; omega

theorem ib2 (c : Dev nD) (t : Fin cfg0.N) (j : S1x1x8448x256.Idx) : (iblk m c 2 t j : Elt F .bf16) = V m c main_arg0 (ix4 (⟨8 + t.val / 8 % 8, by omega⟩ : Fin 16) (tB t) (j 2) (j 3)) := by
  have hi := wi2 t
  unfold iblk
  rw [View.read_apply]
  show V m c main_arg0 _ = V m c main_arg0 _
  congr 1
  funext a
  apply Fin.ext
  match a with
  | ⟨0, _⟩ => show win0_2.index t 0 * 1 + 1 * (j 0).val = 8 + t.val / 8 % 8; rw [hi.1]; have hj : (j 0).val < 1 := (j 0).isLt; omega
  | ⟨1, _⟩ => show win0_2.index t 1 * 1 + 1 * (j 1).val = t.val / 64; rw [hi.2.1]; have hj : (j 1).val < 1 := (j 1).isLt; omega
  | ⟨2, _⟩ => show win0_2.index t 2 * 8448 + 1 * (j 2).val = (j 2).val; rw [hi.2.2.1]; have hj : (j 2).val < 8448 := (j 2).isLt; omega
  | ⟨3, _⟩ => show win0_2.index t 3 * 256 + 1 * (j 3).val = (j 3).val; rw [hi.2.2.2]; have hj : (j 3).val < 256 := (j 3).isLt; omega

theorem ib3 (c : Dev nD) (t : Fin cfg0.N) (j : S1x1x8448x256.Idx) : (iblk m c 3 t j : Elt F .bf16) = V m c main_arg1 (ix4 (⟨t.val / 8 % 8, by omega⟩ : Fin 32) (tB t) (j 2) (j 3)) := by
  have hi := wi3 t
  unfold iblk
  rw [View.read_apply]
  show V m c main_arg1 _ = V m c main_arg1 _
  congr 1
  funext a
  apply Fin.ext
  match a with
  | ⟨0, _⟩ => show win0_3.index t 0 * 1 + 1 * (j 0).val = t.val / 8 % 8; rw [hi.1]; have hj : (j 0).val < 1 := (j 0).isLt; omega
  | ⟨1, _⟩ => show win0_3.index t 1 * 1 + 1 * (j 1).val = t.val / 64; rw [hi.2.1]; have hj : (j 1).val < 1 := (j 1).isLt; omega
  | ⟨2, _⟩ => show win0_3.index t 2 * 8448 + 1 * (j 2).val = (j 2).val; rw [hi.2.2.1]; have hj : (j 2).val < 8448 := (j 2).isLt; omega
  | ⟨3, _⟩ => show win0_3.index t 3 * 256 + 1 * (j 3).val = (j 3).val; rw [hi.2.2.2]; have hj : (j 3).val < 256 := (j 3).isLt; omega

theorem ib4 (c : Dev nD) (t : Fin cfg0.N) (j : S1x1x1024x256.Idx) : (X0_4 m c t j : Elt F .bf16) = V m c main_arg1 (ix4 (⟨8 + t.val / 8 % 8, by omega⟩ : Fin 32) (tB t) (⟨1024 * (t.val % 8) + (j 2).val, by have h2 : (j 2).val < 1024 := (j 2).isLt; omega⟩ : Fin 8448) (j 3)) := by
  have hi := wi4 t
  unfold X0_4 Pipeline.Window.fill; rw [dif_pos (moved0_4 t j)]
  unfold iblk
  rw [View.read_apply]
  show V m c main_arg1 _ = V m c main_arg1 _
  congr 1
  funext a
  apply Fin.ext
  match a with
  | ⟨0, _⟩ => show win0_4.index t 0 * 1 + 1 * (j 0).val = 8 + t.val / 8 % 8; rw [hi.1]; have hj : (j 0).val < 1 := (j 0).isLt; omega
  | ⟨1, _⟩ => show win0_4.index t 1 * 1 + 1 * (j 1).val = t.val / 64; rw [hi.2.1]; have hj : (j 1).val < 1 := (j 1).isLt; omega
  | ⟨2, _⟩ => show win0_4.index t 2 * 1024 + 1 * (j 2).val = 1024 * (t.val % 8) + (j 2).val; rw [hi.2.2.1]; have hj : (j 2).val < 1024 := (j 2).isLt; omega
  | ⟨3, _⟩ => show win0_4.index t 3 * 256 + 1 * (j 3).val = (j 3).val; rw [hi.2.2.2]; have hj : (j 3).val < 256 := (j 3).isLt; omega

/-- The block of values is the same for all the queries of a head. -/
theorem ib3_pred (c : Dev nD) (n : ℕ) (hn : n + 1 < cfg0.N) (h : ¬ (n + 1) % 8 = 0) :
    (iblk m c 3 ⟨n + 1, hn⟩ : Vec F S1x1x8448x256 .bf16) = (iblk m c 3 ⟨n, Nat.lt_of_succ_lt hn⟩ : Vec F S1x1x8448x256 .bf16) := by
  funext j
  refine (ib3 m c _ j).trans ((?_ : _ = _).trans (ib3 m c _ j).symm)
  have e1 : (n + 1) / 8 % 8 = n / 8 % 8 := by omega
  have e2 : (n + 1) / 64 = n / 64 := by omega
  simp only [tB, e1, e2]

end Cert.Proof.Attn
end
-- ==== Proof.Attn.Frame.lean ====
module

public import proofs.«01_k».proof.Proof.Attn.BodyOwn
public import proofs.«01_k».proof.Proof.Attn.Blocks
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S4x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x8448x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8448x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .bf16 := win0_6.stage (cfg0.slots t 6)
abbrev hs0_6 (t : Fin cfg0.N) : (ms0_6 t).IsWhole := hstage0_6 ((cfg0.slots t 6).cast nbuf0_6)
abbrev scM0_0 : Memref sig .tc .vmem S4x256x2048 .bf16 := Memref.whole cc0_scratch0
abbrev scM0_1 : Memref sig .tc .vmem S256x256 .bf16 := Memref.whole cc0_scratch1
abbrev scM0_2 : Memref sig .tc .vmem S2x2048x1024 .f32 := Memref.whole cc0_scratch2
abbrev scM0_3 : Memref sig .tc .vmem S2x2048x1024 .bf16 := Memref.whole cc0_scratch3
abbrev scM0_4 : Memref sig .tc .vmem S2x256x1024 .f32 := Memref.whole cc0_scratch4

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

theorem hcond0_0 (t : Fin cfg0.N) : k0_cond1 (grid0.coords t) = 1#1 ↔ t.val % 8 = 0 := by
  have ht : t.val < 128 := Nat.lt_of_lt_of_eq t.isLt N_0
  have e0 : (grid0.coords t 0).val = t.val / 64 % 2 := Pipeline.Grid.coords_val t 0 (by decide) rfl
  have e1 : (grid0.coords t 1).val = t.val / 8 % 8 := Pipeline.Grid.coords_val t 1 (by decide) rfl
  have e2 : (grid0.coords t 2).val = t.val / 1 % 8 := Pipeline.Grid.coords_val t 2 (by decide) rfl
  simp only [k0_cond1, e0, e1, e2]
  word_cmp

/-- Before a point: the kernel's own buffers, of which the first two hold the head's transposed values once the
    first point has run. -/
def PhiS (c : Dev nD) : (n : ℕ) → n ≤ cfg0.N → sProp 𝕄
  | 0, _ => Pipeline.ΦA spec0 c
  | n + 1, hn => iprop(iprop((∃ y10, owns (c : Thread nD τ) scM0_0 fullShare y10 ∗ ∃ y11, owns (c : Thread nD τ) scM0_1 fullShare y11 ∗ ⌜VOk (iblk m c 3 ⟨n, hn⟩ : Vec F S1x1x8448x256 .bf16) y10 y11⌝) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop((∃ y10, owns (c : Thread nD τ) scM0_0 fullShare y10 ∗ ∃ y11, owns (c : Thread nD τ) scM0_1 fullShare y11 ∗ ⌜VOk (iblk m c 3 ⟨n, hn⟩ : Vec F S1x1x8448x256 .bf16) y10 y11⌝) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- The attention's block at a point. -/
def outB (c : Dev nD) (t : Fin cfg0.N) : Vec F S1x1024x256 .bf16 :=
  attnOut (iblk m c 0 t : Vec F S4x128 .f32) (X0_1 m c t : Vec F S1x1x1024x256 .bf16) (iblk m c 2 t : Vec F S1x1x8448x256 .bf16) (iblk m c 3 t : Vec F S1x1x8448x256 .bf16) (X0_4 m c t : Vec F S1x1x1024x256 .bf16) (iblk m c 5 t : Vec F S1x256 .f32)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => X0_4 m c t
    | ⟨5, _⟩ => iblk m c 5 t
    | ⟨6, _⟩ => outB m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

/-- The kernel's own buffers before a point, the transposed values where they are carried. -/
theorem Phi_in (c : Dev nD) (t : Fin cfg0.N) :
    PhiS m c t.val (Nat.le_of_lt t.isLt) ⊢ iprop(iprop((∃ y10, owns (c : Thread nD τ) scM0_0 fullShare y10 ∗ ∃ y11, owns (c : Thread nD τ) scM0_1 fullShare y11 ∗ ⌜¬ (k0_cond1 (grid0.coords t) = 1#1) → VOk (iblk m c 3 t : Vec F S1x1x8448x256 .bf16) y10 y11⌝) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  obtain ⟨n, hn⟩ := t
  have hc : k0_cond1 (grid0.coords ⟨n, hn⟩) = 1#1 ↔ n % 8 = 0 := hcond0_0 ⟨n, hn⟩
  cases n with
  | zero =>
    show PhiS m c 0 _ ⊢ _
    rw [PhiS_zero m c 0 _ rfl, PhiA0_eq]
    iintro ⟨⟨⟨%y0, HS0⟩, ⟨%y1, HS1⟩, HS2, HS3, HS4⟩, Hg⟩
    isplitl [HS0 HS1 HS2 HS3 HS4]
    · isplitl [HS0 HS1]
      · iexists _; isplitl [HS0]; · iexact HS0
        iexists _; isplitl [HS1]; · iexact HS1
        ipureintro; exact fun h => absurd (hc.mpr rfl) h
      isplitl [HS2]; · iexact HS2
      isplitl [HS3]; · iexact HS3
      iexact HS4
    iexact Hg
  | succ n =>
    show PhiS m c (n + 1) (Nat.le_of_lt hn) ⊢ _
    rw [show PhiS m c (n + 1) (Nat.le_of_lt hn) = _ from PhiS_succ m c n (Nat.lt_of_succ_lt hn)]
    iintro ⟨⟨⟨%y0, HS0, %y1, HS1, %hv⟩, HS2, HS3, HS4⟩, Hg⟩
    isplitl [HS0 HS1 HS2 HS3 HS4]
    · isplitl [HS0 HS1]
      · iexists _; isplitl [HS0]; · iexact HS0
        iexists _; isplitl [HS1]; · iexact HS1
        ipureintro
        intro h
        have h8 : ¬ (n + 1) % 8 = 0 := fun e => h (hc.mpr e)
        rw [ib3_pred m c n hn h8]; exact hv
      isplitl [HS2]; · iexact HS2
      isplitl [HS3]; · iexact HS3
      iexact HS4
    iexact Hg

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, after0_0, after0_1, after0_2, after0_3, after0_4, after0_5, after0_6]
  rw [show (dats m 0 c).Φ t.succ = PhiS m c (t.val + 1) t.isLt from rfl, PhiS_succ, PhiS_castSucc m c t]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (Phi_in m c t) $$ HΦ
  icases HΦ' with ⟨⟨HV, HS2, HS3, HS4⟩, Hg⟩
  iapply (bodyOwn c (grid0.coords t) _ _ _ _ _ _ _ _ _ _ _ _ _ _ _ _ _ _ _ _ _ _ _ _ (iblk m c 0 t) (X0_1 m c t) (iblk m c 2 t) (iblk m c 3 t) (X0_4 m c t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HV]; · iexact HV
  isplitl [HS2]; · iexact HS2
  isplitl [HS3]; · iexact HS3
  isplitl [HS4]; · iexact HS4
  iintro ⟨H0, H1, H2, H3, H4, H5, H6, HV, HS2, HS3, HS4⟩
  isplitl [HV HS2 HS3 HS4 Hg]
  · isplitl [HV HS2 HS3 HS4]
    · isplitl [HV]; · iexact HV
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 127 + 1 := N_0
  rw [show (dats m 0 c).Φ (Fin.last cfg0.N) = PhiS m c cfg0.N (le_refl _) from rfl]
  have e : ∀ k (hk : k ≤ cfg0.N), k = 127 + 1 → PhiS m c k hk ⊢ Pipeline.ΦA spec0 c := by
    intro k hk he; subst he
    rw [PhiS_succ m c 127 hk, PhiA0_eq]
    iintro ⟨⟨⟨%y0, HS0, %y1, HS1, -⟩, HS2, HS3, HS4⟩, Hg⟩
    isplitl [HS0 HS1 HS2 HS3 HS4]
    · isplitl [HS0]; · iexists _; iexact HS0
      isplitl [HS1]; · iexists _; iexact HS1
      isplitl [HS2]; · iexact HS2
      isplitl [HS3]; · iexact HS3
      iexact HS4
    iexact Hg
  exact e _ _ hN

set_option backward.isDefEq.respectTransparency.types false in
/-- The launch: the program ends, with the arrays as the points leave them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Proof.Attn
end
-- ==== Proof.Attn.Run.lean ====
module

public import proofs.«01_k».proof.Proof.Attn.Frame

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point of a batch, a head and a block of queries. -/
abbrev pt (b : Fin 2) (h i : Fin 8) : Fin cfg0.N :=
  ⟨64 * b.val + 8 * h.val + i.val, Nat.lt_of_lt_of_eq (by omega : 64 * b.val + 8 * h.val + i.val < 128) N_0.symm⟩

/-- The result array: every entry is the entry of the block of its grid point. -/
def resArr (c : Dev nD) : Vec F S2x8192x2048 .bf16 := fun j =>
  outB m c (pt ⟨(j 0).val, (j 0).isLt⟩ ⟨(j 2).val / 256, by have h2 : (j 2).val < 2048 := (j 2).isLt; omega⟩ ⟨(j 1).val / 1024, by have h2 : (j 1).val < 8192 := (j 1).isLt; omega⟩)
    (ix3 (0 : Fin 1) (⟨(j 1).val % 1024, Nat.mod_lt _ (by decide)⟩ : Fin 1024) (⟨(j 2).val % 256, Nat.mod_lt _ (by decide)⟩ : Fin 256))

theorem flushed6 (c : Dev nD) (t : Fin cfg0.N) :
    (dats m 0 c).flushed 6 t = ((cfg0.win 6).blk t).view.read (Elt F) (resArr m c) := by
  have hi := wi6 t
  have ht := tlt t
  funext j
  rw [View.read_apply]
  unfold Dat.flushed
  rw [after0_6]
  have h0 : (j 0).val < 1 := (j 0).isLt
  have h1 : (j 1).val < 1024 := (j 1).isLt
  have h2 : (j 2).val < 256 := (j 2).isLt
  show outB m c t j = resArr m c (((win0_6.rect t).emb j))
  have e0 : ((win0_6.rect t).emb j 0 : ℕ) = t.val / 64 := by
    show win0_6.index t 0 * 1 + 1 * (j 0).val = _; rw [hi.1]; omega
  have e1 : ((win0_6.rect t).emb j 1 : ℕ) = t.val % 8 * 1024 + (j 1).val := by
    show win0_6.index t 1 * 1024 + 1 * (j 1).val = _; rw [hi.2.1]; omega
  have e2 : ((win0_6.rect t).emb j 2 : ℕ) = t.val / 8 % 8 * 256 + (j 2).val := by
    show win0_6.index t 2 * 256 + 1 * (j 2).val = _; rw [hi.2.2]; omega
  unfold resArr
  have et : ∀ t' : Fin cfg0.N, ∀ x y : S1x1024x256.Idx, t = t' → x = y → outB m c t x = outB m c t' y := by
    intro t' x y h h'; rw [h, h']
  refine et _ _ _ (Fin.ext ?_) (funext fun a => Fin.ext ?_)
  · show t.val = 64 * ((win0_6.rect t).emb j 0 : ℕ) + 8 * (((win0_6.rect t).emb j 2 : ℕ) / 256) + ((win0_6.rect t).emb j 1 : ℕ) / 1024
    rw [e0, e1, e2]; omega
  · match a with
    | ⟨0, _⟩ => show (j 0).val = 0; omega
    | ⟨1, _⟩ => show (j 1).val = ((win0_6.rect t).emb j 1 : ℕ) % 1024; rw [e1]; omega
    | ⟨2, _⟩ => show (j 2).val = ((win0_6.rect t).emb j 2 : ℕ) % 256; rw [e2]; omega

theorem final6 (c : Dev nD) : (dats m 0 c).arrAt 6 cfg0.N = resArr m c :=
  (dats m 0 c).arrAt_eq_of_cover 6 (resArr m c) (fun t _ => flushed6 m c t) (fun i => by
    have h0 : (i 0).val < 2 := (i 0).isLt
    have h1 : (i 1).val < 8192 := (i 1).isLt
    have h2 : (i 2).val < 2048 := (i 2).isLt
    refine ⟨pt ⟨(i 0).val, h0⟩ ⟨(i 2).val / 256, by omega⟩ ⟨(i 1).val / 1024, by omega⟩, flush0_6 _, ?_⟩
    have hi := wi6 (pt ⟨(i 0).val, h0⟩ ⟨(i 2).val / 256, by omega⟩ ⟨(i 1).val / 1024, by omega⟩)
    generalize ht : pt ⟨(i 0).val, h0⟩ ⟨(i 2).val / 256, by omega⟩ ⟨(i 1).val / 1024, by omega⟩ = t at hi ⊢
    have hv : t.val = 64 * (i 0).val + 8 * ((i 2).val / 256) + (i 1).val / 1024 := by rw [← ht]
    have hb : i ∈ (win0_6.rect t).set := by
      refine Rect.mem_set_unit.mpr fun a => ?_
      match a with
      | ⟨0, _⟩ => show win0_6.index t 0 * 1 ≤ (i 0 : Nat) ∧ (i 0 : Nat) < win0_6.index t 0 * 1 + 1
                  rw [hi.1]; omega
      | ⟨1, _⟩ => show win0_6.index t 1 * 1024 ≤ (i 1 : Nat) ∧ (i 1 : Nat) < win0_6.index t 1 * 1024 + 1024
                  rw [hi.2.1]; omega
      | ⟨2, _⟩ => show win0_6.index t 2 * 256 ≤ (i 2 : Nat) ∧ (i 2 : Nat) < win0_6.index t 2 * 256 + 256
                  rw [hi.2.2]; omega
    show i ∈ (View.slice (Memref.whole main_v11).view (win0_6.rect t)).set
    rw [View.set_slice_whole]; exact hb)

/-- The run, read: the result array, the arguments unchanged and every counter at zero. -/
theorem run : θ_run defs (onTc (τ := τ) (main (F := F))) ⟨m, fun _ => 0, ρ⟩ (fun r => (∀ c : Dev nD,
      r.2.mem ((c.tc : Thread nD τ).loc main_v11) = resArr m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => ((h.1 c).1 6).trans (final6 m c)) (run_main_quiescent m ρ))
    (θ_run_and (frame_of m ρ (dats m) (A_eq m) ((θ_run defs _ _).mono (fun _ h => h.1) (run_main_quiescent m ρ)))
      ((θ_run defs _ _).mono (fun _ h => h.2) (run_main_quiescent m ρ)))

end Cert.Proof.Attn
end
-- ==== Proof.Attn.Host.lean ====
module

public import proofs.«01_k».proof.Proof.Gen.KernelIdeal.Frame
public import Idealize.ShloMosaic.Lib.Pointwise

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # What the host hands the kernel

The four lambda vectors stacked as the rows of one array, and the norm's weight unchanged. -/

/-- Four vectors, each a one-row array, as the rows of one array. -/
def rows (a2 a3 a4 a5 : FVec Ideal S1x128 .f32) : FVec Ideal S4x128 .f32 :=
  concatenate S4x128 0 [⟨S1x128, broadcastInDim S1x128 ![1] bcast_S128_S1x128_1 (shapeCast S128 a2 shapeCasts_S1x128_S128)⟩,
    ⟨S1x128, broadcastInDim S1x128 ![1] bcast_S128_S1x128_1 (shapeCast S128 a3 shapeCasts_S1x128_S128)⟩,
    ⟨S1x128, broadcastInDim S1x128 ![1] bcast_S128_S1x128_1 (shapeCast S128 a4 shapeCasts_S1x128_S128)⟩,
    ⟨S1x128, broadcastInDim S1x128 ![1] bcast_S128_S1x128_1 (shapeCast S128 a5 shapeCasts_S1x128_S128)⟩] concatenates_S1x128_S1x128_S1x128_S1x128_S4x128_d0

variable (m : (ℓ : Loc nD τ sig) → Buf (Elt Ideal) ℓ)

theorem V_main_v8 (c : Dev nD) : (V m c main_v8 : FVec Ideal S4x128 .f32)
    = rows (m ((c.tc : Thread nD τ).loc main_arg2)) (m ((c.tc : Thread nD τ).loc main_arg3))
        (m ((c.tc : Thread nD τ).loc main_arg4)) (m ((c.tc : Thread nD τ).loc main_arg5)) := by
  unfold V hostOps0
  after_results
  rfl

theorem lam_row0 (c : Dev nD) (d : Fin 128) :
    (V m c main_v8 (ix2 0 d) : EReal) = m ((c.tc : Thread nD τ).loc main_arg2) (ix2 0 d) := by
  refine (congrFun (V_main_v8 m c) _).trans ?_
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  unfold rows
  pointwise []

theorem lam_row1 (c : Dev nD) (d : Fin 128) :
    (V m c main_v8 (ix2 1 d) : EReal) = m ((c.tc : Thread nD τ).loc main_arg3) (ix2 0 d) := by
  refine (congrFun (V_main_v8 m c) _).trans ?_
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  unfold rows
  pointwise []

theorem lam_row2 (c : Dev nD) (d : Fin 128) :
    (V m c main_v8 (ix2 2 d) : EReal) = m ((c.tc : Thread nD τ).loc main_arg4) (ix2 0 d) := by
  refine (congrFun (V_main_v8 m c) _).trans ?_
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  unfold rows
  pointwise []

theorem lam_row3 (c : Dev nD) (d : Fin 128) :
    (V m c main_v8 (ix2 3 d) : EReal) = m ((c.tc : Thread nD τ).loc main_arg5) (ix2 0 d) := by
  refine (congrFun (V_main_v8 m c) _).trans ?_
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  unfold rows
  pointwise []

theorem V_main_v10 (c : Dev nD) : (V m c main_v10 : FVec Ideal S1x256 .f32)
    = shapeCast S1x256 (shapeCast S256 (m ((c.tc : Thread nD τ).loc main_arg6) : FVec Ideal S1x256 .f32) shapeCasts_S1x256_S256) shapeCasts_S256_S1x256 := by
  unfold V hostOps0
  after_results
  rfl

theorem w_at (c : Dev nD) (v : Fin 256) : (V m c main_v10 (ix2 0 v) : EReal) = m ((c.tc : Thread nD τ).loc main_arg6) (ix2 0 v) := by
  refine (congrFun (V_main_v10 m c) _).trans ?_
  generalize m ((c.tc : Thread nD τ).loc main_arg6) = a
  pointwise []

end Cert.Proof.Attn
end
-- ==== Proof.Attn.Pay.lean ====
module

public import proofs.«01_k».proof.Proof.Attn.State
public import Idealize.ShloMosaic.Lib.Pointwise
public import Idealize.ShloMosaic.PureOps.Ideal.Laws

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # The kernel's values at an index

Each value the body computes, read at one index over the extended reals: `r` names one of eight rows of partial sums,
`q` a query (a column), `j` a key of the chunk, `v` an entry of a value row, `d` an entry of a head's half. -/

/-- The rescaling constant, the base-two logarithm of e over the square root of 128. -/
abbrev CC : EReal := Named.named (F := Ideal) (φ := .f32) κ "log2e_inv_sqrt_d" 0x3E0293EE#32

/-- The pattern of minus infinity. -/
theorem negInf : Ideal.ofBits FTy.f32 0xFF800000#32 = (⊥ : EReal) := by
  simp [Ideal.ofBits, Ideal.ieee]

theorem pay5_apply (cm m : FVec Ideal S1x1024 .f32) (q : Fin 1024) : (k0_pay5 (F := Ideal) cm m (ix2 0 q) : EReal) = max (m (ix2 0 q)) (cm (ix2 0 q)) := by
  pointwise [k0_pay5]
  all_goals first | rfl | (simp only [negInf]; done) | (simp only [negInf]; rfl)

theorem pay6_apply (cm m : FVec Ideal S1x1024 .f32) (q : Fin 1024) : (k0_pay6 (F := Ideal) cm m (ix2 0 q) : EReal) = Ideal.exp2 ((m (ix2 0 q) - max (m (ix2 0 q)) (cm (ix2 0 q))) * CC) := by
  pointwise [k0_pay6, k0_pay5]
  all_goals first | rfl | (simp only [negInf]; done) | (simp only [negInf]; rfl)

theorem pay7_apply (m : FVec Ideal S1x1024 .f32) (s : Vec Ideal S1x2048x1024 .f32) (j : Fin 2048) (q : Fin 1024) : (k0_pay7 (F := Ideal) m s (ix2 j q) : EReal) = Ideal.exp2 (s (ix3 0 j q) * CC - m (ix2 0 q) * CC) := by
  pointwise [k0_pay7]
  all_goals first | rfl | (simp only [negInf]; done) | (simp only [negInf]; rfl)

theorem pay8_apply (l : FVec Ideal S8x1024 .f32) (m a : FVec Ideal S1x1024 .f32) (s : Vec Ideal S1x2048x1024 .f32) (r : Fin 8) (q : Fin 1024) : (k0_pay8 (F := Ideal) l m a s (ix2 r q) : EReal) = a (ix2 0 q) * l (ix2 r q) + ∑ g : Fin 256, Ideal.exp2 (s (ix3 0 (⟨g.val * 8 + r.val, by omega⟩ : Fin 2048) q) * CC - m (ix2 0 q) * CC) := by
  pointwise [k0_pay8, k0_pay7]
  all_goals first | rfl | (simp only [negInf]; done) | (simp only [negInf]; rfl)

theorem pay9_apply (m : FVec Ideal S1x1024 .f32) (s : Vec Ideal S1x2048x1024 .f32) (j : Fin 2048) (q : Fin 1024) : (k0_pay9 (F := Ideal) m s (ix3 0 j q) : EReal) = Ideal.exp2 (s (ix3 0 j q) * CC - m (ix2 0 q) * CC) := by
  pointwise [k0_pay9, k0_pay7]
  all_goals first | rfl | (simp only [negInf]; done) | (simp only [negInf]; rfl)

theorem pay3_apply (a : FVec Ideal S1x1024 .f32) (xv : Vec Ideal S1x256x2048 .bf16) (o : Vec Ideal S1x256x1024 .f32) (p : Vec Ideal S1x2048x1024 .bf16) (v : Fin 256) (q : Fin 1024) : (k0_pay3 (F := Ideal) a xv o p (ix3 0 v q) : EReal) = a (ix2 0 q) * o (ix3 0 v q) + ∑ j : Fin 2048, xv (ix3 0 v j) * p (ix3 0 j q) := by
  pointwise [k0_pay3, k0_pay2]
  all_goals first | rfl | (simp only [negInf]; done) | (simp only [negInf]; rfl)

theorem pay73_apply (q0 : FVec Ideal S128x1024 .bf16) (xk : Vec Ideal S1x1x2048x256 .bf16) (j : Fin 2048) (q : Fin 1024) : (k0_pay73 (F := Ideal) q0 xk (ix3 0 j q) : EReal) = ∑ d : Fin 128, xk (ix4 0 0 j (⟨d.val, by omega⟩ : Fin 256)) * q0 (ix2 d q) := by
  pointwise [k0_pay73, k0_pay72, k0_pay71]
  all_goals first | rfl | (simp only [negInf]; done) | (simp only [negInf]; rfl)

theorem pay74_apply (q0 : FVec Ideal S128x1024 .bf16) (xk : Vec Ideal S1x1x2048x256 .bf16) (q : Fin 1024) : (k0_pay74 (F := Ideal) q0 xk (ix2 0 q) : EReal) = Finset.univ.fold max (⊥ : EReal) (fun j : Fin 2048 => ∑ d : Fin 128, xk (ix4 0 0 j (⟨d.val, by omega⟩ : Fin 256)) * q0 (ix2 d q)) := by
  pointwise [k0_pay74, k0_pay72, k0_pay71]
  all_goals first | rfl | (simp only [negInf]; done) | (simp only [negInf]; rfl)

theorem pay76_apply (q0 : FVec Ideal S128x1024 .bf16) (xk : Vec Ideal S1x1x2048x256 .bf16) (j : Fin 2048) (q : Fin 1024) : (k0_pay76 (F := Ideal) q0 xk (ix3 0 j q) : EReal) = ∑ d : Fin 128, xk (ix4 0 0 j (⟨128 + d.val, by omega⟩ : Fin 256)) * q0 (ix2 d q) := by
  pointwise [k0_pay76, k0_pay75, k0_pay71]
  all_goals first | rfl | (simp only [negInf]; done) | (simp only [negInf]; rfl)

theorem pay77_apply (q0 : FVec Ideal S128x1024 .bf16) (xk : Vec Ideal S1x1x2048x256 .bf16) (q : Fin 1024) : (k0_pay77 (F := Ideal) q0 xk (ix2 0 q) : EReal) = Finset.univ.fold max (⊥ : EReal) (fun j : Fin 2048 => ∑ d : Fin 128, xk (ix4 0 0 j (⟨128 + d.val, by omega⟩ : Fin 256)) * q0 (ix2 d q)) := by
  pointwise [k0_pay77, k0_pay75, k0_pay71]
  all_goals first | rfl | (simp only [negInf]; done) | (simp only [negInf]; rfl)

theorem pay18_apply (x1 : Vec Ideal S1x1x1024x256 .bf16) (d : Fin 128) (q : Fin 1024) : (k0_pay18 (F := Ideal) x1 (ix2 d q) : EReal) = x1 (ix4 0 0 q (⟨d.val, by omega⟩ : Fin 256)) := by
  pointwise [k0_pay18, k0_pay17]
  all_goals first | rfl | (simp only [negInf]; done) | (simp only [negInf]; rfl)

theorem pay19_apply (x1 : Vec Ideal S1x1x1024x256 .bf16) (d : Fin 128) (q : Fin 1024) : (k0_pay19 (F := Ideal) x1 (ix2 d q) : EReal) = x1 (ix4 0 0 q (⟨128 + d.val, by omega⟩ : Fin 256)) := by
  pointwise [k0_pay19, k0_pay17]
  all_goals first | rfl | (simp only [negInf]; done) | (simp only [negInf]; rfl)

theorem pay15_apply (x : Vec Ideal S1x1x2048x256 .bf16) (v : Fin 256) (j : Fin 2048) : (k0_pay15 (F := Ideal) x (ix3 0 v j) : EReal) = x (ix4 0 0 j v) := by
  pointwise [k0_pay15]
  all_goals first | rfl | (simp only [negInf]; done) | (simp only [negInf]; rfl)

theorem pay16_apply (x : Vec Ideal S1x1x256x256 .bf16) (v : Fin 256) (j : Fin 256) : (k0_pay16 (F := Ideal) x (ix2 v j) : EReal) = x (ix4 0 0 j v) := by
  pointwise [k0_pay16]
  all_goals first | rfl | (simp only [negInf]; done) | (simp only [negInf]; rfl)

theorem pay24_apply (x1 : Vec Ideal S1x1x1024x256 .bf16) (x : Vec Ideal S1x1x256x256 .bf16) (j : Fin 256) (q : Fin 1024) : (k0_pay24 (F := Ideal) x1 x (ix2 j q) : EReal) = ∑ d : Fin 128, x (ix4 0 0 j (⟨d.val, by omega⟩ : Fin 256)) * x1 (ix4 0 0 q (⟨d.val, by omega⟩ : Fin 256)) := by
  pointwise [k0_pay24, k0_pay23, k0_pay18, k0_pay17]
  all_goals first | rfl | (simp only [negInf]; done) | (simp only [negInf]; rfl)

theorem pay27_apply (x1 : Vec Ideal S1x1x1024x256 .bf16) (x : Vec Ideal S1x1x256x256 .bf16) (j : Fin 256) (q : Fin 1024) : (k0_pay27 (F := Ideal) x1 x (ix2 j q) : EReal) = ∑ d : Fin 128, x (ix4 0 0 j (⟨128 + d.val, by omega⟩ : Fin 256)) * x1 (ix4 0 0 q (⟨128 + d.val, by omega⟩ : Fin 256)) := by
  pointwise [k0_pay27, k0_pay23, k0_pay19, k0_pay17]
  all_goals first | rfl | (simp only [negInf]; done) | (simp only [negInf]; rfl)

theorem pay26_apply (x1 : Vec Ideal S1x1x1024x256 .bf16) (x : Vec Ideal S1x1x256x256 .bf16) (q : Fin 1024) : (k0_pay26 (F := Ideal) x1 x (ix2 0 q) : EReal) = Finset.univ.fold max (⊥ : EReal) (fun j : Fin 256 => k0_pay24 (F := Ideal) x1 x (ix2 j q)) := by
  pointwise [k0_pay26]
  all_goals first | rfl | (simp only [negInf]; done) | (simp only [negInf]; rfl)

theorem pay25_apply (x1 : Vec Ideal S1x1x1024x256 .bf16) (x : Vec Ideal S1x1x256x256 .bf16) (j : Fin 256) (q : Fin 1024) : (k0_pay25 (F := Ideal) x1 x (ix3 0 j q) : EReal) = k0_pay24 (F := Ideal) x1 x (ix2 j q) := by
  pointwise [k0_pay25]
  all_goals first | rfl | (simp only [negInf]; done) | (simp only [negInf]; rfl)

theorem pay28_apply (x : FVec Ideal S256x1024 .f32) (j : Fin 256) (q : Fin 1024) : (k0_pay28 (F := Ideal) x (ix3 0 j q) : EReal) = x (ix2 j q) := by
  pointwise [k0_pay28]
  all_goals first | rfl | (simp only [negInf]; done) | (simp only [negInf]; rfl)

theorem pay34_apply (m : FVec Ideal S1x1024 .f32) (x : FVec Ideal S256x1024 .f32) (q : Fin 1024) : (k0_pay34 (F := Ideal) m x (ix2 0 q) : EReal) = max (m (ix2 0 q)) (Finset.univ.fold max (⊥ : EReal) (fun j : Fin 256 => x (ix2 j q))) := by
  pointwise [k0_pay34]
  all_goals first | rfl | (simp only [negInf]; done) | (simp only [negInf]; rfl)

theorem pay21_apply (q : Fin 1024) : (k0_pay21 (F := Ideal) (ix2 0 q) : EReal) = ⊥ := by
  pointwise [k0_pay21]
  all_goals first | rfl | (simp only [negInf]; done) | (simp only [negInf]; rfl)

theorem pay22_apply (r : Fin 8) (q : Fin 1024) : (k0_pay22 (F := Ideal) (ix2 r q) : EReal) = 0 := by
  pointwise [k0_pay22]
  all_goals first | rfl | (simp only [negInf]; done) | (simp only [negInf]; rfl)

theorem oZero_apply (v : Fin 256) (q : Fin 1024) : (oZero (F := Ideal) (ix3 0 v q) : EReal) = 0 := by
  pointwise [oZero, k0_pay20]
  all_goals first | rfl | (simp only [negInf]; done) | (simp only [negInf]; rfl)

theorem pay33_apply (m c : FVec Ideal S1x1024 .f32) (s : Vec Ideal S1x256x1024 .f32) (j : Fin 256) (q : Fin 1024) : (k0_pay33 (F := Ideal) m c s (ix3 0 j q) : EReal) = Ideal.exp2 (s (ix3 0 j q) * CC - k0_pay29 (F := Ideal) m c (ix2 0 q) * CC) := by
  pointwise [k0_pay33, k0_pay31]
  all_goals first | rfl | (simp only [negInf]; done) | (simp only [negInf]; rfl)

theorem pay32_apply (m c : FVec Ideal S1x1024 .f32) (s : Vec Ideal S1x256x1024 .f32) (l : FVec Ideal S8x1024 .f32) (r : Fin 8) (q : Fin 1024) : (k0_pay32 (F := Ideal) m l c s (ix2 r q) : EReal) = k0_pay30 (F := Ideal) m c (ix2 0 q) * l (ix2 r q) + ∑ g : Fin 32, Ideal.exp2 (s (ix3 0 (⟨g.val * 8 + r.val, by omega⟩ : Fin 256) q) * CC - k0_pay29 (F := Ideal) m c (ix2 0 q) * CC) := by
  pointwise [k0_pay32, k0_pay31]
  all_goals first | rfl | (simp only [negInf]; done) | (simp only [negInf]; rfl)

theorem pay36_apply (m : FVec Ideal S1x1024 .f32) (c : FVec Ideal S256x1024 .f32) (s : Vec Ideal S1x256x1024 .f32) (j : Fin 256) (q : Fin 1024) : (k0_pay36 (F := Ideal) m c s (ix2 j q) : EReal) = Ideal.exp2 (s (ix3 0 j q) * CC - k0_pay34 (F := Ideal) m c (ix2 0 q) * CC) := by
  pointwise [k0_pay36]
  all_goals first | rfl | (simp only [negInf]; done) | (simp only [negInf]; rfl)

theorem pay38_apply (l : FVec Ideal S8x1024 .f32) (w : FVec Ideal S256x1024 .f32) (r : Fin 8) (q : Fin 1024) (m : FVec Ideal S1x1024 .f32) (c : FVec Ideal S256x1024 .f32) : (k0_pay38 (F := Ideal) l w (k0_pay37 (F := Ideal) m c) (ix2 r q) : EReal) = k0_pay35 (F := Ideal) m c (ix2 0 q) * l (ix2 r q) + ∑ g : Fin 32, w (ix2 (⟨g.val * 8 + r.val, by omega⟩ : Fin 256) q) := by
  pointwise [k0_pay38, k0_pay37]
  all_goals first | rfl | (simp only [negInf]; done) | (simp only [negInf]; rfl)

theorem pay39_apply (w : FVec Ideal S256x1024 .f32) (j : Fin 256) (q : Fin 1024) : (k0_pay39 (F := Ideal) w (ix3 0 j q) : EReal) = w (ix2 j q) := by
  pointwise [k0_pay39]
  all_goals first | rfl | (simp only [negInf]; done) | (simp only [negInf]; rfl)

theorem pay35_apply (m : FVec Ideal S1x1024 .f32) (c : FVec Ideal S256x1024 .f32) (q : Fin 1024) : (k0_pay35 (F := Ideal) m c (ix2 0 q) : EReal) = Ideal.exp2 ((m (ix2 0 q) - k0_pay34 (F := Ideal) m c (ix2 0 q)) * CC) := by
  pointwise [k0_pay35]
  all_goals first | rfl | (simp only [negInf]; done) | (simp only [negInf]; rfl)

theorem pay49_apply (xv : Vec Ideal S256x256 .bf16) (a : FVec Ideal S1x1024 .f32) (o : Vec Ideal S1x256x1024 .f32) (p : Vec Ideal S1x256x1024 .bf16) (v : Fin 256) (q : Fin 1024) : (k0_pay49 (F := Ideal) xv (k0_pay47 (F := Ideal) a o) (k0_pay48 (F := Ideal) p) (ix3 0 v q) : EReal) = a (ix2 0 q) * o (ix3 0 v q) + ∑ j : Fin 256, xv (ix2 v j) * p (ix3 0 j q) := by
  pointwise [k0_pay49, k0_pay47, k0_pay48]
  all_goals first | rfl | (simp only [negInf]; done) | (simp only [negInf]; rfl)

theorem pay50_apply (xv : Vec Ideal S256x256 .bf16) (a : FVec Ideal S1x1024 .f32) (o : Vec Ideal S1x256x1024 .f32) (p : Vec Ideal S1x256x1024 .bf16) (v : Fin 256) (q : Fin 1024) : (k0_pay50 (F := Ideal) a xv o p (ix3 0 v q) : EReal) = a (ix2 0 q) * o (ix3 0 v q) + ∑ j : Fin 256, xv (ix2 v j) * p (ix3 0 j q) := by
  pointwise [k0_pay50]
  all_goals first | rfl | (simp only [negInf]; done) | (simp only [negInf]; rfl)

theorem pay97_apply (l0 l1 : FVec Ideal S8x1024 .f32) (x0 : Vec Ideal S4x128 .f32) (o0 o1 : Vec Ideal S1x256x1024 .f32) (q : Fin 1024) (v : Fin 256) : (k0_pay97 (F := Ideal) l0 l1 x0 o0 o1 (ix2 q v) : EReal) = o0 (ix3 0 v q) * Ideal.div (1 : EReal) (∑ r : Fin 8, l0 (ix2 r q)) - o1 (ix3 0 v q) * Ideal.div (Ideal.exp (∑ d : Fin 128, x0 (ix2 0 d) * x0 (ix2 1 d)) - Ideal.exp (∑ d : Fin 128, x0 (ix2 2 d) * x0 (ix2 3 d)) + FloatOps.ofBits (F := Ideal) .f32 0x3E4CCCCD#32) (∑ r : Fin 8, l1 (ix2 r q)) := by
  pointwise [k0_pay97]
  all_goals first | rfl | (simp only [negInf]; done) | (simp only [negInf]; rfl)

theorem pay98_apply (l0 l1 : FVec Ideal S8x1024 .f32) (x0 : Vec Ideal S4x128 .f32) (o0 o1 : Vec Ideal S1x256x1024 .f32) (q : Fin 1024) : (k0_pay98 (F := Ideal) l0 l1 x0 o0 o1 (ix2 q 0) : EReal) = Ideal.div (∑ v : Fin 256, k0_pay97 (F := Ideal) l0 l1 x0 o0 o1 (ix2 q v) * k0_pay97 (F := Ideal) l0 l1 x0 o0 o1 (ix2 q v)) (FloatOps.ofBits (F := Ideal) .f32 0x43800000#32) := by
  pointwise [k0_pay98]
  all_goals first | rfl | (simp only [negInf]; done) | (simp only [negInf]; rfl)

theorem pay1_apply (x : FVec Ideal S1024x256 .f32) (y : FVec Ideal S1024x1 .f32) (sw : Vec Ideal S1x256 .f32) (g : Vec Ideal S1x1x1024x256 .bf16) (q : Fin 1024) (v : Fin 256) : (k0_pay1 (F := Ideal) x y sw g (ix3 0 q v) : EReal) = x (ix2 q v) * Ideal.rsqrt (y (ix2 q 0) + FloatOps.ofBits (F := Ideal) .f32 0x358637BD#32) * sw (ix2 0 v) * FloatOps.ofBits (F := Ideal) .f32 0x3F4CCCCD#32 * (g (ix4 0 0 q v) * Ideal.logistic (g (ix4 0 0 q v))) := by
  pointwise [k0_pay1]
  all_goals first | rfl | (simp only [negInf]; done) | (simp only [negInf]; rfl)

end Cert.Proof.Attn
end
-- ==== Proof.Attn.Online.lean ====
module

public import proofs.«01_k».proof.Proof.Attn.Pay

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # Softmax sums carried with a moving reference point

A column's keys have real scores `σ k`. The kernel weighs a key by `2 ^ (c · (σ k − M))` with `c` the rescaling
constant and `M` the largest score seen so far; a sum carried under one `M` is rescaled by one factor when `M` moves. -/

/-- The rescaling constant as a real number. -/
def cR : ℝ := (Real.log 2)⁻¹ * (Real.sqrt 128)⁻¹

theorem CC_eq : CC = (cR : EReal) := IdealRules.named_const.ideal_named_scalar _ _ _ _ rfl

theorem cR_pos : 0 < cR := by
  unfold cR
  have h1 : 0 < Real.log 2 := Real.log_pos (by norm_num)
  have h2 : 0 < Real.sqrt 128 := Real.sqrt_pos.mpr (by norm_num)
  positivity

/-- The weight of a score `x` against the reference point `M`. -/
def wt (x M : ℝ) : ℝ := Real.rpow 2 (x * cR - M * cR)

theorem wt_coe (x M : ℝ) : Ideal.exp2 ((x : EReal) * CC - (M : EReal) * CC) = (wt x M : EReal) := by
  rw [CC_eq, ← EReal.coe_mul, ← EReal.coe_mul, ← EReal.coe_sub]; rfl

theorem fac_coe (M M' : ℝ) : Ideal.exp2 (((M : EReal) - (M' : EReal)) * CC) = (wt M M' : EReal) := by
  rw [CC_eq, ← EReal.coe_sub, ← EReal.coe_mul, sub_mul]; rfl

theorem fac_bot (M : ℝ) : Ideal.exp2 (((⊥ : EReal) - (M : EReal)) * CC) = 0 := by
  rw [CC_eq, EReal.bot_sub, EReal.bot_mul_coe_of_pos cR_pos]; rfl

theorem wt_pos (x M : ℝ) : 0 < wt x M := Real.rpow_pos_of_pos (by norm_num) _

theorem wt_shift (x M M' : ℝ) : wt M M' * wt x M = wt x M' := by
  show Real.rpow 2 _ * Real.rpow 2 _ = Real.rpow 2 _
  have := Real.rpow_add (x := 2) (by norm_num) (M * cR - M' * cR) (x * cR - M * cR)
  rw [show M * cR - M' * cR + (x * cR - M * cR) = x * cR - M' * cR by ring] at this
  exact this.symm

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ecoe_max (a b : ℝ) : ((max a b : ℝ) : EReal) = max (a : EReal) (b : EReal) :=
  EReal.coe_strictMono.monotone.map_max

theorem fold_real {ι : Type} (s : Finset ι) (hs : s.Nonempty) (f : ι → ℝ) :
    ∃ r : ℝ, s.fold max (⊥ : EReal) (fun j => (f j : EReal)) = (r : EReal) := by
  classical
  induction hs using Finset.Nonempty.cons_induction with
  | singleton a => exact ⟨f a, by simp⟩
  | cons a s ha hs ih =>
      obtain ⟨r, hr⟩ := ih
      refine ⟨max (f a) r, ?_⟩
      rw [Finset.fold_cons, hr, ecoe_max]

/-- Eight interleaved partial sums add up to the whole sum. -/
theorem group_sum (f : ℕ → ℝ) (G : ℕ) :
    ∑ r : Fin 8, ∑ g : Fin G, f (g.val * 8 + r.val) = ∑ j ∈ Finset.range (G * 8), f j := by
  rw [Finset.sum_comm]
  induction G with
  | zero => simp
  | succ G ih =>
      rw [Fin.sum_univ_castSucc, show (G + 1) * 8 = G * 8 + 8 by ring, Finset.sum_range_add]
      congr 1

/-- The sum of `f` over the rows read once `g` full chunks are: the 256 rows at the end come first. -/
def seen (f : ℕ → ℝ) (g : ℕ) : ℝ := ∑ j ∈ Finset.range 256, f (8192 + j) + ∑ j ∈ Finset.range (2048 * g), f j

theorem seen_succ (f : ℕ → ℝ) (g : ℕ) : seen f (g + 1) = seen f g + ∑ j : Fin 2048, f (2048 * g + j.val) := by
  unfold seen
  rw [show 2048 * (g + 1) = 2048 * g + 2048 by ring, Finset.sum_range_add, ← add_assoc, Finset.sum_range (n := 2048)]

theorem seen_zero (f : ℕ → ℝ) : seen f 0 = ∑ j : Fin 256, f (8192 + j.val) := by
  unfold seen
  rw [Finset.sum_range]; simp

theorem seen_all (f : ℕ → ℝ) : seen f 4 = ∑ k : Fin 8448, f k.val := by
  unfold seen
  rw [← Finset.sum_range, show (8448 : ℕ) = 2048 * 4 + 256 by norm_num, Finset.sum_range_add, add_comm]

theorem seen_mul (f : ℕ → ℝ) (g : ℕ) (a : ℝ) : a * seen f g = seen (fun k => a * f k) g := by
  unfold seen; rw [mul_add, Finset.mul_sum, Finset.mul_sum]

theorem seen_congr {f f' : ℕ → ℝ} (g : ℕ) (h : ∀ k, f k = f' k) : seen f g = seen f' g := by
  rw [show f = f' from funext h]

/-! ## One chunk -/

section
variable {σ : ℕ → ℝ} {vv : ℕ → Fin 256 → ℝ} {g : ℕ} {q : Fin 1024} {M M' C : ℝ}

theorem max_ok {cm m : FVec Ideal S1x1024 .f32} (hm : (m (ix2 0 q) : EReal) = (M : EReal)) (hc : (cm (ix2 0 q) : EReal) = (C : EReal)) :
    (k0_pay5 (F := Ideal) cm m (ix2 0 q) : EReal) = ((max M C : ℝ) : EReal) := by
  rw [pay5_apply, hm, hc, ecoe_max]

theorem fac_ok {cm m : FVec Ideal S1x1024 .f32} (hm : (m (ix2 0 q) : EReal) = (M : EReal)) (hc : (cm (ix2 0 q) : EReal) = (C : EReal)) :
    (k0_pay6 (F := Ideal) cm m (ix2 0 q) : EReal) = (wt M (max M C) : EReal) := by
  rw [pay6_apply, hm, hc, ← ecoe_max, fac_coe]

theorem weight_ok {m : FVec Ideal S1x1024 .f32} {s : Vec Ideal S1x2048x1024 .f32} (hm : (m (ix2 0 q) : EReal) = (M : EReal))
    (hs : ∀ j : Fin 2048, (s (ix3 0 j q) : EReal) = (σ (2048 * g + j.val) : EReal)) (j : Fin 2048) :
    (k0_pay9 (F := Ideal) m s (ix3 0 j q) : EReal) = (wt (σ (2048 * g + j.val)) M : EReal) := by
  rw [pay9_apply, hm, hs, wt_coe]

theorem sums_ok {l : FVec Ideal S8x1024 .f32} {m a : FVec Ideal S1x1024 .f32} {s : Vec Ideal S1x2048x1024 .f32} {L : Fin 8 → ℝ}
    (hm : (m (ix2 0 q) : EReal) = (M' : EReal)) (ha : (a (ix2 0 q) : EReal) = (wt M M' : EReal))
    (hl : ∀ r, (l (ix2 r q) : EReal) = (L r : EReal)) (hL : ∑ r, L r = seen (fun k => wt (σ k) M) g)
    (hs : ∀ j : Fin 2048, (s (ix3 0 j q) : EReal) = (σ (2048 * g + j.val) : EReal)) :
    ∃ L' : Fin 8 → ℝ, (∀ r, (k0_pay8 (F := Ideal) l m a s (ix2 r q) : EReal) = (L' r : EReal)) ∧
      ∑ r, L' r = seen (fun k => wt (σ k) M') (g + 1) := by
  refine ⟨fun r => wt M M' * L r + ∑ h : Fin 256, wt (σ (2048 * g + (h.val * 8 + r.val))) M', fun r => ?_, ?_⟩
  · rw [pay8_apply, hm, ha, hl, EReal.coe_add, EReal.coe_mul, coe_sum]
    refine congrArg₂ (· + ·) rfl ?_
    refine Finset.sum_congr rfl fun h _ => ?_
    rw [hs, wt_coe]
  · rw [Finset.sum_add_distrib, ← Finset.mul_sum, hL, seen_mul, seen_succ,
      group_sum (fun j => wt (σ (2048 * g + j)) M') 256, ← Finset.sum_range (n := 2048) (fun j => wt (σ (2048 * g + j)) M')]
    exact congrArg₂ (· + ·) (seen_congr g fun k => wt_shift _ _ _) rfl

theorem acc_ok {a : FVec Ideal S1x1024 .f32} {xv : Vec Ideal S1x256x2048 .bf16} {o : Vec Ideal S1x256x1024 .f32}
    {p : Vec Ideal S1x2048x1024 .bf16} {v : Fin 256} (ha : (a (ix2 0 q) : EReal) = (wt M M' : EReal))
    (hv : ∀ j : Fin 2048, (xv (ix3 0 v j) : EReal) = (vv (2048 * g + j.val) v : EReal))
    (ho : (o (ix3 0 v q) : EReal) = (seen (fun k => vv k v * wt (σ k) M) g : EReal))
    (hp : ∀ j : Fin 2048, (p (ix3 0 j q) : EReal) = (wt (σ (2048 * g + j.val)) M' : EReal)) :
    (k0_pay3 (F := Ideal) a xv o p (ix3 0 v q) : EReal) = (seen (fun k => vv k v * wt (σ k) M') (g + 1) : EReal) := by
  rw [pay3_apply, ha, ho, seen_succ, EReal.coe_add, coe_sum, ← EReal.coe_mul, seen_mul]
  refine congrArg₂ (· + ·) ?_ ?_
  · rw [seen_congr g fun k => show wt M M' * (vv k v * wt (σ k) M) = vv k v * wt (σ k) M' by
      rw [← wt_shift (σ k) M M']; ring]
  · refine Finset.sum_congr rfl fun j _ => ?_
    rw [hv, hp, EReal.coe_mul]
end

/-! ## A half's state -/

/-- What one half's values mean while chunk `g` is weighted and chunk `g + 1` scored: the running maximum, the sums
    and the weights are taken against one reference point per column, the accumulator against the one before. -/
def HalfOK (σ : Fin 1024 → ℕ → ℝ) (vv : ℕ → Fin 256 → ℝ) (g : ℕ) (cm m : FVec Ideal S1x1024 .f32) (l : FVec Ideal S8x1024 .f32)
    (a : FVec Ideal S1x1024 .f32) (s : Vec Ideal S1x2048x1024 .f32) (p : Vec Ideal S1x2048x1024 .bf16)
    (o : Vec Ideal S1x256x1024 .f32) : Prop :=
  ∀ q : Fin 1024, ∃ (C M M' : ℝ) (L : Fin 8 → ℝ), (cm (ix2 0 q) : EReal) = (C : EReal) ∧ (m (ix2 0 q) : EReal) = (M : EReal)
    ∧ (a (ix2 0 q) : EReal) = (wt M' M : EReal)
    ∧ (∀ r, (l (ix2 r q) : EReal) = (L r : EReal)) ∧ ∑ r, L r = seen (fun k => wt (σ q k) M) (g + 1)
    ∧ (∀ j : Fin 2048, (s (ix3 0 j q) : EReal) = (σ q (2048 * (g + 1) + j.val) : EReal))
    ∧ (∀ j : Fin 2048, (p (ix3 0 j q) : EReal) = (wt (σ q (2048 * g + j.val)) M : EReal))
    ∧ ∀ v : Fin 256, (o (ix3 0 v q) : EReal) = (seen (fun k => vv k v * wt (σ q k) M') g : EReal)

/-- One step of the counted loop moves a half's meaning on by one chunk. -/
theorem half_step {σ : Fin 1024 → ℕ → ℝ} {vv : ℕ → Fin 256 → ℝ} {g : ℕ} {cm m : FVec Ideal S1x1024 .f32} {l : FVec Ideal S8x1024 .f32}
    {a : FVec Ideal S1x1024 .f32} {s : Vec Ideal S1x2048x1024 .f32} {p : Vec Ideal S1x2048x1024 .bf16}
    {o : Vec Ideal S1x256x1024 .f32} (H : HalfOK σ vv g cm m l a s p o) {xv : Vec Ideal S1x256x2048 .bf16}
    (hv : ∀ (v : Fin 256) (j : Fin 2048), (xv (ix3 0 v j) : EReal) = (vv (2048 * g + j.val) v : EReal))
    {cm' : FVec Ideal S1x1024 .f32} {s' : Vec Ideal S1x2048x1024 .f32} (hc : ∀ q, ∃ C : ℝ, (cm' (ix2 0 q) : EReal) = (C : EReal))
    (hs' : ∀ q (j : Fin 2048), (s' (ix3 0 j q) : EReal) = (σ q (2048 * (g + 2) + j.val) : EReal)) :
    HalfOK σ vv (g + 1) cm' (k0_pay5 cm m) (k0_pay8 l (k0_pay5 cm m) (k0_pay6 cm m) s) (k0_pay6 cm m) s'
      (k0_pay9 (k0_pay5 cm m) s) (k0_pay3 a xv o p) := by
  intro q
  obtain ⟨C, M, M', L, hcm, hm, ha, hl, hL, hs, hp, ho⟩ := H q
  obtain ⟨C', hC'⟩ := hc q
  obtain ⟨L', hl', hL'⟩ := sums_ok (g := g + 1) (σ := σ q) (max_ok hm hcm) (fac_ok hm hcm) hl hL hs
  exact ⟨C', max M C, M, L', hC', max_ok hm hcm, fac_ok hm hcm, hl', hL', hs' q, weight_ok (σ := σ q) (max_ok hm hcm) hs,
    fun v => acc_ok (σ := σ q) (vv := vv) ha (hv v) (ho v) hp⟩

/-- What the end of the body makes of a half's state: the sums and the accumulator over every key, against one
    reference point per column. -/
theorem half_fin {σ : Fin 1024 → ℕ → ℝ} {vv : ℕ → Fin 256 → ℝ} {cm m : FVec Ideal S1x1024 .f32} {l : FVec Ideal S8x1024 .f32}
    {a : FVec Ideal S1x1024 .f32} {s : Vec Ideal S1x2048x1024 .f32} {p : Vec Ideal S1x2048x1024 .bf16}
    {o : Vec Ideal S1x256x1024 .f32} (H : HalfOK σ vv 2 cm m l a s p o) {xv2 xv3 : Vec Ideal S1x256x2048 .bf16}
    (hv2 : ∀ (v : Fin 256) (j : Fin 2048), (xv2 (ix3 0 v j) : EReal) = (vv (2048 * 2 + j.val) v : EReal))
    (hv3 : ∀ (v : Fin 256) (j : Fin 2048), (xv3 (ix3 0 v j) : EReal) = (vv (2048 * 3 + j.val) v : EReal)) (q : Fin 1024) :
    ∃ (M : ℝ) (L : Fin 8 → ℝ),
      (∀ r, (k0_pay8 (F := Ideal) l (k0_pay5 cm m) (k0_pay6 cm m) s (ix2 r q) : EReal) = (L r : EReal))
      ∧ ∑ r, L r = ∑ k : Fin 8448, wt (σ q k.val) M
      ∧ ∀ v, (k0_pay3 (F := Ideal) (k0_pay6 cm m) xv3 (k0_pay3 a xv2 o p) (k0_pay9 (k0_pay5 cm m) s) (ix3 0 v q) : EReal)
          = ((∑ k : Fin 8448, vv k.val v * wt (σ q k.val) M : ℝ) : EReal) := by
  obtain ⟨C, M, M', L, hcm, hm, ha, hl, hL, hs, hp, ho⟩ := H q
  obtain ⟨L', hl', hL'⟩ := sums_ok (g := 3) (σ := σ q) (max_ok hm hcm) (fac_ok hm hcm) hl hL hs
  refine ⟨max M C, L', hl', hL'.trans (seen_all _), fun v => ?_⟩
  rw [← seen_all (fun k => vv k v * wt (σ q k) (max M C))]
  exact acc_ok (σ := σ q) (vv := vv) (g := 3) (fac_ok hm hcm) (hv3 v) (acc_ok (σ := σ q) (vv := vv) (g := 2) ha (hv2 v) (ho v) hp)
    (weight_ok (σ := σ q) (max_ok hm hcm) hs)

end Cert.Proof.Attn
end
-- ==== Proof.Attn.StateVal.lean ====
module

public import proofs.«01_k».proof.Proof.Attn.Online

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # The body's values, chunk by chunk

From real queries, keys and values: the scores of each chunk, the state the counted loop begins with, its trips, and
the sums and the accumulators at the end. -/

/-- A chunk's rows of the keys (or the values). -/
theorem kRows_apply (n : ℕ) (h) (x : Vec Ideal S1x1x8448x256 .bf16) (j : Fin 2048) (d : Fin 256) (hn : n + j.val < 8448) :
    kRows (F := Ideal) ![0, 0, n, 0] h x (ix4 0 0 j d) = x (ix4 0 0 (⟨n + j.val, hn⟩ : Fin 8448) d) := by
  refine congrArg x ?_
  funext a
  fin_cases a
  · rfl
  · rfl
  · exact Fin.ext (by show n + 1 * j.val = n + j.val; omega)
  · exact Fin.ext (by show 0 + 1 * d.val = d.val; omega)

theorem kTail_apply (x : Vec Ideal S1x1x8448x256 .bf16) (j : Fin 256) (d : Fin 256) :
    kTail (F := Ideal) x (ix4 0 0 j d) = x (ix4 0 0 (⟨8192 + j.val, by omega⟩ : Fin 8448) d) := by
  refine congrArg x ?_
  funext a
  fin_cases a
  · rfl
  · rfl
  · exact Fin.ext (by show 8192 + 1 * j.val = 8192 + j.val; omega)
  · exact Fin.ext (by show 0 + 1 * d.val = d.val; omega)

/-- The two halves of a row's 256 entries. -/
abbrev hd0 (d : Fin 128) : Fin 256 := ⟨d.val, by omega⟩
abbrev hd1 (d : Fin 128) : Fin 256 := ⟨128 + d.val, by omega⟩

/-- A half's score of query `q` against key `k`: the dot product over the half's 128 entries (`e` places them). -/
def sc (e : Fin 128 → Fin 256) (Q : Fin 1024 → Fin 256 → ℝ) (K : ℕ → Fin 256 → ℝ) (q : Fin 1024) (k : ℕ) : ℝ :=
  ∑ d : Fin 128, K k (e d) * Q q (e d)

section
variable {Q : Fin 1024 → Fin 256 → ℝ} {K V : ℕ → Fin 256 → ℝ}
  {x1 : Vec Ideal S1x1x1024x256 .bf16} {x2 x3 : Vec Ideal S1x1x8448x256 .bf16}

theorem dot_ok (e : Fin 128 → Fin 256) (f g : Fin 128 → EReal) (q : Fin 1024) (k : ℕ) (hf : ∀ d, f d = (K k (e d) : EReal))
    (hg : ∀ d, g d = (Q q (e d) : EReal)) : ∑ d, f d * g d = (sc e Q K q k : EReal) := by
  unfold sc
  rw [coe_sum]
  exact Finset.sum_congr rfl fun d _ => by rw [hf, hg, EReal.coe_mul]

variable (hQ : ∀ q d, (x1 (ix4 0 0 q d) : EReal) = (Q q d : EReal))
  (hK : ∀ (k : Fin 8448) d, (x2 (ix4 0 0 k d) : EReal) = (K k.val d : EReal))
  (hV : ∀ (k : Fin 8448) d, (x3 (ix4 0 0 k d) : EReal) = (V k.val d : EReal))

include hQ hK

theorem score0 (n : ℕ) (h) (hn : n + 2048 ≤ 8448) (q : Fin 1024) (j : Fin 2048) :
    (k0_pay73 (F := Ideal) (k0_pay18 x1) (kRows ![0, 0, n, 0] h x2) (ix3 0 j q) : EReal) = (sc hd0 Q K q (n + j.val) : EReal) := by
  rw [pay73_apply]
  exact dot_ok hd0 _ _ q _ (fun d => by rw [kRows_apply n h x2 j _ (by omega), hK]) (fun d => by rw [pay18_apply, hQ])

theorem score1 (n : ℕ) (h) (hn : n + 2048 ≤ 8448) (q : Fin 1024) (j : Fin 2048) :
    (k0_pay76 (F := Ideal) (k0_pay19 x1) (kRows ![0, 0, n, 0] h x2) (ix3 0 j q) : EReal) = (sc hd1 Q K q (n + j.val) : EReal) := by
  rw [pay76_apply]
  exact dot_ok hd1 _ _ q _ (fun d => by rw [kRows_apply n h x2 j _ (by omega), hK]) (fun d => by rw [pay19_apply, hQ])

theorem cmax0 (n : ℕ) (h) (hn : n + 2048 ≤ 8448) (q : Fin 1024) :
    ∃ C : ℝ, (k0_pay74 (F := Ideal) (k0_pay18 x1) (kRows ![0, 0, n, 0] h x2) (ix2 0 q) : EReal) = (C : EReal) := by
  obtain ⟨r, hr⟩ := fold_real (Finset.univ : Finset (Fin 2048)) ⟨0, Finset.mem_univ _⟩ (fun j => sc hd0 Q K q (n + j.val))
  refine ⟨r, hr ▸ ?_⟩
  rw [pay74_apply]
  refine Finset.fold_congr fun j _ => ?_
  exact dot_ok hd0 _ _ q _ (fun d => by rw [kRows_apply n h x2 j _ (by omega), hK]) (fun d => by rw [pay18_apply, hQ])

theorem cmax1 (n : ℕ) (h) (hn : n + 2048 ≤ 8448) (q : Fin 1024) :
    ∃ C : ℝ, (k0_pay77 (F := Ideal) (k0_pay19 x1) (kRows ![0, 0, n, 0] h x2) (ix2 0 q) : EReal) = (C : EReal) := by
  obtain ⟨r, hr⟩ := fold_real (Finset.univ : Finset (Fin 2048)) ⟨0, Finset.mem_univ _⟩ (fun j => sc hd1 Q K q (n + j.val))
  refine ⟨r, hr ▸ ?_⟩
  rw [pay77_apply]
  refine Finset.fold_congr fun j _ => ?_
  exact dot_ok hd1 _ _ q _ (fun d => by rw [kRows_apply n h x2 j _ (by omega), hK]) (fun d => by rw [pay19_apply, hQ])

theorem tscore0 (q : Fin 1024) (j : Fin 256) :
    (k0_pay24 (F := Ideal) x1 (kTail x2) (ix2 j q) : EReal) = (sc hd0 Q K q (8192 + j.val) : EReal) := by
  rw [pay24_apply]
  exact dot_ok hd0 _ _ q _ (fun d => by rw [kTail_apply, hK]) (fun d => by rw [hQ])

theorem tscore1 (q : Fin 1024) (j : Fin 256) :
    (k0_pay27 (F := Ideal) x1 (kTail x2) (ix2 j q) : EReal) = (sc hd1 Q K q (8192 + j.val) : EReal) := by
  rw [pay27_apply]
  exact dot_ok hd1 _ _ q _ (fun d => by rw [kTail_apply, hK]) (fun d => by rw [hQ])

omit hQ hK
include hV

theorem vT_apply (g : Fin 4) (v : Fin 256) (j : Fin 2048) :
    (vT (F := Ideal) x3 g (ix3 0 v j) : EReal) = (V (2048 * g.val + j.val) v : EReal) := by
  unfold vT
  rw [pay15_apply, kRows_apply (2048 * g.val) _ x3 j v (by omega), hV]

theorem vTail_apply (v : Fin 256) (j : Fin 256) : (vTail (F := Ideal) x3 (ix2 v j) : EReal) = (V (8192 + j.val) v : EReal) := by
  unfold vTail
  rw [pay16_apply, kTail_apply, hV]

end

/-! ## The end chunk, which comes first -/

/-- The end chunk's numbers for one half and one column. -/
def TailOK (σ : ℕ → ℝ) (V : ℕ → Fin 256 → ℝ) (q : Fin 1024) (m : FVec Ideal S1x1024 .f32) (l : FVec Ideal S8x1024 .f32)
    (o : Vec Ideal S1x256x1024 .f32) : Prop :=
  ∃ (M : ℝ) (L : Fin 8 → ℝ), (m (ix2 0 q) : EReal) = (M : EReal) ∧ (∀ r, (l (ix2 r q) : EReal) = (L r : EReal))
    ∧ ∑ r, L r = seen (fun k => wt (σ k) M) 0
    ∧ ∀ v : Fin 256, (o (ix3 0 v q) : EReal) = (seen (fun k => V k v * wt (σ k) M) 0 : EReal)

/-- Thirty-two rows of eight partial sums. -/
theorem tail_sums (f : ℕ → ℝ) : ∑ r : Fin 8, ∑ g : Fin 32, f (8192 + (g.val * 8 + r.val)) = seen f 0 := by
  rw [group_sum (fun j => f (8192 + j)) 32, seen_zero, ← Finset.sum_range (n := 256) (fun j => f (8192 + j))]

/-- The end chunk's numbers from what its scores are: `E` the weights, `A` the factor (zero). -/
theorem tail_core {σ : ℕ → ℝ} {V : ℕ → Fin 256 → ℝ} {q : Fin 1024} {M : ℝ} {m a : FVec Ideal S1x1024 .f32} {l : FVec Ideal S8x1024 .f32}
    {o : Vec Ideal S1x256x1024 .f32} {xv : Vec Ideal S256x256 .bf16} {p : Vec Ideal S1x256x1024 .bf16}
    (hm : (m (ix2 0 q) : EReal) = (M : EReal)) (ha : (a (ix2 0 q) : EReal) = 0)
    (hl : ∀ r : Fin 8, (l (ix2 r q) : EReal) = (a (ix2 0 q) : EReal) * k0_pay22 (F := Ideal) (ix2 r q)
      + ∑ g : Fin 32, (wt (σ (8192 + (g.val * 8 + r.val))) M : EReal))
    (hp : ∀ j : Fin 256, (p (ix3 0 j q) : EReal) = (wt (σ (8192 + j.val)) M : EReal))
    (hxv : ∀ (v j : Fin 256), (xv (ix2 v j) : EReal) = (V (8192 + j.val) v : EReal))
    (ho : ∀ v : Fin 256, (o (ix3 0 v q) : EReal) = (a (ix2 0 q) : EReal) * oZero (F := Ideal) (ix3 0 v q)
      + ∑ j : Fin 256, (xv (ix2 v j) : EReal) * p (ix3 0 j q)) : TailOK σ V q m l o := by
  refine ⟨M, fun r => ∑ g : Fin 32, wt (σ (8192 + (g.val * 8 + r.val))) M, hm, fun r => ?_, ?_, fun v => ?_⟩
  · rw [hl, ha, zero_mul, zero_add, coe_sum]
  · exact tail_sums (fun k => wt (σ k) M)
  · rw [ho, ha, zero_mul, zero_add, seen_zero, coe_sum]
    exact Finset.sum_congr rfl fun j _ => by rw [hxv, hp, EReal.coe_mul]

section
variable {Q : Fin 1024 → Fin 256 → ℝ} {K V : ℕ → Fin 256 → ℝ}
  {x1 : Vec Ideal S1x1x1024x256 .bf16} {x2 x3 : Vec Ideal S1x1x8448x256 .bf16}
  (hQ : ∀ q d, (x1 (ix4 0 0 q d) : EReal) = (Q q d : EReal))
  (hK : ∀ (k : Fin 8448) d, (x2 (ix4 0 0 k d) : EReal) = (K k.val d : EReal))
  (hV : ∀ (k : Fin 8448) d, (x3 (ix4 0 0 k d) : EReal) = (V k.val d : EReal))
include hQ hK hV

theorem tail0 (q : Fin 1024) : TailOK (sc hd0 Q K q) V q (tM0 (F := Ideal) x1 x2) (tL0 x1 x2) (tO0 x1 x2 (vTail x3)) := by
  obtain ⟨M, hM⟩ := fold_real (Finset.univ : Finset (Fin 256)) ⟨0, Finset.mem_univ _⟩ (fun j => sc hd0 Q K q (8192 + j.val))
  have hm : (k0_pay29 (F := Ideal) k0_pay21 (k0_pay26 x1 (kTail x2)) (ix2 0 q) : EReal) = (M : EReal) := by
    show (k0_pay5 (F := Ideal) (k0_pay26 x1 (kTail x2)) k0_pay21 (ix2 0 q) : EReal) = _
    rw [pay5_apply, pay21_apply, pay26_apply, ← hM, max_eq_right bot_le]
    exact Finset.fold_congr fun j _ => tscore0 hQ hK q j
  have ha : (k0_pay30 (F := Ideal) k0_pay21 (k0_pay26 x1 (kTail x2)) (ix2 0 q) : EReal) = 0 := by
    show (k0_pay6 (F := Ideal) (k0_pay26 x1 (kTail x2)) k0_pay21 (ix2 0 q) : EReal) = _
    rw [pay6_apply, ← pay5_apply, show k0_pay5 (F := Ideal) (k0_pay26 x1 (kTail x2)) k0_pay21 (ix2 0 q) = (M : EReal) from hm,
      pay21_apply, fac_bot]
  have hs : ∀ j : Fin 256, (tS0 (F := Ideal) x1 x2 (ix3 0 j q) : EReal) = (sc hd0 Q K q (8192 + j.val) : EReal) := fun j => by
    unfold tS0
    rw [pay25_apply, tscore0 hQ hK]
  refine tail_core (a := k0_pay30 k0_pay21 (k0_pay26 x1 (kTail x2))) (p := tP0 x1 x2) hm ha (fun r => ?_) (fun j => ?_)
    (vTail_apply hV) (fun v => ?_)
  · unfold tL0
    rw [pay32_apply]
    refine congrArg₂ (· + ·) rfl (Finset.sum_congr rfl fun g _ => ?_)
    rw [hs, hm, wt_coe]
  · unfold tP0
    rw [pay33_apply, hs, hm, wt_coe]
  · unfold tO0 tA0
    rw [pay49_apply]

theorem tail1 (q : Fin 1024) : TailOK (sc hd1 Q K q) V q (tM1 (F := Ideal) x1 x2) (tL1 x1 x2) (tO1 x1 x2 (vTail x3)) := by
  obtain ⟨M, hM⟩ := fold_real (Finset.univ : Finset (Fin 256)) ⟨0, Finset.mem_univ _⟩ (fun j => sc hd1 Q K q (8192 + j.val))
  have hm : (k0_pay34 (F := Ideal) k0_pay21 (k0_pay27 x1 (kTail x2)) (ix2 0 q) : EReal) = (M : EReal) := by
    rw [pay34_apply, pay21_apply, ← hM, max_eq_right bot_le]
    exact Finset.fold_congr fun j _ => tscore1 hQ hK q j
  have ha : (k0_pay35 (F := Ideal) k0_pay21 (k0_pay27 x1 (kTail x2)) (ix2 0 q) : EReal) = 0 := by
    rw [pay35_apply, hm, pay21_apply, fac_bot]
  have hs : ∀ j : Fin 256, (tS1 (F := Ideal) x1 x2 (ix3 0 j q) : EReal) = (sc hd1 Q K q (8192 + j.val) : EReal) := fun j => by
    unfold tS1
    rw [pay28_apply, tscore1 hQ hK]
  have hw : ∀ j : Fin 256, (tW1 (F := Ideal) x1 x2 (ix2 j q) : EReal) = (wt (sc hd1 Q K q (8192 + j.val)) M : EReal) := fun j => by
    unfold tW1
    rw [pay36_apply, hs, hm, wt_coe]
  refine tail_core (a := k0_pay35 k0_pay21 (k0_pay27 x1 (kTail x2))) (p := tP1 x1 x2) hm ha (fun r => ?_) (fun j => ?_)
    (vTail_apply hV) (fun v => ?_)
  · unfold tL1
    rw [pay38_apply]
    refine congrArg₂ (· + ·) rfl (Finset.sum_congr rfl fun g _ => ?_)
    rw [hw]
  · unfold tP1
    rw [pay39_apply, hw]
  · unfold tO1 tA1
    rw [pay50_apply]
end

/-- The loop's first state, from the end chunk's numbers and the first two chunks' scores. -/
theorem half_pre {σ : Fin 1024 → ℕ → ℝ} {V : ℕ → Fin 256 → ℝ} {tm cm1 cm2 : FVec Ideal S1x1024 .f32} {tl : FVec Ideal S8x1024 .f32}
    {o : Vec Ideal S1x256x1024 .f32} {s1 s2 : Vec Ideal S1x2048x1024 .f32} (T : ∀ q, TailOK (σ q) V q tm tl o)
    (hc1 : ∀ q, ∃ C : ℝ, (cm1 (ix2 0 q) : EReal) = (C : EReal)) (hc2 : ∀ q, ∃ C : ℝ, (cm2 (ix2 0 q) : EReal) = (C : EReal))
    (hs1 : ∀ q (j : Fin 2048), (s1 (ix3 0 j q) : EReal) = (σ q (0 + j.val) : EReal))
    (hs2 : ∀ q (j : Fin 2048), (s2 (ix3 0 j q) : EReal) = (σ q (2048 + j.val) : EReal)) :
    HalfOK σ V 0 cm2 (k0_pay5 cm1 tm) (k0_pay8 tl (k0_pay5 cm1 tm) (k0_pay6 cm1 tm) s1) (k0_pay6 cm1 tm) s2
      (k0_pay9 (k0_pay5 cm1 tm) s1) o := by
  intro q
  obtain ⟨M, L, hm, hl, hL, ho⟩ := T q
  obtain ⟨C1, hC1⟩ := hc1 q
  obtain ⟨C2, hC2⟩ := hc2 q
  obtain ⟨L', hl', hL'⟩ := sums_ok (g := 0) (σ := σ q) (max_ok hm hC1) (fac_ok hm hC1) hl hL (hs1 q)
  exact ⟨C2, max M C1, M, L', hC2, max_ok hm hC1, fac_ok hm hC1, hl', hL', hs2 q,
    weight_ok (g := 0) (σ := σ q) (max_ok hm hC1) (hs1 q), ho⟩

end Cert.Proof.Attn
end
-- ==== Proof.Attn.Final.lean ====
module

public import proofs.«01_k».proof.Proof.Attn.StateVal
public import proofs.«01_k».proof.Proof.Attn.Loop1

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # What the body stores

The two halves after the counted loop, then the difference of the two softmax averages and the block stored. -/

/-! ## The same sums at the several places of the body -/

section
variable (m cm : FVec Ideal S1x1024 .f32) (l : FVec Ideal S8x1024 .f32) (s : Vec Ideal S1x2048x1024 .f32)

theorem w53 : k0_pay53 m cm s = k0_pay7 (k0_pay5 cm m) s := rfl
theorem a52 : k0_pay52 m cm = k0_pay6 cm m := rfl
theorem l54 : k0_pay54 m l cm s = k0_pay8 l (k0_pay5 cm m) (k0_pay6 cm m) s := by
  unfold k0_pay54 k0_pay8
  rw [w53, a52]
theorem w59 : k0_pay59 m cm s = k0_pay7 (k0_pay5 cm m) s := rfl
theorem a58 : k0_pay58 m cm = k0_pay6 cm m := rfl
theorem l60 : k0_pay60 m l cm s = k0_pay8 l (k0_pay5 cm m) (k0_pay6 cm m) s := by
  unfold k0_pay60 k0_pay8
  rw [w59, a58]
theorem w12 : k0_pay12 cm m s = k0_pay7 (k0_pay5 cm m) s := rfl
theorem a11 : k0_pay11 cm m = k0_pay6 cm m := rfl
theorem l13 : k0_pay13 cm m l s = k0_pay8 l (k0_pay5 cm m) (k0_pay6 cm m) s := by
  unfold k0_pay13 k0_pay8
  rw [w12, a11]
theorem w84 : k0_pay84 cm m s = k0_pay7 (k0_pay5 cm m) s := rfl
theorem a83 : k0_pay83 cm m = k0_pay6 cm m := rfl
theorem l85 : k0_pay85 cm m l s = k0_pay8 l (k0_pay5 cm m) (k0_pay6 cm m) s := by
  unfold k0_pay85 k0_pay8
  rw [w84, a83]
theorem w90 : k0_pay90 (k0_pay89 cm m s) = k0_pay7 (k0_pay5 cm m) s := rfl
theorem a88 : k0_pay88 cm m = k0_pay6 cm m := rfl
theorem l91 : k0_pay91 l (k0_pay88 cm m) (k0_pay89 cm m s) = k0_pay8 l (k0_pay5 cm m) (k0_pay6 cm m) s := by
  unfold k0_pay91 k0_pay8
  rw [w90, a88]

variable (q0 : FVec Ideal S128x1024 .bf16) (xk : Vec Ideal S1x1x2048x256 .bf16)
theorem s41 : k0_pay41 q0 xk = k0_pay72 q0 xk := rfl
theorem s42 : k0_pay42 q0 xk = k0_pay73 q0 xk := by unfold k0_pay42 k0_pay73; rw [s41]
theorem c43 : k0_pay43 q0 xk = k0_pay74 q0 xk := by unfold k0_pay43 k0_pay74; rw [s41]
theorem s44 : k0_pay44 q0 xk = k0_pay75 q0 xk := rfl
theorem s45 : k0_pay45 q0 xk = k0_pay76 q0 xk := by unfold k0_pay45 k0_pay76; rw [s44]
theorem c46 : k0_pay46 q0 xk = k0_pay77 q0 xk := by unfold k0_pay46 k0_pay77; rw [s44]
theorem s63 : k0_pay63 q0 xk = k0_pay72 q0 xk := rfl
theorem s64 : k0_pay64 q0 xk = k0_pay73 q0 xk := by unfold k0_pay64 k0_pay73; rw [s63]
theorem c65 : k0_pay65 q0 xk = k0_pay74 q0 xk := by unfold k0_pay65 k0_pay74; rw [s63]
theorem s67 : k0_pay67 q0 (k0_pay66 xk) = k0_pay75 q0 xk := rfl
theorem s68 : k0_pay68 q0 (k0_pay66 xk) = k0_pay76 q0 xk := by unfold k0_pay68 k0_pay76; rw [s67]
theorem c69 : k0_pay69 q0 (k0_pay66 xk) = k0_pay77 q0 xk := by unfold k0_pay69 k0_pay77; rw [s67]
theorem m51 : k0_pay51 m cm = k0_pay5 cm m := rfl
theorem m57 : k0_pay57 m cm = k0_pay5 cm m := rfl
theorem m10 : k0_pay10 cm m = k0_pay5 cm m := rfl
theorem p56 : k0_pay56 (k0_pay55 m cm s) = k0_pay9 (k0_pay5 cm m) s := by unfold k0_pay56 k0_pay55 k0_pay9; rw [w53]
theorem p61 : k0_pay61 m cm s = k0_pay9 (k0_pay5 cm m) s := by unfold k0_pay61 k0_pay9; rw [w59]
theorem p70 : k0_pay70 (k0_pay14 cm m s) = k0_pay9 (k0_pay5 cm m) s := by unfold k0_pay70 k0_pay14 k0_pay9; rw [w12]
theorem p86 : k0_pay86 cm m s = k0_pay9 (k0_pay5 cm m) s := by unfold k0_pay86 k0_pay9; rw [w84]
theorem p92 : k0_pay92 (k0_pay89 cm m s) = k0_pay9 (k0_pay5 cm m) s := by unfold k0_pay92 k0_pay9; rw [w90]
variable (a : FVec Ideal S1x1024 .f32) (xv : Vec Ideal S1x256x2048 .bf16) (o : Vec Ideal S1x256x1024 .f32) (p : Vec Ideal S1x2048x1024 .bf16)
theorem o4 : k0_pay4 a xv o p = k0_pay3 a xv o p := by unfold k0_pay4 k0_pay3; rfl
theorem o79 : k0_pay79 a xv o p = k0_pay3 a xv o p := by unfold k0_pay79 k0_pay3 k0_pay78 k0_pay2; rfl
theorem o94 : k0_pay94 a xv o p = k0_pay3 a xv o p := by unfold k0_pay94 k0_pay3 k0_pay93 k0_pay2; rfl
theorem o81 : k0_pay81 (k0_pay80 a xv o p) = k0_pay3 a xv o p := by unfold k0_pay81 k0_pay80 k0_pay3 k0_pay78 k0_pay2; rfl
theorem o96 : k0_pay96 (k0_pay95 a xv o p) = k0_pay3 a xv o p := by unfold k0_pay96 k0_pay95 k0_pay3 k0_pay93 k0_pay2; rfl
end

section
variable {σ : Fin 1024 → ℕ → ℝ} {V : ℕ → Fin 256 → ℝ} {g : ℕ} {S : St Ideal} {q0 q1 : FVec Ideal S128x1024 .bf16}
  {xk : Vec Ideal S1x1x2048x256 .bf16} {xv : Vec Ideal S1x256x2048 .bf16}

theorem step0 (H : HalfOK σ V g S.cm0 S.m0 S.l0 S.a0 S.s0 S.p0 S.o0)
    (hv : ∀ (v : Fin 256) (j : Fin 2048), (xv (ix3 0 v j) : EReal) = (V (2048 * g + j.val) v : EReal))
    (hc : ∀ q, ∃ C : ℝ, (k0_pay74 (F := Ideal) q0 xk (ix2 0 q) : EReal) = (C : EReal))
    (hs : ∀ q (j : Fin 2048), (k0_pay73 (F := Ideal) q0 xk (ix3 0 j q) : EReal) = (σ q (2048 * (g + 2) + j.val) : EReal)) :
    HalfOK σ V (g + 1) (stepSt q0 q1 xk xv S).cm0 (stepSt q0 q1 xk xv S).m0 (stepSt q0 q1 xk xv S).l0 (stepSt q0 q1 xk xv S).a0
      (stepSt q0 q1 xk xv S).s0 (stepSt q0 q1 xk xv S).p0 (stepSt q0 q1 xk xv S).o0 := by
  simp only [stepSt]
  exact half_step H hv hc hs

theorem step1 (H : HalfOK σ V g S.cm1 S.m1 S.l1 S.a1 S.s1 S.p1 S.o1)
    (hv : ∀ (v : Fin 256) (j : Fin 2048), (xv (ix3 0 v j) : EReal) = (V (2048 * g + j.val) v : EReal))
    (hc : ∀ q, ∃ C : ℝ, (k0_pay77 (F := Ideal) q1 xk (ix2 0 q) : EReal) = (C : EReal))
    (hs : ∀ q (j : Fin 2048), (k0_pay76 (F := Ideal) q1 xk (ix3 0 j q) : EReal) = (σ q (2048 * (g + 2) + j.val) : EReal)) :
    HalfOK σ V (g + 1) (stepSt q0 q1 xk xv S).cm1 (stepSt q0 q1 xk xv S).m1 (stepSt q0 q1 xk xv S).l1 (stepSt q0 q1 xk xv S).a1
      (stepSt q0 q1 xk xv S).s1 (stepSt q0 q1 xk xv S).p1 (stepSt q0 q1 xk xv S).o1 := by
  simp only [stepSt]
  rw [l13, a11, m10, p70, o4]
  exact half_step H hv hc hs

theorem last_fin0 (S : St Ideal) (xv2 xv3 : Vec Ideal S1x256x2048 .bf16) : finO0 xv2 xv3 S
    = k0_pay3 (k0_pay6 S.cm0 S.m0) xv3 (k0_pay3 S.a0 xv2 S.o0 S.p0) (k0_pay9 (k0_pay5 S.cm0 S.m0) S.s0) := by
  unfold finO0
  rw [o94, a83, o79, p86]

theorem last_fin1 (S : St Ideal) (xv2 xv3 : Vec Ideal S1x256x2048 .bf16) : finO1 xv2 xv3 S
    = k0_pay3 (k0_pay6 S.cm1 S.m1) xv3 (k0_pay3 S.a1 xv2 S.o1 S.p1) (k0_pay9 (k0_pay5 S.cm1 S.m1) S.s1) := by
  unfold finO1
  rw [o96, a88, o81, p92]
end

theorem kRows_congr {off off' : Fin 4 → ℕ} (e : off = off') (h) (h') (x : Vec Ideal S1x1x8448x256 .bf16) :
    kRows (F := Ideal) off h x = kRows off' h' x := by
  subst e; rfl

/-- The counted loop's two trips. -/
theorem iter_two (q0 q1 : FVec Ideal S128x1024 .bf16) (x2 : Vec Ideal S1x1x8448x256 .bf16)
    (xv : Fin k0_t2_loop.trips → Vec Ideal S1x256x2048 .bf16) (S : St Ideal) (h2 : k0_t2_loop.trips = 2) (hA) (hB) :
    iterSt q0 q1 x2 xv S 2 = stepSt q0 q1 (kRows ![0, 0, 6144, 0] hA x2) (xv ⟨1, by omega⟩)
      (stepSt q0 q1 (kRows ![0, 0, 4096, 0] hB x2) (xv ⟨0, by omega⟩) S) := by
  rw [iterSt, dif_pos (by omega), iterSt, dif_pos (by omega), iterSt]
  rw [kRows_congr (off4_eq ⟨1, by omega⟩) _ hA, kRows_congr (off4_eq ⟨0, by omega⟩) _ hB]
  all_goals rfl

/-- A score over the square root of 128, exponentiated. -/
def ex (x : ℝ) : ℝ := Real.exp (x * (Real.sqrt 128)⁻¹)

theorem wt_ex (x M : ℝ) : wt x M = Real.rpow 2 (-(M * cR)) * ex x := by
  show Real.rpow 2 _ = _
  have h := Real.rpow_add (x := 2) (by norm_num) (-(M * cR)) (x * cR)
  rw [show x * cR - M * cR = -(M * cR) + x * cR by ring]
  refine h.trans (congrArg₂ (· * ·) rfl ?_)
  rw [Real.rpow_def_of_pos (by norm_num)]
  unfold ex cR
  congr 1
  have : Real.log 2 ≠ 0 := (Real.log_pos (by norm_num)).ne'
  field_simp

/-- The softmax average of the values' entry `v`, for scores `f`. -/
def avg (V : ℕ → Fin 256 → ℝ) (f : ℕ → ℝ) (v : Fin 256) : ℝ :=
  (∑ k : Fin 8448, V k.val v * ex (f k.val)) * (1 / ∑ k : Fin 8448, ex (f k.val))

theorem ex_sum_pos (f : ℕ → ℝ) : 0 < ∑ k : Fin 8448, ex (f k.val) :=
  Finset.sum_pos (fun _ _ => Real.exp_pos _) ⟨0, Finset.mem_univ _⟩

/-- The kernel's ratio is the softmax average, whichever reference point it used. -/
theorem ratio (V : ℕ → Fin 256 → ℝ) (f : ℕ → ℝ) (M : ℝ) (v : Fin 256) :
    (∑ k : Fin 8448, V k.val v * wt (f k.val) M) * (1 / ∑ k : Fin 8448, wt (f k.val) M) = avg V f v := by
  have hp : (0 : ℝ) < Real.rpow 2 (-(M * cR)) := Real.rpow_pos_of_pos (by norm_num) _
  have hs := ex_sum_pos f
  unfold avg
  have h1 : ∑ k : Fin 8448, V k.val v * wt (f k.val) M = Real.rpow 2 (-(M * cR)) * ∑ k : Fin 8448, V k.val v * ex (f k.val) := by
    rw [Finset.mul_sum]
    exact Finset.sum_congr rfl fun k _ => by rw [wt_ex]; ring
  have h2 : ∑ k : Fin 8448, wt (f k.val) M = Real.rpow 2 (-(M * cR)) * ∑ k : Fin 8448, ex (f k.val) := by
    rw [Finset.mul_sum]
    exact Finset.sum_congr rfl fun k _ => wt_ex _ _
  rw [h1, h2]
  field_simp

theorem wt_sum_ne (f : ℕ → ℝ) (M : ℝ) : ∑ k : Fin 8448, wt (f k.val) M ≠ 0 :=
  (Finset.sum_pos (fun _ _ => wt_pos _ _) ⟨0, Finset.mem_univ _⟩).ne'

section
variable {Q : Fin 1024 → Fin 256 → ℝ} {K V : ℕ → Fin 256 → ℝ}
  {x1 : Vec Ideal S1x1x1024x256 .bf16} {x2 x3 : Vec Ideal S1x1x8448x256 .bf16}
  (hQ : ∀ q d, (x1 (ix4 0 0 q d) : EReal) = (Q q d : EReal))
  (hK : ∀ (k : Fin 8448) d, (x2 (ix4 0 0 k d) : EReal) = (K k.val d : EReal))
  (hV : ∀ (k : Fin 8448) d, (x3 (ix4 0 0 k d) : EReal) = (V k.val d : EReal))

omit hQ hK in
include hV in
theorem vT_at (g : ℕ) (hg : g < 4) (v : Fin 256) (j : Fin 2048) :
    (vT (F := Ideal) x3 ⟨g, hg⟩ (ix3 0 v j) : EReal) = (V (2048 * g + j.val) v : EReal) := vT_apply hV ⟨g, hg⟩ v j

/-- The state the counted loop leaves. -/
abbrev lastSt (x1 : Vec Ideal S1x1x1024x256 .bf16) (x2 x3 : Vec Ideal S1x1x8448x256 .bf16) : St Ideal :=
  iterSt (k0_pay18 x1) (k0_pay19 x1) x2 (fun k => vT x3 ⟨k.val, lt_of_lt_of_le k.isLt (by decide)⟩) (preSt x1 x2 (vTail x3)) 2

include hQ hK hV

theorem pre0 : HalfOK (sc hd0 Q K) V 0 (preSt (F := Ideal) x1 x2 (vTail x3)).cm0 (preSt (F := Ideal) x1 x2 (vTail x3)).m0
    (preSt (F := Ideal) x1 x2 (vTail x3)).l0 (preSt (F := Ideal) x1 x2 (vTail x3)).a0 (preSt (F := Ideal) x1 x2 (vTail x3)).s0
    (preSt (F := Ideal) x1 x2 (vTail x3)).p0 (preSt (F := Ideal) x1 x2 (vTail x3)).o0 := by
  simp only [preSt]
  rw [c65, m51, c43, l54, s42, a52, s64, p56]
  exact half_pre (tail0 hQ hK hV) (cmax0 hQ hK 0 _ (by omega)) (cmax0 hQ hK 2048 _ (by omega)) (score0 hQ hK 0 _ (by omega))
    (score0 hQ hK 2048 _ (by omega))

theorem pre1 : HalfOK (sc hd1 Q K) V 0 (preSt (F := Ideal) x1 x2 (vTail x3)).cm1 (preSt (F := Ideal) x1 x2 (vTail x3)).m1
    (preSt (F := Ideal) x1 x2 (vTail x3)).l1 (preSt (F := Ideal) x1 x2 (vTail x3)).a1 (preSt (F := Ideal) x1 x2 (vTail x3)).s1
    (preSt (F := Ideal) x1 x2 (vTail x3)).p1 (preSt (F := Ideal) x1 x2 (vTail x3)).o1 := by
  simp only [preSt]
  rw [c69, m57, c46, l60, s45, a58, s68, p61]
  exact half_pre (tail1 hQ hK hV) (cmax1 hQ hK 0 _ (by omega)) (cmax1 hQ hK 2048 _ (by omega)) (score1 hQ hK 0 _ (by omega))
    (score1 hQ hK 2048 _ (by omega))

theorem last0 : HalfOK (sc hd0 Q K) V 2 (lastSt x1 x2 x3).cm0 (lastSt x1 x2 x3).m0 (lastSt x1 x2 x3).l0 (lastSt x1 x2 x3).a0
    (lastSt x1 x2 x3).s0 (lastSt x1 x2 x3).p0 (lastSt x1 x2 x3).o0 := by
  unfold lastSt
  rw [iter_two _ _ _ _ _ (by decide) (by decide) (by decide)]
  exact step0 (g := 1) (step0 (g := 0) (pre0 hQ hK hV) (vT_at hV 0 (by norm_num)) (cmax0 hQ hK 4096 (by decide) (by omega)) (fun q j => (score0 hQ hK 4096 (by decide) (by omega) q j).trans
      (congrArg (fun n : ℕ => (sc hd0 Q K q (n + j.val) : EReal)) (by norm_num : 4096 = 2048 * (0 + 2)))))
    (vT_at hV 1 (by norm_num)) (cmax0 hQ hK 6144 (by decide) (by omega)) (fun q j => (score0 hQ hK 6144 (by decide) (by omega) q j).trans
      (congrArg (fun n : ℕ => (sc hd0 Q K q (n + j.val) : EReal)) (by norm_num : 6144 = 2048 * (1 + 2))))

theorem last1 : HalfOK (sc hd1 Q K) V 2 (lastSt x1 x2 x3).cm1 (lastSt x1 x2 x3).m1 (lastSt x1 x2 x3).l1 (lastSt x1 x2 x3).a1
    (lastSt x1 x2 x3).s1 (lastSt x1 x2 x3).p1 (lastSt x1 x2 x3).o1 := by
  unfold lastSt
  rw [iter_two _ _ _ _ _ (by decide) (by decide) (by decide)]
  exact step1 (g := 1) (step1 (g := 0) (pre1 hQ hK hV) (vT_at hV 0 (by norm_num)) (cmax1 hQ hK 4096 (by decide) (by omega)) (fun q j => (score1 hQ hK 4096 (by decide) (by omega) q j).trans
      (congrArg (fun n : ℕ => (sc hd1 Q K q (n + j.val) : EReal)) (by norm_num : 4096 = 2048 * (0 + 2)))))
    (vT_at hV 1 (by norm_num)) (cmax1 hQ hK 6144 (by decide) (by omega)) (fun q j => (score1 hQ hK 6144 (by decide) (by omega) q j).trans
      (congrArg (fun n : ℕ => (sc hd1 Q K q (n + j.val) : EReal)) (by norm_num : 6144 = 2048 * (1 + 2))))

theorem fin0 (q : Fin 1024) (v : Fin 256) :
    (finO0 (F := Ideal) (vT x3 2) (vT x3 3) (lastSt x1 x2 x3) (ix3 0 v q) : EReal)
      * Ideal.div (1 : EReal) (∑ r : Fin 8, finL0 (F := Ideal) (lastSt x1 x2 x3) (ix2 r q)) = (avg V (sc hd0 Q K q) v : EReal) := by
  obtain ⟨M, L, hl, hL, ho⟩ := half_fin (last0 hQ hK hV) (vT_at hV 2 (by norm_num)) (vT_at hV 3 (by norm_num)) q
  have hs : (∑ r : Fin 8, (finL0 (F := Ideal) (lastSt x1 x2 x3) (ix2 r q) : EReal)) = ((∑ k : Fin 8448, wt (sc hd0 Q K q k.val) M : ℝ) : EReal) := by
    rw [← hL, coe_sum]
    exact Finset.sum_congr rfl fun r _ => (congrFun (l85 _ _ _ _) _).trans (hl r)
  refine (congrArg₂ (· * ·) ((congrFun (last_fin0 _ _ _) _).trans (ho v)) (congrArg (Ideal.div 1) hs)).trans ?_
  show _ * Ideal.div 1 _ = _
  rw [Ideal.div_coe (wt_sum_ne _ M), one_mul, ← EReal.coe_mul, ratio]

theorem fin1 (q : Fin 1024) (v : Fin 256) (lam : ℝ) :
    (finO1 (F := Ideal) (vT x3 2) (vT x3 3) (lastSt x1 x2 x3) (ix3 0 v q) : EReal)
      * Ideal.div (lam : EReal) (∑ r : Fin 8, finL1 (F := Ideal) (lastSt x1 x2 x3) (ix2 r q)) = ((lam * avg V (sc hd1 Q K q) v : ℝ) : EReal) := by
  obtain ⟨M, L, hl, hL, ho⟩ := half_fin (last1 hQ hK hV) (vT_at hV 2 (by norm_num)) (vT_at hV 3 (by norm_num)) q
  have hs : (∑ r : Fin 8, (finL1 (F := Ideal) (lastSt x1 x2 x3) (ix2 r q) : EReal)) = ((∑ k : Fin 8448, wt (sc hd1 Q K q k.val) M : ℝ) : EReal) := by
    rw [← hL, coe_sum]
    exact Finset.sum_congr rfl fun r _ => (congrFun (l91 _ _ _ _) _).trans (hl r)
  refine (congrArg₂ (· * ·) ((congrFun (last_fin1 _ _ _) _).trans (ho v)) (congrArg (Ideal.div (lam : EReal)) hs)).trans ?_
  show _ * Ideal.div (lam : EReal) _ = _
  rw [Ideal.div_coe (wt_sum_ne _ M), ← EReal.coe_mul, ← EReal.coe_mul, ← ratio V _ M]
  refine congrArg _ ?_
  ring

/-- The scalar the second map is multiplied by, from its four vectors (rows of one block). -/
abbrev lamE (x0 : Vec Ideal S4x128 .f32) : EReal :=
  Ideal.exp (∑ d : Fin 128, x0 (ix2 0 d) * x0 (ix2 1 d)) - Ideal.exp (∑ d : Fin 128, x0 (ix2 2 d) * x0 (ix2 3 d))
    + FloatOps.ofBits (F := Ideal) .f32 0x3E4CCCCD#32

/-- The difference of the two softmax averages. -/
def dif (Q : Fin 1024 → Fin 256 → ℝ) (K V : ℕ → Fin 256 → ℝ) (lam : ℝ) (q : Fin 1024) (v : Fin 256) : ℝ :=
  avg V (sc hd0 Q K q) v - lam * avg V (sc hd1 Q K q) v

/-- The root-mean-square normalization, the weight, the constant factor and the gate, from a row's numbers `t`. -/
def post (t : Fin 256 → EReal) (w g : EReal) (v : Fin 256) : EReal :=
  t v * Ideal.rsqrt (Ideal.div (∑ v' : Fin 256, t v' * t v') (FloatOps.ofBits (F := Ideal) .f32 0x43800000#32)
      + FloatOps.ofBits (F := Ideal) .f32 0x358637BD#32) * w * FloatOps.ofBits (F := Ideal) .f32 0x3F4CCCCD#32
    * (g * Ideal.logistic g)

/-- THE BODY'S VALUE at query `q` and entry `v`. -/
theorem attn_val (x0 : Vec Ideal S4x128 .f32) (x4 : Vec Ideal S1x1x1024x256 .bf16) (x5 : Vec Ideal S1x256 .f32) {lam : ℝ}
    (hlam : lamE x0 = (lam : EReal)) (q : Fin 1024) (v : Fin 256) :
    (attnOut (F := Ideal) x0 x1 x2 x3 x4 x5 (ix3 0 q v) : EReal)
      = post (fun v' => (dif Q K V lam q v' : EReal)) (x5 (ix2 0 v)) (x4 (ix4 0 0 q v)) v := by
  have h97 : ∀ v', (k0_pay97 (F := Ideal) (finL0 (lastSt x1 x2 x3)) (finL1 (lastSt x1 x2 x3)) x0 (finO0 (vT x3 2) (vT x3 3) (lastSt x1 x2 x3))
      (finO1 (vT x3 2) (vT x3 3) (lastSt x1 x2 x3)) (ix2 q v') : EReal) = (dif Q K V lam q v' : EReal) := fun v' => by
    rw [pay97_apply, fin0 hQ hK hV]
    refine (congrArg₂ (· - ·) rfl ((congrArg₂ (· * ·) rfl (congrArg₂ Ideal.div hlam rfl)).trans (fin1 hQ hK hV q v' lam))).trans ?_
    exact (EReal.coe_sub _ _).symm
  unfold attnOut finOut post
  rw [pay1_apply, pay98_apply]
  simp only [h97]
end

end Cert.Proof.Attn
end
-- ==== Proof.Attn.Finite.lean ====
module

public import proofs.«01_k».proof.Pre_finite
public import proofs.«01_k».proof.Defs
public import proofs.«01_k».proof.Proof.Attn.Online
public import Idealize.ShloMosaic.Lib.Pointwise
public import Idealize.ShloMosaic.PureOps.Ideal.Laws

@[expose] public section

set_option maxRecDepth 16384

noncomputable section

namespace Cert.Proof.Attn

open Cert.Pre_finite
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # What the precondition says

Each array the precondition tests holds only reals: its absolute values are below infinity. -/

instance pre_facts : Cert.Pre_finite.Facts where
  bitsLt_bf16_f32 := by decide
  bcast_S_S16x2x8448x256 := by decide
  slices_S32x2x8448x256_S8x2x8448x256_0_0_0_0 := by decide
  bcast_S_S8x2x8448x256 := by decide
  bcast_S_S1x128 := by decide

/-- An extended real whose absolute value is below infinity is a real. -/
theorem real_of_abs (x : EReal) (h : Ideal.cmp .olt (max x (-x)) ⊤ = 1#1) : ∃ r : ℝ, x = r := by
  have hb : ∀ y : EReal, Ideal.cmp .olt y ⊤ = 1#1 → y ≠ ⊤ := by
    rintro y hy rfl
    simp [Ideal.cmp] at hy
  have h' := hb _ h
  induction x using EReal.rec with
  | bot => simp at h'
  | coe r => exact ⟨r, rfl⟩
  | top => simp at h'

theorem posInf : Ideal.ofBits FTy.f32 0x7F800000#32 = (⊤ : EReal) := by
  simp [Ideal.ofBits, Ideal.ieee]

variable (a0 : FVec Ideal S16x2x8448x256 .bf16) (a1 : FVec Ideal S32x2x8448x256 .bf16) (a2 a3 a4 a5 : FVec Ideal S1x128 .f32) (a6 : FVec Ideal S1x256 .f32)

theorem real0 (h : (fn (F := Ideal) a0 a1 a2 a3 a4 a5 a6).1 = fun _ => 1#1) (i : S16x2x8448x256.Idx) : ∃ r : ℝ, (a0 i : EReal) = r := by
  refine real_of_abs _ ?_
  rw [← posInf]
  exact congrFun h i

theorem h32 (h : Fin 8) : h.val < 32 := by omega

theorem real1 (h : (fn (F := Ideal) a0 a1 a2 a3 a4 a5 a6).2.1 = fun _ => 1#1) (hd : Fin 8) (b : Fin 2) (k : Fin 8448) (v : Fin 256) :
    ∃ r : ℝ, (a1 (ix4 (⟨hd.val, h32 hd⟩ : Fin 32) b k v) : EReal) = r := by
  have e : (extractStridedSlice S8x2x8448x256 ![0, 0, 0, 0] a1 Facts.slices_S32x2x8448x256_S8x2x8448x256_0_0_0_0 (ix4 hd b k v) : EReal)
      = a1 (ix4 (⟨hd.val, h32 hd⟩ : Fin 32) b k v) := by
    pointwise []
  rw [← e]
  refine real_of_abs _ ?_
  rw [← posInf]
  exact congrFun h (ix4 hd b k v)

theorem real2 (h : (fn (F := Ideal) a0 a1 a2 a3 a4 a5 a6).2.2.1 = fun _ => 1#1) (i : S1x128.Idx) : ∃ r : ℝ, (a2 i : EReal) = r := by
  refine real_of_abs _ ?_
  rw [← posInf]
  exact congrFun h i

theorem real3 (h : (fn (F := Ideal) a0 a1 a2 a3 a4 a5 a6).2.2.2.1 = fun _ => 1#1) (i : S1x128.Idx) : ∃ r : ℝ, (a3 i : EReal) = r := by
  refine real_of_abs _ ?_
  rw [← posInf]
  exact congrFun h i

theorem real4 (h : (fn (F := Ideal) a0 a1 a2 a3 a4 a5 a6).2.2.2.2.1 = fun _ => 1#1) (i : S1x128.Idx) : ∃ r : ℝ, (a4 i : EReal) = r := by
  refine real_of_abs _ ?_
  rw [← posInf]
  exact congrFun h i

theorem real5 (h : (fn (F := Ideal) a0 a1 a2 a3 a4 a5 a6).2.2.2.2.2 = fun _ => 1#1) (i : S1x128.Idx) : ∃ r : ℝ, (a5 i : EReal) = r := by
  refine real_of_abs _ ?_
  rw [← posInf]
  exact congrFun h i

theorem bits02 : (FloatOps.ofBits (F := Ideal) .f32 0x3E4CCCCD#32 : EReal) = ((13421773 / 67108864 : ℝ) : EReal) := by
  show Ideal.ofBits .f32 0x3E4CCCCD#32 = _
  simp [Ideal.ofBits, Ideal.ieee, -EReal.coe_mul]; norm_num

/-- Of real lambda vectors the weight of the second map is real. -/
theorem lam_real (h2 : ∀ i, ∃ r : ℝ, (a2 i : EReal) = r) (h3 : ∀ i, ∃ r : ℝ, (a3 i : EReal) = r)
    (h4 : ∀ i, ∃ r : ℝ, (a4 i : EReal) = r) (h5 : ∀ i, ∃ r : ℝ, (a5 i : EReal) = r) :
    ∃ lam : ℝ, Ideal.exp (∑ d : Fin 128, (a2 (ix2 0 d) : EReal) * a3 (ix2 0 d)) - Ideal.exp (∑ d : Fin 128, (a4 (ix2 0 d) : EReal) * a5 (ix2 0 d))
      + FloatOps.ofBits (F := Ideal) .f32 0x3E4CCCCD#32 = (lam : EReal) := by
  choose f2 h2 using h2
  choose f3 h3 using h3
  choose f4 h4 using h4
  choose f5 h5 using h5
  simp only [h2, h3, h4, h5, ← EReal.coe_mul, bits02]
  rw [← coe_sum, ← coe_sum, Ideal.exp_coe, Ideal.exp_coe, ← EReal.coe_sub, ← EReal.coe_add]
  exact ⟨_, rfl⟩

end Cert.Proof.Attn
end
-- ==== Proof.Attn.RefVal.lean ====
module

public import proofs.«01_k».proof.Proof.Gen.ReferenceIdeal.Read
public import Idealize.ShloMosaic.Lib.Pointwise
public import Idealize.ShloMosaic.PureOps.Ideal.Laws

@[expose] public section

set_option maxRecDepth 16384

noncomputable section

namespace Cert.Proof.AttnRef

open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # The reference's values at an index

Each stage of the plain attention read at one index over the extended reals: `b` a batch entry, `h` a head, `a` one of
the two maps, `l` a query, `k` a key, `d` an entry of a head's half, `v` an entry of a value row. -/

abbrev X0 := (⟨S16x2x8448x256, .bf16⟩ : BufTy).Contents (Elt Ideal)
abbrev X1 := (⟨S32x2x8448x256, .bf16⟩ : BufTy).Contents (Elt Ideal)
abbrev XL := (⟨S1x128, .f32⟩ : BufTy).Contents (Elt Ideal)
abbrev XW := (⟨S1x256, .f32⟩ : BufTy).Contents (Elt Ideal)

variable (x0 : X0) (x1 : X1) (x2 x3 x4 x5 : XL) (x6 : XW)

theorem q_at (b : Fin 2) (h : Fin 8) (a : Fin 2) (l : Fin 8192) (d : Fin 128) : (val_main_v3 (F := Ideal) x0 (ix5 b h a l d) : EReal) = x0 (ix4 (⟨h.val, by omega⟩ : Fin 16) b (⟨l.val, by omega⟩ : Fin 8448) (⟨a.val * 128 + d.val, by omega⟩ : Fin 256)) := by
  pointwise [val_main_v3, val_main_v2, val_main_v1, val_main_v0]

theorem k_at (b : Fin 2) (h : Fin 8) (a : Fin 2) (k : Fin 8448) (d : Fin 128) : (val_main_v7 (F := Ideal) x0 (ix5 b h a k d) : EReal) = x0 (ix4 (⟨8 + h.val, by omega⟩ : Fin 16) b k (⟨a.val * 128 + d.val, by omega⟩ : Fin 256)) := by
  pointwise [val_main_v7, val_main_v6, val_main_v5, val_main_v4]

theorem v_at (b : Fin 2) (h : Fin 8) (k : Fin 8448) (v : Fin 256) : (val_main_v10 (F := Ideal) x1 (ix4 b h k v) : EReal) = x1 (ix4 (⟨h.val, by omega⟩ : Fin 32) b k v) := by
  pointwise [val_main_v10, val_main_v9, val_main_v8]

theorem g_at (b : Fin 2) (l : Fin 8192) (c : Fin 2048) : (val_main_v14 (F := Ideal) x1 (ix3 b l c) : EReal) = x1 (ix4 (⟨8 + c.val / 256, by omega⟩ : Fin 32) b (⟨l.val, by omega⟩ : Fin 8448) (⟨c.val % 256, by omega⟩ : Fin 256)) := by
  pointwise [val_main_v14, val_main_v13, val_main_v12, val_main_v11]

theorem lam_at (i : S_.Idx) : (val_main_v26 (F := Ideal) x2 x3 x4 x5 i : EReal) = Ideal.exp (∑ d : Fin 128, x2 (ix2 0 d) * x3 (ix2 0 d)) - Ideal.exp (∑ d : Fin 128, x4 (ix2 0 d) * x5 (ix2 0 d)) + FloatOps.ofBits (F := Ideal) .f32 0x3E4CCCCD#32 := by
  pointwise [val_main_v26, val_main_v25, val_main_v24, val_main_v23, val_main_v22, val_main_v21, val_main_v20, val_main_v19, val_main_v18, val_main_v17, val_main_v16, val_main_v15, val_main_cst, val_main_cst_0, val_main_cst_1]

theorem s_at (b : Fin 2) (h : Fin 8) (a : Fin 2) (l : Fin 8192) (k : Fin 8448) : (val_main_v30 (F := Ideal) x0 (ix5 b h a l k) : EReal) = Ideal.div (∑ d : Fin 128, val_main_v3 (F := Ideal) x0 (ix5 b h a l d) * val_main_v7 (F := Ideal) x0 (ix5 b h a k d)) (Ideal.sqrt (FloatOps.ofBits (F := Ideal) .f32 0x43000000#32)) := by
  pointwise [val_main_v30, val_main_v29, val_main_v28, val_main_v27, val_main_cst_2]

theorem e_at (b : Fin 2) (h : Fin 8) (a : Fin 2) (l : Fin 8192) (k : Fin 8448) : (val_main_v37 (F := Ideal) x0 (ix5 b h a l k) : EReal) = Ideal.exp (val_main_v30 (F := Ideal) x0 (ix5 b h a l k) - val_main_v33 (F := Ideal) x0 (ix4 b h a l)) := by
  pointwise [val_main_v37, val_main_v36, val_main_v35, val_main_v34]

theorem p_at (b : Fin 2) (h : Fin 8) (a : Fin 2) (l : Fin 8192) (k : Fin 8448) : (val_main_v41 (F := Ideal) x0 (ix5 b h a l k) : EReal) = Ideal.div (val_main_v37 (F := Ideal) x0 (ix5 b h a l k)) (∑ k' : Fin 8448, val_main_v37 (F := Ideal) x0 (ix5 b h a l k')) := by
  pointwise [val_main_v41, val_main_v40, val_main_v39, val_main_v38, val_main_cst_5]

theorem o_at (b : Fin 2) (h : Fin 8) (l : Fin 8192) (v : Fin 256) : (val_main_v50 (F := Ideal) x0 x1 x2 x3 x4 x5 (ix4 b l h v) : EReal) = ∑ k : Fin 8448, val_main_v10 (F := Ideal) x1 (ix4 b h k v) * val_main_v48 (F := Ideal) x0 x2 x3 x4 x5 (ix4 b h l k) := by
  pointwise [val_main_v50, val_main_v49]

theorem n_at (b : Fin 2) (h : Fin 8) (l : Fin 8192) (v : Fin 256) : (val_main_v66 (F := Ideal) x0 x1 x2 x3 x4 x5 x6 (ix4 b l h v) : EReal) = val_main_v50 (F := Ideal) x0 x1 x2 x3 x4 x5 (ix4 b l h v) * Ideal.rsqrt (Ideal.div (∑ v' : Fin 256, val_main_v50 (F := Ideal) x0 x1 x2 x3 x4 x5 (ix4 b l h v') * val_main_v50 (F := Ideal) x0 x1 x2 x3 x4 x5 (ix4 b l h v')) (FloatOps.ofBits (F := Ideal) .f32 0x43800000#32) + FloatOps.ofBits (F := Ideal) .f32 0x358637BD#32) * x6 (ix2 0 v) * FloatOps.ofBits (F := Ideal) .f32 0x3F4CCCCD#32 := by
  pointwise [val_main_v66, val_main_v65, val_main_v64, val_main_v63, val_main_v62, val_main_v61, val_main_v60, val_main_v59, val_main_v58, val_main_v57, val_main_v56, val_main_v55, val_main_v54, val_main_v53, val_main_v52, val_main_v51, val_main_cst_6, val_main_cst_7, val_main_cst_8, val_main_cst_9]

theorem r_at (b : Fin 2) (l : Fin 8192) (c : Fin 2048) : (val_main_v70 (F := Ideal) x0 x1 x2 x3 x4 x5 x6 (ix3 b l c) : EReal) = val_main_v66 (F := Ideal) x0 x1 x2 x3 x4 x5 x6 (ix4 b l (⟨c.val / 256, by omega⟩ : Fin 8) (⟨c.val % 256, by omega⟩ : Fin 256)) * (val_main_v14 (F := Ideal) x1 (ix3 b l c) * Ideal.div 1 (1 + Ideal.exp (-(val_main_v14 (F := Ideal) x1 (ix3 b l c))))) := by
  pointwise [val_main_v70, val_main_v69, val_main_v68, val_main_v67, val_main_call0_v5, val_main_call0_v4, val_main_call0_v3, val_main_call0_v2, val_main_call0_v1, val_main_call0_v0, val_main_call0_cst, val_main_call0_cst_0]

end Cert.Proof.AttnRef
end
-- ==== Proof.Attn.RefMax.lean ====
module

public import proofs.«01_k».proof.Proof.Gen.ReferenceIdeal.Read
public import proofs.«01_k».proof.Proof.Attn.Online
public import proofs.«01_k».proof.Proof.Attn.RefVal
public import Idealize.ShloMosaic.Lib.KernelVsHost
public import Idealize.ShloMosaic.PureOps.Ideal.Laws

@[expose] public section

set_option maxRecDepth 16384

noncomputable section

namespace Cert.Proof.AttnRef

open Cert.Proof.Attn (fold_real ecoe_max)
open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # The reference's row maxima and weighted differences

Two stages of the plain attention, a row's greatest score and the difference of the two maps, at one index: `b` a batch entry, `h` a head, `a` one of
the two maps, `l` a query, `k` a key, `d` an entry of a head's half, `v` an entry of a value row. -/

variable (x0 : X0) (x1 : X1) (x2 x3 x4 x5 : XL) (x6 : XW)

/-- The host's maximum over one axis of an array of reals, begun at minus infinity, is real. -/
theorem max_real {s t u : Shape} {a : Fin s.rank} (y : FVec Ideal s .f32) (h : s.Reduces [a] t) (hr : s.ReducesTo [a] t)
    (hu : 0 < u.numel) (hp : 0 < s.size a) (hy : ∀ i, ∃ r : ℝ, (y i : EReal) = r) (j : t.Idx) :
    ∃ r : ℝ, @Eq EReal (Host.reduce (α := Ideal .f32) (FloatOps.maximumf (F := Ideal) (φ := .f32)) y (constant (F := Ideal) u .f32 0xFF800000#32) hr hu j) r := by
  rw [hostReduce_maximumf_eq_multiReduction y _ hr hu h (by decide) (by decide), Ideal.multiReduction_maximumf_single]
  choose f hf using hy
  obtain ⟨r, hr⟩ := fold_real (Finset.univ : Finset (Fin (s.size a))) ⟨⟨0, hp⟩, Finset.mem_univ _⟩ (fun k => f (h.lift j k))
  refine ⟨r, ?_⟩
  rw [← hr]
  have e : (FloatOps.ofBits (F := Ideal) .f32 0xFF800000#32 : EReal) = ⊥ := Attn.negInf
  rw [e]
  exact congrArg (fun g : Fin (s.size a) → EReal => Finset.fold max ⊥ g Finset.univ) (funext fun k => hf (h.lift j k))

theorem m_real (hs : ∀ i, ∃ r : ℝ, (val_main_v30 (F := Ideal) x0 i : EReal) = r) (i : S2x8x2x8192.Idx) :
    ∃ r : ℝ, (val_main_v33 (F := Ideal) x0 i : EReal) = r := by
  rw [val_main_v33_apply, val_main_v32_apply]
  unfold val_main_v31
  generalize val_main_v30 (F := Ideal) x0 = y at hs ⊢
  obtain ⟨r, hr⟩ := max_real (u := S_) y (by decide) reducesTo_S2x8x2x8192x8448_S2x8x2x8192_d4 h_S_ (by decide) hs i
  refine ⟨r, ?_⟩
  have e : (val_main_cst_4 (F := Ideal) (idx_main_v32 i) : EReal) = ⊥ := Attn.negInf
  rw [e]
  unfold val_main_cst_3
  rw [hr]
  exact max_eq_right bot_le

theorem i43 (b : Fin 2) (h : Fin 8) (l : Fin 8192) (k : Fin 8448) :
    idx_main_v42 (idx_main_v43 (ix4 b h l k)) = ix5 b h 0 l k := by
  funext c
  match c with
  | ⟨0, _⟩ => exact Fin.ext (show (((b.val * 8 + h.val) * 8192 + l.val) * 8448 + k.val) / 553648128 = b.val by omega)
  | ⟨1, _⟩ => exact Fin.ext (show (((b.val * 8 + h.val) * 8192 + l.val) * 8448 + k.val) / 69206016 % 8 = h.val by omega)
  | ⟨2, _⟩ => rfl
  | ⟨3, _⟩ => exact Fin.ext (show (((b.val * 8 + h.val) * 8192 + l.val) * 8448 + k.val) / 8448 % 8192 = l.val by omega)
  | ⟨4, _⟩ => exact Fin.ext (show (((b.val * 8 + h.val) * 8192 + l.val) * 8448 + k.val) % 8448 = k.val by omega)

theorem i45 (b : Fin 2) (h : Fin 8) (l : Fin 8192) (k : Fin 8448) :
    idx_main_v44 (idx_main_v45 (ix4 b h l k)) = ix5 b h 1 l k := by
  funext c
  match c with
  | ⟨0, _⟩ => exact Fin.ext (show (((b.val * 8 + h.val) * 8192 + l.val) * 8448 + k.val) / 553648128 = b.val by omega)
  | ⟨1, _⟩ => exact Fin.ext (show (((b.val * 8 + h.val) * 8192 + l.val) * 8448 + k.val) / 69206016 % 8 = h.val by omega)
  | ⟨2, _⟩ => rfl
  | ⟨3, _⟩ => exact Fin.ext (show (((b.val * 8 + h.val) * 8192 + l.val) * 8448 + k.val) / 8448 % 8192 = l.val by omega)
  | ⟨4, _⟩ => exact Fin.ext (show (((b.val * 8 + h.val) * 8192 + l.val) * 8448 + k.val) % 8448 = k.val by omega)

theorem d_at (b : Fin 2) (h : Fin 8) (l : Fin 8192) (k : Fin 8448) :
    (val_main_v48 (F := Ideal) x0 x2 x3 x4 x5 (ix4 b h l k) : EReal) = val_main_v41 (F := Ideal) x0 (ix5 b h 0 l k)
      - val_main_v26 (F := Ideal) x2 x3 x4 x5 ix0 * val_main_v41 (F := Ideal) x0 (ix5 b h 1 l k) := by
  have e : idx_main_v46 (ix4 b h l k) = ix0 := funext fun c => c.elim0
  rw [val_main_v48_apply, val_main_v47_apply, val_main_v46_apply, val_main_v45_apply, val_main_v44_apply, val_main_v43_apply,
    val_main_v42_apply, i43, i45, e]
  rfl

end Cert.Proof.AttnRef
end
-- ==== Proof.Attn.RefEq.lean ====
module

public import proofs.«01_k».proof.Proof.Attn.RefVal
public import proofs.«01_k».proof.Proof.Attn.RefMax
public import proofs.«01_k».proof.Proof.Attn.Final

@[expose] public section

set_option maxRecDepth 16384

noncomputable section

namespace Cert.Proof.AttnRef

open Cert.Proof.Attn (sc hd0 hd1 ex avg dif post ex_sum_pos coe_sum)
open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # The reference as a difference of softmax averages

With real queries, keys and values and a real `lam`, the plain attention's value is the difference of the two maps'
softmax averages, carried through the root-mean-square norm and the gate. -/

variable (x0 : X0) (x1 : X1) (x2 x3 x4 x5 : XL) (x6 : XW)

theorem bits128 : (FloatOps.ofBits (F := Ideal) .f32 0x43000000#32 : EReal) = ((128 : ℝ) : EReal) := by
  show Ideal.ofBits .f32 0x43000000#32 = _
  simp [Ideal.ofBits, Ideal.ieee, -EReal.coe_mul]; norm_num

theorem sqrt128 : Ideal.sqrt (FloatOps.ofBits (F := Ideal) .f32 0x43000000#32) = ((Real.sqrt 128 : ℝ) : EReal) := by
  rw [bits128, Ideal.sqrt_coe, if_neg (by norm_num)]

theorem sqrt128_ne : Real.sqrt 128 ≠ 0 := (Real.sqrt_pos.mpr (by norm_num)).ne'

/-- A softmax weight does not depend on the number subtracted from the scores. -/
theorem weight_shift (f : Fin 8448 → ℝ) (m : ℝ) (k : Fin 8448) :
    Real.exp (f k * (Real.sqrt 128)⁻¹ - m) * (1 / ∑ k', Real.exp (f k' * (Real.sqrt 128)⁻¹ - m))
      = ex (f k) * (1 / ∑ k', ex (f k')) := by
  have hm := (Real.exp_pos m).ne'
  have hS : (∑ k' : Fin 8448, ex (f k')) ≠ 0 :=
    (Finset.sum_pos (fun _ _ => Real.exp_pos _) ⟨0, Finset.mem_univ _⟩).ne'
  have e : ∀ k', Real.exp (f k' * (Real.sqrt 128)⁻¹ - m) = ex (f k') / Real.exp m := fun k' => Real.exp_sub _ _
  simp only [e, ← Finset.sum_div]
  field_simp

section
variable {x0 x1 x2 x3 x4 x5 x6}
variable {Q : Fin 1024 → Fin 256 → ℝ} {K V : ℕ → Fin 256 → ℝ} {b : Fin 2} {h : Fin 8} {l : Fin 8192} {q : Fin 1024} {lam : ℝ}
variable (hQ : ∀ d, (x0 (ix4 (⟨h.val, by omega⟩ : Fin 16) b (⟨l.val, by omega⟩ : Fin 8448) d) : EReal) = Q q d)
  (hK : ∀ (k : Fin 8448) d, (x0 (ix4 (⟨8 + h.val, by omega⟩ : Fin 16) b k d) : EReal) = K k.val d)
  (hV : ∀ (k : Fin 8448) v, (x1 (ix4 (⟨h.val, by omega⟩ : Fin 32) b k v) : EReal) = V k.val v)
  (hR : ∀ i, ∃ r : ℝ, (x0 i : EReal) = r)
  (hlam : (val_main_v26 (F := Ideal) x2 x3 x4 x5 ix0 : EReal) = lam)

include hQ hK in
/-- A score is the dot product of one half of the query's row and of the key's, over the root of 128. -/
theorem score_at (a : Fin 2) (e : Fin 128 → Fin 256) (he : ∀ d : Fin 128, e d = ⟨a.val * 128 + d.val, by omega⟩) (k : Fin 8448) :
    (val_main_v30 (F := Ideal) x0 (ix5 b h a l k) : EReal) = ((sc e Q K q k.val * (Real.sqrt 128)⁻¹ : ℝ) : EReal) := by
  rw [s_at, sqrt128, Ideal.div_coe sqrt128_ne, one_div, EReal.coe_mul]
  refine congrArg (· * (((Real.sqrt 128)⁻¹ : ℝ) : EReal)) ?_
  unfold sc
  rw [coe_sum]
  refine Finset.sum_congr rfl fun d _ => ?_
  rw [q_at, k_at, ← he d, hQ, hK, EReal.coe_mul]
  exact mul_comm _ _

include hR in
theorem score_real (b : Fin 2) (h : Fin 8) (a : Fin 2) (l : Fin 8192) (k : Fin 8448) :
    ∃ r : ℝ, (val_main_v30 (F := Ideal) x0 (ix5 b h a l k) : EReal) = r := by
  choose f hf using hR
  have h := s_at x0 b h a l k
  rw [sqrt128, Ideal.div_coe sqrt128_ne] at h
  simp only [q_at, k_at, hf, ← EReal.coe_mul] at h
  rw [← coe_sum, ← EReal.coe_mul] at h
  exact ⟨_, h⟩

include hR in
/-- Every score of the reference is real. -/
theorem scores_real (i : S2x8x2x8192x8448.Idx) : ∃ r : ℝ, (val_main_v30 (F := Ideal) x0 i : EReal) = r := by
  have ei : i = ix5 (i 0) (i 1) (i 2) (i 3) (i 4) := by
    funext c; match c with | ⟨0, _⟩ => rfl | ⟨1, _⟩ => rfl | ⟨2, _⟩ => rfl | ⟨3, _⟩ => rfl | ⟨4, _⟩ => rfl
  rw [ei]
  exact score_real hR _ _ _ _ _

include hQ hK hR in
/-- A weight of the reference is the softmax weight of its score. -/
theorem weight_at (a : Fin 2) (e : Fin 128 → Fin 256) (he : ∀ d : Fin 128, e d = ⟨a.val * 128 + d.val, by omega⟩) (k : Fin 8448) :
    (val_main_v41 (F := Ideal) x0 (ix5 b h a l k) : EReal)
      = ((ex (sc e Q K q k.val) * (1 / ∑ k' : Fin 8448, ex (sc e Q K q k'.val)) : ℝ) : EReal) := by
  obtain ⟨m, hm⟩ := m_real x0 (scores_real hR) (ix4 b h a l)
  have he' : ∀ k' : Fin 8448, (val_main_v37 (F := Ideal) x0 (ix5 b h a l k') : EReal)
      = ((Real.exp (sc e Q K q k'.val * (Real.sqrt 128)⁻¹ - m) : ℝ) : EReal) := fun k' => by
    rw [e_at, score_at hQ hK a e he k', hm, ← EReal.coe_sub, Ideal.exp_coe]
  have hS : (∑ k' : Fin 8448, Real.exp (sc e Q K q k'.val * (Real.sqrt 128)⁻¹ - m)) ≠ 0 :=
    (Finset.sum_pos (fun _ _ => Real.exp_pos _) ⟨0, Finset.mem_univ _⟩).ne'
  rw [p_at]
  simp only [he']
  rw [← coe_sum, Ideal.div_coe hS, ← EReal.coe_mul, weight_shift (fun k' : Fin 8448 => sc e Q K q k'.val) m k]

include hQ hK hV hR hlam in
/-- The attended row is the difference of the two maps' averages. -/
theorem out_at (v : Fin 256) :
    (val_main_v50 (F := Ideal) x0 x1 x2 x3 x4 x5 (ix4 b l h v) : EReal) = (dif Q K V lam q v : EReal) := by
  rw [o_at]
  have e : ∀ k : Fin 8448, (val_main_v10 (F := Ideal) x1 (ix4 b h k v) : EReal) * val_main_v48 (F := Ideal) x0 x2 x3 x4 x5 (ix4 b h l k)
      = ((V k.val v * (ex (sc hd0 Q K q k.val) * (1 / ∑ k' : Fin 8448, ex (sc hd0 Q K q k'.val))
          - lam * (ex (sc hd1 Q K q k.val) * (1 / ∑ k' : Fin 8448, ex (sc hd1 Q K q k'.val)))) : ℝ) : EReal) := fun k => by
    rw [v_at, hV, d_at, hlam, weight_at hQ hK hR 0 hd0 (fun d => Fin.ext (show d.val = 0 * 128 + d.val by omega)),
      weight_at hQ hK hR 1 hd1 (fun d => Fin.ext (show 128 + d.val = 1 * 128 + d.val by omega)),
      ← EReal.coe_mul, ← EReal.coe_sub, ← EReal.coe_mul]
  refine (Finset.sum_congr rfl fun k _ => e k).trans ?_
  rw [← coe_sum]
  refine congrArg _ ?_
  unfold dif avg
  rw [Finset.sum_mul, Finset.sum_mul, Finset.mul_sum, ← Finset.sum_sub_distrib]
  exact Finset.sum_congr rfl fun k _ => by ring

end

theorem c16 (c : Fin 2048) : c.val / 256 < 16 := by omega
theorem c16' (c : Fin 2048) : 8 + c.val / 256 < 16 := by omega
theorem c32 (c : Fin 2048) : c.val / 256 < 32 := by omega
theorem c32' (c : Fin 2048) : 8 + c.val / 256 < 32 := by omega
theorem c256 (c : Fin 2048) : c.val % 256 < 256 := by omega
theorem l8448 (l : Fin 8192) : l.val < 8448 := by omega

/-- The reference's result at one index, its planes and rows named by numbers. -/
theorem ref_at {Q : Fin 1024 → Fin 256 → ℝ} {K V : ℕ → Fin 256 → ℝ} {b B : Fin 2} {l : Fin 8192} {c : Fin 2048} {q : Fin 1024} {lam : ℝ}
    {hq hk : Fin 16} {hv hg : Fin 32} {L : Fin 8448} {w : Fin 256}
    (eb : B.val = b.val) (eq : hq.val = c.val / 256) (ek : hk.val = 8 + c.val / 256) (ev : hv.val = c.val / 256) (eg : hg.val = 8 + c.val / 256)
    (el : L.val = l.val) (ew : w.val = c.val % 256)
    (hQ : ∀ d, (x0 (ix4 hq B L d) : EReal) = Q q d)
    (hK : ∀ (k : Fin 8448) d, (x0 (ix4 hk B k d) : EReal) = K k.val d)
    (hV : ∀ (k : Fin 8448) v, (x1 (ix4 hv B k v) : EReal) = V k.val v)
    (hR : ∀ i, ∃ r : ℝ, (x0 i : EReal) = r)
    (hlam : (val_main_v26 (F := Ideal) x2 x3 x4 x5 ix0 : EReal) = lam) :
    (val_main_v70 (F := Ideal) x0 x1 x2 x3 x4 x5 x6 (ix3 b l c) : EReal)
      = post (fun v' => (dif Q K V lam q v' : EReal)) (x6 (ix2 0 w)) (x1 (ix4 hg B L w)) w := by
  obtain rfl : B = b := Fin.ext eb
  obtain rfl : hq = ⟨c.val / 256, c16 c⟩ := Fin.ext eq
  obtain rfl : hk = ⟨8 + c.val / 256, c16' c⟩ := Fin.ext ek
  obtain rfl : hv = ⟨c.val / 256, c32 c⟩ := Fin.ext ev
  obtain rfl : hg = ⟨8 + c.val / 256, c32' c⟩ := Fin.ext eg
  obtain rfl : L = ⟨l.val, l8448 l⟩ := Fin.ext el
  obtain rfl : w = ⟨c.val % 256, c256 c⟩ := Fin.ext ew
  have ho := fun v => out_at (x1 := x1) (b := B) (h := (⟨c.val / 256, by omega⟩ : Fin 8)) (l := l) hQ hK hV hR hlam v
  rw [r_at, n_at, g_at]
  simp only [ho]
  rfl

end Cert.Proof.AttnRef
end
-- ==== Proof.Attn.Value.lean ====
module

public import proofs.«01_k».proof.Proof.Attn.Run
public import proofs.«01_k».proof.Proof.Attn.Host
public import proofs.«01_k».proof.Proof.Attn.Final
public import proofs.«01_k».proof.Proof.Attn.Finite
public import proofs.«01_k».proof.Proof.Attn.RefEq

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # The kernel's result is the reference's

At every entry the grid point that wrote it and the plain attention are the same function of the same reals. -/

/-- An array of reals standing at the row numbers of one (head, batch) plane. -/
def plane (f : Fin 8448 → Fin 256 → ℝ) (k : ℕ) (d : Fin 256) : ℝ := if h : k < 8448 then f ⟨k, h⟩ d else 0

theorem plane_at (f : Fin 8448 → Fin 256 → ℝ) (k : Fin 8448) (d : Fin 256) : plane f k.val d = f k d := by
  unfold plane; rw [dif_pos k.isLt]

/-! The seven argument arrays, at their types. -/

abbrev A0 (m : (ℓ : Loc nD τ sig) → Buf (Elt Ideal) ℓ) (c : Dev nD) : FVec Ideal S16x2x8448x256 .bf16 := m ((c.tc : Thread nD τ).loc main_arg0)
abbrev A1 (m : (ℓ : Loc nD τ sig) → Buf (Elt Ideal) ℓ) (c : Dev nD) : FVec Ideal S32x2x8448x256 .bf16 := m ((c.tc : Thread nD τ).loc main_arg1)
abbrev A2 (m : (ℓ : Loc nD τ sig) → Buf (Elt Ideal) ℓ) (c : Dev nD) : FVec Ideal S1x128 .f32 := m ((c.tc : Thread nD τ).loc main_arg2)
abbrev A3 (m : (ℓ : Loc nD τ sig) → Buf (Elt Ideal) ℓ) (c : Dev nD) : FVec Ideal S1x128 .f32 := m ((c.tc : Thread nD τ).loc main_arg3)
abbrev A4 (m : (ℓ : Loc nD τ sig) → Buf (Elt Ideal) ℓ) (c : Dev nD) : FVec Ideal S1x128 .f32 := m ((c.tc : Thread nD τ).loc main_arg4)
abbrev A5 (m : (ℓ : Loc nD τ sig) → Buf (Elt Ideal) ℓ) (c : Dev nD) : FVec Ideal S1x128 .f32 := m ((c.tc : Thread nD τ).loc main_arg5)
abbrev A6 (m : (ℓ : Loc nD τ sig) → Buf (Elt Ideal) ℓ) (c : Dev nD) : FVec Ideal S1x256 .f32 := m ((c.tc : Thread nD τ).loc main_arg6)

variable (m : (ℓ : Loc nD τ sig) → Buf (Elt Ideal) ℓ)

theorem lamE_at (c : Dev nD) (t : Fin cfg0.N) : lamE (iblk m c 0 t : Vec Ideal S4x128 .f32)
    = Ideal.exp (∑ d : Fin 128, (A2 m c (ix2 0 d) : EReal) * A3 m c (ix2 0 d))
      - Ideal.exp (∑ d : Fin 128, (A4 m c (ix2 0 d) : EReal) * A5 m c (ix2 0 d))
      + FloatOps.ofBits (F := Ideal) .f32 0x3E4CCCCD#32 := by
  have r0 : ∀ d : Fin 128, ((iblk m c 0 t : Vec Ideal S4x128 .f32) (ix2 0 d) : EReal) = A2 m c (ix2 0 d) :=
    fun d => (ib0 m c t _).trans (lam_row0 m c d)
  have r1 : ∀ d : Fin 128, ((iblk m c 0 t : Vec Ideal S4x128 .f32) (ix2 1 d) : EReal) = A3 m c (ix2 0 d) :=
    fun d => (ib0 m c t _).trans (lam_row1 m c d)
  have r2 : ∀ d : Fin 128, ((iblk m c 0 t : Vec Ideal S4x128 .f32) (ix2 2 d) : EReal) = A4 m c (ix2 0 d) :=
    fun d => (ib0 m c t _).trans (lam_row2 m c d)
  have r3 : ∀ d : Fin 128, ((iblk m c 0 t : Vec Ideal S4x128 .f32) (ix2 3 d) : EReal) = A5 m c (ix2 0 d) :=
    fun d => (ib0 m c t _).trans (lam_row3 m c d)
  unfold lamE
  exact congrArg (· + FloatOps.ofBits (F := Ideal) .f32 0x3E4CCCCD#32) (congrArg₂ (· - ·)
    (congrArg Ideal.exp (Finset.sum_congr rfl fun d _ => congrArg₂ (· * ·) (r0 d) (r1 d)))
    (congrArg Ideal.exp (Finset.sum_congr rfl fun d _ => congrArg₂ (· * ·) (r2 d) (r3 d))))

section
variable {f0 : S16x2x8448x256.Idx → ℝ} {f1 : Fin 8 → Fin 2 → Fin 8448 → Fin 256 → ℝ} {lam : ℝ} (c : Dev nD)
variable (h0 : ∀ i, (A0 m c i : EReal) = f0 i)
  (h1 : ∀ (h : Fin 8) b k v, (A1 m c (ix4 (⟨h.val, h32 h⟩ : Fin 32) b k v) : EReal) = f1 h b k v)
  (hlam : Ideal.exp (∑ d : Fin 128, (A2 m c (ix2 0 d) : EReal) * A3 m c (ix2 0 d))
      - Ideal.exp (∑ d : Fin 128, (A4 m c (ix2 0 d) : EReal) * A5 m c (ix2 0 d))
      + FloatOps.ofBits (F := Ideal) .f32 0x3E4CCCCD#32 = (lam : EReal))

/-- The queries, keys and values one grid point reads. -/
def qs (f0 : S16x2x8448x256.Idx → ℝ) (t : Fin cfg0.N) (q : Fin 1024) (d : Fin 256) : ℝ :=
  f0 (ix4 (⟨t.val / 8 % 8, by omega⟩ : Fin 16) (tB t) (⟨1024 * (t.val % 8) + q.val, by omega⟩ : Fin 8448) d)
def ks (f0 : S16x2x8448x256.Idx → ℝ) (t : Fin cfg0.N) : ℕ → Fin 256 → ℝ :=
  plane fun k d => f0 (ix4 (⟨8 + t.val / 8 % 8, by omega⟩ : Fin 16) (tB t) k d)
def vs (f1 : Fin 8 → Fin 2 → Fin 8448 → Fin 256 → ℝ) (t : Fin cfg0.N) : ℕ → Fin 256 → ℝ :=
  plane fun k d => f1 (tH t) (tB t) k d

theorem ks_at (f0 : S16x2x8448x256.Idx → ℝ) (t : Fin cfg0.N) (k : Fin 8448) (d : Fin 256) :
    f0 (ix4 (⟨8 + t.val / 8 % 8, by omega⟩ : Fin 16) (tB t) k d) = ks f0 t k.val d := by
  unfold ks
  exact (plane_at (fun k d => f0 (ix4 (⟨8 + t.val / 8 % 8, by omega⟩ : Fin 16) (tB t) k d)) k d).symm
theorem vs_at (f1 : Fin 8 → Fin 2 → Fin 8448 → Fin 256 → ℝ) (t : Fin cfg0.N) (k : Fin 8448) (d : Fin 256) :
    f1 (tH t) (tB t) k d = vs f1 t k.val d := by
  unfold vs
  exact (plane_at (fun k d => f1 (tH t) (tB t) k d) k d).symm

include h0 h1 hlam in
/-- The block a grid point writes, entry by entry. -/
theorem kernel_at (t : Fin cfg0.N) (q : Fin 1024) (v : Fin 256) :
    (outB m c t (ix3 0 q v) : EReal) = post (fun v' => (dif (qs f0 t) (ks f0 t) (vs f1 t) lam q v' : EReal))
      (A6 m c (ix2 0 v))
      (A1 m c (ix4 (⟨8 + t.val / 8 % 8, by omega⟩ : Fin 32) (tB t) (⟨1024 * (t.val % 8) + q.val, by omega⟩ : Fin 8448) v)) v := by
  unfold outB
  have e := attn_val (Q := qs f0 t) (K := ks f0 t) (V := vs f1 t) (x1 := (X0_1 m c t : Vec Ideal S1x1x1024x256 .bf16))
    (x2 := (iblk m c 2 t : Vec Ideal S1x1x8448x256 .bf16)) (x3 := (iblk m c 3 t : Vec Ideal S1x1x8448x256 .bf16))
    (fun q d => (ib1 m c t _).trans ((congrFun (V_main_arg0 m c) _).trans (h0 _)))
    (fun k d => (ib2 m c t _).trans ((congrFun (V_main_arg0 m c) _).trans ((h0 _).trans (congrArg _ (ks_at f0 t k d)))))
    (fun k d => (ib3 m c t _).trans ((congrFun (V_main_arg1 m c) _).trans ((h1 (tH t) (tB t) k d).trans (congrArg _ (vs_at f1 t k d)))))
    (iblk m c 0 t : Vec Ideal S4x128 .f32) (X0_4 m c t : Vec Ideal S1x1x1024x256 .bf16) (iblk m c 5 t : Vec Ideal S1x256 .f32)
    ((lamE_at m c t).trans hlam) q v
  refine e.trans ?_
  rw [show ((iblk m c 5 t : Vec Ideal S1x256 .f32) (ix2 0 v) : EReal) = A6 m c (ix2 0 v) from
      (ib5 m c t _).trans (w_at m c v),
    show ((X0_4 m c t : Vec Ideal S1x1x1024x256 .bf16) (ix4 0 0 q v) : EReal) = A1 m c (ix4 (⟨8 + t.val / 8 % 8, by omega⟩ : Fin 32) (tB t) (⟨1024 * (t.val % 8) + q.val, by omega⟩ : Fin 8448) v) from
      (ib4 m c t _).trans (congrFun (V_main_arg1 m c) _)]

include h0 h1 hlam in
/-- THE RESULT ARRAY is the reference's. -/
theorem res_at (b : Fin 2) (l : Fin 8192) (n : Fin 2048) :
    (resArr m c (ix3 b l n) : EReal) = Cert.ReferenceIdeal.Read.val_main_v70 (F := Ideal) (A0 m c)
      (A1 m c) (A2 m c) (A3 m c)
      (A4 m c) (A5 m c) (A6 m c) (ix3 b l n) := by
  obtain ⟨t, ht⟩ : ∃ t : Fin cfg0.N, t = pt b (⟨n.val / 256, by omega⟩ : Fin 8) (⟨l.val / 1024, by omega⟩ : Fin 8) := ⟨_, rfl⟩
  have tv : t.val = 64 * b.val + 8 * (n.val / 256) + l.val / 1024 := congrArg Fin.val ht
  have e : (resArr m c (ix3 b l n) : EReal) = outB m c t (ix3 0 (⟨l.val % 1024, Nat.mod_lt _ (by decide)⟩ : Fin 1024) (⟨n.val % 256, Nat.mod_lt _ (by decide)⟩ : Fin 256)) := by
    rw [ht]; rfl
  have hd : t.val / 8 % 8 = n.val / 256 := by omega
  have hb : t.val / 64 = b.val := by omega
  have hl : 1024 * (t.val % 8) + l.val % 1024 = l.val := by omega
  refine e.trans ((kernel_at m c h0 h1 hlam t _ _).trans (Eq.symm ?_))
  exact AttnRef.ref_at _ _ _ _ _ _ _ (Q := qs f0 t) (K := ks f0 t) (V := vs f1 t) (q := (⟨l.val % 1024, Nat.mod_lt _ (by decide)⟩ : Fin 1024)) (lam := lam)
    (B := tB t) (hq := (⟨t.val / 8 % 8, by omega⟩ : Fin 16)) (hk := (⟨8 + t.val / 8 % 8, by omega⟩ : Fin 16)) (hv := (⟨t.val / 8 % 8, by omega⟩ : Fin 32))
    hb hd (congrArg (8 + ·) hd) hd (congrArg (8 + ·) hd) hl rfl
    (fun d => h0 _) (fun k d => (h0 _).trans (congrArg _ (ks_at f0 t k d)))
    (fun k d => (h1 (tH t) (tB t) k d).trans (congrArg _ (vs_at f1 t k d)))
    (fun i => ⟨_, h0 i⟩) ((AttnRef.lam_at _ _ _ _ _).trans hlam)

end

end Cert.Proof.Attn
end
-- ==== Proof.Out.Ref.lean ====
module

public import proofs.«01_k».proof.Proof.Gen.Reference2Ideal.Read
public import Idealize.ShloMosaic.Lib.Pointwise

@[expose] public section

set_option maxRecDepth 16384
set_option backward.proofsInPublic true

noncomputable section

namespace Cert.Proof.Out

open Cert.Reference2Ideal Cert.Reference2Ideal.Gen Cert.Reference2Ideal.Read
open Idealize.ShloMosaic Idealize.ShloMosaic.TcCoe Idealize.ShloMosaic.Tactic

/-! # The output projection, entry by entry

The reference joins the two mixers' outputs and takes one product. Its sum over the 4096 joined columns is the sum
over the first mixer's 2048 and the second's. -/

/-- A row of the flat result as its batch and its token. -/
abbrev rb (r : Fin 16384) : Fin 2 := ⟨r.val / 8192, by omega⟩
abbrev rl (r : Fin 16384) : Fin 8192 := ⟨r.val % 8192, by omega⟩

variable (x0 x1 : FVec Ideal S2x8192x2048 .bf16) (x2 : FVec Ideal S4096x4096 .bf16) (x3 : FVec Ideal S2x8192x4096 .f32) (x4 : FVec Ideal S2x4096 .f32)

/-- One entry of the projection: the residual, and the gate times the two products. -/
def entry (r : Fin 16384) (n : Fin 4096) : EReal :=
  x3 (ix3 (rb r) (rl r) n) + x4 (ix2 (rb r) n) *
    ((∑ k : Fin 2048, (x0 (ix3 (rb r) (rl r) k) : EReal) * x2 (ix2 (⟨k.val, by omega⟩ : Fin 4096) n))
      + ∑ k : Fin 2048, (x1 (ix3 (rb r) (rl r) k) : EReal) * x2 (ix2 (⟨2048 + k.val, by omega⟩ : Fin 4096) n))

theorem join0 (b : Fin 2) (l : Fin 8192) (k : Fin 2048) :
    (val_main_v0 (F := Ideal) x0 x1 (ix3 b l (⟨k.val, by omega⟩ : Fin 4096)) : EReal) = x0 (ix3 b l k) := by
  unfold val_main_v0
  pointwise []

theorem join1 (b : Fin 2) (l : Fin 8192) (k : Fin 2048) :
    (val_main_v0 (F := Ideal) x0 x1 (ix3 b l (⟨2048 + k.val, by omega⟩ : Fin 4096)) : EReal) = x1 (ix3 b l k) := by
  unfold val_main_v0
  pointwise []

theorem product_at (b : Fin 2) (l : Fin 8192) (n : Fin 4096) :
    (val_main_v3 (F := Ideal) x0 x1 x2 (ix3 b l n) : EReal)
      = (∑ k : Fin 2048, (x0 (ix3 b l k) : EReal) * x2 (ix2 (⟨k.val, by omega⟩ : Fin 4096) n))
        + ∑ k : Fin 2048, (x1 (ix3 b l k) : EReal) * x2 (ix2 (⟨2048 + k.val, by omega⟩ : Fin 4096) n) := by
  rw [val_main_v3_apply]
  refine (Fin.sum_univ_add (a := 2048) (b := 2048) (fun k : Fin (2048 + 2048) =>
    (val_main_v1 (F := Ideal) x0 x1 (lidx_main_v3 (ix3 b l n) k) : EReal) * val_main_v2 (F := Ideal) x2 (ridx_main_v3 (ix3 b l n) k))).trans ?_
  refine congrArg₂ (· + ·) (Finset.sum_congr rfl fun k _ => ?_) (Finset.sum_congr rfl fun k _ => ?_)
  · refine congrArg₂ (· * ·) ((congrArg (val_main_v0 (F := Ideal) x0 x1) ?_).trans (join0 x0 x1 b l k)) (congrArg x2 ?_)
    · funext a; match a with | ⟨0, _⟩ => rfl | ⟨1, _⟩ => rfl | ⟨2, _⟩ => rfl
    · funext a; match a with | ⟨0, _⟩ => rfl | ⟨1, _⟩ => rfl
  · refine congrArg₂ (· * ·) ((congrArg (val_main_v0 (F := Ideal) x0 x1) ?_).trans (join1 x0 x1 b l k)) (congrArg x2 ?_)
    · funext a; match a with | ⟨0, _⟩ => rfl | ⟨1, _⟩ => rfl | ⟨2, _⟩ => rfl
    · funext a; match a with | ⟨0, _⟩ => rfl | ⟨1, _⟩ => rfl

theorem ref_at (r : Fin 16384) (n : Fin 4096) :
    (val_main_v8 (F := Ideal) x0 x1 x2 x3 x4 (ix2 r n) : EReal) = entry x0 x1 x2 x3 x4 r n := by
  have ei : idx_main_v8 (ix2 r n) = ix3 (rb r) (rl r) n := by
    funext a
    match a with
    | ⟨0, _⟩ => exact Fin.ext (show (r.val * 4096 + n.val) / 33554432 = r.val / 8192 by omega)
    | ⟨1, _⟩ => exact Fin.ext (show (r.val * 4096 + n.val) / 4096 % 8192 = r.val % 8192 by omega)
    | ⟨2, _⟩ => exact Fin.ext (show (r.val * 4096 + n.val) % 4096 = n.val by omega)
  rw [val_main_v8_apply, ei, val_main_v7_apply, val_main_v6_apply, val_main_v5_apply, val_main_v4_apply, product_at]
  unfold entry
  refine congrArg₂ (· + ·) rfl (congrArg₂ (· * ·) (congrArg x4 ?_) rfl)
  funext a; match a with | ⟨0, _⟩ => rfl | ⟨1, _⟩ => rfl

end Cert.Proof.Out
end
-- ==== Proof.Out.Value.lean ====
module

public import proofs.«01_k».proof.Proof.Gen.Kernel2Ideal.Value
public import proofs.«01_k».proof.Proof.Out.Ref

@[expose] public section

set_option maxRecDepth 16384
set_option backward.proofsInPublic true

noncomputable section

namespace Cert.Proof.Out

open Cert.Kernel2Ideal Cert.Kernel2Ideal.Gen
open Idealize.ShloMosaic Idealize.ShloMosaic.TcCoe Idealize.ShloMosaic.Tactic
open Idealize.ShloMosaic.Pipeline (Dat)

/-! # The output projection, tile by tile

A grid point takes 1024 rows of both mixers' outputs and 1024 columns of the weight, and writes one tile of the result. -/

/-- One tile from its blocks. -/
theorem pay_at (v0 : Vec Ideal S1024x2048 .bf16) (v2 : Vec Ideal S2048x1024 .bf16) (v4 : Vec Ideal S1024x2048 .bf16) (v6 : Vec Ideal S2048x1024 .bf16)
    (v9 : Vec Ideal S1024x1024 .f32) (v11 : Vec Ideal S1x1x1024 .f32) (r n : Fin 1024) :
    (k0_pay1 (F := Ideal) v0 v2 v4 v6 v9 v11 (ix2 r n) : EReal) = v9 (ix2 r n) + v11 (ix3 0 0 n) *
      ((∑ k : Fin 2048, (v0 (ix2 r k) : EReal) * v2 (ix2 k n)) + ∑ k : Fin 2048, (v4 (ix2 r k) : EReal) * v6 (ix2 k n)) := by
  pointwise [k0_pay1]
  all_goals rfl

abbrev A0 (m : (ℓ : Loc nD τ sig) → Buf (Elt Ideal) ℓ) (c : Dev nD) : FVec Ideal S2x8192x2048 .bf16 := m ((c.tc : Thread nD τ).loc main_arg0)
abbrev A1 (m : (ℓ : Loc nD τ sig) → Buf (Elt Ideal) ℓ) (c : Dev nD) : FVec Ideal S2x8192x2048 .bf16 := m ((c.tc : Thread nD τ).loc main_arg1)
abbrev A2 (m : (ℓ : Loc nD τ sig) → Buf (Elt Ideal) ℓ) (c : Dev nD) : FVec Ideal S4096x4096 .bf16 := m ((c.tc : Thread nD τ).loc main_arg2)
abbrev A3 (m : (ℓ : Loc nD τ sig) → Buf (Elt Ideal) ℓ) (c : Dev nD) : FVec Ideal S2x8192x4096 .f32 := m ((c.tc : Thread nD τ).loc main_arg3)
abbrev A4 (m : (ℓ : Loc nD τ sig) → Buf (Elt Ideal) ℓ) (c : Dev nD) : FVec Ideal S2x4096 .f32 := m ((c.tc : Thread nD τ).loc main_arg4)

variable (m : (ℓ : Loc nD τ sig) → Buf (Elt Ideal) ℓ)

/-! ## What the host hands the call: the arrays with batch and token as one row number -/

theorem V0 (c : Dev nD) : (V m c main_v0 : FVec Ideal S16384x2048 .bf16) = shapeCast S16384x2048 (A0 m c) shapeCasts_S2x8192x2048_S16384x2048 := by
  unfold V hostOps0; after_results; rfl
theorem V1 (c : Dev nD) : (V m c main_v1 : FVec Ideal S16384x2048 .bf16) = shapeCast S16384x2048 (A1 m c) shapeCasts_S2x8192x2048_S16384x2048 := by
  unfold V hostOps0; after_results; rfl
theorem V2 (c : Dev nD) : (V m c main_v2 : FVec Ideal S16384x4096 .f32) = shapeCast S16384x4096 (A3 m c) shapeCasts_S2x8192x4096_S16384x4096 := by
  unfold V hostOps0; after_results; rfl
theorem V3 (c : Dev nD) : (V m c main_v3 : FVec Ideal S2x1x4096 .f32) = shapeCast S2x1x4096 (A4 m c) shapeCasts_S2x4096_S2x1x4096 := by
  unfold V hostOps0; after_results; rfl

theorem rows_at (a : FVec Ideal S2x8192x2048 .bf16) (r : Fin 16384) (k : Fin 2048) :
    (shapeCast S16384x2048 a shapeCasts_S2x8192x2048_S16384x2048 (ix2 r k) : EReal) = a (ix3 (rb r) (rl r) k) :=
  shapeCast_apply a _ (ix2 r k) (ix3 (rb r) (rl r) k) (by
    rewrite [Shape.rowMajor_val_three, Shape.rowMajor_val_two]
    show (r.val / 8192 * 8192 + r.val % 8192) * 2048 + k.val = r.val * 2048 + k.val; omega)
theorem resid_at (a : FVec Ideal S2x8192x4096 .f32) (r : Fin 16384) (k : Fin 4096) :
    (shapeCast S16384x4096 a shapeCasts_S2x8192x4096_S16384x4096 (ix2 r k) : EReal) = a (ix3 (rb r) (rl r) k) :=
  shapeCast_apply a _ (ix2 r k) (ix3 (rb r) (rl r) k) (by
    rewrite [Shape.rowMajor_val_three, Shape.rowMajor_val_two]
    show (r.val / 8192 * 8192 + r.val % 8192) * 4096 + k.val = r.val * 4096 + k.val; omega)
theorem gate_at (a : FVec Ideal S2x4096 .f32) (b : Fin 2) (n : Fin 4096) :
    (shapeCast S2x1x4096 a shapeCasts_S2x4096_S2x1x4096 (ix3 b 0 n) : EReal) = a (ix2 b n) :=
  shapeCast_apply a _ (ix3 b 0 n) (ix2 b n) (by
    rewrite [Shape.rowMajor_val_three, Shape.rowMajor_val_two]
    show b.val * 4096 + n.val = (b.val * 1 + 0) * 4096 + n.val; omega)

/-! ## The blocks of a grid point -/

theorem tlt (t : Fin cfg0.N) : t.val < 64 := Nat.lt_of_lt_of_eq t.isLt N_0
/-- A tile's row and column in the whole result. -/
abbrev tr (t : Fin cfg0.N) (r : Fin 1024) : Fin 16384 := ⟨1024 * (t.val / 4) + r.val, by have := tlt t; omega⟩
abbrev tn (t : Fin cfg0.N) (n : Fin 1024) : Fin 4096 := ⟨1024 * (t.val % 4) + n.val, by omega⟩

theorem wi0 : ∀ t : Fin cfg0.N, win0_0.index t 0 = t.val / 4 ∧ win0_0.index t 1 = 0 := by decide +kernel
theorem wi1 : ∀ t : Fin cfg0.N, win0_1.index t 0 = t.val / 4 ∧ win0_1.index t 1 = 0 := by decide +kernel
theorem wi2 : ∀ t : Fin cfg0.N, win0_2.index t 0 = 0 ∧ win0_2.index t 1 = t.val % 4 := by decide +kernel
theorem wi3 : ∀ t : Fin cfg0.N, win0_3.index t 0 = 1 ∧ win0_3.index t 1 = t.val % 4 := by decide +kernel
theorem wi4 : ∀ t : Fin cfg0.N, win0_4.index t 0 = t.val / 4 ∧ win0_4.index t 1 = t.val % 4 := by decide +kernel
theorem wi5 : ∀ t : Fin cfg0.N, win0_5.index t 0 = t.val / 32 ∧ win0_5.index t 1 = 0 ∧ win0_5.index t 2 = t.val % 4 := by decide +kernel
theorem wi6 : ∀ t : Fin cfg0.N, win0_6.index t 0 = t.val / 4 ∧ win0_6.index t 1 = t.val % 4 := by decide +kernel

theorem ib0 (c : Dev nD) (t : Fin cfg0.N) (r : Fin 1024) (k : Fin 2048) :
    ((iblk m c 0 t : Vec Ideal S1024x2048 .bf16) (ix2 r k) : EReal) = A0 m c (ix3 (rb (tr t r)) (rl (tr t r)) k) := by
  have hi := wi0 t
  refine Eq.trans ?_ ((congrFun (V0 m c) (ix2 (tr t r) k)).trans (rows_at _ _ _))
  unfold iblk
  rw [View.read_apply]
  show V m c main_v0 _ = V m c main_v0 _
  congr 1
  funext a
  apply Fin.ext
  match a with
  | ⟨0, _⟩ => show win0_0.index t 0 * 1024 + 1 * r.val = 1024 * (t.val / 4) + r.val; rw [hi.1]; omega
  | ⟨1, _⟩ => show win0_0.index t 1 * 2048 + 1 * k.val = k.val; rw [hi.2]; omega

theorem ib1 (c : Dev nD) (t : Fin cfg0.N) (r : Fin 1024) (k : Fin 2048) :
    ((iblk m c 1 t : Vec Ideal S1024x2048 .bf16) (ix2 r k) : EReal) = A1 m c (ix3 (rb (tr t r)) (rl (tr t r)) k) := by
  have hi := wi1 t
  refine Eq.trans ?_ ((congrFun (V1 m c) (ix2 (tr t r) k)).trans (rows_at _ _ _))
  unfold iblk
  rw [View.read_apply]
  show V m c main_v1 _ = V m c main_v1 _
  congr 1
  funext a
  apply Fin.ext
  match a with
  | ⟨0, _⟩ => show win0_1.index t 0 * 1024 + 1 * r.val = 1024 * (t.val / 4) + r.val; rw [hi.1]; omega
  | ⟨1, _⟩ => show win0_1.index t 1 * 2048 + 1 * k.val = k.val; rw [hi.2]; omega

theorem ib2 (c : Dev nD) (t : Fin cfg0.N) (k : Fin 2048) (n : Fin 1024) :
    ((iblk m c 2 t : Vec Ideal S2048x1024 .bf16) (ix2 k n) : EReal) = A2 m c (ix2 (⟨k.val, by omega⟩ : Fin 4096) (tn t n)) := by
  have hi := wi2 t
  refine Eq.trans ?_ (congrFun (V_main_arg2 m c) (ix2 (⟨k.val, by omega⟩ : Fin 4096) (tn t n)))
  unfold iblk
  rw [View.read_apply]
  show V m c main_arg2 _ = V m c main_arg2 _
  congr 1
  funext a
  apply Fin.ext
  match a with
  | ⟨0, _⟩ => show win0_2.index t 0 * 2048 + 1 * k.val = k.val; rw [hi.1]; omega
  | ⟨1, _⟩ => show win0_2.index t 1 * 1024 + 1 * n.val = 1024 * (t.val % 4) + n.val; rw [hi.2]; omega

theorem ib3 (c : Dev nD) (t : Fin cfg0.N) (k : Fin 2048) (n : Fin 1024) :
    ((iblk m c 3 t : Vec Ideal S2048x1024 .bf16) (ix2 k n) : EReal) = A2 m c (ix2 (⟨2048 + k.val, by omega⟩ : Fin 4096) (tn t n)) := by
  have hi := wi3 t
  refine Eq.trans ?_ (congrFun (V_main_arg2 m c) (ix2 (⟨2048 + k.val, by omega⟩ : Fin 4096) (tn t n)))
  unfold iblk
  rw [View.read_apply]
  show V m c main_arg2 _ = V m c main_arg2 _
  congr 1
  funext a
  apply Fin.ext
  match a with
  | ⟨0, _⟩ => show win0_3.index t 0 * 2048 + 1 * k.val = 2048 + k.val; rw [hi.1]; omega
  | ⟨1, _⟩ => show win0_3.index t 1 * 1024 + 1 * n.val = 1024 * (t.val % 4) + n.val; rw [hi.2]; omega

theorem ib4 (c : Dev nD) (t : Fin cfg0.N) (r n : Fin 1024) :
    ((iblk m c 4 t : Vec Ideal S1024x1024 .f32) (ix2 r n) : EReal) = A3 m c (ix3 (rb (tr t r)) (rl (tr t r)) (tn t n)) := by
  have hi := wi4 t
  refine Eq.trans ?_ ((congrFun (V2 m c) (ix2 (tr t r) (tn t n))).trans (resid_at _ _ _))
  unfold iblk
  rw [View.read_apply]
  show V m c main_v2 _ = V m c main_v2 _
  congr 1
  funext a
  apply Fin.ext
  match a with
  | ⟨0, _⟩ => show win0_4.index t 0 * 1024 + 1 * r.val = 1024 * (t.val / 4) + r.val; rw [hi.1]; omega
  | ⟨1, _⟩ => show win0_4.index t 1 * 1024 + 1 * n.val = 1024 * (t.val % 4) + n.val; rw [hi.2]; omega

theorem ib5 (c : Dev nD) (t : Fin cfg0.N) (r n : Fin 1024) :
    ((iblk m c 5 t : Vec Ideal S1x1x1024 .f32) (ix3 0 0 n) : EReal) = A4 m c (ix2 (rb (tr t r)) (tn t n)) := by
  have hi := wi5 t
  have ht := tlt t
  refine Eq.trans ?_ ((congrFun (V3 m c) (ix3 (rb (tr t r)) 0 (tn t n))).trans (gate_at _ _ _))
  unfold iblk
  rw [View.read_apply]
  show V m c main_v3 _ = V m c main_v3 _
  congr 1
  funext a
  apply Fin.ext
  match a with
  | ⟨0, _⟩ => show win0_5.index t 0 * 1 + 1 * 0 = (1024 * (t.val / 4) + r.val) / 8192; rw [hi.1]; omega
  | ⟨1, _⟩ => show win0_5.index t 1 * 1 + 1 * 0 = 0; rw [hi.2.1]
  | ⟨2, _⟩ => show win0_5.index t 2 * 1024 + 1 * n.val = 1024 * (t.val % 4) + n.val; rw [hi.2.2]; omega

/-! ## The result -/

/-- The whole result, entry by entry. -/
def whole (c : Dev nD) : FVec Ideal S16384x4096 .f32 := fun j => entry (A0 m c) (A1 m c) (A2 m c) (A3 m c) (A4 m c) (j 0) (j 1)

theorem tile_at (c : Dev nD) (t : Fin cfg0.N) (r n : Fin 1024) :
    (out0_6 (F := Ideal) (iblk m c 0 t) (iblk m c 1 t) (iblk m c 2 t) (iblk m c 3 t) (iblk m c 4 t) (iblk m c 5 t) (ix2 r n) : EReal)
      = entry (A0 m c) (A1 m c) (A2 m c) (A3 m c) (A4 m c) (tr t r) (tn t n) := by
  have h2 : ∀ S : Fin 2 → ℕ, (![0, 0] : Fin 2 → ℕ) = fun _ => 0 := fun _ => by funext a; match a with | ⟨0, _⟩ => rfl | ⟨1, _⟩ => rfl
  have h3 : (![0, 0, 0] : Fin 3 → ℕ) = fun _ => 0 := by funext a; match a with | ⟨0, _⟩ => rfl | ⟨1, _⟩ => rfl | ⟨2, _⟩ => rfl
  unfold out0_6
  rw [View.canon_unit_zero (h2 fun _ => 0), View.ld_unit_zero (h2 fun _ => 0), View.ld_unit_zero (h2 fun _ => 0), View.ld_unit_zero (h2 fun _ => 0),
    View.ld_unit_zero (h2 fun _ => 0), View.ld_unit_zero (h2 fun _ => 0), View.ld_unit_zero h3]
  refine (pay_at _ _ _ _ _ _ r n).trans ?_
  unfold entry
  exact congrArg₂ (· + ·) (ib4 m c t r n) (congrArg₂ (· * ·) (ib5 m c t r n) (congrArg₂ (· + ·)
    (Finset.sum_congr rfl fun k _ => congrArg₂ (· * ·) (ib0 m c t r k) (ib2 m c t k n))
    (Finset.sum_congr rfl fun k _ => congrArg₂ (· * ·) (ib1 m c t r k) (ib3 m c t k n))))

theorem flushed (c : Dev nD) (t : Fin cfg0.N) :
    (dats m 0 c).flushed 6 t = ((cfg0.win 6).blk t).view.read (Elt Ideal) (whole m c) := by
  have hi := wi6 t
  funext j
  rw [View.read_apply, Value.flushed6]
  obtain ⟨r, n, rfl⟩ : ∃ r n : Fin 1024, j = ix2 r n := ⟨j 0, j 1, by funext a; match a with | ⟨0, _⟩ => rfl | ⟨1, _⟩ => rfl⟩
  refine (tile_at m c t r n).trans ?_
  show _ = entry (A0 m c) (A1 m c) (A2 m c) (A3 m c) (A4 m c) ((win0_6.rect t).emb (ix2 r n) 0) ((win0_6.rect t).emb (ix2 r n) 1)
  refine congrArg₂ (entry (A0 m c) (A1 m c) (A2 m c) (A3 m c) (A4 m c)) (Fin.ext ?_) (Fin.ext ?_)
  · show 1024 * (t.val / 4) + r.val = win0_6.index t 0 * 1024 + 1 * r.val; rw [hi.1]; omega
  · show 1024 * (t.val % 4) + n.val = win0_6.index t 1 * 1024 + 1 * n.val; rw [hi.2]; omega

theorem final (c : Dev nD) : (dats m 0 c).arrAt 6 cfg0.N = whole m c :=
  (dats m 0 c).arrAt_eq_of_cover 6 (whole m c) (fun t _ => flushed m c t) (fun i => by
    have h0 : (i 0).val < 16384 := (i 0).isLt
    have h1 : (i 1).val < 4096 := (i 1).isLt
    obtain ⟨t, hv⟩ : ∃ t : Fin cfg0.N, t.val = 4 * ((i 0).val / 1024) + (i 1).val / 1024 :=
      ⟨⟨4 * ((i 0).val / 1024) + (i 1).val / 1024, Nat.lt_of_lt_of_eq (by omega : _ < 64) N_0.symm⟩, rfl⟩
    refine ⟨t, flush0_6 t, ?_⟩
    have hi := wi6 t
    have hb : i ∈ (win0_6.rect t).set := by
      refine Rect.mem_set_unit.mpr fun a => ?_
      match a with
      | ⟨0, _⟩ => show win0_6.index t 0 * 1024 ≤ (i 0 : Nat) ∧ (i 0 : Nat) < win0_6.index t 0 * 1024 + 1024
                  rw [hi.1]; omega
      | ⟨1, _⟩ => show win0_6.index t 1 * 1024 ≤ (i 1 : Nat) ∧ (i 1 : Nat) < win0_6.index t 1 * 1024 + 1024
                  rw [hi.2]; omega
    show i ∈ (View.slice (Memref.whole main_v4).view (win0_6.rect t)).set
    rw [View.set_slice_whole]; exact hb)

/-- The call's result is the reference's last stage. -/
theorem result_eq (c : Dev nD) : (dats m 0 c).arrAt 6 cfg0.N
    = Cert.Reference2Ideal.Read.val_main_v8 (F := Ideal) (A0 m c) (A1 m c) (A2 m c) (A3 m c) (A4 m c) := by
  rw [final]
  funext j
  obtain ⟨r, n, rfl⟩ : ∃ (r : Fin 16384) (n : Fin 4096), j = ix2 r n := ⟨j 0, j 1, by funext a; match a with | ⟨0, _⟩ => rfl | ⟨1, _⟩ => rfl⟩
  exact (ref_at _ _ _ _ _ r n).symm

end Cert.Proof.Out
end
-- ==== Proof.Plain.Tables.lean ====
module

public import proofs.«01_k».proof.Proof.Gen.Kernel3.Frame
public import proofs.«01_k».proof.Proof.Gen.Kernel3Ideal.Frame
public import Idealize.ShloMosaic.Lib.Pointwise

@[expose] public section

set_option maxRecDepth 16384

noncomputable section

/-! # The table of column blocks

The call reads which block of the weight's columns each step takes from a table of eight numbers, which the program
itself lays down: 0, 1, 2, 3, 6, 7, 8, 9. Each names a block inside the weight. -/

namespace Cert.Proof.Plain

open Idealize.ShloMosaic Idealize.ShloMosaic.TcCoe Idealize.ShloMosaic.Tactic

section Bits
open Cert.Kernel3 Cert.Kernel3.Gen
variable {F : FTy → Type} [FloatOps F]

/-- The eight numbers, as the compiled program's table. -/
def litB : pre0.Contents (Elt F) := fun
  | 0 => fun i => lit0 (S8.rowMajor i)
  | ⟨_ + 1, h⟩ => absurd h (Nat.not_lt.2 (Nat.le_add_left _ _))

theorem tblB (m : (ℓ : Loc nD τ sig) → Buf (Elt F) ℓ) : tbl m = litB := by
  funext j
  obtain rfl : j = 0 := Subsingleton.elim _ _
  show V m 0 main_c = fun i => lit0 (S8.rowMajor i)
  unfold V hostOps0; after_results; try rfl

theorem ok_litB : ok0 (F := F) litB := of_decide_eq_true (by sl_kernel_rfl)

theorem okB (m : (ℓ : Loc nD τ sig) → Buf (Elt F) ℓ) : Ok m := by
  show ok0 (tbl m)
  rw [tblB]; exact ok_litB
end Bits

section Ideals
open Cert.Kernel3Ideal Cert.Kernel3Ideal.Gen
variable {F : FTy → Type} [FloatOps F]

/-- The eight numbers, as the idealized program's table. -/
def litI : pre0.Contents (Elt F) := fun
  | 0 => fun i => lit0 (S8.rowMajor i)
  | ⟨_ + 1, h⟩ => absurd h (Nat.not_lt.2 (Nat.le_add_left _ _))

theorem tblI (m : (ℓ : Loc nD τ sig) → Buf (Elt F) ℓ) : tbl m = litI := by
  funext j
  obtain rfl : j = 0 := Subsingleton.elim _ _
  show V m 0 main_c = fun i => lit0 (S8.rowMajor i)
  unfold V hostOps0; after_results; try rfl

theorem ok_litI : ok0 (F := F) litI := of_decide_eq_true (by sl_kernel_rfl)

theorem okI (m : (ℓ : Loc nD τ sig) → Buf (Elt F) ℓ) : Ok m := by
  show ok0 (tbl m)
  rw [tblI]; exact ok_litI

/-- Where a step's blocks lie. -/
theorem at0 : ∀ t : Fin grid0.N, cc0_transform_0 (grid0.coords t) 0 = t.val / 8 ∧ cc0_transform_0 (grid0.coords t) 1 = 0 := by decide +kernel
theorem at1 : ∀ t : Fin grid0.N, cc0_transform_1 (F := Ideal) k0_off1_inb numel1_S1 litI (grid0.coords t) 0 = 0
    ∧ cc0_transform_1 (F := Ideal) k0_off1_inb numel1_S1 litI (grid0.coords t) 1 = (if t.val % 8 < 4 then t.val % 8 else t.val % 8 + 2) := by decide +kernel
theorem at2 : ∀ t : Fin grid0.N, cc0_transform_2 (grid0.coords t) 0 = t.val % 8 ∧ cc0_transform_2 (grid0.coords t) 1 = t.val / 8
    ∧ cc0_transform_2 (grid0.coords t) 2 = 0 := by decide +kernel
theorem points : grid0.N = 176 := by decide +kernel

end Ideals

end Cert.Proof.Plain
end
-- ==== Proof.Plain.Tile.lean ====
module

public import proofs.«01_k».proof.Proof.Plain.Tables
public import Idealize.ShloMosaic.Lib.Pointwise

@[expose] public section

set_option maxRecDepth 16384
set_option backward.proofsInPublic true

noncomputable section

namespace Cert.Proof.Plain

open Cert.Kernel3Ideal Cert.Kernel3Ideal.Gen
open Idealize.ShloMosaic Idealize.ShloMosaic.TcCoe Idealize.ShloMosaic.Tactic

/-! # One step of the plain projection

A step multiplies 768 rows by one block of 1024 columns and lays the product down as four heads of 256 columns. -/

/-- Column `256 p + d` of a block. -/
abbrev col (p : Fin 4) (d : Fin 256) : Fin 1024 := ⟨256 * p.val + d.val, by omega⟩

/-- The block of four heads, entry by entry. -/
def heads (x0 : Vec Ideal S768x4096 .bf16) (x1 : Vec Ideal S4096x1024 .bf16) : Vec Ideal S4x768x256 .bf16 :=
  fun y => ∑ k : Fin 4096, (x0 (ix2 (y 1) k) : EReal) * x1 (ix2 k (col (y 0) (y 2)))

theorem pay2_at (x0 : Vec Ideal S768x4096 .bf16) (x1 : Vec Ideal S4096x1024 .bf16) (r : Fin 768) (d : Fin 256) :
    (k0_pay2 (F := Ideal) x0 x1 (ix3 0 r d) : EReal) = ∑ k : Fin 4096, (x0 (ix2 r k) : EReal) * x1 (ix2 k (col 0 d)) := by
  pointwise [k0_pay2, k0_pay1]
  all_goals first | rfl | (refine Finset.sum_congr rfl fun k _ => congrArg₂ (· * ·) rfl (congrArg x1 (congrArg (ix2 k) (Fin.ext ?_))); simp)
theorem pay3_at (x0 : Vec Ideal S768x4096 .bf16) (x1 : Vec Ideal S4096x1024 .bf16) (r : Fin 768) (d : Fin 256) :
    (k0_pay3 (F := Ideal) x0 x1 (ix3 0 r d) : EReal) = ∑ k : Fin 4096, (x0 (ix2 r k) : EReal) * x1 (ix2 k (col 1 d)) := by
  pointwise [k0_pay3, k0_pay1]
  all_goals first | rfl | (refine Finset.sum_congr rfl fun k _ => congrArg₂ (· * ·) rfl (congrArg x1 (congrArg (ix2 k) (Fin.ext ?_))); simp)
theorem pay4_at (x0 : Vec Ideal S768x4096 .bf16) (x1 : Vec Ideal S4096x1024 .bf16) (r : Fin 768) (d : Fin 256) :
    (k0_pay4 (F := Ideal) x0 x1 (ix3 0 r d) : EReal) = ∑ k : Fin 4096, (x0 (ix2 r k) : EReal) * x1 (ix2 k (col 2 d)) := by
  pointwise [k0_pay4, k0_pay1]
  all_goals first | rfl | (refine Finset.sum_congr rfl fun k _ => congrArg₂ (· * ·) rfl (congrArg x1 (congrArg (ix2 k) (Fin.ext ?_))); simp)
theorem pay5_at (x0 : Vec Ideal S768x4096 .bf16) (x1 : Vec Ideal S4096x1024 .bf16) (r : Fin 768) (d : Fin 256) :
    (k0_pay5 (F := Ideal) x0 x1 (ix3 0 r d) : EReal) = ∑ k : Fin 4096, (x0 (ix2 r k) : EReal) * x1 (ix2 k (col 3 d)) := by
  pointwise [k0_pay5, k0_pay1]
  all_goals first | rfl | (refine Finset.sum_congr rfl fun k _ => congrArg₂ (· * ·) rfl (congrArg x1 (congrArg (ix2 k) (Fin.ext ?_))); simp)

theorem z2 : (![0, 0] : Fin 2 → ℕ) = fun _ => 0 := by funext a; match a with | ⟨0, _⟩ => rfl | ⟨1, _⟩ => rfl

/-- An index of one head is its row and its column. -/
theorem head_idx (x : S1x768x256.Idx) : x = ix3 0 (x 1) (x 2) := by
  funext a
  match a with
  | ⟨0, _⟩ => exact Subsingleton.elim (α := Fin 1) _ _
  | ⟨1, _⟩ => rfl
  | ⟨2, _⟩ => rfl

/-- A head's entry, at the place its store puts it. -/
theorem heads_emb (x0 : Vec Ideal S768x4096 .bf16) (x1 : Vec Ideal S4096x1024 .bf16) (p : Fin 4) (off : Fin 3 → ℕ) (h : ∀ a, off a + S1x768x256.size a ≤ S4x768x256.size a)
    (h0 : off 0 = p.val) (h1 : off 1 = 0) (h2 : off 2 = 0) (x : S1x768x256.Idx) :
    heads x0 x1 ((Rect.unit (s := S4x768x256) off S1x768x256.size h).emb x)
      = ∑ k : Fin 4096, (x0 (ix2 (x 1) k) : EReal) * x1 (ix2 k (col p (x 2))) := by
  have e0 : (((Rect.unit (s := S4x768x256) off S1x768x256.size h).emb x) 0 : Fin 4) = p := Fin.ext (by
    have hx : (x 0).val < 1 := (x 0).isLt
    show off 0 + 1 * (x 0).val = p.val; omega)
  have e1 : (((Rect.unit (s := S4x768x256) off S1x768x256.size h).emb x) 1 : Fin 768) = x 1 := Fin.ext (by
    show off 1 + 1 * (x 1).val = (x 1).val; omega)
  have e2 : (((Rect.unit (s := S4x768x256) off S1x768x256.size h).emb x) 2 : Fin 256) = x 2 := Fin.ext (by
    show off 2 + 1 * (x 2).val = (x 2).val; omega)
  show (∑ k : Fin 4096, (x0 (ix2 (((Rect.unit (s := S4x768x256) off S1x768x256.size h).emb x) 1) k) : EReal)
    * x1 (ix2 k (col (((Rect.unit (s := S4x768x256) off S1x768x256.size h).emb x) 0) (((Rect.unit (s := S4x768x256) off S1x768x256.size h).emb x) 2)))) = _
  rw [e0, e1, e2]

/-- A step leaves the four heads. -/
theorem out_eq (c : Dev nD) (i : grid0.Coords) (arg3 : Memref sig .tc .vmem S768x4096 .bf16) (harg3 : arg3.IsWhole) (arg4 : Memref sig .tc .vmem S4096x1024 .bf16) (harg4 : arg4.IsWhole) (arg5 : Memref sig .tc .vmem S4x768x256 .bf16) (harg5 : arg5.IsWhole)
    (x0 : Vec Ideal S768x4096 .bf16) (x1 : Vec Ideal S4096x1024 .bf16) (xt0 : TbBuf0 (F := Ideal) c tbM0_0) :
    out0_A_2 c i arg3 harg3 arg4 harg4 arg5 harg5 x0 x1 xt0 = heads x0 x1 := by
  have hc := cover0_A_2 c i arg3 harg3 arg4 harg4 arg5 harg5 x0 x1 xt0
  unfold out0_A_2
  rw [View.read_writes_junk_eq_canon]
  funext y
  refine View.canon_apply_of_pieces (heads x0 x1) _ ?_ y (hc y)
  unfold kernelRun0_A
  dsimp only
  simp only [View.readAt_eq_ld, Memref.IsWhole.read_unread]
  intro p hp
  have w0 : ∀ q, View.ld x0 (Rect.unit (s := S768x4096) ![0, 0] ![768, 4096] q) = x0 := fun q => View.ld_unit_zero z2 q x0
  have w1 : ∀ q, View.ld x1 (Rect.unit (s := S4096x1024) ![0, 0] ![4096, 1024] q) = x1 := fun q => View.ld_unit_zero z2 q x1
  rw [w0, w1] at hp
  simp only [List.mem_cons, List.not_mem_nil, or_false] at hp
  rcases hp with rfl | rfl | rfl | rfl
  · intro x
    refine Eq.trans ?_ (heads_emb x0 x1 3 ![3, 0, 0] inb_S4x768x256_S1x768x256_3_0_0 rfl rfl rfl x).symm
    exact (congrArg (k0_pay5 (F := Ideal) x0 x1) (head_idx x)).trans (pay5_at x0 x1 _ _)
  · intro x
    refine Eq.trans ?_ (heads_emb x0 x1 2 ![2, 0, 0] inb_S4x768x256_S1x768x256_2_0_0 rfl rfl rfl x).symm
    exact (congrArg (k0_pay4 (F := Ideal) x0 x1) (head_idx x)).trans (pay4_at x0 x1 _ _)
  · intro x
    refine Eq.trans ?_ (heads_emb x0 x1 1 ![1, 0, 0] inb_S4x768x256_S1x768x256_1_0_0 rfl rfl rfl x).symm
    exact (congrArg (k0_pay3 (F := Ideal) x0 x1) (head_idx x)).trans (pay3_at x0 x1 _ _)
  · intro x
    refine Eq.trans ?_ (heads_emb x0 x1 0 ![0, 0, 0] inb_S4x768x256_S1x768x256_0_0_0 rfl rfl rfl x).symm
    exact (congrArg (k0_pay2 (F := Ideal) x0 x1) (head_idx x)).trans (pay2_at x0 x1 _ _)

end Cert.Proof.Plain
end
-- ==== Proof.Plain.Ref.lean ====
module

public import proofs.«01_k».proof.Proof.Gen.Reference3Ideal.Read
public import Idealize.ShloMosaic.Lib.Pointwise

@[expose] public section

set_option maxRecDepth 16384
set_option backward.proofsInPublic true

noncomputable section

namespace Cert.Proof.Plain

open Cert.Reference3Ideal Cert.Reference3Ideal.Gen Cert.Reference3Ideal.Read
open Idealize.ShloMosaic Idealize.ShloMosaic.TcCoe Idealize.ShloMosaic.Tactic

/-! # The plain columns of the input projection, entry by entry

The reference takes the whole product, cuts it into its six parts and joins the heads of the four plain ones. Heads 0 to 15 are the
product's first 4096 columns; heads 16 to 31 are its last 4096, which start at column 6144. -/

variable (x0 : FVec Ideal S16896x4096 .bf16) (x1 : FVec Ideal S4096x10240 .bf16)

/-- The column of the product which head `h` has in place `d`. -/
def gcol (h : Fin 32) (d : Fin 256) : Fin 10240 := ⟨(if h.val < 16 then 256 * h.val else 256 * h.val + 2048) + d.val, by split <;> omega⟩

/-- One entry of the product. -/
def dotAt (r : Fin 16896) (n : Fin 10240) : EReal := ∑ k : Fin 4096, (x0 (ix2 r k) : EReal) * x1 (ix2 k n)

theorem prod_at (r : Fin 16896) (n : Fin 10240) : (val_main_v2 (F := Ideal) x0 x1 (ix2 r n) : EReal) = dotAt x0 x1 r n := by
  rw [val_main_v2_apply]
  refine Finset.sum_congr rfl fun k _ => congrArg₂ (· * ·) (congrArg x0 ?_) (congrArg x1 ?_)
  · funext a; match a with | ⟨0, _⟩ => rfl | ⟨1, _⟩ => rfl
  · funext a; match a with | ⟨0, _⟩ => rfl | ⟨1, _⟩ => rfl

theorem part0 (h : Fin 8) (r : Fin 16896) (d : Fin 256) (n : Fin 10240) (hn : n.val = 256 * h.val + d.val) :
    (val_main_v10 (F := Ideal) x0 x1 (ix3 h r d) : EReal) = dotAt x0 x1 r n := by
  rw [val_main_v10_apply, val_main_v9_apply, val_main_v3_apply, ← prod_at]
  congr 1
  funext a
  match a with
  | ⟨0, _⟩ => exact Fin.ext (show ((r.val * 8 + h.val) * 256 + d.val) / 2048 = r.val by omega)
  | ⟨1, _⟩ => exact Fin.ext (show ((r.val * 8 + h.val) * 256 + d.val) % 2048 = n.val by omega)

theorem part1 (h : Fin 8) (r : Fin 16896) (d : Fin 256) (n : Fin 10240) (hn : n.val = 2048 + 256 * h.val + d.val) :
    (val_main_v12 (F := Ideal) x0 x1 (ix3 h r d) : EReal) = dotAt x0 x1 r n := by
  rw [val_main_v12_apply, val_main_v11_apply, val_main_v4_apply, ← prod_at]
  congr 1
  funext a
  match a with
  | ⟨0, _⟩ => exact Fin.ext (show ((r.val * 8 + h.val) * 256 + d.val) / 2048 = r.val by omega)
  | ⟨1, _⟩ => exact Fin.ext (show 2048 + ((r.val * 8 + h.val) * 256 + d.val) % 2048 = n.val by omega)

theorem part2 (h : Fin 8) (r : Fin 16896) (d : Fin 256) (n : Fin 10240) (hn : n.val = 6144 + 256 * h.val + d.val) :
    (val_main_v14 (F := Ideal) x0 x1 (ix3 h r d) : EReal) = dotAt x0 x1 r n := by
  rw [val_main_v14_apply, val_main_v13_apply, val_main_v7_apply, ← prod_at]
  congr 1
  funext a
  match a with
  | ⟨0, _⟩ => exact Fin.ext (show ((r.val * 8 + h.val) * 256 + d.val) / 2048 = r.val by omega)
  | ⟨1, _⟩ => exact Fin.ext (show 6144 + ((r.val * 8 + h.val) * 256 + d.val) % 2048 = n.val by omega)

theorem part3 (h : Fin 8) (r : Fin 16896) (d : Fin 256) (n : Fin 10240) (hn : n.val = 8192 + 256 * h.val + d.val) :
    (val_main_v16 (F := Ideal) x0 x1 (ix3 h r d) : EReal) = dotAt x0 x1 r n := by
  rw [val_main_v16_apply, val_main_v15_apply, val_main_v8_apply, ← prod_at]
  congr 1
  funext a
  match a with
  | ⟨0, _⟩ => exact Fin.ext (show ((r.val * 8 + h.val) * 256 + d.val) / 2048 = r.val by omega)
  | ⟨1, _⟩ => exact Fin.ext (show 8192 + ((r.val * 8 + h.val) * 256 + d.val) % 2048 = n.val by omega)

theorem join0 (g : Fin 32) (h : Fin 8) (hg : g.val = 0 + h.val) (r : Fin 16896) (d : Fin 256) :
    (val_main_v17 (F := Ideal) x0 x1 (ix3 g r d) : EReal) = val_main_v10 (F := Ideal) x0 x1 (ix3 h r d) := by
  have hh := h.isLt
  unfold val_main_v17
  pointwise []
  rw [dif_pos (by omega)]
  exact congrArg (fun u => val_main_v10 (F := Ideal) x0 x1 (ix3 u r d)) (Fin.ext (by show g.val = h.val; omega))

theorem join1 (g : Fin 32) (h : Fin 8) (hg : g.val = 8 + h.val) (r : Fin 16896) (d : Fin 256) :
    (val_main_v17 (F := Ideal) x0 x1 (ix3 g r d) : EReal) = val_main_v12 (F := Ideal) x0 x1 (ix3 h r d) := by
  have hh := h.isLt
  unfold val_main_v17
  pointwise []
  rw [dif_neg (by omega)]
  rw [dif_pos (by omega)]
  exact congrArg (fun u => val_main_v12 (F := Ideal) x0 x1 (ix3 u r d)) (Fin.ext (by show g.val - 8 = h.val; omega))

theorem join2 (g : Fin 32) (h : Fin 8) (hg : g.val = 16 + h.val) (r : Fin 16896) (d : Fin 256) :
    (val_main_v17 (F := Ideal) x0 x1 (ix3 g r d) : EReal) = val_main_v14 (F := Ideal) x0 x1 (ix3 h r d) := by
  have hh := h.isLt
  unfold val_main_v17
  pointwise []
  rw [dif_neg (by omega)]
  rw [dif_neg (by omega)]
  rw [dif_pos (by omega)]
  exact congrArg (fun u => val_main_v14 (F := Ideal) x0 x1 (ix3 u r d)) (Fin.ext (by show g.val - 8 - 8 = h.val; omega))

theorem join3 (g : Fin 32) (h : Fin 8) (hg : g.val = 24 + h.val) (r : Fin 16896) (d : Fin 256) :
    (val_main_v17 (F := Ideal) x0 x1 (ix3 g r d) : EReal) = val_main_v16 (F := Ideal) x0 x1 (ix3 h r d) := by
  have hh := h.isLt
  unfold val_main_v17
  pointwise []
  rw [dif_neg (by omega)]
  rw [dif_neg (by omega)]
  rw [dif_neg (by omega)]
  exact congrArg (fun u => val_main_v16 (F := Ideal) x0 x1 (ix3 u r d)) (Fin.ext (by show g.val - 8 - 8 - 8 = h.val; omega))

theorem ref_at (h : Fin 32) (r : Fin 16896) (d : Fin 256) :
    (val_main_v18 (F := Ideal) x0 x1 (ix3 h r d) : EReal) = dotAt x0 x1 r (gcol h d) := by
  have hd := d.isLt
  have hh := h.isLt
  have hv : (gcol h d).val = (if h.val < 16 then 256 * h.val else 256 * h.val + 2048) + d.val := rfl
  generalize gcol h d = n at hv
  rw [val_main_v18_apply]
  show (val_main_v17 (F := Ideal) x0 x1 (ix3 h r d) : EReal) = _
  by_cases a : h.val < 8
  · obtain ⟨h', e⟩ : ∃ h' : Fin 8, h.val = 0 + h'.val := ⟨⟨h.val, a⟩, (Nat.zero_add _).symm⟩
    exact (join0 x0 x1 h h' e r d).trans (part0 x0 x1 h' r d n (by split at hv <;> omega))
  by_cases b : h.val < 16
  · obtain ⟨h', e⟩ : ∃ h' : Fin 8, h.val = 8 + h'.val := ⟨⟨h.val - 8, by omega⟩, by show h.val = 8 + (h.val - 8); omega⟩
    exact (join1 x0 x1 h h' e r d).trans (part1 x0 x1 h' r d n (by split at hv <;> omega))
  by_cases c : h.val < 24
  · obtain ⟨h', e⟩ : ∃ h' : Fin 8, h.val = 16 + h'.val := ⟨⟨h.val - 16, by omega⟩, by show h.val = 16 + (h.val - 16); omega⟩
    exact (join2 x0 x1 h h' e r d).trans (part2 x0 x1 h' r d n (by split at hv <;> omega))
  · obtain ⟨h', e⟩ : ∃ h' : Fin 8, h.val = 24 + h'.val := ⟨⟨h.val - 24, by omega⟩, by show h.val = 24 + (h.val - 24); omega⟩
    exact (join3 x0 x1 h h' e r d).trans (part3 x0 x1 h' r d n (by split at hv <;> omega))

end Cert.Proof.Plain
end
-- ==== Proof.Plain.Value.lean ====
module

public import proofs.«01_k».proof.Proof.Plain.Tile
public import proofs.«01_k».proof.Proof.Plain.Ref

@[expose] public section

set_option maxRecDepth 16384
set_option backward.proofsInPublic true

noncomputable section

namespace Cert.Proof.Plain

open Cert.Kernel3Ideal Cert.Kernel3Ideal.Gen
open Idealize.ShloMosaic Idealize.ShloMosaic.TcCoe Idealize.ShloMosaic.Tactic Idealize.SL.Sem
open Idealize.ShloMosaic.Pipeline (Dat)

/-! # The plain projection's result -/

abbrev A0 (m : (ℓ : Loc nD τ sig) → Buf (Elt Ideal) ℓ) (c : Dev nD) : FVec Ideal S16896x4096 .bf16 := m ((c.tc : Thread nD τ).loc main_arg0)
abbrev A1 (m : (ℓ : Loc nD τ sig) → Buf (Elt Ideal) ℓ) (c : Dev nD) : FVec Ideal S4096x10240 .bf16 := m ((c.tc : Thread nD τ).loc main_arg1)

variable (m : (ℓ : Loc nD τ sig) → Buf (Elt Ideal) ℓ) (hO : Ok m)

theorem tlt (t : Fin (cfgM m hO).N) : t.val < 176 := Nat.lt_of_lt_of_eq t.isLt points

/-- The block numbers of a step's three blocks. -/
abbrev x0 (t : Fin (cfgM m hO).N) : Fin 2 → ℕ := ((cfgM m hO).win 0).index t
abbrev x1 (t : Fin (cfgM m hO).N) : Fin 2 → ℕ := ((cfgM m hO).win 1).index t
abbrev x2 (t : Fin (cfgM m hO).N) : Fin 3 → ℕ := ((cfgM m hO).win 2).index t

/-- The parts of the arguments a step reads, and the part of the result it writes. -/
abbrev rect0 (t : Fin (cfgM m hO).N) : Rect S16896x4096 := ((cfgM m hO).win 0).rect t
abbrev rect1 (t : Fin (cfgM m hO).N) : Rect S4096x10240 := ((cfgM m hO).win 1).rect t
abbrev rect2 (t : Fin (cfgM m hO).N) : Rect S32x16896x256 := ((cfgM m hO).win 2).rect t

theorem wi0 (t : Fin (cfgM m hO).N) : x0 m hO t 0 = t.val / 8 ∧ x0 m hO t 1 = 0 := at0 t
theorem wi1 (t : Fin (cfgM m hO).N) : x1 m hO t 0 = 0 ∧ x1 m hO t 1 = (if t.val % 8 < 4 then t.val % 8 else t.val % 8 + 2) := by
  have h := at1 t
  rw [← tblI m] at h
  exact h
theorem wi2 (t : Fin (cfgM m hO).N) : x2 m hO t 0 = t.val % 8 ∧ x2 m hO t 1 = t.val / 8 ∧ x2 m hO t 2 = 0 := at2 t

/-- A step's row and column in the whole arrays, and its heads in the whole result. -/
theorem row_lt (t : Fin (cfgM m hO).N) (r : Fin 768) : 768 * (t.val / 8) + r.val < 16896 := by have := tlt m hO t; omega
theorem col_lt (t : Fin (cfgM m hO).N) (n : Fin 1024) : 1024 * (if t.val % 8 < 4 then t.val % 8 else t.val % 8 + 2) + n.val < 10240 := by
  have := n.isLt; split <;> omega
theorem head_lt (t : Fin (cfgM m hO).N) (p : Fin 4) : 4 * (t.val % 8) + p.val < 32 := by omega

theorem ib0 (c : Dev nD) (t : Fin (cfgM m hO).N) (r : Fin 768) (k : Fin 4096) :
    ((iblk m hO c 0 t : Vec Ideal S768x4096 .bf16) (ix2 r k) : EReal) = A0 m c (ix2 ⟨_, row_lt m hO t r⟩ k) := by
  have hi := wi0 m hO t
  refine Eq.trans ?_ (congrFun (V_main_arg0 m c) (ix2 ⟨_, row_lt m hO t r⟩ k))
  refine (View.read_apply (v := (((cfgM m hO).win 0).blk t).view) _ _).trans ?_
  show V m c main_arg0 ((rect0 m hO t).emb (ix2 r k)) = V m c main_arg0 _
  congr 1
  funext a
  apply Fin.ext
  match a with
  | ⟨0, _⟩ => show x0 m hO t 0 * 768 + 1 * r.val = 768 * (t.val / 8) + r.val; rw [hi.1]; omega
  | ⟨1, _⟩ => show x0 m hO t 1 * 4096 + 1 * k.val = k.val; rw [hi.2]; omega

theorem ib1 (c : Dev nD) (t : Fin (cfgM m hO).N) (k : Fin 4096) (n : Fin 1024) :
    ((iblk m hO c 1 t : Vec Ideal S4096x1024 .bf16) (ix2 k n) : EReal) = A1 m c (ix2 k ⟨_, col_lt m hO t n⟩) := by
  have hi := wi1 m hO t
  refine Eq.trans ?_ (congrFun (V_main_arg1 m c) (ix2 k ⟨_, col_lt m hO t n⟩))
  refine (View.read_apply (v := (((cfgM m hO).win 1).blk t).view) _ _).trans ?_
  show V m c main_arg1 ((rect1 m hO t).emb (ix2 k n)) = V m c main_arg1 _
  congr 1
  funext a
  apply Fin.ext
  match a with
  | ⟨0, _⟩ => show x1 m hO t 0 * 4096 + 1 * k.val = k.val; rw [hi.1]; omega
  | ⟨1, _⟩ => show x1 m hO t 1 * 1024 + 1 * n.val = 1024 * (if t.val % 8 < 4 then t.val % 8 else t.val % 8 + 2) + n.val
              rw [hi.2]; omega

/-- The whole result, entry by entry. -/
def whole (c : Dev nD) : FVec Ideal S32x16896x256 .bf16 := fun j => dotAt (A0 m c) (A1 m c) (j 1) (gcol (j 0) (j 2))

theorem tile_at (c : Dev nD) (t : Fin (cfgM m hO).N) (p : Fin 4) (r : Fin 768) (d : Fin 256) :
    (heads (iblk m hO c 0 t) (iblk m hO c 1 t) (ix3 p r d) : EReal)
      = dotAt (A0 m c) (A1 m c) ⟨_, row_lt m hO t r⟩ (gcol ⟨_, head_lt m hO t p⟩ d) := by
  refine Finset.sum_congr rfl fun k _ => congrArg₂ (· * ·) (ib0 m hO c t r k) ((ib1 m hO c t k (col p d)).trans (congrArg (fun u => A1 m c (ix2 k u)) (Fin.ext ?_)))
  show 1024 * (if t.val % 8 < 4 then t.val % 8 else t.val % 8 + 2) + (256 * p.val + d.val)
    = (if 4 * (t.val % 8) + p.val < 16 then 256 * (4 * (t.val % 8) + p.val) else 256 * (4 * (t.val % 8) + p.val) + 2048) + d.val
  have hp := p.isLt
  split <;> split <;> omega

theorem flushed (c : Dev nD) (t : Fin (cfgM m hO).N) :
    (dats m hO 0 c).flushed 2 t = (((cfgM m hO).win 2).blk t).view.read (Elt Ideal) (whole m c) := by
  have hi := wi2 m hO t
  have e : (dats m hO 0 c).flushed 2 t = ((cfgM m hO).win 2).cut ((cfgM m hO).grid.coords t) (heads (iblk m hO c 0 t) (iblk m hO c 1 t)) := by
    refine congrArg (((cfgM m hO).win 2).cut ((cfgM m hO).grid.coords t)) ((after0_2 m hO c t).trans ?_)
    unfold outsAt0
    exact out_eq c _ _ _ _ _ _ _ _ _ _
  refine e.trans ?_
  refine funext fun (j : S4x768x256.Idx) => ?_
  refine Eq.trans ?_ (View.read_apply (v := (((cfgM m hO).win 2).blk t).view) _ _).symm
  obtain ⟨p, r, d, rfl⟩ : ∃ (p : Fin 4) (r : Fin 768) (d : Fin 256), j = ix3 p r d :=
    ⟨j 0, j 1, j 2, by funext a; match a with | ⟨0, _⟩ => rfl | ⟨1, _⟩ => rfl | ⟨2, _⟩ => rfl⟩
  refine (tile_at m hO c t p r d).trans ?_
  show _ = whole m c ((rect2 m hO t).emb (ix3 p r d))
  unfold whole
  refine congrArg₂ (dotAt (A0 m c) (A1 m c)) (Fin.ext ?_) (congrArg₂ gcol (Fin.ext ?_) (Fin.ext ?_))
  · show 768 * (t.val / 8) + r.val = x2 m hO t 1 * 768 + 1 * r.val; rw [hi.2.1]; omega
  · show 4 * (t.val % 8) + p.val = x2 m hO t 0 * 4 + 1 * p.val; rw [hi.1]; omega
  · show d.val = x2 m hO t 2 * 256 + 1 * d.val; rw [hi.2.2]; omega

theorem final (c : Dev nD) : (dats m hO 0 c).arrAt 2 (cfgM m hO).N = whole m c :=
  (dats m hO 0 c).arrAt_eq_of_cover 2 (whole m c) (fun t _ => flushed m hO c t) (fun (i : S32x16896x256.Idx) => by
    have h0 : (i 0).val < 32 := (i 0).isLt
    have h1 : (i 1).val < 16896 := (i 1).isLt
    have h2 : (i 2).val < 256 := (i 2).isLt
    obtain ⟨t, hv⟩ : ∃ t : Fin (cfgM m hO).N, t.val = 8 * ((i 1).val / 768) + (i 0).val / 4 :=
      ⟨⟨8 * ((i 1).val / 768) + (i 0).val / 4, Nat.lt_of_lt_of_eq (by omega : _ < 176) points.symm⟩, rfl⟩
    refine ⟨t, flush0_2 (adm m hO) t, ?_⟩
    have hi := wi2 m hO t
    have hb : i ∈ (rect2 m hO t).set := by
      refine Rect.mem_set_unit.mpr fun a => ?_
      match a with
      | ⟨0, _⟩ => show x2 m hO t 0 * 4 ≤ (i 0 : Nat) ∧ (i 0 : Nat) < x2 m hO t 0 * 4 + 4
                  rw [hi.1]; omega
      | ⟨1, _⟩ => show x2 m hO t 1 * 768 ≤ (i 1 : Nat) ∧ (i 1 : Nat) < x2 m hO t 1 * 768 + 768
                  rw [hi.2.1]; omega
      | ⟨2, _⟩ => show x2 m hO t 2 * 256 ≤ (i 2 : Nat) ∧ (i 2 : Nat) < x2 m hO t 2 * 256 + 256
                  rw [hi.2.2]; omega
    show i ∈ (View.slice (Memref.whole main_v0).view (rect2 m hO t)).set
    rw [View.set_slice_whole]; exact hb)

/-- The call's result is the reference's last stage. -/
theorem result_eq (c : Dev nD) : (dats m hO 0 c).arrAt 2 (cfgM m hO).N = Cert.Reference3Ideal.Read.val_main_v18 (F := Ideal) (A0 m c) (A1 m c) := by
  rw [final]
  funext j
  obtain ⟨h, r, d, rfl⟩ : ∃ (h : Fin 32) (r : Fin 16896) (d : Fin 256), j = ix3 h r d :=
    ⟨j 0, j 1, j 2, by funext a; match a with | ⟨0, _⟩ => rfl | ⟨1, _⟩ => rfl | ⟨2, _⟩ => rfl⟩
  exact (ref_at _ _ h r d).symm

/-- The run: the result array is the reference's last stage, and the arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0) = Cert.Reference3Ideal.Read.val_main_v18 (F := Ideal) (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (result_eq m (okI m) c), h.2 c⟩)
    (θ_run_and (run_main m ρ (okI m)) (unchanged m ρ (okI m)))

end Cert.Proof.Plain
end
-- ==== Proof.Attn.FrameK.lean ====
module

public import proofs.«01_k».proof.Defs
public import proofs.«01_k».proof.Proof.Gen.Kernel
public import proofs.«01_k».proof.Proof.Attn.Run

@[expose] public section

noncomputable section

namespace Cert.Proof

open Idealize.ShloMosaic Idealize.SL.Sem

/-- Bit-exact floats with every named constant at its own bits. -/
@[reducible] def bitsNamed : Named Bits := ⟨fun _ _ {φ} b => FloatOps.ofBits φ b⟩

attribute [local instance] bitsNamed

open Cert.KernelIdeal in
/-- The idealized kernel's frame, read at bits. -/
def frameBits : Prop := ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

open Cert.KernelIdeal in
theorem frame_bits : frameBits := fun m g _ => (θ_run (defs (F := Bits)) _ _).mono (fun _ h => h.2) (Attn.run m g)

theorem frame_same : frameBits = Cert.quiescent_Kernel := by chain_rfl

theorem frame_k : Cert.quiescent_Kernel := frame_same ▸ frame_bits

end Cert.Proof
end
-- ==== Proof.Norm.Kit.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

/-! # The launch of the normalised projection

The program's host code prepares the tables; then the call runs over its 89 points. Here: what the call finds, the
table of column blocks, the windows' blocks, and the kernel's body at a point. -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host code before the call. -/
abbrev hostAll : List (List (HloOp τ sig (Elt F))) := [hostOps0, hostOps0_1, hostOps0_2, hostOps0_3, hostOps0_4, hostOps0_5, hostOps0_6]

/-- The buffers as the call finds them. -/
abbrev V (c : Dev nD) (b : Ref sig .tc) : Buf (Elt F) ((c : Thread nD τ).loc b) := StableHlo.after hostAll.flatten (fun b => m (c, b)) b

theorem host_fresh : (hostAll : List (List (HloOp τ sig (Elt F)))).Forall fun ops => ops.Forall fun op => op.fresh = ∅ := by
  refine List.forall_iff_forall_mem.mpr fun ops h => ?_
  simp only [List.mem_cons, List.not_mem_nil, or_false] at h
  rcases h with rfl | rfl | rfl | rfl | rfl | rfl | rfl <;> (simp only [List.Forall]; repeat' constructor)

theorem host_sub : (hostAll : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll host_sub host_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table of column blocks -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The four numbers the program lays down: 0, 1, 2, 3. -/
def litI : pre0.Contents (Elt F) := fun
  | 0 => fun i => lit0 (S4.rowMajor i)
  | ⟨_ + 1, h⟩ => absurd h (Nat.not_lt.2 (Nat.le_add_left _ _))

set_option maxHeartbeats 2000000 in
theorem tblI : tbl m = litI := by
  funext j
  obtain rfl : j = 0 := Subsingleton.elim _ _
  show V m 0 main_c = fun i => lit0 (S4.rowMajor i)
  unfold V hostAll hostOps0 hostOps0_1 hostOps0_2 hostOps0_3 hostOps0_4 hostOps0_5 hostOps0_6
  simp only [List.flatten_cons, List.flatten_nil, List.append_nil, List.cons_append, List.nil_append]
  after_results; try rfl

theorem ok_litI : ok0 (F := F) litI := of_decide_eq_true (by sl_kernel_rfl)

theorem okI : ok0 (F := F) (tbl m) := by rw [tblI]; exact ok_litI

abbrev adm : (pcfg0 (F := F)).Adm := ⟨tbl m, okI m⟩
abbrev cfgM : Pipeline.Cfg sig Λ₀ := cfg0 (adm m)

abbrev tbM0_0 : Memref sig .tc .smem S4 .i32 := Memref.whole main_c
abbrev htbM0_0 : tbM0_0.IsWhole := Memref.isWhole_whole _

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The arguments end as they began, of any run that leaves the arrays as the call's data says. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 6).trans (((dats 0 c).arrAt_in 6 rfl _).trans ((hA c 6).trans (V_main_arg1 m c))),
      ((h c).2 main_arg2 (show main_arg2 ∈ Pipeline.restRefs sig spec0 from Pipeline.mem_restRefs_of main_arg2 (by decide) (by decide))).trans (V_main_arg2 m c),
      ((h c).2 main_arg3 (show main_arg3 ∈ Pipeline.restRefs sig spec0 from Pipeline.mem_restRefs_of main_arg3 (by decide) (by decide))).trans (V_main_arg3 m c),
      ((h c).2 main_arg4 (show main_arg4 ∈ Pipeline.restRefs sig spec0 from Pipeline.mem_restRefs_of main_arg4 (by decide) (by decide))).trans (V_main_arg4 m c),
      ((h c).2 main_arg5 (show main_arg5 ∈ Pipeline.restRefs sig spec0 from Pipeline.mem_restRefs_of main_arg5 (by decide) (by decide))).trans (V_main_arg5 m c)⟩) h

/-! ## The staging buffers at a point -/

abbrev ms0_0 (t : Fin (cfgM m).N) : Memref sig .tc .vmem S768x4096 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S4096x1024 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S768x128 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S768x128 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S768x128 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x1x128 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S256x2048 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S4x768x256 .bf16 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S256x2048 .bf16 := spec0_8.stage ((cfgM m).slots t 8)
abbrev hs0_8 (t : Fin (cfgM m).N) : (ms0_8 m t).IsWhole := hstage0_8 (((cfgM m).slots t 8).cast nbuf0_8)
abbrev scM : Memref sig .tc .vmem S768x1024 .f32 := Memref.whole cc0_scratch0
abbrev hscM : scM.IsWhole := Memref.isWhole_whole _

/-- The kernel body at a point. -/
abbrev bodyAt0 (t : Fin (cfgM m).N) : Prog (TpuEff nD τ sig (Elt F) Λ₀ .tc) PUnit :=
  cc0_inproj_normrope (grid0.coords t) tbM0_0 htbM0_0 (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) scM hscM

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The body table's row at a point is the body. -/
theorem defs₀_row (t : Fin (cfgM m).N) :
    defs₀ (F := F) .tc (cfgM m).body ((cfgM m).bodyArgs t ((cfgM m).slots t)) = bodyAt0 m t := by
  unfold defs₀; rw [Defs.onTc_tc]

end Cert.Proof.Norm
end
-- ==== Proof.Norm.Halves.lean ====
module

public import proofs.«01_k».proof.Proof.Norm.Kit

@[expose] public section

set_option maxRecDepth 16384
set_option backward.proofsInPublic true

noncomputable section

/-! # One step of the normalised projection

A step first normalises and rotates the eight half-heads of the product the step before left in the scratch buffer, then
leaves there its own product. -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A half-head: 128 columns of the product, normalised, weighted and rotated. -/
def headOf (co sl sh : Vec F S768x128 .f32) (wt : Vec F S1x1x128 .f32) (x : Vec F S768x128 .f32) : Vec F S1x768x128 .bf16 := k0_pay10 (k0_pay9 co sl sh wt x)

/-- Columns `128 h` to `128 h + 127` of the product. -/
def colsOf (acc : Vec F S768x1024 .f32) (h : Fin 8) : Vec F S768x128 .f32 := fun j => acc (ix2 (j 0) ⟨128 * h.val + (j 1).val, by have h1 : (j 1).val < 128 := (j 1).isLt; omega⟩)

/-- The eight half-heads, side by side. -/
def halves (co sl sh : Vec F S768x128 .f32) (wt : Vec F S1x1x128 .f32) (acc : Vec F S768x1024 .f32) : Vec F S4x768x256 .bf16 := fun y =>
  headOf co sl sh wt (colsOf acc ⟨2 * (y 0).val + (y 2).val / 128, by have h0 : (y 0).val < 4 := (y 0).isLt; have h2 : (y 2).val < 256 := (y 2).isLt; omega⟩)
    (ix3 (0 : Fin 1) (y 1) (⟨(y 2).val % 128, Nat.mod_lt _ (by decide)⟩ : Fin 128))

theorem zz2 : (![0, 0] : Fin 2 → ℕ) = fun _ => 0 := by funext a; match a with | ⟨0, _⟩ => rfl | ⟨1, _⟩ => rfl
theorem zz3 : (![0, 0, 0] : Fin 3 → ℕ) = fun _ => 0 := by funext a; match a with | ⟨0, _⟩ => rfl | ⟨1, _⟩ => rfl | ⟨2, _⟩ => rfl

/-- A load of 128 columns reads those columns. -/
theorem ld_cols (acc : Vec F S768x1024 .f32) (h : Fin 8) (n : ℕ) (hn : n = 128 * h.val) (inb : ∀ a, (![0, n] : Fin 2 → ℕ) a + S768x128.size a ≤ S768x1024.size a) :
    View.ld (Val := Elt F) acc (Rect.unit (s := S768x1024) ![0, n] S768x128.size inb) = colsOf acc h := by
  subst hn
  funext j
  show acc _ = acc _
  congr 1
  funext a; apply Fin.ext
  match a with
  | ⟨0, _⟩ => show 0 + 1 * (j 0).val = (j 0).val; omega
  | ⟨1, _⟩ => show 128 * h.val + 1 * (j 1).val = 128 * h.val + (j 1).val; omega

/-- A half-head's entry, at the place its store puts it. -/
theorem halves_emb (co sl sh : Vec F S768x128 .f32) (wt : Vec F S1x1x128 .f32) (acc : Vec F S768x1024 .f32) (p q : ℕ) (h : Fin 8) (hp : 2 * p + q = h.val) (hq : q < 2)
    (inb : ∀ a, (![p, 0, 128 * q] : Fin 3 → ℕ) a + S1x768x128.size a ≤ S4x768x256.size a) (x : S1x768x128.Idx) :
    headOf co sl sh wt (colsOf acc h) x = halves co sl sh wt acc ((Rect.unit (s := S4x768x256) ![p, 0, 128 * q] S1x768x128.size inb).emb x) := by
  have h0 : (x 0).val < 1 := (x 0).isLt
  have h2 : (x 2).val < 128 := (x 2).isLt
  have e : ∀ (k k' : Fin 8) (j j' : S1x768x128.Idx), k = k' → j = j' → headOf co sl sh wt (colsOf acc k) j = headOf co sl sh wt (colsOf acc k') j' := by
    intro k k' j j' e1 e2; rw [e1, e2]
  refine e _ _ _ _ (Fin.ext ?_) (funext fun a => Fin.ext ?_)
  · show h.val = 2 * (p + 1 * (x 0).val) + (128 * q + 1 * (x 2).val) / 128
    omega
  · match a with
    | ⟨0, _⟩ => show (x 0).val = 0; omega
    | ⟨1, _⟩ => show (x 1).val = 0 + 1 * (x 1).val; omega
    | ⟨2, _⟩ => show (x 2).val = (128 * q + 1 * (x 2).val) % 128; omega

abbrev VO9 : View sig .tc .vmem S4x768x256 .bf16 := (Memref.whole cc0_stg7_0 : Memref sig .tc .vmem S4x768x256 .bf16).view

/-- The eight stores of a step, the last first. -/
def pieces9 (co sl sh : Vec F S768x128 .f32) (wt : Vec F S1x1x128 .f32) (acc : Vec F S768x1024 .f32) : List (View.Piece (Elt F) S4x768x256 .bf16) := [
      ⟨Rect.unit (s := S4x768x256) ![3, 0, 128] S1x768x128.size inb_S4x768x256_S1x768x128_3_0_128, headOf co sl sh wt (colsOf acc 7)⟩,
      ⟨Rect.unit (s := S4x768x256) ![3, 0, 0] S1x768x128.size inb_S4x768x256_S1x768x128_3_0_0, headOf co sl sh wt (colsOf acc 6)⟩,
      ⟨Rect.unit (s := S4x768x256) ![2, 0, 128] S1x768x128.size inb_S4x768x256_S1x768x128_2_0_128, headOf co sl sh wt (colsOf acc 5)⟩,
      ⟨Rect.unit (s := S4x768x256) ![2, 0, 0] S1x768x128.size inb_S4x768x256_S1x768x128_2_0_0, headOf co sl sh wt (colsOf acc 4)⟩,
      ⟨Rect.unit (s := S4x768x256) ![1, 0, 128] S1x768x128.size inb_S4x768x256_S1x768x128_1_0_128, headOf co sl sh wt (colsOf acc 3)⟩,
      ⟨Rect.unit (s := S4x768x256) ![1, 0, 0] S1x768x128.size inb_S4x768x256_S1x768x128_1_0_0, headOf co sl sh wt (colsOf acc 2)⟩,
      ⟨Rect.unit (s := S4x768x256) ![0, 0, 128] S1x768x128.size inb_S4x768x256_S1x768x128_0_0_128, headOf co sl sh wt (colsOf acc 1)⟩,
      ⟨Rect.unit (s := S4x768x256) ![0, 0, 0] S1x768x128.size inb_S4x768x256_S1x768x128_0_0_0, headOf co sl sh wt (colsOf acc 0)⟩]

theorem cover9 (co sl sh : Vec F S768x128 .f32) (wt : Vec F S1x1x128 .f32) (acc : Vec F S768x1024 .f32) (y : S4x768x256.Idx) :
    ∃ pc ∈ pieces9 co sl sh wt acc, y ∈ pc.1.set :=
  View.cover_of_tiledL (pieces9 co sl sh wt acc) S1x768x128.size (by sl_kernel_rfl) y

/-- The eight stores leave the eight half-heads. -/
theorem read9 (v : View sig .tc .vmem S4x768x256 .bf16) (f : v.ty.Contents (Elt F)) (co sl sh : Vec F S768x128 .f32) (wt : Vec F S1x1x128 .f32) (acc : Vec F S768x1024 .f32) :
    v.read (Elt F) (v.writes (Elt F) f (pieces9 co sl sh wt acc)) = halves co sl sh wt acc := by
  refine (View.read_writes_of_cover _ _ VO9 VO9.junk _ (cover9 co sl sh wt acc)).trans ?_
  rw [View.read_writes_junk_eq_canon]
  funext y
  refine View.canon_apply_of_pieces (halves co sl sh wt acc) _ ?_ y (cover9 co sl sh wt acc y)
  intro p hp
  unfold pieces9 at hp
  simp only [List.mem_cons, List.not_mem_nil, or_false] at hp
  rcases hp with rfl | rfl | rfl | rfl | rfl | rfl | rfl | rfl
  · exact fun x => halves_emb co sl sh wt acc 3 1 7 rfl (by decide) inb_S4x768x256_S1x768x128_3_0_128 x
  · exact fun x => halves_emb co sl sh wt acc 3 0 6 rfl (by decide) inb_S4x768x256_S1x768x128_3_0_0 x
  · exact fun x => halves_emb co sl sh wt acc 2 1 5 rfl (by decide) inb_S4x768x256_S1x768x128_2_0_128 x
  · exact fun x => halves_emb co sl sh wt acc 2 0 4 rfl (by decide) inb_S4x768x256_S1x768x128_2_0_0 x
  · exact fun x => halves_emb co sl sh wt acc 1 1 3 rfl (by decide) inb_S4x768x256_S1x768x128_1_0_128 x
  · exact fun x => halves_emb co sl sh wt acc 1 0 2 rfl (by decide) inb_S4x768x256_S1x768x128_1_0_0 x
  · exact fun x => halves_emb co sl sh wt acc 0 1 1 rfl (by decide) inb_S4x768x256_S1x768x128_0_0_128 x
  · exact fun x => halves_emb co sl sh wt acc 0 0 0 rfl (by decide) inb_S4x768x256_S1x768x128_0_0_0 x

/-- Whether a step is the first. -/
abbrev cond2 (i : grid0.Coords) : BitVec 1 := Scalar.cmpi .ne (Scalar.extui (Scalar.cmpi .eq (BitVec.ofNat 32 (i 0).val) 0#32) : BitVec 32) 0#32

/-- The product a step finds: zeros at the first. -/
def accIn (i : grid0.Coords) (acc : Vec F S768x1024 .f32) : Vec F S768x1024 .f32 := if cond2 i = 1#1 then k0_pay4 else acc
/-- The cast block a step leaves. -/
def castOut (i : grid0.Coords) (x6 : Vec F S256x2048 .f32) (d : Vec F S256x2048 .bf16) : Vec F S256x2048 .bf16 := if k0_cond1 i = 1#1 then k0_pay3 x6 else d

end Cert.Proof.Norm
end
-- ==== Proof.Norm.Body.lean ====
module

public import proofs.«01_k».proof.Proof.Norm.Halves

@[expose] public section

set_option maxRecDepth 16384
set_option backward.proofsInPublic true

noncomputable section

/-! # A step, run -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable {sg : RefSig} {κ : Kind} {sp : Space} {s : Shape} {e : EltTy} {Val : EltTy → Type}

/-- A store over a whole buffer leaves what it stores, whatever was there. -/
theorem whole_read (v : View sg κ sp s e) (f : v.ty.Contents Val) {off : Fin s.rank → ℕ} (h : off = fun _ => 0) (inb : ∀ a, off a + s.size a ≤ s.size a)
    (w : (Rect.unit off s.size inb).shape.Idx → Val e) (L : List (View.Piece Val s e)) :
    v.read Val (v.writes Val f (⟨Rect.unit off s.size inb, w⟩ :: L)) = w := by
  subst h
  funext x
  have e : x = (Rect.unit (fun _ => 0) s.size inb).emb x := by
    funext a; refine Fin.ext ?_
    show (x a).val = 0 + 1 * (x a).val
    omega
  refine Eq.trans ?_ (View.read_writes_cons_emb v f (Rect.unit (fun _ => 0) s.size inb) w L x)
  exact congrArg _ e
end

theorem rw11 (v : View sig .tc .vmem S768x1024 .f32) (f : v.ty.Contents (Elt F)) (inb) (w : S768x1024.Idx → Elt F .f32) (L : List (View.Piece (Elt F) S768x1024 .f32)) :
    v.read (Elt F) (v.writes (Elt F) f (⟨Rect.unit (s := S768x1024) ![0, 0] ![768, 1024] inb, w⟩ :: L)) = w := whole_read v f zz2 inb w L
theorem rd2 (x : Vec F S768x4096 .bf16) (inb) : View.ld (Val := Elt F) x (Rect.unit (s := S768x4096) ![0, 0] ![768, 4096] inb) = x := View.ld_unit_zero zz2 inb x
theorem rd3 (x : Vec F S4096x1024 .bf16) (inb) : View.ld (Val := Elt F) x (Rect.unit (s := S4096x1024) ![0, 0] ![4096, 1024] inb) = x := View.ld_unit_zero zz2 inb x
theorem rd4 (x : Vec F S768x128 .f32) (inb) : View.ld (Val := Elt F) x (Rect.unit (s := S768x128) ![0, 0] ![768, 128] inb) = x := View.ld_unit_zero zz2 inb x
theorem rd7 (x : Vec F S1x1x128 .f32) (inb) : View.ld (Val := Elt F) x (Rect.unit (s := S1x1x128) ![0, 0, 0] ![1, 1, 128] inb) = x := View.ld_unit_zero zz3 inb x
theorem rd8 (x : Vec F S256x2048 .f32) (inb) : View.ld (Val := Elt F) x (Rect.unit (s := S256x2048) ![0, 0] ![256, 2048] inb) = x := View.ld_unit_zero zz2 inb x
theorem c0 (acc : Vec F S768x1024 .f32) (inb) : View.ld (Val := Elt F) acc (Rect.unit (s := S768x1024) ![0, 0] ![768, 128] inb) = colsOf acc 0 := ld_cols acc 0 0 rfl inb
theorem c1 (acc : Vec F S768x1024 .f32) (inb) : View.ld (Val := Elt F) acc (Rect.unit (s := S768x1024) ![0, 128] ![768, 128] inb) = colsOf acc 1 := ld_cols acc 1 128 rfl inb
theorem c2 (acc : Vec F S768x1024 .f32) (inb) : View.ld (Val := Elt F) acc (Rect.unit (s := S768x1024) ![0, 256] ![768, 128] inb) = colsOf acc 2 := ld_cols acc 2 256 rfl inb
theorem c3 (acc : Vec F S768x1024 .f32) (inb) : View.ld (Val := Elt F) acc (Rect.unit (s := S768x1024) ![0, 384] ![768, 128] inb) = colsOf acc 3 := ld_cols acc 3 384 rfl inb
theorem c4 (acc : Vec F S768x1024 .f32) (inb) : View.ld (Val := Elt F) acc (Rect.unit (s := S768x1024) ![0, 512] ![768, 128] inb) = colsOf acc 4 := ld_cols acc 4 512 rfl inb
theorem c5 (acc : Vec F S768x1024 .f32) (inb) : View.ld (Val := Elt F) acc (Rect.unit (s := S768x1024) ![0, 640] ![768, 128] inb) = colsOf acc 5 := ld_cols acc 5 640 rfl inb
theorem c6 (acc : Vec F S768x1024 .f32) (inb) : View.ld (Val := Elt F) acc (Rect.unit (s := S768x1024) ![0, 768] ![768, 128] inb) = colsOf acc 6 := ld_cols acc 6 768 rfl inb
theorem c7 (acc : Vec F S768x1024 .f32) (inb) : View.ld (Val := Elt F) acc (Rect.unit (s := S768x1024) ![0, 896] ![768, 128] inb) = colsOf acc 7 := ld_cols acc 7 896 rfl inb

set_option maxHeartbeats 2000000 in
theorem bodyA (c : Dev nD) (i : grid0.Coords) (arg1 : Memref sig .tc .smem S4 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S4x768x256 .bf16) (harg9 : arg9.IsWhole) (arg10 : Memref sig .tc .vmem S256x2048 .bf16) (harg10 : arg10.IsWhole) (arg11 : Memref sig .tc .vmem S768x1024 .f32) (harg11 : arg11.IsWhole) (hc1 : k0_cond1 i = 1#1) (hc2 : cond2 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32)
    (f9 : BufTy.Contents (Elt F) arg9.view.ty) (f10 : BufTy.Contents (Elt F) arg10.view.ty) (f11 : BufTy.Contents (Elt F) arg11.view.ty)
    (E : Set ℕ) (K : PUnit → sProp 𝕄) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗
      (((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (∃ g, (arg9.view.loc (c : Thread nD τ) ↦[arg9.view.set]{fullShare} g) ∗ ⌜arg9.view.read (Elt F) g = halves x2 x3 x4 x5 (k0_pay4)⌝)
        ∗ (∃ g, (arg10.view.loc (c : Thread nD τ) ↦[arg10.view.set]{fullShare} g) ∗ ⌜arg10.view.read (Elt F) g = k0_pay3 x6⌝) ∗ (∃ g, (arg11.view.loc (c : Thread nD τ) ↦[arg11.view.set]{fullShare} g) ∗ ⌜arg11.view.read (Elt F) g = k0_pay2 x0 x1⌝)) -∗ K ⟨⟩))
    ⊢ wp frame (wpE (defs₀ (F := F)) Variants.none c none) E (cc0_inproj_normrope i arg1 harg1 arg2 harg2 arg3 harg3 arg4 harg4 arg5 harg5 arg6 harg6 arg7 harg7 arg8 harg8 arg9 harg9 arg10 harg10 arg11 harg11) K := by
  simp only [cc0_inproj_normrope_eq_skeleton]; unfold cc0_inproj_normrope_skel
  simp only [k0_part1_eq_skeleton, k0_part2_eq_skeleton, k0_part3_eq_skeleton, k0_part4_eq_skeleton, k0_part5_eq_skeleton]
  iintro ⟨H0, H1, H2, H3, H4, H5, H6, H7, H8, HS, Hk⟩
  sl_exec (disch := first | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    refine Eq.trans ?_ (read9 arg9.view f9 x2 x3 x4 x5 (k0_pay4))
    refine congrArg (fun L => arg9.view.read (Elt F) (arg9.view.writes (Elt F) f9 L)) ?_
    unfold pieces9
    try delta bodyA.sl.r
    try delta bodyA.sl.r_1
    try delta bodyA.sl.r_2
    try delta bodyA.sl.r_3
    try delta bodyA.sl.r_4
    try delta bodyA.sl.r_5
    try delta bodyA.sl.r_6
    try delta bodyA.sl.r_7
    try delta bodyA.sl.r_8
    try delta bodyA.sl.r_9
    try delta bodyA.sl.r_10
    try delta bodyA.sl.v14
    try delta bodyA.sl.v38
    try delta bodyA.sl.v62
    try delta bodyA.sl.v86
    try delta bodyA.sl.v110
    try delta bodyA.sl.v134
    try delta bodyA.sl.v158
    try delta bodyA.sl.v182
    try delta bodyA.sl.HS_1
    try delta bodyA.sl.HS
    try delta bodyA.sl.r
    try delta bodyA.sl.r_1
    try delta bodyA.sl.r_2
    try delta bodyA.sl.r_3
    try delta bodyA.sl.r_4
    try delta bodyA.sl.r_5
    try delta bodyA.sl.r_6
    try delta bodyA.sl.r_7
    try delta bodyA.sl.r_8
    try delta bodyA.sl.r_9
    try delta bodyA.sl.r_10
    try delta bodyA.sl.v14
    try delta bodyA.sl.v38
    try delta bodyA.sl.v62
    try delta bodyA.sl.v86
    try delta bodyA.sl.v110
    try delta bodyA.sl.v134
    try delta bodyA.sl.v158
    try delta bodyA.sl.v182
    try delta bodyA.sl.HS_1
    try delta bodyA.sl.HS
    try delta bodyA.sl.r
    try delta bodyA.sl.r_1
    try delta bodyA.sl.r_2
    try delta bodyA.sl.r_3
    try delta bodyA.sl.r_4
    try delta bodyA.sl.r_5
    try delta bodyA.sl.r_6
    try delta bodyA.sl.r_7
    try delta bodyA.sl.r_8
    try delta bodyA.sl.r_9
    try delta bodyA.sl.r_10
    try delta bodyA.sl.v14
    try delta bodyA.sl.v38
    try delta bodyA.sl.v62
    try delta bodyA.sl.v86
    try delta bodyA.sl.v110
    try delta bodyA.sl.v134
    try delta bodyA.sl.v158
    try delta bodyA.sl.v182
    try delta bodyA.sl.HS_1
    try delta bodyA.sl.HS
    simp only [View.readAt_eq_ld, View.readCov, rw11, rd4, rd7, rd2, rd3, rd8, c0, c1, c2, c3, c4, c5, c6, c7, Memref.IsWhole.read_unread]
    rfl
  isplitl [H8]
  · iexists _; isplitl [H8]; · iexact H8
    ipureintro
    refine (whole_read _ _ zz2 _ _ _).trans ?_
    simp only [View.readAt_eq_ld, rd8, Memref.IsWhole.read_unread]
  iexists _; isplitl [HS]; · iexact HS
  ipureintro
  refine (whole_read _ _ zz2 _ _ _).trans ?_
  simp only [View.readAt_eq_ld, rd2, rd3, Memref.IsWhole.read_unread]

set_option maxHeartbeats 2000000 in
theorem bodyB (c : Dev nD) (i : grid0.Coords) (arg1 : Memref sig .tc .smem S4 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S4x768x256 .bf16) (harg9 : arg9.IsWhole) (arg10 : Memref sig .tc .vmem S256x2048 .bf16) (harg10 : arg10.IsWhole) (arg11 : Memref sig .tc .vmem S768x1024 .f32) (harg11 : arg11.IsWhole) (hc1 : k0_cond1 i = 1#1) (hc2 : ¬ cond2 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32)
    (f9 : BufTy.Contents (Elt F) arg9.view.ty) (f10 : BufTy.Contents (Elt F) arg10.view.ty) (f11 : BufTy.Contents (Elt F) arg11.view.ty)
    (E : Set ℕ) (K : PUnit → sProp 𝕄) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗
      (((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (∃ g, (arg9.view.loc (c : Thread nD τ) ↦[arg9.view.set]{fullShare} g) ∗ ⌜arg9.view.read (Elt F) g = halves x2 x3 x4 x5 (arg11.view.read (Elt F) f11)⌝)
        ∗ (∃ g, (arg10.view.loc (c : Thread nD τ) ↦[arg10.view.set]{fullShare} g) ∗ ⌜arg10.view.read (Elt F) g = k0_pay3 x6⌝) ∗ (∃ g, (arg11.view.loc (c : Thread nD τ) ↦[arg11.view.set]{fullShare} g) ∗ ⌜arg11.view.read (Elt F) g = k0_pay2 x0 x1⌝)) -∗ K ⟨⟩))
    ⊢ wp frame (wpE (defs₀ (F := F)) Variants.none c none) E (cc0_inproj_normrope i arg1 harg1 arg2 harg2 arg3 harg3 arg4 harg4 arg5 harg5 arg6 harg6 arg7 harg7 arg8 harg8 arg9 harg9 arg10 harg10 arg11 harg11) K := by
  simp only [cc0_inproj_normrope_eq_skeleton]; unfold cc0_inproj_normrope_skel
  simp only [k0_part1_eq_skeleton, k0_part2_eq_skeleton, k0_part3_eq_skeleton, k0_part4_eq_skeleton, k0_part5_eq_skeleton]
  iintro ⟨H0, H1, H2, H3, H4, H5, H6, H7, H8, HS, Hk⟩
  sl_exec (disch := first | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    refine Eq.trans ?_ (read9 arg9.view f9 x2 x3 x4 x5 (arg11.view.read (Elt F) f11))
    refine congrArg (fun L => arg9.view.read (Elt F) (arg9.view.writes (Elt F) f9 L)) ?_
    unfold pieces9
    try delta bodyB.sl.r
    try delta bodyB.sl.r_1
    try delta bodyB.sl.r_2
    try delta bodyB.sl.r_3
    try delta bodyB.sl.r_4
    try delta bodyB.sl.r_5
    try delta bodyB.sl.r_6
    try delta bodyB.sl.r_7
    try delta bodyB.sl.r_8
    try delta bodyB.sl.r_9
    try delta bodyB.sl.r_10
    try delta bodyB.sl.r
    try delta bodyB.sl.r_1
    try delta bodyB.sl.r_2
    try delta bodyB.sl.r_3
    try delta bodyB.sl.r_4
    try delta bodyB.sl.r_5
    try delta bodyB.sl.r_6
    try delta bodyB.sl.r_7
    try delta bodyB.sl.r_8
    try delta bodyB.sl.r_9
    try delta bodyB.sl.r_10
    try delta bodyB.sl.r
    try delta bodyB.sl.r_1
    try delta bodyB.sl.r_2
    try delta bodyB.sl.r_3
    try delta bodyB.sl.r_4
    try delta bodyB.sl.r_5
    try delta bodyB.sl.r_6
    try delta bodyB.sl.r_7
    try delta bodyB.sl.r_8
    try delta bodyB.sl.r_9
    try delta bodyB.sl.r_10
    simp only [View.readAt_eq_ld, View.readCov, rw11, rd4, rd7, rd2, rd3, rd8, c0, c1, c2, c3, c4, c5, c6, c7, Memref.IsWhole.read_unread]
    rfl
  isplitl [H8]
  · iexists _; isplitl [H8]; · iexact H8
    ipureintro
    refine (whole_read _ _ zz2 _ _ _).trans ?_
    simp only [View.readAt_eq_ld, rd8, Memref.IsWhole.read_unread]
  iexists _; isplitl [HS]; · iexact HS
  ipureintro
  refine (whole_read _ _ zz2 _ _ _).trans ?_
  simp only [View.readAt_eq_ld, rd2, rd3, Memref.IsWhole.read_unread]

set_option maxHeartbeats 2000000 in
theorem bodyC (c : Dev nD) (i : grid0.Coords) (arg1 : Memref sig .tc .smem S4 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S4x768x256 .bf16) (harg9 : arg9.IsWhole) (arg10 : Memref sig .tc .vmem S256x2048 .bf16) (harg10 : arg10.IsWhole) (arg11 : Memref sig .tc .vmem S768x1024 .f32) (harg11 : arg11.IsWhole) (hc1 : ¬ k0_cond1 i = 1#1) (hc2 : ¬ cond2 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32)
    (f9 : BufTy.Contents (Elt F) arg9.view.ty) (f10 : BufTy.Contents (Elt F) arg10.view.ty) (f11 : BufTy.Contents (Elt F) arg11.view.ty)
    (E : Set ℕ) (K : PUnit → sProp 𝕄) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗
      (((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (∃ g, (arg9.view.loc (c : Thread nD τ) ↦[arg9.view.set]{fullShare} g) ∗ ⌜arg9.view.read (Elt F) g = halves x2 x3 x4 x5 (arg11.view.read (Elt F) f11)⌝)
        ∗ (∃ g, (arg10.view.loc (c : Thread nD τ) ↦[arg10.view.set]{fullShare} g) ∗ ⌜arg10.view.read (Elt F) g = arg10.view.read (Elt F) f10⌝) ∗ (∃ g, (arg11.view.loc (c : Thread nD τ) ↦[arg11.view.set]{fullShare} g) ∗ ⌜arg11.view.read (Elt F) g = k0_pay2 x0 x1⌝)) -∗ K ⟨⟩))
    ⊢ wp frame (wpE (defs₀ (F := F)) Variants.none c none) E (cc0_inproj_normrope i arg1 harg1 arg2 harg2 arg3 harg3 arg4 harg4 arg5 harg5 arg6 harg6 arg7 harg7 arg8 harg8 arg9 harg9 arg10 harg10 arg11 harg11) K := by
  simp only [cc0_inproj_normrope_eq_skeleton]; unfold cc0_inproj_normrope_skel
  simp only [k0_part1_eq_skeleton, k0_part2_eq_skeleton, k0_part3_eq_skeleton, k0_part4_eq_skeleton, k0_part5_eq_skeleton]
  iintro ⟨H0, H1, H2, H3, H4, H5, H6, H7, H8, HS, Hk⟩
  sl_exec (disch := first | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    refine Eq.trans ?_ (read9 arg9.view f9 x2 x3 x4 x5 (arg11.view.read (Elt F) f11))
    refine congrArg (fun L => arg9.view.read (Elt F) (arg9.view.writes (Elt F) f9 L)) ?_
    unfold pieces9
    try delta bodyC.sl.r
    try delta bodyC.sl.r_1
    try delta bodyC.sl.r_2
    try delta bodyC.sl.r_3
    try delta bodyC.sl.r_4
    try delta bodyC.sl.r_5
    try delta bodyC.sl.r_6
    try delta bodyC.sl.r_7
    try delta bodyC.sl.r_8
    try delta bodyC.sl.r_9
    try delta bodyC.sl.r_10
    try delta bodyC.sl.r
    try delta bodyC.sl.r_1
    try delta bodyC.sl.r_2
    try delta bodyC.sl.r_3
    try delta bodyC.sl.r_4
    try delta bodyC.sl.r_5
    try delta bodyC.sl.r_6
    try delta bodyC.sl.r_7
    try delta bodyC.sl.r_8
    try delta bodyC.sl.r_9
    try delta bodyC.sl.r_10
    try delta bodyC.sl.r
    try delta bodyC.sl.r_1
    try delta bodyC.sl.r_2
    try delta bodyC.sl.r_3
    try delta bodyC.sl.r_4
    try delta bodyC.sl.r_5
    try delta bodyC.sl.r_6
    try delta bodyC.sl.r_7
    try delta bodyC.sl.r_8
    try delta bodyC.sl.r_9
    try delta bodyC.sl.r_10
    simp only [View.readAt_eq_ld, View.readCov, rw11, rd4, rd7, rd2, rd3, rd8, c0, c1, c2, c3, c4, c5, c6, c7, Memref.IsWhole.read_unread]
    rfl
  isplitl [H8]
  · iexists _; isplitl [H8]; · iexact H8
    ipureintro
    rfl
  iexists _; isplitl [HS]; · iexact HS
  ipureintro
  refine (whole_read _ _ zz2 _ _ _).trans ?_
  simp only [View.readAt_eq_ld, rd2, rd3, Memref.IsWhole.read_unread]

end Cert.Proof.Norm
end
-- ==== Proof.Norm.Blocks.lean ====
module

public import proofs.«01_k».proof.Proof.Norm.Body

@[expose] public section

set_option maxRecDepth 16384
set_option backward.proofsInPublic true

noncomputable section

/-! # Where a step's blocks lie

At step `t` the product is that of row block `t / 4` and column block `t % 4`, and the half-heads written are those of
step `t - 1`. -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem points : grid0.N = 89 := by decide +kernel
theorem cond1_at : ∀ t : Fin grid0.N, k0_cond1 (grid0.coords t) = 1#1 ↔ t.val < 80 := by decide +kernel
theorem cond2_at : ∀ t : Fin grid0.N, cond2 (grid0.coords t) = 1#1 ↔ t.val = 0 := by decide +kernel
theorem at0 : ∀ t : Fin grid0.N, cc0_transform_0 (grid0.coords t) 0 = min t.val 87 / 4 ∧ cc0_transform_0 (grid0.coords t) 1 = 0 := by decide +kernel
theorem at1 : ∀ t : Fin grid0.N, cc0_transform_1 (F := Ideal) k0_off1_inb numel1_S1 litI (grid0.coords t) 0 = 0
    ∧ cc0_transform_1 (F := Ideal) k0_off1_inb numel1_S1 litI (grid0.coords t) 1 = min t.val 87 % 4 := by decide +kernel
theorem at2 : ∀ t : Fin grid0.N, cc0_transform_2 (grid0.coords t) 0 = (t.val - 1) / 4 % 11 ∧ cc0_transform_2 (grid0.coords t) 1 = 0 := by decide +kernel
theorem at3 : ∀ t : Fin grid0.N, cc0_transform_3 (grid0.coords t) 0 = (t.val - 1) / 4 % 11 ∧ cc0_transform_3 (grid0.coords t) 1 = 0 := by decide +kernel
theorem at4 : ∀ t : Fin grid0.N, cc0_transform_4 (grid0.coords t) 0 = (t.val - 1) / 4 % 11 ∧ cc0_transform_4 (grid0.coords t) 1 = 0 := by decide +kernel
theorem at5 : ∀ t : Fin grid0.N, cc0_transform_5 (grid0.coords t) 0 = (t.val - 1) % 4 / 2 ∧ cc0_transform_5 (grid0.coords t) 1 = 0 ∧ cc0_transform_5 (grid0.coords t) 2 = 0 := by decide +kernel
theorem at6 : ∀ t : Fin grid0.N, cc0_transform_6 (grid0.coords t) 0 = min t.val 79 / 5 ∧ cc0_transform_6 (grid0.coords t) 1 = 2 + min t.val 79 % 5 := by decide +kernel
theorem at7 : ∀ t : Fin grid0.N, cc0_transform_7 (grid0.coords t) 0 = (t.val - 1) % 4 ∧ cc0_transform_7 (grid0.coords t) 1 = (t.val - 1) / 4 ∧ cc0_transform_7 (grid0.coords t) 2 = 0 := by decide +kernel
theorem at8 : ∀ t : Fin grid0.N, cc0_transform_8 (grid0.coords t) 0 = min t.val 79 / 5 ∧ cc0_transform_8 (grid0.coords t) 1 = min t.val 79 % 5 := by decide +kernel
theorem flush7 : ∀ t : Fin grid0.N, Pipeline.Window.flushOf grid0 true cc0_transform_7 t = true ↔ 1 ≤ t.val := by decide +kernel
theorem flush8 : ∀ t : Fin grid0.N, Pipeline.Window.flushOf grid0 true cc0_transform_8 t = true ↔ (t.val < 79 ∨ t.val = 88) := by decide +kernel

variable (m : (ℓ : Loc nD τ sig) → Buf (Elt F) ℓ)

theorem tlt (t : Fin (cfgM m).N) : t.val < 89 := Nat.lt_of_lt_of_eq t.isLt points

theorem wflush7 (t : Fin (cfgM m).N) : ((cfgM m).win 7).flush t = true ↔ 1 ≤ t.val := flush7 t
theorem wflush8 (t : Fin (cfgM m).N) : ((cfgM m).win 8).flush t = true ↔ (t.val < 79 ∨ t.val = 88) := flush8 t

abbrev wx0 (t : Fin (cfgM m).N) : Fin 2 → ℕ := ((cfgM m).win 0).index t
abbrev rect0 (t : Fin (cfgM m).N) : Rect S16896x4096 := ((cfgM m).win 0).rect t
abbrev wx1 (t : Fin (cfgM m).N) : Fin 2 → ℕ := ((cfgM m).win 1).index t
abbrev rect1 (t : Fin (cfgM m).N) : Rect S4096x4096 := ((cfgM m).win 1).rect t
abbrev wx2 (t : Fin (cfgM m).N) : Fin 2 → ℕ := ((cfgM m).win 2).index t
abbrev rect2 (t : Fin (cfgM m).N) : Rect S8448x128 := ((cfgM m).win 2).rect t
abbrev wx3 (t : Fin (cfgM m).N) : Fin 2 → ℕ := ((cfgM m).win 3).index t
abbrev rect3 (t : Fin (cfgM m).N) : Rect S8448x128 := ((cfgM m).win 3).rect t
abbrev wx4 (t : Fin (cfgM m).N) : Fin 2 → ℕ := ((cfgM m).win 4).index t
abbrev rect4 (t : Fin (cfgM m).N) : Rect S8448x128 := ((cfgM m).win 4).rect t
abbrev wx5 (t : Fin (cfgM m).N) : Fin 3 → ℕ := ((cfgM m).win 5).index t
abbrev rect5 (t : Fin (cfgM m).N) : Rect S2x1x128 := ((cfgM m).win 5).rect t
abbrev wx6 (t : Fin (cfgM m).N) : Fin 2 → ℕ := ((cfgM m).win 6).index t
abbrev rect6 (t : Fin (cfgM m).N) : Rect S4096x14336 := ((cfgM m).win 6).rect t
abbrev wx7 (t : Fin (cfgM m).N) : Fin 3 → ℕ := ((cfgM m).win 7).index t
abbrev rect7 (t : Fin (cfgM m).N) : Rect S16x16896x256 := ((cfgM m).win 7).rect t
abbrev wx8 (t : Fin (cfgM m).N) : Fin 2 → ℕ := ((cfgM m).win 8).index t
abbrev rect8 (t : Fin (cfgM m).N) : Rect S4096x10240 := ((cfgM m).win 8).rect t

theorem blk_arg1 (t : Fin (cfgM m).N) (r : Fin 256) : 256 * (min t.val 79 / 5) + r.val < 4096 := by have := tlt m t; omega
theorem blk_arg1' (t : Fin (cfgM m).N) (k : Fin 2048) : 4096 + 2048 * (min t.val 79 % 5) + k.val < 14336 := by have := tlt m t; omega

/-- The block to cast at a step. -/
theorem ib6 (c : Dev nD) (t : Fin (cfgM m).N) (r : Fin 256) (k : Fin 2048) :
    (iblk m c 6 t : Vec F S256x2048 .f32) (ix2 r k) = V m c main_arg1 (ix2 (⟨_, blk_arg1 m t r⟩ : Fin 4096) (⟨_, blk_arg1' m t k⟩ : Fin 14336)) := by
  have hi : wx6 m t 0 = min t.val 79 / 5 ∧ wx6 m t 1 = 2 + min t.val 79 % 5 := at6 t
  refine (View.read_apply (v := (((cfgM m).win 6).blk t).view) _ _).trans ?_
  show V m c main_arg1 ((rect6 m t).emb (ix2 r k)) = V m c main_arg1 _
  congr 1
  funext a
  apply Fin.ext
  match a with
  | ⟨0, _⟩ => show wx6 m t 0 * 256 + 1 * r.val = 256 * (min t.val 79 / 5) + r.val; rw [hi.1]; omega
  | ⟨1, _⟩ => show wx6 m t 1 * 2048 + 1 * k.val = 4096 + 2048 * (min t.val 79 % 5) + k.val; rw [hi.2]; omega

/-- From step 80 on the block to cast stays. -/
theorem ib6_pred (c : Dev nD) (t t' : Fin (cfgM m).N) (h : min t.val 79 = min t'.val 79) :
    (iblk m c 6 t : Vec F S256x2048 .f32) = iblk m c 6 t' := by
  refine funext fun (j : S256x2048.Idx) => ?_
  obtain ⟨r, k, rfl⟩ : ∃ (r : Fin 256) (k : Fin 2048), j = ix2 r k :=
    ⟨j 0, j 1, by funext a; match a with | ⟨0, _⟩ => rfl | ⟨1, _⟩ => rfl⟩
  refine (ib6 m c t r k).trans ((?_ : _ = _).trans (ib6 m c t' r k).symm)
  refine congrArg (V m c main_arg1) (congrArg₂ ix2 (Fin.ext ?_) (Fin.ext ?_))
  · show 256 * (min t.val 79 / 5) + r.val = 256 * (min t'.val 79 / 5) + r.val; rw [h]
  · show 4096 + 2048 * (min t.val 79 % 5) + k.val = 4096 + 2048 * (min t'.val 79 % 5) + k.val; rw [h]

end Cert.Proof.Norm
end
-- ==== Proof.Norm.Frame.lean ====
module

public import proofs.«01_k».proof.Proof.Norm.Blocks
public import Idealize.ShloMosaic.Lib.Claim

@[expose] public section

set_option maxRecDepth 16384
set_option backward.proofsInPublic true

noncomputable section

/-! # The points, run in order -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A step, from the contents of its buffers. -/
theorem bodyOwn (c : Dev nD) (i : grid0.Coords) (arg1 : Memref sig .tc .smem S4 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S4x768x256 .bf16) (harg9 : arg9.IsWhole) (arg10 : Memref sig .tc .vmem S256x2048 .bf16) (harg10 : arg10.IsWhole) (arg11 : Memref sig .tc .vmem S768x1024 .f32) (harg11 : arg11.IsWhole) (hx : cond2 i = 1#1 → k0_cond1 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32) (d10 : Vec F S256x2048 .bf16) (acc : Vec F S768x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d10 ∗ owns (c : Thread nD τ) arg11 fullShare acc
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (halves x2 x3 x4 x5 (accIn i acc)) ∗ owns (c : Thread nD τ) arg10 fullShare (castOut i x6 d10) ∗ owns (c : Thread nD τ) arg11 fullShare (k0_pay2 x0 x1)) -∗ K ⟨⟩))
    ⊢ wp frame (wpE (defs₀ (F := F)) Variants.none c none) E (cc0_inproj_normrope i arg1 harg1 arg2 harg2 arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, %hf9, H7⟩, ⟨%f10, %hf10, H8⟩, ⟨%f11, %hf11, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  subst hf10; subst hf11
  unfold accIn castOut
  by_cases hc2 : cond2 i = 1#1
  · have hc1 := hx hc2
    rw [if_pos hc2, if_pos hc1]
    iapply (bodyA c i arg1 harg1 arg2 harg2 arg3 harg3 arg4 harg4 arg5 harg5 arg6 harg6 arg7 harg7 arg8 harg8 arg9 harg9 arg10 harg10 arg11 harg11 hc1 hc2 x0 x1 x2 x3 x4 x5 x6 f9 f10 f11 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, ⟨%g9, H7, %h9⟩, ⟨%g10, H8, %h10⟩, ⟨%g11, HS, %h11⟩⟩
    iapply Hk
    isplitl [H0]
    · iexists _; isplitr
      swap; · iexact H0
      ipureintro; exact harg2.read_unread _
    isplitl [H1]
    · iexists _; isplitr
      swap; · iexact H1
      ipureintro; exact harg3.read_unread _
    isplitl [H2]
    · iexists _; isplitr
      swap; · iexact H2
      ipureintro; exact harg4.read_unread _
    isplitl [H3]
    · iexists _; isplitr
      swap; · iexact H3
      ipureintro; exact harg5.read_unread _
    isplitl [H4]
    · iexists _; isplitr
      swap; · iexact H4
      ipureintro; exact harg6.read_unread _
    isplitl [H5]
    · iexists _; isplitr
      swap; · iexact H5
      ipureintro; exact harg7.read_unread _
    isplitl [H6]
    · iexists _; isplitr
      swap; · iexact H6
      ipureintro; exact harg8.read_unread _
    isplitl [H7]
    · iexists _; isplitr
      swap; · iexact H7
      ipureintro; exact h9
    isplitl [H8]
    · iexists _; isplitr
      swap; · iexact H8
      ipureintro; exact h10
    iexists _; isplitr
    swap; · iexact HS
    ipureintro; exact h11
  · rw [if_neg hc2]
    by_cases hc1 : k0_cond1 i = 1#1
    · rw [if_pos hc1]
      iapply (bodyB c i arg1 harg1 arg2 harg2 arg3 harg3 arg4 harg4 arg5 harg5 arg6 harg6 arg7 harg7 arg8 harg8 arg9 harg9 arg10 harg10 arg11 harg11 hc1 hc2 x0 x1 x2 x3 x4 x5 x6 f9 f10 f11 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, ⟨%g9, H7, %h9⟩, ⟨%g10, H8, %h10⟩, ⟨%g11, HS, %h11⟩⟩
      iapply Hk
      isplitl [H0]
      · iexists _; isplitr
        swap; · iexact H0
        ipureintro; exact harg2.read_unread _
      isplitl [H1]
      · iexists _; isplitr
        swap; · iexact H1
        ipureintro; exact harg3.read_unread _
      isplitl [H2]
      · iexists _; isplitr
        swap; · iexact H2
        ipureintro; exact harg4.read_unread _
      isplitl [H3]
      · iexists _; isplitr
        swap; · iexact H3
        ipureintro; exact harg5.read_unread _
      isplitl [H4]
      · iexists _; isplitr
        swap; · iexact H4
        ipureintro; exact harg6.read_unread _
      isplitl [H5]
      · iexists _; isplitr
        swap; · iexact H5
        ipureintro; exact harg7.read_unread _
      isplitl [H6]
      · iexists _; isplitr
        swap; · iexact H6
        ipureintro; exact harg8.read_unread _
      isplitl [H7]
      · iexists _; isplitr
        swap; · iexact H7
        ipureintro; exact h9
      isplitl [H8]
      · iexists _; isplitr
        swap; · iexact H8
        ipureintro; exact h10
      iexists _; isplitr
      swap; · iexact HS
      ipureintro; exact h11
    · rw [if_neg hc1]
      iapply (bodyC c i arg1 harg1 arg2 harg2 arg3 harg3 arg4 harg4 arg5 harg5 arg6 harg6 arg7 harg7 arg8 harg8 arg9 harg9 arg10 harg10 arg11 harg11 hc1 hc2 x0 x1 x2 x3 x4 x5 x6 f9 f10 f11 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, ⟨%g9, H7, %h9⟩, ⟨%g10, H8, %h10⟩, ⟨%g11, HS, %h11⟩⟩
      iapply Hk
      isplitl [H0]
      · iexists _; isplitr
        swap; · iexact H0
        ipureintro; exact harg2.read_unread _
      isplitl [H1]
      · iexists _; isplitr
        swap; · iexact H1
        ipureintro; exact harg3.read_unread _
      isplitl [H2]
      · iexists _; isplitr
        swap; · iexact H2
        ipureintro; exact harg4.read_unread _
      isplitl [H3]
      · iexists _; isplitr
        swap; · iexact H3
        ipureintro; exact harg5.read_unread _
      isplitl [H4]
      · iexists _; isplitr
        swap; · iexact H4
        ipureintro; exact harg6.read_unread _
      isplitl [H5]
      · iexists _; isplitr
        swap; · iexact H5
        ipureintro; exact harg7.read_unread _
      isplitl [H6]
      · iexists _; isplitr
        swap; · iexact H6
        ipureintro; exact harg8.read_unread _
      isplitl [H7]
      · iexists _; isplitr
        swap; · iexact H7
        ipureintro; exact h9
      isplitl [H8]
      · iexists _; isplitr
        swap; · iexact H8
        ipureintro; exact h10
      iexists _; isplitr
      swap; · iexact HS
      ipureintro; exact h11

variable (m : (ℓ : Loc nD τ sig) → Buf (Elt F) ℓ) (ρ : Dev nD → PrngReg)

/-- The product of a step. -/
def prodAt (c : Dev nD) (t : Fin (cfgM m).N) : Vec F S768x1024 .f32 := k0_pay2 (iblk m c 0 t : Vec F S768x4096 .bf16) (iblk m c 1 t : Vec F S4096x1024 .bf16)

/-- The product a step finds: that of the step before. -/
def accAt (c : Dev nD) : (n : ℕ) → n < (cfgM m).N → Vec F S768x1024 .f32
  | 0, _ => k0_pay4
  | n + 1, h => prodAt m c ⟨n, Nat.lt_of_succ_lt h⟩

/-- What the kernel's own buffer holds before a step. -/
def PhiS (c : Dev nD) : (n : ℕ) → n ≤ (cfgM m).N → sProp 𝕄
  | 0, _ => iprop(Pipeline.ΦA spec0 c ∗ Pipeline.ΦT pre0 (tbl m) c)
  | n + 1, hn => iprop((owns (c : Thread nD τ) scM fullShare (prodAt m c ⟨n, hn⟩) ∗ (∃ r, prngReg c r)) ∗ Pipeline.ΦT pre0 (tbl m) c)

theorem PhiS_zero (c : Dev nD) (n : ℕ) (h : n ≤ (cfgM m).N) (hz : n = 0) : PhiS m c n h = iprop(Pipeline.ΦA spec0 c ∗ Pipeline.ΦT pre0 (tbl m) c) := by
  subst hz; rfl
theorem PhiS_succ (c : Dev nD) (n : ℕ) (hn : n < (cfgM m).N) : PhiS m c (n + 1) hn = iprop((owns (c : Thread nD τ) scM fullShare (prodAt m c ⟨n, hn⟩) ∗ (∃ r, prngReg c r)) ∗ Pipeline.ΦT pre0 (tbl m) c) := rfl

/-- The half-heads a step writes. -/
def outB (c : Dev nD) (t : Fin (cfgM m).N) : Vec F S4x768x256 .bf16 :=
  halves (iblk m c 2 t : Vec F S768x128 .f32) (iblk m c 3 t : Vec F S768x128 .f32) (iblk m c 4 t : Vec F S768x128 .f32) (iblk m c 5 t : Vec F S1x1x128 .f32) (accAt m c t.val t.isLt)

/-- The cast block a step leaves. -/
def castB (c : Dev nD) (t : Fin (cfgM m).N) : Vec F S256x2048 .bf16 := k0_pay3 (iblk m c 6 t : Vec F S256x2048 .f32)

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outB m c t
    | ⟨8, _⟩ => castB m c t
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]
theorem PhiS_castSucc (c : Dev nD) (t : Fin (cfgM m).N) :
    (dats m 0 c).Φ t.castSucc = PhiS m c t.val (Nat.le_of_lt t.isLt) := by
  dsimp only [dats]; exact Pipeline.Dat.Φ_castSucc (PhiS m c) t
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = outB m c t := by dsimp only [dats]; try rfl
theorem after0_8 (c : Dev nD) (t : Fin (cfgM m).N) : (dats m 0 c).after 8 t = castB m c t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d
theorem before0_6 (c : Dev nD) (t : Fin (cfgM m).N) (d) : (dats m 0 c).before 6 t d = iblk m c 6 t :=
  before0_6_of m (dats m 0 c) (A_eq m c 6) (after0_6 m c) t d

/-- From step 80 on the kernel does not touch the cast block. -/
theorem idle8 (t : Fin (cfgM m).N) (h : 80 ≤ t.val) : (cfgM m).idle 8 ((cfgM m).grid.coords t) = true := by
  show (!(k0_cond1 (grid0.coords t) == 1#1)) = true
  rw [Bool.not_eq_true', beq_eq_false_iff_ne]
  exact fun h' => absurd ((cond1_at t).mp h') (Nat.not_lt.mpr h)
theorem live8 (t : Fin (cfgM m).N) (h : t.val < 80) : (cfgM m).idle 8 ((cfgM m).grid.coords t) = false := by
  show (!(k0_cond1 (grid0.coords t) == 1#1)) = false
  rw [Bool.not_eq_false', beq_iff_eq]
  exact (cond1_at t).mpr h

/-- From step 80 on the cast block is as it was. -/
theorem before0_8 (c : Dev nD) : ∀ (n : ℕ) (hn : n < (cfgM m).N) (h : 80 ≤ n) (d), (dats m 0 c).before 8 ⟨n, hn⟩ d = castB m c ⟨n, hn⟩
  | 0, _, h, _ => absurd h (by decide)
  | n + 1, hn, h, d => by
    have h89 : n + 1 < 89 := tlt m ⟨n + 1, hn⟩
    have hn' : n < (cfgM m).N := Nat.lt_of_succ_lt hn
    have hf : ((cfgM m).win 8).flush ⟨n, hn'⟩ = false := Bool.eq_false_iff.mpr fun hf => by
      have h2 := (wflush8 m ⟨n, hn'⟩).mp hf
      have e : (⟨n, hn'⟩ : Fin (cfgM m).N).val = n := rfl
      rw [e] at h2
      omega
    have hc : castB m c ⟨n, hn'⟩ = castB m c ⟨n + 1, hn⟩ := by
      unfold castB
      exact congrArg k0_pay3 (ib6_pred m c _ _ (by show min n 79 = min (n + 1) 79; omega))
    refine ((dats m 0 c).before_of_pos 8 ⟨n + 1, hn⟩ (Nat.succ_ne_zero n) (((cfgM m).win 8).fetch_out rfl _) d).trans ?_
    refine (if_neg (fun h => Bool.false_ne_true (hf.symm.trans h))).trans (Eq.trans ?_ hc)
    show (dats m 0 c).left 8 ⟨n, hn'⟩ d = _
    unfold Dat.left
    by_cases h8 : 80 ≤ n
    · rw [idle8 m ⟨n, hn'⟩ h8]
      exact before0_8 c n hn' h8 d
    · rw [live8 m ⟨n, hn'⟩ (Nat.lt_of_not_le h8)]
      unfold Dat.kept
      refine (Pipeline.fill_of_clip_none 8 _ (fun _ => rfl) d ((dats m 0 c).after 8 ⟨n, hn'⟩) _).trans ?_
      exact (((cfgM m).win 8).fill_cut _ _).trans (after0_8 m c _)

theorem cast_eq (c : Dev nD) (t : Fin (cfgM m).N) (d) :
    castOut (grid0.coords t) (iblk m c 6 t : Vec F S256x2048 .f32) ((dats m 0 c).before 8 t d) = castB m c t := by
  by_cases h : k0_cond1 (grid0.coords t) = 1#1
  · exact (if_pos h).trans rfl
  · exact (if_neg h).trans (before0_8 m c t.val t.isLt (Nat.le_of_not_lt fun h' => h ((cond1_at t).mpr h')) d)

theorem before_cast (c : Dev nD) (t : Fin (cfgM m).N) (h : 80 ≤ t.val) (d) : (dats m 0 c).before 8 t d = (dats m 0 c).after 8 t :=
  (before0_8 m c t.val t.isLt h d).trans (after0_8 m c t).symm

theorem leaves8 (c : Dev nD) (t : Fin (cfgM m).N) : owns (c : Thread nD τ) (ms0_8 m t) fullShare ((dats m 0 c).after 8 t) ⊢ (dats m 0 c).leavesExact 8 t := by
  by_cases h8 : 80 ≤ t.val
  · cases hf : ((cfgM m).win 8).flush t
    · rw [(dats m 0 c).leavesExact_idle 8 t (idle8 m t h8) hf]
      iintro H
      iexists ((dats m 0 c).after 8 t)
      rw [before_cast m c t h8]
      iexact H
    · unfold Dat.leavesExact
      rw [idle8 m t h8, hf]
      exact .rfl
  · unfold Dat.leavesExact
    rw [live8 m t (Nat.lt_of_not_le h8)]
    exact .rfl

def bodyPre (c : Dev nD) (t : Fin (cfgM m).N) : sProp 𝕄 :=
  iprop((dats m 0 c).Φ t.castSucc ∗ (dats m 0 c).owesAt () t.castSucc ∗ (∃ d, owns (c : Thread nD τ) (ms0_0 m t) fullShare ((dats m 0 c).before 0 t d)) ∗ (∃ d, owns (c : Thread nD τ) (ms0_1 m t) fullShare ((dats m 0 c).before 1 t d)) ∗ (∃ d, owns (c : Thread nD τ) (ms0_2 m t) fullShare ((dats m 0 c).before 2 t d)) ∗ (∃ d, owns (c : Thread nD τ) (ms0_3 m t) fullShare ((dats m 0 c).before 3 t d)) ∗ (∃ d, owns (c : Thread nD τ) (ms0_4 m t) fullShare ((dats m 0 c).before 4 t d)) ∗ (∃ d, owns (c : Thread nD τ) (ms0_5 m t) fullShare ((dats m 0 c).before 5 t d)) ∗ (∃ d, owns (c : Thread nD τ) (ms0_6 m t) fullShare ((dats m 0 c).before 6 t d)) ∗ (∃ d, owns (c : Thread nD τ) (ms0_7 m t) fullShare ((dats m 0 c).before 7 t d)) ∗ (∃ d, owns (c : Thread nD τ) (ms0_8 m t) fullShare ((dats m 0 c).before 8 t d)))

def bodyPost (c : Dev nD) (t : Fin (cfgM m).N) : sProp 𝕄 :=
  iprop((dats m 0 c).Φ t.succ ∗ (dats m 0 c).owesAt () t.succ ∗ owns (c : Thread nD τ) (ms0_0 m t) fullShare ((dats m 0 c).after 0 t) ∗ owns (c : Thread nD τ) (ms0_1 m t) fullShare ((dats m 0 c).after 1 t) ∗ owns (c : Thread nD τ) (ms0_2 m t) fullShare ((dats m 0 c).after 2 t) ∗ owns (c : Thread nD τ) (ms0_3 m t) fullShare ((dats m 0 c).after 3 t) ∗ owns (c : Thread nD τ) (ms0_4 m t) fullShare ((dats m 0 c).after 4 t) ∗ owns (c : Thread nD τ) (ms0_5 m t) fullShare ((dats m 0 c).after 5 t) ∗ owns (c : Thread nD τ) (ms0_6 m t) fullShare ((dats m 0 c).after 6 t) ∗ owns (c : Thread nD τ) (ms0_7 m t) fullShare ((dats m 0 c).after 7 t) ∗ (dats m 0 c).leavesExact 8 t)

/-- The kernel's own buffer before a step, as the step finds it. -/
theorem Phi_in (c : Dev nD) (t : Fin (cfgM m).N) :
    PhiS m c t.val (Nat.le_of_lt t.isLt) ⊢ iprop(((∃ acc, owns (c : Thread nD τ) scM fullShare acc ∗ ⌜accIn (grid0.coords t) acc = accAt m c t.val t.isLt⌝) ∗ (∃ r, prngReg c r)) ∗ Pipeline.ΦT pre0 (tbl m) c) := by
  obtain ⟨n, hn⟩ := t
  have hc : cond2 (grid0.coords (⟨n, hn⟩ : Fin grid0.N)) = 1#1 ↔ n = 0 := cond2_at ⟨n, hn⟩
  cases n with
  | zero =>
    show PhiS m c 0 _ ⊢ _
    rw [PhiS_zero m c 0 _ rfl, PhiA0_eq]
    iintro ⟨⟨⟨%y0, HS⟩, Hg⟩, HT⟩
    isplitl [HS Hg]
    · isplitl [HS]
      · iexists _; isplitl [HS]; · iexact HS
        ipureintro; unfold accIn; exact if_pos (hc.mpr rfl)
      iexact Hg
    iexact HT
  | succ n =>
    show PhiS m c (n + 1) (Nat.le_of_lt hn) ⊢ _
    rw [show PhiS m c (n + 1) (Nat.le_of_lt hn) = _ from PhiS_succ m c n (Nat.lt_of_succ_lt hn)]
    iintro ⟨⟨HS, Hg⟩, HT⟩
    isplitl [HS Hg]
    · isplitl [HS]
      · iexists _; isplitl [HS]; · iexact HS
        ipureintro; unfold accIn; exact if_neg (fun h => absurd (hc.mp h) (Nat.succ_ne_zero n))
      iexact Hg
    iexact HT

set_option maxHeartbeats 2000000 in
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, after0_0, after0_1, after0_2, after0_3, after0_4, after0_5, after0_6, after0_7]
  rw [show (dats m 0 c).Φ t.succ = PhiS m c (t.val + 1) t.isLt from rfl, PhiS_succ, PhiS_castSucc m c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ' := (Phi_in m c t) $$ HΦ
  icases HΦ' with ⟨⟨⟨%acc, HS, %hacc⟩, Hg⟩, HT⟩
  iapply (bodyOwn c (grid0.coords t) _ _ _ _ _ _ _ _ _ _ _ _ _ _ _ _ _ _ _ _ _ _ (fun h => (cond1_at t).mpr (by rw [(cond2_at t).mp h]; decide)) (iblk m c 0 t) (iblk m c 1 t) (iblk m c 2 t) (iblk m c 3 t) (iblk m c 4 t) (iblk m c 5 t) (iblk m c 6 t) ((dats m 0 c).before 8 t d8) acc Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  rw [hacc, cast_eq m c t d8]
  iintro ⟨H0, H1, H2, H3, H4, H5, H6, H7, H8, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← after0_8 m c t]; iapply (leaves8 m c t); iexact H8

set_option maxHeartbeats 2000000 in
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last (cfgM m).N) ⊢ Pipeline.ΦA spec0 c := by
  have hN : (cfgM m).N = 88 + 1 := points
  rw [show (dats m 0 c).Φ (Fin.last (cfgM m).N) = PhiS m c (cfgM m).N (le_refl _) from rfl]
  have e : ∀ k (hk : k ≤ (cfgM m).N), k = 88 + 1 → PhiS m c k hk ⊢ Pipeline.ΦA spec0 c := by
    intro k hk he; subst he
    rw [PhiS_succ m c 88 hk, PhiA0_eq]
    iintro ⟨⟨HS, Hg⟩, HT⟩
    isplitl [HS]; · iexists _; iexact HS
    iexact Hg
  exact e _ _ hN

set_option backward.isDefEq.respectTransparency.types false in
/-- The launch: the program ends, with the arrays as the steps leave them and every counter at zero. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.Norm
end
-- ==== Proof.Norm.Host.lean ====
module

public import proofs.«01_k».proof.Proof.Norm.Kit
public import Idealize.ShloMosaic.Lib.Pointwise
public import Idealize.ShloMosaic.Lib.ValueIdx

@[expose] public section

set_option maxRecDepth 16384
set_option backward.proofsInPublic true

noncomputable section

/-! # The arrays the call reads, entry by entry

The tables of cosines and sines are extended by 256 rows which leave a row alone. The lane mask splits each half-head of 128
lanes in quarters of 32: the first and third take the value 32 lanes on, negated; the second and fourth the value 32 lanes back. -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

abbrev A0 (c : Dev nD) : FVec Ideal S16896x4096 .bf16 := m ((c.tc : Thread nD τ).loc main_arg0)
abbrev A1 (c : Dev nD) : FVec Ideal S4096x14336 .f32 := m ((c.tc : Thread nD τ).loc main_arg1)
abbrev A2 (c : Dev nD) : FVec Ideal S1x128 .f32 := m ((c.tc : Thread nD τ).loc main_arg2)
abbrev A3 (c : Dev nD) : FVec Ideal S1x128 .f32 := m ((c.tc : Thread nD τ).loc main_arg3)
abbrev A4 (c : Dev nD) : FVec Ideal S8192x128 .f32 := m ((c.tc : Thread nD τ).loc main_arg4)
abbrev A5 (c : Dev nD) : FVec Ideal S8192x128 .f32 := m ((c.tc : Thread nD τ).loc main_arg5)

/-- The lane mask. -/
def laneMask : IVec S128 1 :=
  have z : IVec S_ 32 := constantI S_ 32 0#32
  have d : IVec S_ 32 := select (cmpi .eq (constantI S_ 32 64#32) z) (constantI S_ 32 1#32) (constantI S_ 32 64#32)
  have q : IVec S128 32 := Host.remsi (iotaInDim S128 32 0) (broadcastInDim S128 ![] bcast_S_S128 d)
  have zs : IVec S128 32 := broadcastInDim S128 ![] bcast_S_S128 z
  have ng : IVec S128 1 := andi (cmpi .ne (cmpi .slt q zs) (broadcastInDim S128 ![] bcast_S_S128 (cmpi .slt d z))) (cmpi .ne q zs)
  cmpi .slt (select ng (addi q (broadcastInDim S128 ![] bcast_S_S128 d)) q) (broadcastInDim S128 ![] bcast_S_S128 (constantI S_ 32 32#32))

theorem laneMask_at : ∀ l : Fin 128, laneMask (ix1 l) = if l.val % 64 < 32 then 1#1 else 0#1 := by
  decide +kernel

/-- 256 rows of one number below a table. -/
abbrev under (a : FVec Ideal S8192x128 .f32) (z : BitVec 32) : FVec Ideal S8448x128 .f32 :=
  concatenate S8448x128 0 [⟨S8192x128, a⟩, ⟨S256x128, broadcastInDim S256x128 ![] bcast_S_S256x128 (constant S_ .f32 z)⟩] concatenates_S8192x128_S256x128_S8448x128_d0

set_option maxHeartbeats 4000000 in
theorem V_w (c : Dev nD) : (V m c main_v3 : FVec Ideal S4096x4096 .bf16) = truncf .bf16 (extractStridedSlice S4096x4096 ![0, 0] (A1 m c) slices_S4096x14336_S4096x4096_0_0) bitsLt_bf16_f32 := by
  unfold V hostAll hostOps0 hostOps0_1 hostOps0_2 hostOps0_3 hostOps0_4 hostOps0_5 hostOps0_6
  simp only [List.flatten_cons, List.flatten_nil, List.append_nil, List.cons_append, List.nil_append]
  after_results

set_option maxHeartbeats 4000000 in
theorem V_co (c : Dev nD) : (V m c main_v9 : FVec Ideal S8448x128 .f32) = under (A4 m c) 0x3F800000#32 := by
  unfold V hostAll hostOps0 hostOps0_1 hostOps0_2 hostOps0_3 hostOps0_4 hostOps0_5 hostOps0_6
  simp only [List.flatten_cons, List.flatten_nil, List.append_nil, List.cons_append, List.nil_append]
  after_results

set_option maxHeartbeats 4000000 in
theorem V_sl (c : Dev nD) : (V m c main_v13 : FVec Ideal S8448x128 .f32) = under (select (broadcastInDim S8192x128 ![1] bcast_S128_S8192x128_1 laneMask) (Host.negf (A5 m c)) (broadcastInDim S8192x128 ![] bcast_S_S8192x128 (constant S_ .f32 0x00000000#32))) 0x00000000#32 := by
  unfold V hostAll hostOps0 hostOps0_1 hostOps0_2 hostOps0_3 hostOps0_4 hostOps0_5 hostOps0_6
  simp only [List.flatten_cons, List.flatten_nil, List.append_nil, List.cons_append, List.nil_append]
  after_results
  rfl

set_option maxHeartbeats 4000000 in
theorem V_sh (c : Dev nD) : (V m c main_v16 : FVec Ideal S8448x128 .f32) = under (select (broadcastInDim S8192x128 ![1] bcast_S128_S8192x128_1 laneMask) (broadcastInDim S8192x128 ![] bcast_S_S8192x128 (constant S_ .f32 0x00000000#32)) (A5 m c)) 0x00000000#32 := by
  unfold V hostAll hostOps0 hostOps0_1 hostOps0_2 hostOps0_3 hostOps0_4 hostOps0_5 hostOps0_6
  simp only [List.flatten_cons, List.flatten_nil, List.append_nil, List.cons_append, List.nil_append]
  after_results
  rfl

set_option maxHeartbeats 4000000 in
theorem V_wt (c : Dev nD) : (V m c main_v20 : FVec Ideal S2x1x128 .f32) = shapeCast S2x1x128 (concatenate S2x128 0
    [⟨S1x128, broadcastInDim S1x128 ![1] bcast_S128_S1x128_1 (shapeCast S128 (A2 m c) shapeCasts_S1x128_S128)⟩,
     ⟨S1x128, broadcastInDim S1x128 ![1] bcast_S128_S1x128_1 (shapeCast S128 (A3 m c) shapeCasts_S1x128_S128)⟩] concatenates_S1x128_S1x128_S2x128_d0) shapeCasts_S2x128_S2x1x128 := by
  unfold V hostAll hostOps0 hostOps0_1 hostOps0_2 hostOps0_3 hostOps0_4 hostOps0_5 hostOps0_6
  simp only [List.flatten_cons, List.flatten_nil, List.append_nil, List.cons_append, List.nil_append]
  after_results
  rfl

theorem w_at (c : Dev nD) (k : Fin 4096) (n : Fin 4096) : (V m c main_v3 (ix2 k n) : EReal) = A1 m c (ix2 k (⟨n.val, by omega⟩ : Fin 14336)) := by
  refine (congrFun (V_w m c) _).trans ?_
  generalize A1 m c = a
  pointwise []

theorem co_at (c : Dev nD) (r : Fin 8448) (l : Fin 128) : (V m c main_v9 (ix2 r l) : EReal) = if h : r.val < 8192 then A4 m c (ix2 ⟨r.val, h⟩ l) else 1 := by
  refine (congrFun (V_co m c) _).trans ?_
  generalize A4 m c = a
  unfold under
  by_cases h : r.val < 8192
  · rw [dif_pos h]
    pointwise []
    rw [dif_pos h]
  · rw [dif_neg h]
    pointwise []
    rw [dif_neg h]

theorem sl_at (c : Dev nD) (r : Fin 8448) (l : Fin 128) : (V m c main_v13 (ix2 r l) : EReal) = if h : r.val < 8192 then (if l.val % 64 < 32 then -(A5 m c (ix2 ⟨r.val, h⟩ l) : EReal) else 0) else 0 := by
  refine (congrFun (V_sl m c) _).trans ?_
  have hm := laneMask_at l
  generalize laneMask = k at hm ⊢
  generalize A5 m c = a
  unfold under
  by_cases h : r.val < 8192
  · rw [dif_pos h]
    pointwise []
    rw [dif_pos h, hm]
    split <;> simp [Scalar.select]
  · rw [dif_neg h]
    pointwise []
    rw [dif_neg h]

theorem sh_at (c : Dev nD) (r : Fin 8448) (l : Fin 128) : (V m c main_v16 (ix2 r l) : EReal) = if h : r.val < 8192 then (if l.val % 64 < 32 then 0 else (A5 m c (ix2 ⟨r.val, h⟩ l) : EReal)) else 0 := by
  refine (congrFun (V_sh m c) _).trans ?_
  have hm := laneMask_at l
  generalize laneMask = k at hm ⊢
  generalize A5 m c = a
  unfold under
  by_cases h : r.val < 8192
  · rw [dif_pos h]
    pointwise []
    rw [dif_pos h, hm]
    split <;> simp [Scalar.select]
  · rw [dif_neg h]
    pointwise []
    rw [dif_neg h]

theorem wt_at (c : Dev nD) (s : Fin 2) (l : Fin 128) : (V m c main_v20 (ix3 s 0 l) : EReal) = if s.val < 1 then A2 m c (ix2 0 l) else A3 m c (ix2 0 l) := by
  refine (congrFun (V_wt m c) _).trans ?_
  generalize A2 m c = a
  generalize A3 m c = b
  by_cases h : s.val < 1
  · rw [if_pos h]
    pointwise []
    rw [dif_pos h]
  · rw [if_neg h]
    pointwise []
    rw [dif_neg h]

end Cert.Proof.Norm
end
-- ==== Proof.Norm.Tile.lean ====
module

public import proofs.«01_k».proof.Proof.Norm.Halves
public import Idealize.ShloMosaic.Lib.Pointwise
public import Idealize.ShloMosaic.Lib.ValueIdx

@[expose] public section

set_option maxRecDepth 16384
set_option backward.proofsInPublic true

noncomputable section

/-! # A half-head and a product, entry by entry -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The reciprocal root mean square of a row, off zero by a fixed small number. -/
def rms (x : Fin 128 → EReal) : EReal :=
  Ideal.rsqrt (Ideal.div (∑ k : Fin 128, x k * x k) (Ideal.ofBits .f32 0x43000000#32) + Ideal.ofBits .f32 0x358637BD#32)

/-- The lane 32 places on, and the lane 32 places back, round the half-head. -/
def on32 (l : Fin 128) : Fin 128 := ⟨(l.val + 128 - 96) % 128, Nat.mod_lt _ (by decide)⟩
def back32 (l : Fin 128) : Fin 128 := ⟨(l.val + 128 - 32) % 128, Nat.mod_lt _ (by decide)⟩

theorem prod_at (x0 : Vec Ideal S768x4096 .bf16) (x1 : Vec Ideal S4096x1024 .bf16) (r : Fin 768) (n : Fin 1024) :
    (k0_pay2 (F := Ideal) x0 x1 (ix2 r n) : EReal) = ∑ k : Fin 4096, (x0 (ix2 r k) : EReal) * x1 (ix2 k n) := by
  pointwise [k0_pay2]

theorem cast_at (x : Vec Ideal S256x2048 .f32) (r : Fin 256) (n : Fin 2048) : (k0_pay3 (F := Ideal) x (ix2 r n) : EReal) = x (ix2 r n) := by
  pointwise [k0_pay3]

theorem head_at (co sl sh : Vec Ideal S768x128 .f32) (wt : Vec Ideal S1x1x128 .f32) (x : Vec Ideal S768x128 .f32) (r : Fin 768) (l : Fin 128) :
    (headOf (F := Ideal) co sl sh wt x (ix3 0 r l) : EReal)
      = x (ix2 r l) * rms (fun k => x (ix2 r k)) * wt (ix3 0 0 l) * co (ix2 r l)
        + x (ix2 r (on32 l)) * rms (fun k => x (ix2 r k)) * wt (ix3 0 0 (on32 l)) * sl (ix2 r l)
        + x (ix2 r (back32 l)) * rms (fun k => x (ix2 r k)) * wt (ix3 0 0 (back32 l)) * sh (ix2 r l) := by
  unfold headOf
  pointwise [k0_pay10, k0_pay9, k0_pay8, k0_pay7, k0_pay6, k0_pay5]
  rfl

end Cert.Proof.Norm
end
-- ==== Proof.Norm.Ref.lean ====
module

public import proofs.«01_k».proof.Proof.Norm.Tile
public import proofs.«01_k».proof.Proof.Gen.Reference4Ideal.Read

@[expose] public section

set_option maxRecDepth 16384
set_option backward.proofsInPublic true

noncomputable section

/-! # The normalised projection the reference takes, entry by entry -/

namespace Cert.Proof.Norm

open Cert.Reference4Ideal Cert.Reference4Ideal.Gen Cert.Reference4Ideal.Read
open Idealize.ShloMosaic Idealize.ShloMosaic.TcCoe Idealize.ShloMosaic.Tactic

/-! # The normalised projection the reference takes, entry by entry -/

variable (x0 : FVec Ideal S16896x4096 .bf16) (x1 : FVec Ideal S4096x14336 .f32) (x2 x3 : FVec Ideal S1x128 .f32) (x4 x5 : FVec Ideal S8192x128 .f32)

/-- One entry of the product. -/
def proj (r : Fin 16896) (n : Fin 4096) : EReal := ∑ k : Fin 4096, (x0 (ix2 r k) : EReal) * x1 (ix2 k (⟨n.val, by omega⟩ : Fin 14336))

/-- Lane `l` of half-head `u`, of the sixteen of the queries and the sixteen of the keys. -/
def lane (u : Fin 32) (l : Fin 128) : Fin 4096 := ⟨128 * u.val + l.val, by omega⟩

/-- One entry of the normalised and weighted product. -/
def nrm (r : Fin 16896) (u : Fin 32) (l : Fin 128) : EReal :=
  proj x0 x1 r (lane u l) * rms (fun k => proj x0 x1 r (lane u k)) * (if u.val < 16 then x2 (ix2 0 l) else x3 (ix2 0 l))

/-- One entry of the result: rotated by its token's angles, a context token left as it is. -/
def rot (r : Fin 16896) (u : Fin 32) (l : Fin 128) : EReal :=
  if h : r.val % 8448 < 8192 then
    nrm x0 x1 x2 x3 r u l * x4 (ix2 ⟨r.val % 8448, h⟩ l)
      + (if l.val % 64 < 32 then -nrm x0 x1 x2 x3 r u (on32 l) else nrm x0 x1 x2 x3 r u (back32 l)) * x5 (ix2 ⟨r.val % 8448, h⟩ l)
  else nrm x0 x1 x2 x3 r u l

def row (b : Fin 2) (τ : Fin 8448) : Fin 16896 := ⟨8448 * b.val + τ.val, by omega⟩
def half (s : Fin 2) (j : Fin 16) : Fin 32 := ⟨16 * s.val + j.val, by omega⟩

theorem v2_at (r : Fin 16896) (n : Fin 4096) : (val_main_v2 (F := Ideal) x0 x1 (ix2 r n) : EReal) = proj x0 x1 r n := by
  rw [val_main_v2_apply]
  refine Finset.sum_congr rfl fun k _ => congrArg₂ (· * ·) (congrArg x0 ?_) ((val_main_v1_apply (F := Ideal) x1 (ridx_main_v2 (ix2 r n) k)).trans (congrArg x1 ?_))
  · funext a; match a with | ⟨0, _⟩ => rfl | ⟨1, _⟩ => rfl
  · funext a; match a with | ⟨0, _⟩ => rfl | ⟨1, _⟩ => rfl

theorem v3_at (b : Fin 2) (τ : Fin 8448) (s : Fin 2) (j : Fin 16) (l : Fin 128) : (val_main_v3 (F := Ideal) x0 x1 (ix5 b τ s j l) : EReal) = proj x0 x1 (row b τ) (lane (half s j) l) := by
  rw [val_main_v3_apply, ← v2_at]
  congr 1
  funext a
  match a with
  | ⟨0, _⟩ => exact Fin.ext (show ((((b.val * 8448 + τ.val) * 2 + s.val) * 16 + j.val) * 128 + l.val) / 4096 = 8448 * b.val + τ.val by omega)
  | ⟨1, _⟩ => exact Fin.ext (show ((((b.val * 8448 + τ.val) * 2 + s.val) * 16 + j.val) * 128 + l.val) % 4096 = 128 * (16 * s.val + j.val) + l.val by omega)

theorem w4_at (s : Fin 2) (l : Fin 128) : (val_main_v4 (F := Ideal) x2 x3 (ix2 s l) : EReal) = if s.val < 1 then x2 (ix2 0 l) else x3 (ix2 0 l) := by
  unfold val_main_v4
  by_cases h : s.val < 1
  · rw [if_pos h]
    pointwise []
    rw [dif_pos h]
    try (refine congrArg (fun u => x2 (ix2 u l)) ?_; exact Subsingleton.elim _ _)
  · rw [if_neg h]
    pointwise []
    rw [dif_neg h]
    try (refine congrArg (fun u => x3 (ix2 u l)) ?_; exact Subsingleton.elim _ _)

theorem v17_at (b : Fin 2) (τ : Fin 8448) (s : Fin 2) (j : Fin 16) (l : Fin 128) : (val_main_v17 (F := Ideal) x0 x1 x2 x3 (ix5 b τ s j l) : EReal) = nrm x0 x1 x2 x3 (row b τ) (half s j) l := by
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  simp only [v3_at, w4_at]
  unfold nrm
  have e : ((half s j).val < 16) = (s.val < 1) := propext (by show 16 * s.val + j.val < 16 ↔ _; omega)
  simp only [e]
  rfl

theorem v18_at (b : Fin 2) (τ : Fin 8192) (s : Fin 2) (j : Fin 16) (l : Fin 128) : (val_main_v18 (F := Ideal) x0 x1 x2 x3 (ix5 b τ s j l) : EReal) = nrm x0 x1 x2 x3 (row b ⟨τ.val, by omega⟩) (half s j) l := by
  rw [← v17_at, val_main_v18_apply]
  congr 1
  funext a
  match a with | ⟨0, _⟩ => rfl | ⟨1, _⟩ => rfl | ⟨2, _⟩ => rfl | ⟨3, _⟩ => rfl | ⟨4, _⟩ => rfl

theorem v25_at (b : Fin 2) (τ : Fin 8192) (s : Fin 2) (j : Fin 16) (l : Fin 128) : (val_main_v25 (F := Ideal) x0 x1 x2 x3 (ix5 b τ s j l) : EReal)
    = if l.val % 64 < 32 then -(val_main_v18 (F := Ideal) x0 x1 x2 x3 (ix5 b τ s j (on32 l)) : EReal) else val_main_v18 (F := Ideal) x0 x1 x2 x3 (ix5 b τ s j (back32 l)) := by
  pointwise [val_main_v25, val_main_v24, val_main_v23, val_main_v22, val_main_v21, val_main_v20, val_main_v19]
  have h1 : ∀ (i k : Fin 128), i.val = k.val → (val_main_v18 (F := Ideal) x0 x1 x2 x3 (ix5 b τ s j i) : EReal) = val_main_v18 (F := Ideal) x0 x1 x2 x3 (ix5 b τ s j k) :=
    fun i k e => by rw [Fin.ext e]
  have hl := l.isLt
  by_cases a : l.val < 32
  · have hb : l.val % 64 < 32 := by omega
    exact (dif_pos a).trans ((congrArg Neg.neg (h1 _ _ (by show 32 + l.val = (l.val + 128 - 96) % 128; omega))).trans (if_pos hb).symm)
  by_cases a2 : l.val - 32 < 32
  · have hb : ¬ l.val % 64 < 32 := by omega
    exact (dif_neg a).trans ((dif_pos a2).trans ((h1 _ _ (by show l.val - 32 = (l.val + 128 - 32) % 128; omega)).trans (if_neg hb).symm))
  by_cases a3 : l.val - 32 - 32 < 32
  · have hb : l.val % 64 < 32 := by omega
    exact (dif_neg a).trans ((dif_neg a2).trans ((dif_pos a3).trans ((congrArg Neg.neg (h1 _ _ (by show 96 + (l.val - 32 - 32) = (l.val + 128 - 96) % 128; omega))).trans (if_pos hb).symm)))
  · have hb : ¬ l.val % 64 < 32 := by omega
    exact (dif_neg a).trans ((dif_neg a2).trans ((dif_neg a3).trans ((h1 _ _ (by show 64 + (l.val - 32 - 32 - 32) = (l.val + 128 - 32) % 128; omega)).trans (if_neg hb).symm)))

theorem v32_at (b : Fin 2) (τ : Fin 8192) (s : Fin 2) (j : Fin 16) (l : Fin 128) : (val_main_v32 (F := Ideal) x0 x1 x2 x3 x4 x5 (ix5 b τ s j l) : EReal)
    = val_main_v18 (F := Ideal) x0 x1 x2 x3 (ix5 b τ s j l) * x4 (ix2 τ l) + val_main_v25 (F := Ideal) x0 x1 x2 x3 (ix5 b τ s j l) * x5 (ix2 τ l) := by
  pointwise [val_main_v32, val_main_v31, val_main_v30, val_main_v29, val_main_v28, val_main_v27, val_main_v26]

theorem v34_at (b : Fin 2) (τ : Fin 8448) (s : Fin 2) (j : Fin 16) (l : Fin 128) : (val_main_v34 (F := Ideal) x0 x1 x2 x3 x4 x5 (ix5 b τ s j l) : EReal)
    = rot x0 x1 x2 x3 x4 x5 (row b τ) (half s j) l := by
  have hr : (row b τ).val % 8448 = τ.val := by show (8448 * b.val + τ.val) % 8448 = τ.val; omega
  unfold rot
  by_cases h : τ.val < 8192
  · rw [dif_pos (by omega)]
    pointwise [val_main_v34]
    rw [dif_pos h, v32_at, v25_at, v18_at, v18_at, v18_at]
    simp only [hr]
  · rw [dif_neg (by omega)]
    pointwise [val_main_v34, val_main_v33]
    rw [dif_neg h, v17_at]
    refine congrArg (fun t => nrm x0 x1 x2 x3 (row b t) (half s j) l) (Fin.ext ?_)
    simp; omega

theorem ref_at (h : Fin 16) (r : Fin 16896) (d : Fin 256) :
    (val_main_v37 (F := Ideal) x0 x1 x2 x3 x4 x5 (ix3 h r d) : EReal)
      = rot x0 x1 x2 x3 x4 x5 r ⟨2 * h.val + d.val / 128, by omega⟩ ⟨d.val % 128, by omega⟩ := by
  have e : (val_main_v37 (F := Ideal) x0 x1 x2 x3 x4 x5 (ix3 h r d) : EReal)
      = val_main_v34 (F := Ideal) x0 x1 x2 x3 x4 x5 (ix5 (⟨r.val / 8448, by omega⟩ : Fin 2) (⟨r.val % 8448, by omega⟩ : Fin 8448)
        (⟨h.val / 8, by omega⟩ : Fin 2) (⟨2 * (h.val % 8) + d.val / 128, by omega⟩ : Fin 16) (⟨d.val % 128, by omega⟩ : Fin 128)) := by
    pointwise [val_main_v37, val_main_v36]
    rw [val_main_v35_apply]
    congr 1
    funext a
    match a with
    | ⟨0, _⟩ => exact Fin.ext (show ((r.val * 16 + h.val) * 256 + d.val) / 34603008 = r.val / 8448 by omega)
    | ⟨1, _⟩ => exact Fin.ext (show ((r.val * 16 + h.val) * 256 + d.val) / 4096 % 8448 = r.val % 8448 by omega)
    | ⟨2, _⟩ => exact Fin.ext (show ((r.val * 16 + h.val) * 256 + d.val) / 2048 % 2 = h.val / 8 by omega)
    | ⟨3, _⟩ => exact Fin.ext (show ((r.val * 16 + h.val) * 256 + d.val) / 128 % 16 = 2 * (h.val % 8) + d.val / 128 by omega)
    | ⟨4, _⟩ => exact Fin.ext (show ((r.val * 16 + h.val) * 256 + d.val) % 128 = d.val % 128 by omega)
  rw [e, v34_at]
  refine congrArg₂ (fun a b => rot x0 x1 x2 x3 x4 x5 a b _) (Fin.ext ?_) (Fin.ext ?_)
  · show 8448 * (r.val / 8448) + r.val % 8448 = r.val; omega
  · show 16 * (h.val / 8) + (2 * (h.val % 8) + d.val / 128) = 2 * h.val + d.val / 128; omega

theorem ref_cast_at (r : Fin 4096) (n : Fin 10240) : (val_main_v39 (F := Ideal) x1 (ix2 r n) : EReal) = x1 (ix2 r (⟨4096 + n.val, by omega⟩ : Fin 14336)) := by
  pointwise [val_main_v39, val_main_v38]

end Cert.Proof.Norm
end
-- ==== Proof.Norm.Value.lean ====
module

public import proofs.«01_k».proof.Proof.Norm.Frame
public import proofs.«01_k».proof.Proof.Norm.Host
public import proofs.«01_k».proof.Proof.Norm.Ref

@[expose] public section

set_option maxRecDepth 16384
set_option backward.proofsInPublic true

noncomputable section

/-! # The normalised projection's results -/

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ)

theorem wi0 (t : Fin (cfgM m).N) : wx0 m t 0 = min t.val 87 / 4 ∧ wx0 m t 1 = 0 := at0 t
/-- The same of any table that holds the four numbers. -/
theorem at1_of (p : pre0.Contents (Elt Ideal)) (h : p = litI) (t : Fin grid0.N) : cc0_transform_1 (F := Ideal) k0_off1_inb numel1_S1 p (grid0.coords t) 0 = 0
    ∧ cc0_transform_1 (F := Ideal) k0_off1_inb numel1_S1 p (grid0.coords t) 1 = min t.val 87 % 4 := by
  subst h; exact at1 t
abbrev bx1 (a : (pcfg0 (F := Ideal)).Adm) (t : Fin (cfg0 a).N) : Fin 2 → ℕ := ((cfg0 a).win 1).index t
theorem idx1 (a : (pcfg0 (F := Ideal)).Adm) (h : a.1 = litI) (t : Fin (cfg0 a).N) :
    bx1 a t 0 = 0 ∧ bx1 a t 1 = min t.val 87 % 4 := at1_of a.1 h t
theorem wi1 (t : Fin (cfgM m).N) : wx1 m t 0 = 0 ∧ wx1 m t 1 = min t.val 87 % 4 := idx1 (adm m) (tblI m) t
theorem wi2 (t : Fin (cfgM m).N) : wx2 m t 0 = (t.val - 1) / 4 % 11 ∧ wx2 m t 1 = 0 := at2 t
theorem wi3 (t : Fin (cfgM m).N) : wx3 m t 0 = (t.val - 1) / 4 % 11 ∧ wx3 m t 1 = 0 := at3 t
theorem wi4 (t : Fin (cfgM m).N) : wx4 m t 0 = (t.val - 1) / 4 % 11 ∧ wx4 m t 1 = 0 := at4 t
theorem wi5 (t : Fin (cfgM m).N) : wx5 m t 0 = (t.val - 1) % 4 / 2 ∧ wx5 m t 1 = 0 ∧ wx5 m t 2 = 0 := at5 t
theorem wi7 (t : Fin (cfgM m).N) : wx7 m t 0 = (t.val - 1) % 4 ∧ wx7 m t 1 = (t.val - 1) / 4 ∧ wx7 m t 2 = 0 := at7 t
theorem wi8 (t : Fin (cfgM m).N) : wx8 m t 0 = min t.val 79 / 5 ∧ wx8 m t 1 = min t.val 79 % 5 := at8 t

/-! ## What a step reads -/

theorem row_lt (t : Fin (cfgM m).N) (r : Fin 768) : 768 * (min t.val 87 / 4) + r.val < 16896 := by omega
theorem col_lt (t : Fin (cfgM m).N) (n : Fin 1024) : 1024 * (min t.val 87 % 4) + n.val < 4096 := by omega
theorem tok_lt (t : Fin (cfgM m).N) (r : Fin 768) : 768 * ((t.val - 1) / 4 % 11) + r.val < 8448 := by omega
theorem wgt_lt (t : Fin (cfgM m).N) : (t.val - 1) % 4 / 2 < 2 := by omega

theorem ib0 (c : Dev nD) (t : Fin (cfgM m).N) (r : Fin 768) (k : Fin 4096) :
    ((iblk m c 0 t : Vec Ideal S768x4096 .bf16) (ix2 r k) : EReal) = A0 m c (ix2 (⟨_, row_lt m t r⟩ : Fin 16896) k) := by
  have hi := wi0 m t
  refine Eq.trans ?_ (congrFun (V_main_arg0 m c) (ix2 (⟨_, row_lt m t r⟩ : Fin 16896) k))
  refine (View.read_apply (v := (((cfgM m).win 0).blk t).view) _ _).trans ?_
  show V m c main_arg0 ((rect0 m t).emb (ix2 r k)) = V m c main_arg0 _
  congr 1
  funext a
  apply Fin.ext
  match a with
  | ⟨0, _⟩ => show wx0 m t 0 * 768 + 1 * r.val = 768 * (min t.val 87 / 4) + r.val; rw [hi.1]; omega
  | ⟨1, _⟩ => show wx0 m t 1 * 4096 + 1 * k.val = k.val; rw [hi.2]; omega

theorem ib1 (c : Dev nD) (t : Fin (cfgM m).N) (k : Fin 4096) (n : Fin 1024) :
    ((iblk m c 1 t : Vec Ideal S4096x1024 .bf16) (ix2 k n) : EReal) = V m c main_v3 (ix2 k (⟨_, col_lt m t n⟩ : Fin 4096)) := by
  have hi := wi1 m t
  refine (View.read_apply (v := (((cfgM m).win 1).blk t).view) _ _).trans ?_
  show V m c main_v3 ((rect1 m t).emb (ix2 k n)) = V m c main_v3 _
  congr 1
  funext a
  apply Fin.ext
  match a with
  | ⟨0, _⟩ => show wx1 m t 0 * 4096 + 1 * k.val = k.val; rw [hi.1]; omega
  | ⟨1, _⟩ => show wx1 m t 1 * 1024 + 1 * n.val = 1024 * (min t.val 87 % 4) + n.val; rw [hi.2]; omega

theorem ib2 (c : Dev nD) (t : Fin (cfgM m).N) (r : Fin 768) (l : Fin 128) :
    ((iblk m c 2 t : Vec Ideal S768x128 .f32) (ix2 r l) : EReal) = V m c main_v9 (ix2 (⟨_, tok_lt m t r⟩ : Fin 8448) l) := by
  have hi := wi2 m t
  refine (View.read_apply (v := (((cfgM m).win 2).blk t).view) _ _).trans ?_
  show V m c main_v9 ((rect2 m t).emb (ix2 r l)) = V m c main_v9 _
  congr 1
  funext a
  apply Fin.ext
  match a with
  | ⟨0, _⟩ => show wx2 m t 0 * 768 + 1 * r.val = 768 * ((t.val - 1) / 4 % 11) + r.val; rw [hi.1]; omega
  | ⟨1, _⟩ => show wx2 m t 1 * 128 + 1 * l.val = l.val; rw [hi.2]; omega

theorem ib3 (c : Dev nD) (t : Fin (cfgM m).N) (r : Fin 768) (l : Fin 128) :
    ((iblk m c 3 t : Vec Ideal S768x128 .f32) (ix2 r l) : EReal) = V m c main_v13 (ix2 (⟨_, tok_lt m t r⟩ : Fin 8448) l) := by
  have hi := wi3 m t
  refine (View.read_apply (v := (((cfgM m).win 3).blk t).view) _ _).trans ?_
  show V m c main_v13 ((rect3 m t).emb (ix2 r l)) = V m c main_v13 _
  congr 1
  funext a
  apply Fin.ext
  match a with
  | ⟨0, _⟩ => show wx3 m t 0 * 768 + 1 * r.val = 768 * ((t.val - 1) / 4 % 11) + r.val; rw [hi.1]; omega
  | ⟨1, _⟩ => show wx3 m t 1 * 128 + 1 * l.val = l.val; rw [hi.2]; omega

theorem ib4 (c : Dev nD) (t : Fin (cfgM m).N) (r : Fin 768) (l : Fin 128) :
    ((iblk m c 4 t : Vec Ideal S768x128 .f32) (ix2 r l) : EReal) = V m c main_v16 (ix2 (⟨_, tok_lt m t r⟩ : Fin 8448) l) := by
  have hi := wi4 m t
  refine (View.read_apply (v := (((cfgM m).win 4).blk t).view) _ _).trans ?_
  show V m c main_v16 ((rect4 m t).emb (ix2 r l)) = V m c main_v16 _
  congr 1
  funext a
  apply Fin.ext
  match a with
  | ⟨0, _⟩ => show wx4 m t 0 * 768 + 1 * r.val = 768 * ((t.val - 1) / 4 % 11) + r.val; rw [hi.1]; omega
  | ⟨1, _⟩ => show wx4 m t 1 * 128 + 1 * l.val = l.val; rw [hi.2]; omega

theorem ib5 (c : Dev nD) (t : Fin (cfgM m).N) (l : Fin 128) :
    ((iblk m c 5 t : Vec Ideal S1x1x128 .f32) (ix3 0 0 l) : EReal) = V m c main_v20 (ix3 (⟨_, wgt_lt m t⟩ : Fin 2) 0 l) := by
  have hi := wi5 m t
  refine (View.read_apply (v := (((cfgM m).win 5).blk t).view) _ _).trans ?_
  show V m c main_v20 ((rect5 m t).emb (ix3 0 0 l)) = V m c main_v20 _
  congr 1
  funext a
  apply Fin.ext
  match a with
  | ⟨0, _⟩ => show wx5 m t 0 * 1 + 1 * 0 = (t.val - 1) % 4 / 2; rw [hi.1]; omega
  | ⟨1, _⟩ => show wx5 m t 1 * 1 + 1 * 0 = 0; rw [hi.2.1]
  | ⟨2, _⟩ => show wx5 m t 2 * 128 + 1 * l.val = l.val; rw [hi.2.2]; omega

/-- One entry of a step's product. -/
theorem prod_step (c : Dev nD) (t : Fin (cfgM m).N) (r : Fin 768) (n : Fin 1024) :
    (prodAt m c t (ix2 r n) : EReal) = proj (A0 m c) (A1 m c) ⟨_, row_lt m t r⟩ ⟨_, col_lt m t n⟩ := by
  unfold prodAt
  refine (prod_at _ _ r n).trans ?_
  exact Finset.sum_congr rfl fun k _ => congrArg₂ (· * ·) (ib0 m c t r k) ((ib1 m c t k n).trans (w_at m c k _))

/-- The row, the half-head and the weight of the step's half-heads. -/
def rowS (t : Fin (cfgM m).N) (r : Fin 768) : Fin 16896 := ⟨768 * ((t.val - 1) / 4) + r.val, by have := tlt m t; omega⟩
def uS (t : Fin (cfgM m).N) (h : Fin 8) : Fin 32 := ⟨8 * ((t.val - 1) % 4) + h.val, by omega⟩

/-- The columns a step takes from the product before it. -/
theorem cols_at (c : Dev nD) (t : Fin (cfgM m).N) (h1 : 1 ≤ t.val) (h : Fin 8) (r : Fin 768) (l : Fin 128) :
    (colsOf (accAt m c t.val t.isLt) h (ix2 r l) : EReal) = proj (A0 m c) (A1 m c) (rowS m t r) (lane (uS m t h) l) := by
  obtain ⟨n, hn⟩ := t
  match n, hn, h1 with
  | n + 1, hn, _ =>
    have h89 : n + 1 < 89 := tlt m ⟨n + 1, hn⟩
    refine (prod_step m c ⟨n, Nat.lt_of_succ_lt hn⟩ r _).trans (congrArg₂ (proj (A0 m c) (A1 m c)) (Fin.ext ?_) (Fin.ext ?_))
    · show 768 * (min n 87 / 4) + r.val = 768 * ((n + 1 - 1) / 4) + r.val
      omega
    · show 1024 * (min n 87 % 4) + (128 * h.val + l.val) = 128 * (8 * ((n + 1 - 1) % 4) + h.val) + l.val
      omega

theorem rotK (a b e x w : EReal) (l : ℕ) :
    a * w + b * (if l < 32 then -x else 0) + e * (if l < 32 then 0 else x) = a * w + (if l < 32 then -b else e) * x := by
  split
  · rw [mul_zero, add_zero, mul_comm b, EReal.neg_mul, EReal.neg_mul, mul_comm x]
  · rw [mul_zero, add_zero]

/-- One entry of a step's half-heads. -/
theorem half_at (c : Dev nD) (t : Fin (cfgM m).N) (h1 : 1 ≤ t.val) (h : Fin 8) (r : Fin 768) (l : Fin 128) :
    (headOf (F := Ideal) (iblk m c 2 t : Vec Ideal S768x128 .f32) (iblk m c 3 t : Vec Ideal S768x128 .f32) (iblk m c 4 t : Vec Ideal S768x128 .f32)
        (iblk m c 5 t : Vec Ideal S1x1x128 .f32) (colsOf (accAt m c t.val t.isLt) h) (ix3 0 r l) : EReal)
      = rot (A0 m c) (A1 m c) (A2 m c) (A3 m c) (A4 m c) (A5 m c) (rowS m t r) (uS m t h) l := by
  have hn : ∀ k : Fin 128, (colsOf (accAt m c t.val t.isLt) h (ix2 r k) : EReal) * rms (fun k => colsOf (accAt m c t.val t.isLt) h (ix2 r k)) * (show EReal from (iblk m c 5 t : Vec Ideal S1x1x128 .f32) (ix3 0 0 k))
      = nrm (A0 m c) (A1 m c) (A2 m c) (A3 m c) (rowS m t r) (uS m t h) k := by
    intro k
    unfold nrm
    refine congrArg₂ (· * ·) (congrArg₂ (· * ·) (cols_at m c t h1 h r k) (congrArg rms (funext fun k => cols_at m c t h1 h r k))) ((ib5 m c t k).trans ((wt_at m c _ k).trans ?_))
    have e : ((t.val - 1) % 4 / 2 < 1) = (8 * ((t.val - 1) % 4) + h.val < 16) := propext (by omega)
    show (if (t.val - 1) % 4 / 2 < 1 then _ else _) = (if 8 * ((t.val - 1) % 4) + h.val < 16 then _ else _)
    simp only [e]
  refine (head_at _ _ _ _ _ r l).trans ?_
  rw [hn l, hn (on32 l), hn (back32 l), ib2 m c t r l, ib3 m c t r l, ib4 m c t r l, co_at m c _ l, sl_at m c _ l, sh_at m c _ l]
  have hr : (rowS m t r).val % 8448 = 768 * ((t.val - 1) / 4 % 11) + r.val := by
    show (768 * ((t.val - 1) / 4) + r.val) % 8448 = _
    omega
  unfold rot
  simp only [hr]
  by_cases h8 : 768 * ((t.val - 1) / 4 % 11) + r.val < 8192
  · rw [dif_pos h8, dif_pos h8, dif_pos h8, dif_pos h8]
    exact rotK _ _ _ _ _ _
  · rw [dif_neg h8, dif_neg h8, dif_neg h8, dif_neg h8, mul_one, mul_zero, mul_zero, add_zero, add_zero]

/-! ## The half-heads -/

/-- The whole of the first result, entry by entry. -/
def whole7 (c : Dev nD) : FVec Ideal S16x16896x256 .bf16 := fun j =>
  rot (A0 m c) (A1 m c) (A2 m c) (A3 m c) (A4 m c) (A5 m c) (j 1)
    ⟨2 * (j 0).val + (j 2).val / 128, by have h0 : (j 0).val < 16 := (j 0).isLt; have h2 : (j 2).val < 256 := (j 2).isLt; omega⟩ ⟨(j 2).val % 128, Nat.mod_lt _ (by decide)⟩

theorem flushed7 (c : Dev nD) (t : Fin (cfgM m).N) (h1 : 1 ≤ t.val) :
    (dats m 0 c).flushed 7 t = (((cfgM m).win 7).blk t).view.read (Elt Ideal) (whole7 m c) := by
  have hi := wi7 m t
  have e : (dats m 0 c).flushed 7 t = ((cfgM m).win 7).cut ((cfgM m).grid.coords t) (outB m c t) :=
    congrArg (((cfgM m).win 7).cut ((cfgM m).grid.coords t)) (after0_7 m c t)
  refine e.trans ?_
  refine funext fun (j : S4x768x256.Idx) => ?_
  refine Eq.trans ?_ (View.read_apply (v := (((cfgM m).win 7).blk t).view) _ _).symm
  obtain ⟨p, r, d, rfl⟩ : ∃ (p : Fin 4) (r : Fin 768) (d : Fin 256), j = ix3 p r d :=
    ⟨j 0, j 1, j 2, by funext a; match a with | ⟨0, _⟩ => rfl | ⟨1, _⟩ => rfl | ⟨2, _⟩ => rfl⟩
  refine (half_at m c t h1 ⟨2 * p.val + d.val / 128, by omega⟩ r ⟨d.val % 128, by omega⟩).trans ?_
  show _ = whole7 m c ((rect7 m t).emb (ix3 p r d))
  unfold whole7
  have e3 : ∀ (a a' : Fin 16896) (b b' : Fin 32) (k k' : Fin 128), a.val = a'.val → b.val = b'.val → k.val = k'.val →
      rot (A0 m c) (A1 m c) (A2 m c) (A3 m c) (A4 m c) (A5 m c) a b k = rot (A0 m c) (A1 m c) (A2 m c) (A3 m c) (A4 m c) (A5 m c) a' b' k' := by
    intro a a' b b' k k' ea eb ek; rw [Fin.ext ea, Fin.ext eb, Fin.ext ek]
  refine e3 _ _ _ _ _ _ ?_ ?_ ?_
  · show 768 * ((t.val - 1) / 4) + r.val = wx7 m t 1 * 768 + 1 * r.val; rw [hi.2.1]; omega
  · show 8 * ((t.val - 1) % 4) + (2 * p.val + d.val / 128) = 2 * (wx7 m t 0 * 4 + 1 * p.val) + (wx7 m t 2 * 256 + 1 * d.val) / 128
    rw [hi.1, hi.2.2]; omega
  · show d.val % 128 = (wx7 m t 2 * 256 + 1 * d.val) % 128; rw [hi.2.2]; omega

theorem final7 (c : Dev nD) : (dats m 0 c).arrAt 7 (cfgM m).N = whole7 m c :=
  (dats m 0 c).arrAt_eq_of_cover 7 (whole7 m c) (fun t ht => flushed7 m c t ((wflush7 m t).mp ht)) (fun (i : S16x16896x256.Idx) => by
    have h0 : (i 0).val < 16 := (i 0).isLt
    have h1 : (i 1).val < 16896 := (i 1).isLt
    have h2 : (i 2).val < 256 := (i 2).isLt
    obtain ⟨t, hv⟩ : ∃ t : Fin (cfgM m).N, t.val = 4 * ((i 1).val / 768) + (i 0).val / 4 + 1 :=
      ⟨⟨4 * ((i 1).val / 768) + (i 0).val / 4 + 1, Nat.lt_of_lt_of_eq (by omega : _ < 89) points.symm⟩, rfl⟩
    refine ⟨t, (wflush7 m t).mpr (by omega), ?_⟩
    have hi := wi7 m t
    have hb : i ∈ (rect7 m t).set := by
      refine Rect.mem_set_unit.mpr fun a => ?_
      match a with
      | ⟨0, _⟩ => show wx7 m t 0 * 4 ≤ (i 0 : Nat) ∧ (i 0 : Nat) < wx7 m t 0 * 4 + 4
                  rw [hi.1]; omega
      | ⟨1, _⟩ => show wx7 m t 1 * 768 ≤ (i 1 : Nat) ∧ (i 1 : Nat) < wx7 m t 1 * 768 + 768
                  rw [hi.2.1]; omega
      | ⟨2, _⟩ => show wx7 m t 2 * 256 ≤ (i 2 : Nat) ∧ (i 2 : Nat) < wx7 m t 2 * 256 + 256
                  rw [hi.2.2]; omega
    show i ∈ (View.slice (Memref.whole main_v21_0).view (rect7 m t)).set
    rw [View.set_slice_whole]; exact hb)

/-- The call's first result is the reference's. -/
theorem result7 (c : Dev nD) : (dats m 0 c).arrAt 7 (cfgM m).N
    = Cert.Reference4Ideal.Read.val_main_v37 (F := Ideal) (A0 m c) (A1 m c) (A2 m c) (A3 m c) (A4 m c) (A5 m c) := by
  rw [final7]
  funext j
  obtain ⟨h, r, d, rfl⟩ : ∃ (h : Fin 16) (r : Fin 16896) (d : Fin 256), j = ix3 h r d :=
    ⟨j 0, j 1, j 2, by funext a; match a with | ⟨0, _⟩ => rfl | ⟨1, _⟩ => rfl | ⟨2, _⟩ => rfl⟩
  exact (ref_at (A0 m c) (A1 m c) (A2 m c) (A3 m c) (A4 m c) (A5 m c) h r d).symm

/-! ## The cast columns -/

/-- The whole of the second result, entry by entry. -/
def whole8 (c : Dev nD) : FVec Ideal S4096x10240 .bf16 := fun j =>
  A1 m c (ix2 (j 0) (⟨4096 + (j 1).val, by have h1 : (j 1).val < 10240 := (j 1).isLt; omega⟩ : Fin 14336))

theorem flushed8 (c : Dev nD) (t : Fin (cfgM m).N) :
    (dats m 0 c).flushed 8 t = (((cfgM m).win 8).blk t).view.read (Elt Ideal) (whole8 m c) := by
  have hi := wi8 m t
  have e : (dats m 0 c).flushed 8 t = ((cfgM m).win 8).cut ((cfgM m).grid.coords t) (castB m c t) :=
    congrArg (((cfgM m).win 8).cut ((cfgM m).grid.coords t)) (after0_8 m c t)
  refine e.trans ?_
  refine funext fun (j : S256x2048.Idx) => ?_
  refine Eq.trans ?_ (View.read_apply (v := (((cfgM m).win 8).blk t).view) _ _).symm
  obtain ⟨r, k, rfl⟩ : ∃ (r : Fin 256) (k : Fin 2048), j = ix2 r k :=
    ⟨j 0, j 1, by funext a; match a with | ⟨0, _⟩ => rfl | ⟨1, _⟩ => rfl⟩
  refine (cast_at _ r k).trans ((ib6 m c t r k).trans ((congrFun (V_main_arg1 m c) _).trans ?_))
  show _ = whole8 m c ((rect8 m t).emb (ix2 r k))
  unfold whole8
  refine congrArg (A1 m c) (congrArg₂ ix2 (Fin.ext ?_) (Fin.ext ?_))
  · show 256 * (min t.val 79 / 5) + r.val = wx8 m t 0 * 256 + 1 * r.val; rw [hi.1]; omega
  · show 4096 + 2048 * (min t.val 79 % 5) + k.val = 4096 + (wx8 m t 1 * 2048 + 1 * k.val); rw [hi.2]; omega

theorem final8 (c : Dev nD) : (dats m 0 c).arrAt 8 (cfgM m).N = whole8 m c :=
  (dats m 0 c).arrAt_eq_of_cover 8 (whole8 m c) (fun t _ => flushed8 m c t) (fun (i : S4096x10240.Idx) => by
    have h0 : (i 0).val < 4096 := (i 0).isLt
    have h1 : (i 1).val < 10240 := (i 1).isLt
    obtain ⟨t, hf, hv⟩ : ∃ t : Fin (cfgM m).N, (t.val < 79 ∨ t.val = 88) ∧ min t.val 79 = 5 * ((i 0).val / 256) + (i 1).val / 2048 := by
      by_cases h : 5 * ((i 0).val / 256) + (i 1).val / 2048 < 79
      · exact ⟨⟨5 * ((i 0).val / 256) + (i 1).val / 2048, Nat.lt_of_lt_of_eq (by omega : _ < 89) points.symm⟩, Or.inl h, Nat.min_eq_left (Nat.le_of_lt h)⟩
      · exact ⟨⟨88, Nat.lt_of_lt_of_eq (by decide : 88 < 89) points.symm⟩, Or.inr rfl, by show 79 = _; omega⟩
    refine ⟨t, (wflush8 m t).mpr hf, ?_⟩
    have hi := wi8 m t
    have hb : i ∈ (rect8 m t).set := by
      refine Rect.mem_set_unit.mpr fun a => ?_
      match a with
      | ⟨0, _⟩ => show wx8 m t 0 * 256 ≤ (i 0 : Nat) ∧ (i 0 : Nat) < wx8 m t 0 * 256 + 256
                  rw [hi.1, hv]; omega
      | ⟨1, _⟩ => show wx8 m t 1 * 2048 ≤ (i 1 : Nat) ∧ (i 1 : Nat) < wx8 m t 1 * 2048 + 2048
                  rw [hi.2, hv]; omega
    show i ∈ (View.slice (Memref.whole main_v21_1).view (rect8 m t)).set
    rw [View.set_slice_whole]; exact hb)

/-- The call's second result is the reference's. -/
theorem result8 (c : Dev nD) : (dats m 0 c).arrAt 8 (cfgM m).N = Cert.Reference4Ideal.Read.val_main_v39 (F := Ideal) (A1 m c) := by
  rw [final8]
  funext j
  obtain ⟨r, n, rfl⟩ : ∃ (r : Fin 4096) (n : Fin 10240), j = ix2 r n :=
    ⟨j 0, j 1, by funext a; match a with | ⟨0, _⟩ => rfl | ⟨1, _⟩ => rfl⟩
  exact (ref_cast_at (A1 m c) r n).symm

/-- The run: both results are the reference's, and the arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v21_0) = Cert.Reference4Ideal.Read.val_main_v37 (F := Ideal) (A0 m c) (A1 m c) (A2 m c) (A3 m c) (A4 m c) (A5 m c)
      ∧ r.2.mem ((c.tc : Thread nD τ).loc main_v21_1) = Cert.Reference4Ideal.Read.val_main_v39 (F := Ideal) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 7).trans (result7 m c), ((h.1.1 c).1 8).trans (result8 m c), h.2.1 c⟩)
    (θ_run_and (run_main_quiescent m ρ) (frame m ρ))

end Cert.Proof.Norm
end
-- ==== Proof.Norm.FrameK.lean ====
module

public import proofs.«01_k».proof.Defs
public import proofs.«01_k».proof.Proof.Gen.Kernel4
public import proofs.«01_k».proof.Proof.Norm.Frame

@[expose] public section

noncomputable section

namespace Cert.Proof.Norm

open Idealize.ShloMosaic Idealize.SL.Sem

open Cert.Kernel4Ideal in
/-- The idealized kernel's frame, read at bits. -/
def frameBits : Prop := ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

open Cert.Kernel4Ideal in
theorem frame_bits : frameBits := fun m g _ => Norm.frame m g

theorem frame_same : frameBits = Cert.quiescent_Kernel4 := by chain_rfl

theorem frame_k : Cert.quiescent_Kernel4 := frame_same ▸ frame_bits

end Cert.Proof.Norm
end
-- ==== Proof.Rope.Kit.lean ====
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

/-! # The launch of the rotated projection

The program's host code prepares the tables; then the call runs over its 45 points. Here: what the call finds, the
table of column blocks, the windows' blocks, and the kernel's body at a point. -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host code before the call. -/
abbrev hostAll : List (List (HloOp τ sig (Elt F))) := [hostOps0, hostOps0_1, hostOps0_2, hostOps0_3, hostOps0_4, hostOps0_5, hostOps0_6]

/-- The buffers as the call finds them. -/
abbrev V (c : Dev nD) (b : Ref sig .tc) : Buf (Elt F) ((c : Thread nD τ).loc b) := StableHlo.after hostAll.flatten (fun b => m (c, b)) b

theorem host_fresh : (hostAll : List (List (HloOp τ sig (Elt F)))).Forall fun ops => ops.Forall fun op => op.fresh = ∅ := by
  refine List.forall_iff_forall_mem.mpr fun ops h => ?_
  simp only [List.mem_cons, List.not_mem_nil, or_false] at h
  rcases h with rfl | rfl | rfl | rfl | rfl | rfl | rfl <;> (simp only [List.Forall]; repeat' constructor)

theorem host_sub : (hostAll : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll host_sub host_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostAll, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The table of column blocks -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The two numbers the program lays down: 4, 5. -/
def litI : pre0.Contents (Elt F) := fun
  | 0 => fun i => lit0 (S2.rowMajor i)
  | ⟨_ + 1, h⟩ => absurd h (Nat.not_lt.2 (Nat.le_add_left _ _))

set_option maxHeartbeats 2000000 in
theorem tblI : tbl m = litI := by
  funext j
  obtain rfl : j = 0 := Subsingleton.elim _ _
  show V m 0 main_c = fun i => lit0 (S2.rowMajor i)
  unfold V hostAll hostOps0 hostOps0_1 hostOps0_2 hostOps0_3 hostOps0_4 hostOps0_5 hostOps0_6
  simp only [List.flatten_cons, List.flatten_nil, List.append_nil, List.cons_append, List.nil_append]
  after_results; try rfl

theorem ok_litI : ok0 (F := F) litI := of_decide_eq_true (by sl_kernel_rfl)

theorem okI : ok0 (F := F) (tbl m) := by rw [tblI]; exact ok_litI

abbrev adm : (pcfg0 (F := F)).Adm := ⟨tbl m, okI m⟩
abbrev cfgM : Pipeline.Cfg sig Λ₀ := cfg0 (adm m)

abbrev tbM0_0 : Memref sig .tc .smem S2 .i32 := Memref.whole main_c
abbrev htbM0_0 : tbM0_0.IsWhole := Memref.isWhole_whole _

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The arguments end as they began, of any run that leaves the arrays as the call's data says. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 6).trans (((dats 0 c).arrAt_in 6 rfl _).trans ((hA c 6).trans (V_main_arg2 m c))),
      ((h c).2 main_arg3 (show main_arg3 ∈ Pipeline.restRefs sig spec0 from Pipeline.mem_restRefs_of main_arg3 (by decide) (by decide))).trans (V_main_arg3 m c),
      ((h c).2 main_arg4 (show main_arg4 ∈ Pipeline.restRefs sig spec0 from Pipeline.mem_restRefs_of main_arg4 (by decide) (by decide))).trans (V_main_arg4 m c)⟩) h

/-! ## The staging buffers at a point -/

abbrev ms0_0 (t : Fin (cfgM m).N) : Memref sig .tc .vmem S768x4096 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S4096x1024 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S768x128 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S768x128 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S768x128 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x1x128 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S256x2048 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S8x768x128 .bf16 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S256x2048 .bf16 := spec0_8.stage ((cfgM m).slots t 8)
abbrev hs0_8 (t : Fin (cfgM m).N) : (ms0_8 m t).IsWhole := hstage0_8 (((cfgM m).slots t 8).cast nbuf0_8)
abbrev scM : Memref sig .tc .vmem S768x1024 .f32 := Memref.whole cc0_scratch0
abbrev hscM : scM.IsWhole := Memref.isWhole_whole _

/-- The kernel body at a point. -/
abbrev bodyAt0 (t : Fin (cfgM m).N) : Prog (TpuEff nD τ sig (Elt F) Λ₀ .tc) PUnit :=
  cc0_inproj_rope (grid0.coords t) tbM0_0 htbM0_0 (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) scM hscM

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The body table's row at a point is the body. -/
theorem defs₀_row (t : Fin (cfgM m).N) :
    defs₀ (F := F) .tc (cfgM m).body ((cfgM m).bodyArgs t ((cfgM m).slots t)) = bodyAt0 m t := by
  unfold defs₀; rw [Defs.onTc_tc]

end Cert.Proof.Rope
end
-- ==== Proof.Rope.Halves.lean ====
module

public import proofs.«01_k».proof.Proof.Rope.Kit

@[expose] public section

set_option maxRecDepth 16384
set_option backward.proofsInPublic true

noncomputable section

/-! # One step of the rotated projection

A step first rotates and weighs the eight heads of the product the step before left in the scratch buffer, then
leaves there its own product. -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A head: 128 columns of the product, rotated and weighted. -/
def headOf (co sl sh : Vec F S768x128 .f32) (wt : Vec F S1x1x128 .f32) (x : Vec F S768x128 .f32) : Vec F S1x768x128 .bf16 := k0_pay10 co sl sh wt x

/-- Columns `128 h` to `128 h + 127` of the product. -/
def colsOf (acc : Vec F S768x1024 .f32) (h : Fin 8) : Vec F S768x128 .f32 := fun j => acc (ix2 (j 0) ⟨128 * h.val + (j 1).val, by have h1 : (j 1).val < 128 := (j 1).isLt; omega⟩)

/-- The eight heads, one above the other. -/
def halves (co sl sh : Vec F S768x128 .f32) (wt : Vec F S1x1x128 .f32) (acc : Vec F S768x1024 .f32) : Vec F S8x768x128 .bf16 := fun y =>
  headOf co sl sh wt (colsOf acc (y 0)) (ix3 (0 : Fin 1) (y 1) (y 2))

theorem zz2 : (![0, 0] : Fin 2 → ℕ) = fun _ => 0 := by funext a; match a with | ⟨0, _⟩ => rfl | ⟨1, _⟩ => rfl
theorem zz3 : (![0, 0, 0] : Fin 3 → ℕ) = fun _ => 0 := by funext a; match a with | ⟨0, _⟩ => rfl | ⟨1, _⟩ => rfl | ⟨2, _⟩ => rfl

/-- A load of 128 columns reads those columns. -/
theorem ld_cols (acc : Vec F S768x1024 .f32) (h : Fin 8) (n : ℕ) (hn : n = 128 * h.val) (inb : ∀ a, (![0, n] : Fin 2 → ℕ) a + S768x128.size a ≤ S768x1024.size a) :
    View.ld (Val := Elt F) acc (Rect.unit (s := S768x1024) ![0, n] S768x128.size inb) = colsOf acc h := by
  subst hn
  funext j
  show acc _ = acc _
  congr 1
  funext a; apply Fin.ext
  match a with
  | ⟨0, _⟩ => show 0 + 1 * (j 0).val = (j 0).val; omega
  | ⟨1, _⟩ => show 128 * h.val + 1 * (j 1).val = 128 * h.val + (j 1).val; omega

/-- A head's entry, at the place its store puts it. -/
theorem halves_emb (co sl sh : Vec F S768x128 .f32) (wt : Vec F S1x1x128 .f32) (acc : Vec F S768x1024 .f32) (p : ℕ) (h : Fin 8) (hp : p = h.val)
    (inb : ∀ a, (![p, 0, 0] : Fin 3 → ℕ) a + S1x768x128.size a ≤ S8x768x128.size a) (x : S1x768x128.Idx) :
    headOf co sl sh wt (colsOf acc h) x = halves co sl sh wt acc ((Rect.unit (s := S8x768x128) ![p, 0, 0] S1x768x128.size inb).emb x) := by
  have h0 : (x 0).val < 1 := (x 0).isLt
  have e : ∀ (k k' : Fin 8) (j j' : S1x768x128.Idx), k = k' → j = j' → headOf co sl sh wt (colsOf acc k) j = headOf co sl sh wt (colsOf acc k') j' := by
    intro k k' j j' e1 e2; rw [e1, e2]
  refine e _ _ _ _ (Fin.ext ?_) (funext fun a => Fin.ext ?_)
  · show h.val = p + 1 * (x 0).val
    omega
  · match a with
    | ⟨0, _⟩ => show (x 0).val = 0; omega
    | ⟨1, _⟩ => show (x 1).val = 0 + 1 * (x 1).val; omega
    | ⟨2, _⟩ => show (x 2).val = 0 + 1 * (x 2).val; omega

abbrev VO9 : View sig .tc .vmem S8x768x128 .bf16 := (Memref.whole cc0_stg7_0 : Memref sig .tc .vmem S8x768x128 .bf16).view

/-- The eight stores of a step, the last first. -/
def pieces9 (co sl sh : Vec F S768x128 .f32) (wt : Vec F S1x1x128 .f32) (acc : Vec F S768x1024 .f32) : List (View.Piece (Elt F) S8x768x128 .bf16) := [
      ⟨Rect.unit (s := S8x768x128) ![7, 0, 0] S1x768x128.size inb_S8x768x128_S1x768x128_7_0_0, headOf co sl sh wt (colsOf acc 7)⟩,
      ⟨Rect.unit (s := S8x768x128) ![6, 0, 0] S1x768x128.size inb_S8x768x128_S1x768x128_6_0_0, headOf co sl sh wt (colsOf acc 6)⟩,
      ⟨Rect.unit (s := S8x768x128) ![5, 0, 0] S1x768x128.size inb_S8x768x128_S1x768x128_5_0_0, headOf co sl sh wt (colsOf acc 5)⟩,
      ⟨Rect.unit (s := S8x768x128) ![4, 0, 0] S1x768x128.size inb_S8x768x128_S1x768x128_4_0_0, headOf co sl sh wt (colsOf acc 4)⟩,
      ⟨Rect.unit (s := S8x768x128) ![3, 0, 0] S1x768x128.size inb_S8x768x128_S1x768x128_3_0_0, headOf co sl sh wt (colsOf acc 3)⟩,
      ⟨Rect.unit (s := S8x768x128) ![2, 0, 0] S1x768x128.size inb_S8x768x128_S1x768x128_2_0_0, headOf co sl sh wt (colsOf acc 2)⟩,
      ⟨Rect.unit (s := S8x768x128) ![1, 0, 0] S1x768x128.size inb_S8x768x128_S1x768x128_1_0_0, headOf co sl sh wt (colsOf acc 1)⟩,
      ⟨Rect.unit (s := S8x768x128) ![0, 0, 0] S1x768x128.size inb_S8x768x128_S1x768x128_0_0_0, headOf co sl sh wt (colsOf acc 0)⟩]

theorem cover9 (co sl sh : Vec F S768x128 .f32) (wt : Vec F S1x1x128 .f32) (acc : Vec F S768x1024 .f32) (y : S8x768x128.Idx) :
    ∃ pc ∈ pieces9 co sl sh wt acc, y ∈ pc.1.set :=
  View.cover_of_tiledL (pieces9 co sl sh wt acc) S1x768x128.size (by sl_kernel_rfl) y

/-- The eight stores leave the eight heads. -/
theorem read9 (v : View sig .tc .vmem S8x768x128 .bf16) (f : v.ty.Contents (Elt F)) (co sl sh : Vec F S768x128 .f32) (wt : Vec F S1x1x128 .f32) (acc : Vec F S768x1024 .f32) :
    v.read (Elt F) (v.writes (Elt F) f (pieces9 co sl sh wt acc)) = halves co sl sh wt acc := by
  refine (View.read_writes_of_cover _ _ VO9 VO9.junk _ (cover9 co sl sh wt acc)).trans ?_
  rw [View.read_writes_junk_eq_canon]
  funext y
  refine View.canon_apply_of_pieces (halves co sl sh wt acc) _ ?_ y (cover9 co sl sh wt acc y)
  intro p hp
  unfold pieces9 at hp
  simp only [List.mem_cons, List.not_mem_nil, or_false] at hp
  rcases hp with rfl | rfl | rfl | rfl | rfl | rfl | rfl | rfl
  · exact fun x => halves_emb co sl sh wt acc 7 7 rfl inb_S8x768x128_S1x768x128_7_0_0 x
  · exact fun x => halves_emb co sl sh wt acc 6 6 rfl inb_S8x768x128_S1x768x128_6_0_0 x
  · exact fun x => halves_emb co sl sh wt acc 5 5 rfl inb_S8x768x128_S1x768x128_5_0_0 x
  · exact fun x => halves_emb co sl sh wt acc 4 4 rfl inb_S8x768x128_S1x768x128_4_0_0 x
  · exact fun x => halves_emb co sl sh wt acc 3 3 rfl inb_S8x768x128_S1x768x128_3_0_0 x
  · exact fun x => halves_emb co sl sh wt acc 2 2 rfl inb_S8x768x128_S1x768x128_2_0_0 x
  · exact fun x => halves_emb co sl sh wt acc 1 1 rfl inb_S8x768x128_S1x768x128_1_0_0 x
  · exact fun x => halves_emb co sl sh wt acc 0 0 rfl inb_S8x768x128_S1x768x128_0_0_0 x

/-- Whether a step is the first. -/
abbrev cond2 (i : grid0.Coords) : BitVec 1 := Scalar.cmpi .ne (Scalar.extui (Scalar.cmpi .eq (BitVec.ofNat 32 (i 0).val) 0#32) : BitVec 32) 0#32

/-- The product a step finds: zeros at the first. -/
def accIn (i : grid0.Coords) (acc : Vec F S768x1024 .f32) : Vec F S768x1024 .f32 := if cond2 i = 1#1 then k0_pay5 else acc
/-- The cast block a step leaves. -/
def castOut (i : grid0.Coords) (x6 : Vec F S256x2048 .f32) (d : Vec F S256x2048 .bf16) : Vec F S256x2048 .bf16 := if k0_cond1 i = 1#1 then k0_pay4 x6 else d

end Cert.Proof.Rope
end
-- ==== Proof.Rope.Body.lean ====
module

public import proofs.«01_k».proof.Proof.Rope.Halves

@[expose] public section

set_option maxRecDepth 16384
set_option backward.proofsInPublic true

noncomputable section

/-! # A step, run -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable {sg : RefSig} {κ : Kind} {sp : Space} {s : Shape} {e : EltTy} {Val : EltTy → Type}

/-- A store over a whole buffer leaves what it stores, whatever was there. -/
theorem whole_read (v : View sg κ sp s e) (f : v.ty.Contents Val) {off : Fin s.rank → ℕ} (h : off = fun _ => 0) (inb : ∀ a, off a + s.size a ≤ s.size a)
    (w : (Rect.unit off s.size inb).shape.Idx → Val e) (L : List (View.Piece Val s e)) :
    v.read Val (v.writes Val f (⟨Rect.unit off s.size inb, w⟩ :: L)) = w := by
  subst h
  funext x
  have e : x = (Rect.unit (fun _ => 0) s.size inb).emb x := by
    funext a; refine Fin.ext ?_
    show (x a).val = 0 + 1 * (x a).val
    omega
  refine Eq.trans ?_ (View.read_writes_cons_emb v f (Rect.unit (fun _ => 0) s.size inb) w L x)
  exact congrArg _ e
end

theorem rw11 (v : View sig .tc .vmem S768x1024 .f32) (f : v.ty.Contents (Elt F)) (inb) (w : S768x1024.Idx → Elt F .f32) (L : List (View.Piece (Elt F) S768x1024 .f32)) :
    v.read (Elt F) (v.writes (Elt F) f (⟨Rect.unit (s := S768x1024) ![0, 0] ![768, 1024] inb, w⟩ :: L)) = w := whole_read v f zz2 inb w L
theorem rd2 (x : Vec F S768x4096 .bf16) (inb) : View.ld (Val := Elt F) x (Rect.unit (s := S768x4096) ![0, 0] ![768, 4096] inb) = x := View.ld_unit_zero zz2 inb x
theorem rd3 (x : Vec F S4096x1024 .bf16) (inb) : View.ld (Val := Elt F) x (Rect.unit (s := S4096x1024) ![0, 0] ![4096, 1024] inb) = x := View.ld_unit_zero zz2 inb x
theorem rd4 (x : Vec F S768x128 .f32) (inb) : View.ld (Val := Elt F) x (Rect.unit (s := S768x128) ![0, 0] ![768, 128] inb) = x := View.ld_unit_zero zz2 inb x
theorem rd7 (x : Vec F S1x1x128 .f32) (inb) : View.ld (Val := Elt F) x (Rect.unit (s := S1x1x128) ![0, 0, 0] ![1, 1, 128] inb) = x := View.ld_unit_zero zz3 inb x
theorem rd8 (x : Vec F S256x2048 .f32) (inb) : View.ld (Val := Elt F) x (Rect.unit (s := S256x2048) ![0, 0] ![256, 2048] inb) = x := View.ld_unit_zero zz2 inb x
theorem c0 (acc : Vec F S768x1024 .f32) (inb) : View.ld (Val := Elt F) acc (Rect.unit (s := S768x1024) ![0, 0] ![768, 128] inb) = colsOf acc 0 := ld_cols acc 0 0 rfl inb
theorem c1 (acc : Vec F S768x1024 .f32) (inb) : View.ld (Val := Elt F) acc (Rect.unit (s := S768x1024) ![0, 128] ![768, 128] inb) = colsOf acc 1 := ld_cols acc 1 128 rfl inb
theorem c2 (acc : Vec F S768x1024 .f32) (inb) : View.ld (Val := Elt F) acc (Rect.unit (s := S768x1024) ![0, 256] ![768, 128] inb) = colsOf acc 2 := ld_cols acc 2 256 rfl inb
theorem c3 (acc : Vec F S768x1024 .f32) (inb) : View.ld (Val := Elt F) acc (Rect.unit (s := S768x1024) ![0, 384] ![768, 128] inb) = colsOf acc 3 := ld_cols acc 3 384 rfl inb
theorem c4 (acc : Vec F S768x1024 .f32) (inb) : View.ld (Val := Elt F) acc (Rect.unit (s := S768x1024) ![0, 512] ![768, 128] inb) = colsOf acc 4 := ld_cols acc 4 512 rfl inb
theorem c5 (acc : Vec F S768x1024 .f32) (inb) : View.ld (Val := Elt F) acc (Rect.unit (s := S768x1024) ![0, 640] ![768, 128] inb) = colsOf acc 5 := ld_cols acc 5 640 rfl inb
theorem c6 (acc : Vec F S768x1024 .f32) (inb) : View.ld (Val := Elt F) acc (Rect.unit (s := S768x1024) ![0, 768] ![768, 128] inb) = colsOf acc 6 := ld_cols acc 6 768 rfl inb
theorem c7 (acc : Vec F S768x1024 .f32) (inb) : View.ld (Val := Elt F) acc (Rect.unit (s := S768x1024) ![0, 896] ![768, 128] inb) = colsOf acc 7 := ld_cols acc 7 896 rfl inb

set_option maxHeartbeats 2000000 in
theorem bodyA (c : Dev nD) (i : grid0.Coords) (arg1 : Memref sig .tc .smem S2 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S8x768x128 .bf16) (harg9 : arg9.IsWhole) (arg10 : Memref sig .tc .vmem S256x2048 .bf16) (harg10 : arg10.IsWhole) (arg11 : Memref sig .tc .vmem S768x1024 .f32) (harg11 : arg11.IsWhole) (hc1 : k0_cond1 i = 1#1) (hc2 : cond2 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32)
    (f9 : BufTy.Contents (Elt F) arg9.view.ty) (f10 : BufTy.Contents (Elt F) arg10.view.ty) (f11 : BufTy.Contents (Elt F) arg11.view.ty)
    (E : Set ℕ) (K : PUnit → sProp 𝕄) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗
      (((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (∃ g, (arg9.view.loc (c : Thread nD τ) ↦[arg9.view.set]{fullShare} g) ∗ ⌜arg9.view.read (Elt F) g = halves x2 x3 x4 x5 (k0_pay5)⌝)
        ∗ (∃ g, (arg10.view.loc (c : Thread nD τ) ↦[arg10.view.set]{fullShare} g) ∗ ⌜arg10.view.read (Elt F) g = k0_pay4 x6⌝) ∗ (∃ g, (arg11.view.loc (c : Thread nD τ) ↦[arg11.view.set]{fullShare} g) ∗ ⌜arg11.view.read (Elt F) g = k0_pay3 x0 x1⌝)) -∗ K ⟨⟩))
    ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11) K := by
  simp only [cc0_inproj_rope_eq_skeleton]; unfold cc0_inproj_rope_skel
  simp only [k0_part1_eq_skeleton, k0_part2_eq_skeleton, k0_part3_eq_skeleton]
  iintro ⟨H0, H1, H2, H3, H4, H5, H6, H7, H8, HS, Hk⟩
  sl_exec (disch := first | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    refine Eq.trans ?_ (read9 arg9.view f9 x2 x3 x4 x5 (k0_pay5))
    refine congrArg (fun L => arg9.view.read (Elt F) (arg9.view.writes (Elt F) f9 L)) ?_
    unfold pieces9
    try delta bodyA.sl.r
    try delta bodyA.sl.r_1
    try delta bodyA.sl.r_2
    try delta bodyA.sl.r_3
    try delta bodyA.sl.r_4
    try delta bodyA.sl.r_5
    try delta bodyA.sl.r_6
    try delta bodyA.sl.r_7
    try delta bodyA.sl.r_8
    try delta bodyA.sl.r_9
    try delta bodyA.sl.r_10
    try delta bodyA.sl.v14
    try delta bodyA.sl.v28
    try delta bodyA.sl.v42
    try delta bodyA.sl.v56
    try delta bodyA.sl.v70
    try delta bodyA.sl.v84
    try delta bodyA.sl.v98
    try delta bodyA.sl.v112
    try delta bodyA.sl.HS_1
    try delta bodyA.sl.HS
    try delta bodyA.sl.r
    try delta bodyA.sl.r_1
    try delta bodyA.sl.r_2
    try delta bodyA.sl.r_3
    try delta bodyA.sl.r_4
    try delta bodyA.sl.r_5
    try delta bodyA.sl.r_6
    try delta bodyA.sl.r_7
    try delta bodyA.sl.r_8
    try delta bodyA.sl.r_9
    try delta bodyA.sl.r_10
    try delta bodyA.sl.v14
    try delta bodyA.sl.v28
    try delta bodyA.sl.v42
    try delta bodyA.sl.v56
    try delta bodyA.sl.v70
    try delta bodyA.sl.v84
    try delta bodyA.sl.v98
    try delta bodyA.sl.v112
    try delta bodyA.sl.HS_1
    try delta bodyA.sl.HS
    try delta bodyA.sl.r
    try delta bodyA.sl.r_1
    try delta bodyA.sl.r_2
    try delta bodyA.sl.r_3
    try delta bodyA.sl.r_4
    try delta bodyA.sl.r_5
    try delta bodyA.sl.r_6
    try delta bodyA.sl.r_7
    try delta bodyA.sl.r_8
    try delta bodyA.sl.r_9
    try delta bodyA.sl.r_10
    try delta bodyA.sl.v14
    try delta bodyA.sl.v28
    try delta bodyA.sl.v42
    try delta bodyA.sl.v56
    try delta bodyA.sl.v70
    try delta bodyA.sl.v84
    try delta bodyA.sl.v98
    try delta bodyA.sl.v112
    try delta bodyA.sl.HS_1
    try delta bodyA.sl.HS
    simp only [View.readAt_eq_ld, View.readCov, rw11, rd4, rd7, rd2, rd3, rd8, c0, c1, c2, c3, c4, c5, c6, c7, Memref.IsWhole.read_unread]
    rfl
  isplitl [H8]
  · iexists _; isplitl [H8]; · iexact H8
    ipureintro
    refine (whole_read _ _ zz2 _ _ _).trans ?_
    simp only [View.readAt_eq_ld, rd8, Memref.IsWhole.read_unread]
  iexists _; isplitl [HS]; · iexact HS
  ipureintro
  refine (whole_read _ _ zz2 _ _ _).trans ?_
  simp only [View.readAt_eq_ld, rd2, rd3, Memref.IsWhole.read_unread]

set_option maxHeartbeats 2000000 in
theorem bodyB (c : Dev nD) (i : grid0.Coords) (arg1 : Memref sig .tc .smem S2 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S8x768x128 .bf16) (harg9 : arg9.IsWhole) (arg10 : Memref sig .tc .vmem S256x2048 .bf16) (harg10 : arg10.IsWhole) (arg11 : Memref sig .tc .vmem S768x1024 .f32) (harg11 : arg11.IsWhole) (hc1 : k0_cond1 i = 1#1) (hc2 : ¬ cond2 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32)
    (f9 : BufTy.Contents (Elt F) arg9.view.ty) (f10 : BufTy.Contents (Elt F) arg10.view.ty) (f11 : BufTy.Contents (Elt F) arg11.view.ty)
    (E : Set ℕ) (K : PUnit → sProp 𝕄) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗
      (((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (∃ g, (arg9.view.loc (c : Thread nD τ) ↦[arg9.view.set]{fullShare} g) ∗ ⌜arg9.view.read (Elt F) g = halves x2 x3 x4 x5 (arg11.view.read (Elt F) f11)⌝)
        ∗ (∃ g, (arg10.view.loc (c : Thread nD τ) ↦[arg10.view.set]{fullShare} g) ∗ ⌜arg10.view.read (Elt F) g = k0_pay4 x6⌝) ∗ (∃ g, (arg11.view.loc (c : Thread nD τ) ↦[arg11.view.set]{fullShare} g) ∗ ⌜arg11.view.read (Elt F) g = k0_pay3 x0 x1⌝)) -∗ K ⟨⟩))
    ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11) K := by
  simp only [cc0_inproj_rope_eq_skeleton]; unfold cc0_inproj_rope_skel
  simp only [k0_part1_eq_skeleton, k0_part2_eq_skeleton, k0_part3_eq_skeleton]
  iintro ⟨H0, H1, H2, H3, H4, H5, H6, H7, H8, HS, Hk⟩
  sl_exec (disch := first | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    refine Eq.trans ?_ (read9 arg9.view f9 x2 x3 x4 x5 (arg11.view.read (Elt F) f11))
    refine congrArg (fun L => arg9.view.read (Elt F) (arg9.view.writes (Elt F) f9 L)) ?_
    unfold pieces9
    try delta bodyB.sl.r
    try delta bodyB.sl.r_1
    try delta bodyB.sl.r_2
    try delta bodyB.sl.r_3
    try delta bodyB.sl.r_4
    try delta bodyB.sl.r_5
    try delta bodyB.sl.r_6
    try delta bodyB.sl.r_7
    try delta bodyB.sl.r_8
    try delta bodyB.sl.r_9
    try delta bodyB.sl.r_10
    try delta bodyB.sl.r
    try delta bodyB.sl.r_1
    try delta bodyB.sl.r_2
    try delta bodyB.sl.r_3
    try delta bodyB.sl.r_4
    try delta bodyB.sl.r_5
    try delta bodyB.sl.r_6
    try delta bodyB.sl.r_7
    try delta bodyB.sl.r_8
    try delta bodyB.sl.r_9
    try delta bodyB.sl.r_10
    try delta bodyB.sl.r
    try delta bodyB.sl.r_1
    try delta bodyB.sl.r_2
    try delta bodyB.sl.r_3
    try delta bodyB.sl.r_4
    try delta bodyB.sl.r_5
    try delta bodyB.sl.r_6
    try delta bodyB.sl.r_7
    try delta bodyB.sl.r_8
    try delta bodyB.sl.r_9
    try delta bodyB.sl.r_10
    simp only [View.readAt_eq_ld, View.readCov, rw11, rd4, rd7, rd2, rd3, rd8, c0, c1, c2, c3, c4, c5, c6, c7, Memref.IsWhole.read_unread]
    rfl
  isplitl [H8]
  · iexists _; isplitl [H8]; · iexact H8
    ipureintro
    refine (whole_read _ _ zz2 _ _ _).trans ?_
    simp only [View.readAt_eq_ld, rd8, Memref.IsWhole.read_unread]
  iexists _; isplitl [HS]; · iexact HS
  ipureintro
  refine (whole_read _ _ zz2 _ _ _).trans ?_
  simp only [View.readAt_eq_ld, rd2, rd3, Memref.IsWhole.read_unread]

set_option maxHeartbeats 2000000 in
theorem bodyC (c : Dev nD) (i : grid0.Coords) (arg1 : Memref sig .tc .smem S2 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S8x768x128 .bf16) (harg9 : arg9.IsWhole) (arg10 : Memref sig .tc .vmem S256x2048 .bf16) (harg10 : arg10.IsWhole) (arg11 : Memref sig .tc .vmem S768x1024 .f32) (harg11 : arg11.IsWhole) (hc1 : ¬ k0_cond1 i = 1#1) (hc2 : ¬ cond2 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32)
    (f9 : BufTy.Contents (Elt F) arg9.view.ty) (f10 : BufTy.Contents (Elt F) arg10.view.ty) (f11 : BufTy.Contents (Elt F) arg11.view.ty)
    (E : Set ℕ) (K : PUnit → sProp 𝕄) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗
      (((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (∃ g, (arg9.view.loc (c : Thread nD τ) ↦[arg9.view.set]{fullShare} g) ∗ ⌜arg9.view.read (Elt F) g = halves x2 x3 x4 x5 (arg11.view.read (Elt F) f11)⌝)
        ∗ (∃ g, (arg10.view.loc (c : Thread nD τ) ↦[arg10.view.set]{fullShare} g) ∗ ⌜arg10.view.read (Elt F) g = arg10.view.read (Elt F) f10⌝) ∗ (∃ g, (arg11.view.loc (c : Thread nD τ) ↦[arg11.view.set]{fullShare} g) ∗ ⌜arg11.view.read (Elt F) g = k0_pay3 x0 x1⌝)) -∗ K ⟨⟩))
    ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11) K := by
  simp only [cc0_inproj_rope_eq_skeleton]; unfold cc0_inproj_rope_skel
  simp only [k0_part1_eq_skeleton, k0_part2_eq_skeleton, k0_part3_eq_skeleton]
  iintro ⟨H0, H1, H2, H3, H4, H5, H6, H7, H8, HS, Hk⟩
  sl_exec (disch := first | sl_exact hc1 | sl_exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    refine Eq.trans ?_ (read9 arg9.view f9 x2 x3 x4 x5 (arg11.view.read (Elt F) f11))
    refine congrArg (fun L => arg9.view.read (Elt F) (arg9.view.writes (Elt F) f9 L)) ?_
    unfold pieces9
    try delta bodyC.sl.r
    try delta bodyC.sl.r_1
    try delta bodyC.sl.r_2
    try delta bodyC.sl.r_3
    try delta bodyC.sl.r_4
    try delta bodyC.sl.r_5
    try delta bodyC.sl.r_6
    try delta bodyC.sl.r_7
    try delta bodyC.sl.r_8
    try delta bodyC.sl.r_9
    try delta bodyC.sl.r_10
    try delta bodyC.sl.r
    try delta bodyC.sl.r_1
    try delta bodyC.sl.r_2
    try delta bodyC.sl.r_3
    try delta bodyC.sl.r_4
    try delta bodyC.sl.r_5
    try delta bodyC.sl.r_6
    try delta bodyC.sl.r_7
    try delta bodyC.sl.r_8
    try delta bodyC.sl.r_9
    try delta bodyC.sl.r_10
    try delta bodyC.sl.r
    try delta bodyC.sl.r_1
    try delta bodyC.sl.r_2
    try delta bodyC.sl.r_3
    try delta bodyC.sl.r_4
    try delta bodyC.sl.r_5
    try delta bodyC.sl.r_6
    try delta bodyC.sl.r_7
    try delta bodyC.sl.r_8
    try delta bodyC.sl.r_9
    try delta bodyC.sl.r_10
    simp only [View.readAt_eq_ld, View.readCov, rw11, rd4, rd7, rd2, rd3, rd8, c0, c1, c2, c3, c4, c5, c6, c7, Memref.IsWhole.read_unread]
    rfl
  isplitl [H8]
  · iexists _; isplitl [H8]; · iexact H8
    ipureintro
    rfl
  iexists _; isplitl [HS]; · iexact HS
  ipureintro
  refine (whole_read _ _ zz2 _ _ _).trans ?_
  simp only [View.readAt_eq_ld, rd2, rd3, Memref.IsWhole.read_unread]

end Cert.Proof.Rope
end
-- ==== Proof.Rope.Blocks.lean ====
module

public import proofs.«01_k».proof.Proof.Rope.Body

@[expose] public section

set_option maxRecDepth 16384
set_option backward.proofsInPublic true

noncomputable section

/-! # Where a step's blocks lie

At step `t` the product is that of row block `t / 4` and column block `t % 4`, and the half-heads written are those of
step `t - 1`. -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem points : grid0.N = 45 := by decide +kernel
theorem cond1_at : ∀ t : Fin grid0.N, k0_cond1 (grid0.coords t) = 1#1 ↔ t.val < 32 := by decide +kernel
theorem cond2_at : ∀ t : Fin grid0.N, cond2 (grid0.coords t) = 1#1 ↔ t.val = 0 := by decide +kernel
theorem at0 : ∀ t : Fin grid0.N, cc0_transform_0 (grid0.coords t) 0 = min t.val 43 / 2 ∧ cc0_transform_0 (grid0.coords t) 1 = 0 := by decide +kernel
theorem at1 : ∀ t : Fin grid0.N, cc0_transform_1 (F := Ideal) k0_off1_inb numel1_S1 litI (grid0.coords t) 0 = 0
    ∧ cc0_transform_1 (F := Ideal) k0_off1_inb numel1_S1 litI (grid0.coords t) 1 = 4 + min t.val 43 % 2 := by decide +kernel
theorem at2 : ∀ t : Fin grid0.N, cc0_transform_2 (grid0.coords t) 0 = (t.val - 1) / 2 % 11 ∧ cc0_transform_2 (grid0.coords t) 1 = 0 := by decide +kernel
theorem at3 : ∀ t : Fin grid0.N, cc0_transform_3 (grid0.coords t) 0 = (t.val - 1) / 2 % 11 ∧ cc0_transform_3 (grid0.coords t) 1 = 0 := by decide +kernel
theorem at4 : ∀ t : Fin grid0.N, cc0_transform_4 (grid0.coords t) 0 = (t.val - 1) / 2 % 11 ∧ cc0_transform_4 (grid0.coords t) 1 = 0 := by decide +kernel
theorem at5 : ∀ t : Fin grid0.N, cc0_transform_5 (grid0.coords t) 0 = (t.val - 1) % 2 ∧ cc0_transform_5 (grid0.coords t) 1 = 0 ∧ cc0_transform_5 (grid0.coords t) 2 = 0 := by decide +kernel
theorem at6 : ∀ t : Fin grid0.N, cc0_transform_6 (grid0.coords t) 0 = min t.val 31 / 2 ∧ cc0_transform_6 (grid0.coords t) 1 = min t.val 31 % 2 := by decide +kernel
theorem at7 : ∀ t : Fin grid0.N, cc0_transform_7 (grid0.coords t) 0 = (t.val - 1) % 2 ∧ cc0_transform_7 (grid0.coords t) 1 = (t.val - 1) / 2 ∧ cc0_transform_7 (grid0.coords t) 2 = 0 := by decide +kernel
theorem at8 : ∀ t : Fin grid0.N, cc0_transform_8 (grid0.coords t) 0 = min t.val 31 / 2 ∧ cc0_transform_8 (grid0.coords t) 1 = min t.val 31 % 2 := by decide +kernel
theorem flush7 : ∀ t : Fin grid0.N, Pipeline.Window.flushOf grid0 true cc0_transform_7 t = true ↔ 1 ≤ t.val := by decide +kernel
theorem flush8 : ∀ t : Fin grid0.N, Pipeline.Window.flushOf grid0 true cc0_transform_8 t = true ↔ (t.val < 31 ∨ t.val = 44) := by decide +kernel

variable (m : (ℓ : Loc nD τ sig) → Buf (Elt F) ℓ)

theorem tlt (t : Fin (cfgM m).N) : t.val < 45 := Nat.lt_of_lt_of_eq t.isLt points

theorem wflush7 (t : Fin (cfgM m).N) : ((cfgM m).win 7).flush t = true ↔ 1 ≤ t.val := flush7 t
theorem wflush8 (t : Fin (cfgM m).N) : ((cfgM m).win 8).flush t = true ↔ (t.val < 31 ∨ t.val = 44) := flush8 t

abbrev wx0 (t : Fin (cfgM m).N) : Fin 2 → ℕ := ((cfgM m).win 0).index t
abbrev rect0 (t : Fin (cfgM m).N) : Rect S16896x4096 := ((cfgM m).win 0).rect t
abbrev wx1 (t : Fin (cfgM m).N) : Fin 2 → ℕ := ((cfgM m).win 1).index t
abbrev rect1 (t : Fin (cfgM m).N) : Rect S4096x10240 := ((cfgM m).win 1).rect t
abbrev wx2 (t : Fin (cfgM m).N) : Fin 2 → ℕ := ((cfgM m).win 2).index t
abbrev rect2 (t : Fin (cfgM m).N) : Rect S8448x128 := ((cfgM m).win 2).rect t
abbrev wx3 (t : Fin (cfgM m).N) : Fin 2 → ℕ := ((cfgM m).win 3).index t
abbrev rect3 (t : Fin (cfgM m).N) : Rect S8448x128 := ((cfgM m).win 3).rect t
abbrev wx4 (t : Fin (cfgM m).N) : Fin 2 → ℕ := ((cfgM m).win 4).index t
abbrev rect4 (t : Fin (cfgM m).N) : Rect S8448x128 := ((cfgM m).win 4).rect t
abbrev wx5 (t : Fin (cfgM m).N) : Fin 3 → ℕ := ((cfgM m).win 5).index t
abbrev rect5 (t : Fin (cfgM m).N) : Rect S2x1x128 := ((cfgM m).win 5).rect t
abbrev wx6 (t : Fin (cfgM m).N) : Fin 2 → ℕ := ((cfgM m).win 6).index t
abbrev rect6 (t : Fin (cfgM m).N) : Rect S4096x4096 := ((cfgM m).win 6).rect t
abbrev wx7 (t : Fin (cfgM m).N) : Fin 3 → ℕ := ((cfgM m).win 7).index t
abbrev rect7 (t : Fin (cfgM m).N) : Rect S16x16896x128 := ((cfgM m).win 7).rect t
abbrev wx8 (t : Fin (cfgM m).N) : Fin 2 → ℕ := ((cfgM m).win 8).index t
abbrev rect8 (t : Fin (cfgM m).N) : Rect S4096x4096 := ((cfgM m).win 8).rect t

theorem blk_arg1 (t : Fin (cfgM m).N) (r : Fin 256) : 256 * (min t.val 31 / 2) + r.val < 4096 := by have := tlt m t; omega
theorem blk_arg1' (t : Fin (cfgM m).N) (k : Fin 2048) : 2048 * (min t.val 31 % 2) + k.val < 4096 := by have := tlt m t; omega

/-- The block to cast at a step. -/
theorem ib6 (c : Dev nD) (t : Fin (cfgM m).N) (r : Fin 256) (k : Fin 2048) :
    (iblk m c 6 t : Vec F S256x2048 .f32) (ix2 r k) = V m c main_arg2 (ix2 (⟨_, blk_arg1 m t r⟩ : Fin 4096) (⟨_, blk_arg1' m t k⟩ : Fin 4096)) := by
  have hi : wx6 m t 0 = min t.val 31 / 2 ∧ wx6 m t 1 = min t.val 31 % 2 := at6 t
  refine (View.read_apply (v := (((cfgM m).win 6).blk t).view) _ _).trans ?_
  show V m c main_arg2 ((rect6 m t).emb (ix2 r k)) = V m c main_arg2 _
  congr 1
  funext a
  apply Fin.ext
  match a with
  | ⟨0, _⟩ => show wx6 m t 0 * 256 + 1 * r.val = 256 * (min t.val 31 / 2) + r.val; rw [hi.1]; omega
  | ⟨1, _⟩ => show wx6 m t 1 * 2048 + 1 * k.val = 2048 * (min t.val 31 % 2) + k.val; rw [hi.2]; omega

/-- From step 32 on the block to cast stays. -/
theorem ib6_pred (c : Dev nD) (t t' : Fin (cfgM m).N) (h : min t.val 31 = min t'.val 31) :
    (iblk m c 6 t : Vec F S256x2048 .f32) = iblk m c 6 t' := by
  refine funext fun (j : S256x2048.Idx) => ?_
  obtain ⟨r, k, rfl⟩ : ∃ (r : Fin 256) (k : Fin 2048), j = ix2 r k :=
    ⟨j 0, j 1, by funext a; match a with | ⟨0, _⟩ => rfl | ⟨1, _⟩ => rfl⟩
  refine (ib6 m c t r k).trans ((?_ : _ = _).trans (ib6 m c t' r k).symm)
  refine congrArg (V m c main_arg2) (congrArg₂ ix2 (Fin.ext ?_) (Fin.ext ?_))
  · show 256 * (min t.val 31 / 2) + r.val = 256 * (min t'.val 31 / 2) + r.val; rw [h]
  · show 2048 * (min t.val 31 % 2) + k.val = 2048 * (min t'.val 31 % 2) + k.val; rw [h]

end Cert.Proof.Rope
end
-- ==== Proof.Rope.Frame.lean ====
module

public import proofs.«01_k».proof.Proof.Rope.Blocks
public import Idealize.ShloMosaic.Lib.Claim

@[expose] public section

set_option maxRecDepth 16384
set_option backward.proofsInPublic true

noncomputable section

/-! # The points, run in order -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A step, from the contents of its buffers. -/
theorem bodyOwn (c : Dev nD) (i : grid0.Coords) (arg1 : Memref sig .tc .smem S2 .i32) (harg1 : arg1.IsWhole) (arg2 : Memref sig .tc .vmem S768x4096 .bf16) (harg2 : arg2.IsWhole) (arg3 : Memref sig .tc .vmem S4096x1024 .bf16) (harg3 : arg3.IsWhole) (arg4 : Memref sig .tc .vmem S768x128 .f32) (harg4 : arg4.IsWhole) (arg5 : Memref sig .tc .vmem S768x128 .f32) (harg5 : arg5.IsWhole) (arg6 : Memref sig .tc .vmem S768x128 .f32) (harg6 : arg6.IsWhole) (arg7 : Memref sig .tc .vmem S1x1x128 .f32) (harg7 : arg7.IsWhole) (arg8 : Memref sig .tc .vmem S256x2048 .f32) (harg8 : arg8.IsWhole) (arg9 : Memref sig .tc .vmem S8x768x128 .bf16) (harg9 : arg9.IsWhole) (arg10 : Memref sig .tc .vmem S256x2048 .bf16) (harg10 : arg10.IsWhole) (arg11 : Memref sig .tc .vmem S768x1024 .f32) (harg11 : arg11.IsWhole) (hx : cond2 i = 1#1 → k0_cond1 i = 1#1)
    (x0 : Vec F S768x4096 .bf16) (x1 : Vec F S4096x1024 .bf16) (x2 : Vec F S768x128 .f32) (x3 : Vec F S768x128 .f32) (x4 : Vec F S768x128 .f32) (x5 : Vec F S1x1x128 .f32) (x6 : Vec F S256x2048 .f32) (d10 : Vec F S256x2048 .bf16) (acc : Vec F S768x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d10 ∗ owns (c : Thread nD τ) arg11 fullShare acc
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (halves x2 x3 x4 x5 (accIn i acc)) ∗ owns (c : Thread nD τ) arg10 fullShare (castOut i x6 d10) ∗ owns (c : Thread nD τ) arg11 fullShare (k0_pay3 x0 x1)) -∗ K ⟨⟩))
    ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, %hf9, H7⟩, ⟨%f10, %hf10, H8⟩, ⟨%f11, %hf11, HS⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  subst hf10; subst hf11
  unfold accIn castOut
  by_cases hc2 : cond2 i = 1#1
  · have hc1 := hx hc2
    rw [if_pos hc2, if_pos hc1]
    iapply (bodyA c i arg1 harg1 arg2 harg2 arg3 harg3 arg4 harg4 arg5 harg5 arg6 harg6 arg7 harg7 arg8 harg8 arg9 harg9 arg10 harg10 arg11 harg11 hc1 hc2 x0 x1 x2 x3 x4 x5 x6 f9 f10 f11 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, ⟨%g9, H7, %h9⟩, ⟨%g10, H8, %h10⟩, ⟨%g11, HS, %h11⟩⟩
    iapply Hk
    isplitl [H0]
    · iexists _; isplitr
      swap; · iexact H0
      ipureintro; exact harg2.read_unread _
    isplitl [H1]
    · iexists _; isplitr
      swap; · iexact H1
      ipureintro; exact harg3.read_unread _
    isplitl [H2]
    · iexists _; isplitr
      swap; · iexact H2
      ipureintro; exact harg4.read_unread _
    isplitl [H3]
    · iexists _; isplitr
      swap; · iexact H3
      ipureintro; exact harg5.read_unread _
    isplitl [H4]
    · iexists _; isplitr
      swap; · iexact H4
      ipureintro; exact harg6.read_unread _
    isplitl [H5]
    · iexists _; isplitr
      swap; · iexact H5
      ipureintro; exact harg7.read_unread _
    isplitl [H6]
    · iexists _; isplitr
      swap; · iexact H6
      ipureintro; exact harg8.read_unread _
    isplitl [H7]
    · iexists _; isplitr
      swap; · iexact H7
      ipureintro; exact h9
    isplitl [H8]
    · iexists _; isplitr
      swap; · iexact H8
      ipureintro; exact h10
    iexists _; isplitr
    swap; · iexact HS
    ipureintro; exact h11
  · rw [if_neg hc2]
    by_cases hc1 : k0_cond1 i = 1#1
    · rw [if_pos hc1]
      iapply (bodyB c i arg1 harg1 arg2 harg2 arg3 harg3 arg4 harg4 arg5 harg5 arg6 harg6 arg7 harg7 arg8 harg8 arg9 harg9 arg10 harg10 arg11 harg11 hc1 hc2 x0 x1 x2 x3 x4 x5 x6 f9 f10 f11 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, ⟨%g9, H7, %h9⟩, ⟨%g10, H8, %h10⟩, ⟨%g11, HS, %h11⟩⟩
      iapply Hk
      isplitl [H0]
      · iexists _; isplitr
        swap; · iexact H0
        ipureintro; exact harg2.read_unread _
      isplitl [H1]
      · iexists _; isplitr
        swap; · iexact H1
        ipureintro; exact harg3.read_unread _
      isplitl [H2]
      · iexists _; isplitr
        swap; · iexact H2
        ipureintro; exact harg4.read_unread _
      isplitl [H3]
      · iexists _; isplitr
        swap; · iexact H3
        ipureintro; exact harg5.read_unread _
      isplitl [H4]
      · iexists _; isplitr
        swap; · iexact H4
        ipureintro; exact harg6.read_unread _
      isplitl [H5]
      · iexists _; isplitr
        swap; · iexact H5
        ipureintro; exact harg7.read_unread _
      isplitl [H6]
      · iexists _; isplitr
        swap; · iexact H6
        ipureintro; exact harg8.read_unread _
      isplitl [H7]
      · iexists _; isplitr
        swap; · iexact H7
        ipureintro; exact h9
      isplitl [H8]
      · iexists _; isplitr
        swap; · iexact H8
        ipureintro; exact h10
      iexists _; isplitr
      swap; · iexact HS
      ipureintro; exact h11
    · rw [if_neg hc1]
      iapply (bodyC c i arg1 harg1 arg2 harg2 arg3 harg3 arg4 harg4 arg5 harg5 arg6 harg6 arg7 harg7 arg8 harg8 arg9 harg9 arg10 harg10 arg11 harg11 hc1 hc2 x0 x1 x2 x3 x4 x5 x6 f9 f10 f11 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, ⟨%g9, H7, %h9⟩, ⟨%g10, H8, %h10⟩, ⟨%g11, HS, %h11⟩⟩
      iapply Hk
      isplitl [H0]
      · iexists _; isplitr
        swap; · iexact H0
        ipureintro; exact harg2.read_unread _
      isplitl [H1]
      · iexists _; isplitr
        swap; · iexact H1
        ipureintro; exact harg3.read_unread _
      isplitl [H2]
      · iexists _; isplitr
        swap; · iexact H2
        ipureintro; exact harg4.read_unread _
      isplitl [H3]
      · iexists _; isplitr
        swap; · iexact H3
        ipureintro; exact harg5.read_unread _
      isplitl [H4]
      · iexists _; isplitr
        swap; · iexact H4
        ipureintro; exact harg6.read_unread _
      isplitl [H5]
      · iexists _; isplitr
        swap; · iexact H5
        ipureintro; exact harg7.read_unread _
      isplitl [H6]
      · iexists _; isplitr
        swap; · iexact H6
        ipureintro; exact harg8.read_unread _
      isplitl [H7]
      · iexists _; isplitr
        swap; · iexact H7
        ipureintro; exact h9
      isplitl [H8]
      · iexists _; isplitr
        swap; · iexact H8
        ipureintro; exact h10
      iexists _; isplitr
      swap; · iexact HS
      ipureintro; exact h11

variable (m : (ℓ : Loc nD τ sig) → Buf (Elt F) ℓ) (ρ : Dev nD → PrngReg)

/-- The product of a step. -/
def prodAt (c : Dev nD) (t : Fin (cfgM m).N) : Vec F S768x1024 .f32 := k0_pay3 (iblk m c 0 t : Vec F S768x4096 .bf16) (iblk m c 1 t : Vec F S4096x1024 .bf16)

/-- The product a step finds: that of the step before. -/
def accAt (c : Dev nD) : (n : ℕ) → n < (cfgM m).N → Vec F S768x1024 .f32
  | 0, _ => k0_pay5
  | n + 1, h => prodAt m c ⟨n, Nat.lt_of_succ_lt h⟩

/-- What the kernel's own buffer holds before a step. -/
def PhiS (c : Dev nD) : (n : ℕ) → n ≤ (cfgM m).N → sProp 𝕄
  | 0, _ => iprop(Pipeline.ΦA spec0 c ∗ Pipeline.ΦT pre0 (tbl m) c)
  | n + 1, hn => iprop((owns (c : Thread nD τ) scM fullShare (prodAt m c ⟨n, hn⟩) ∗ (∃ r, prngReg c r)) ∗ Pipeline.ΦT pre0 (tbl m) c)

theorem PhiS_zero (c : Dev nD) (n : ℕ) (h : n ≤ (cfgM m).N) (hz : n = 0) : PhiS m c n h = iprop(Pipeline.ΦA spec0 c ∗ Pipeline.ΦT pre0 (tbl m) c) := by
  subst hz; rfl
theorem PhiS_succ (c : Dev nD) (n : ℕ) (hn : n < (cfgM m).N) : PhiS m c (n + 1) hn = iprop((owns (c : Thread nD τ) scM fullShare (prodAt m c ⟨n, hn⟩) ∗ (∃ r, prngReg c r)) ∗ Pipeline.ΦT pre0 (tbl m) c) := rfl

/-- The heads a step writes. -/
def outB (c : Dev nD) (t : Fin (cfgM m).N) : Vec F S8x768x128 .bf16 :=
  halves (iblk m c 2 t : Vec F S768x128 .f32) (iblk m c 3 t : Vec F S768x128 .f32) (iblk m c 4 t : Vec F S768x128 .f32) (iblk m c 5 t : Vec F S1x1x128 .f32) (accAt m c t.val t.isLt)

/-- The cast block a step leaves. -/
def castB (c : Dev nD) (t : Fin (cfgM m).N) : Vec F S256x2048 .bf16 := k0_pay4 (iblk m c 6 t : Vec F S256x2048 .f32)

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outB m c t
    | ⟨8, _⟩ => castB m c t
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]
theorem PhiS_castSucc (c : Dev nD) (t : Fin (cfgM m).N) :
    (dats m 0 c).Φ t.castSucc = PhiS m c t.val (Nat.le_of_lt t.isLt) := by
  dsimp only [dats]; exact Pipeline.Dat.Φ_castSucc (PhiS m c) t
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = outB m c t := by dsimp only [dats]; try rfl
theorem after0_8 (c : Dev nD) (t : Fin (cfgM m).N) : (dats m 0 c).after 8 t = castB m c t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d
theorem before0_6 (c : Dev nD) (t : Fin (cfgM m).N) (d) : (dats m 0 c).before 6 t d = iblk m c 6 t :=
  before0_6_of m (dats m 0 c) (A_eq m c 6) (after0_6 m c) t d

/-- From step 32 on the kernel does not touch the cast block. -/
theorem idle8 (t : Fin (cfgM m).N) (h : 32 ≤ t.val) : (cfgM m).idle 8 ((cfgM m).grid.coords t) = true := by
  show (!(k0_cond1 (grid0.coords t) == 1#1)) = true
  rw [Bool.not_eq_true', beq_eq_false_iff_ne]
  exact fun h' => absurd ((cond1_at t).mp h') (Nat.not_lt.mpr h)
theorem live8 (t : Fin (cfgM m).N) (h : t.val < 32) : (cfgM m).idle 8 ((cfgM m).grid.coords t) = false := by
  show (!(k0_cond1 (grid0.coords t) == 1#1)) = false
  rw [Bool.not_eq_false', beq_iff_eq]
  exact (cond1_at t).mpr h

/-- From step 32 on the cast block is as it was. -/
theorem before0_8 (c : Dev nD) : ∀ (n : ℕ) (hn : n < (cfgM m).N) (h : 32 ≤ n) (d), (dats m 0 c).before 8 ⟨n, hn⟩ d = castB m c ⟨n, hn⟩
  | 0, _, h, _ => absurd h (by decide)
  | n + 1, hn, h, d => by
    have h45 : n + 1 < 45 := tlt m ⟨n + 1, hn⟩
    have hn' : n < (cfgM m).N := Nat.lt_of_succ_lt hn
    have hf : ((cfgM m).win 8).flush ⟨n, hn'⟩ = false := Bool.eq_false_iff.mpr fun hf => by
      have h2 := (wflush8 m ⟨n, hn'⟩).mp hf
      have e : (⟨n, hn'⟩ : Fin (cfgM m).N).val = n := rfl
      rw [e] at h2
      omega
    have hc : castB m c ⟨n, hn'⟩ = castB m c ⟨n + 1, hn⟩ := by
      unfold castB
      exact congrArg k0_pay4 (ib6_pred m c _ _ (by show min n 31 = min (n + 1) 31; omega))
    refine ((dats m 0 c).before_of_pos 8 ⟨n + 1, hn⟩ (Nat.succ_ne_zero n) (((cfgM m).win 8).fetch_out rfl _) d).trans ?_
    refine (if_neg (fun h => Bool.false_ne_true (hf.symm.trans h))).trans (Eq.trans ?_ hc)
    show (dats m 0 c).left 8 ⟨n, hn'⟩ d = _
    unfold Dat.left
    by_cases h8 : 32 ≤ n
    · rw [idle8 m ⟨n, hn'⟩ h8]
      exact before0_8 c n hn' h8 d
    · rw [live8 m ⟨n, hn'⟩ (Nat.lt_of_not_le h8)]
      unfold Dat.kept
      refine (Pipeline.fill_of_clip_none 8 _ (fun _ => rfl) d ((dats m 0 c).after 8 ⟨n, hn'⟩) _).trans ?_
      exact (((cfgM m).win 8).fill_cut _ _).trans (after0_8 m c _)

theorem cast_eq (c : Dev nD) (t : Fin (cfgM m).N) (d) :
    castOut (grid0.coords t) (iblk m c 6 t : Vec F S256x2048 .f32) ((dats m 0 c).before 8 t d) = castB m c t := by
  by_cases h : k0_cond1 (grid0.coords t) = 1#1
  · exact (if_pos h).trans rfl
  · exact (if_neg h).trans (before0_8 m c t.val t.isLt (Nat.le_of_not_lt fun h' => h ((cond1_at t).mpr h')) d)

theorem before_cast (c : Dev nD) (t : Fin (cfgM m).N) (h : 32 ≤ t.val) (d) : (dats m 0 c).before 8 t d = (dats m 0 c).after 8 t :=
  (before0_8 m c t.val t.isLt h d).trans (after0_8 m c t).symm

theorem leaves8 (c : Dev nD) (t : Fin (cfgM m).N) : owns (c : Thread nD τ) (ms0_8 m t) fullShare ((dats m 0 c).after 8 t) ⊢ (dats m 0 c).leavesExact 8 t := by
  by_cases h8 : 32 ≤ t.val
  · cases hf : ((cfgM m).win 8).flush t
    · rw [(dats m 0 c).leavesExact_idle 8 t (idle8 m t h8) hf]
      iintro H
      iexists ((dats m 0 c).after 8 t)
      rw [before_cast m c t h8]
      iexact H
    · unfold Dat.leavesExact
      rw [idle8 m t h8, hf]
      exact .rfl
  · unfold Dat.leavesExact
    rw [live8 m t (Nat.lt_of_not_le h8)]
    exact .rfl

def bodyPre (c : Dev nD) (t : Fin (cfgM m).N) : sProp 𝕄 :=
  iprop((dats m 0 c).Φ t.castSucc ∗ (dats m 0 c).owesAt () t.castSucc ∗ (∃ d, owns (c : Thread nD τ) (ms0_0 m t) fullShare ((dats m 0 c).before 0 t d)) ∗ (∃ d, owns (c : Thread nD τ) (ms0_1 m t) fullShare ((dats m 0 c).before 1 t d)) ∗ (∃ d, owns (c : Thread nD τ) (ms0_2 m t) fullShare ((dats m 0 c).before 2 t d)) ∗ (∃ d, owns (c : Thread nD τ) (ms0_3 m t) fullShare ((dats m 0 c).before 3 t d)) ∗ (∃ d, owns (c : Thread nD τ) (ms0_4 m t) fullShare ((dats m 0 c).before 4 t d)) ∗ (∃ d, owns (c : Thread nD τ) (ms0_5 m t) fullShare ((dats m 0 c).before 5 t d)) ∗ (∃ d, owns (c : Thread nD τ) (ms0_6 m t) fullShare ((dats m 0 c).before 6 t d)) ∗ (∃ d, owns (c : Thread nD τ) (ms0_7 m t) fullShare ((dats m 0 c).before 7 t d)) ∗ (∃ d, owns (c : Thread nD τ) (ms0_8 m t) fullShare ((dats m 0 c).before 8 t d)))

def bodyPost (c : Dev nD) (t : Fin (cfgM m).N) : sProp 𝕄 :=
  iprop((dats m 0 c).Φ t.succ ∗ (dats m 0 c).owesAt () t.succ ∗ owns (c : Thread nD τ) (ms0_0 m t) fullShare ((dats m 0 c).after 0 t) ∗ owns (c : Thread nD τ) (ms0_1 m t) fullShare ((dats m 0 c).after 1 t) ∗ owns (c : Thread nD τ) (ms0_2 m t) fullShare ((dats m 0 c).after 2 t) ∗ owns (c : Thread nD τ) (ms0_3 m t) fullShare ((dats m 0 c).after 3 t) ∗ owns (c : Thread nD τ) (ms0_4 m t) fullShare ((dats m 0 c).after 4 t) ∗ owns (c : Thread nD τ) (ms0_5 m t) fullShare ((dats m 0 c).after 5 t) ∗ owns (c : Thread nD τ) (ms0_6 m t) fullShare ((dats m 0 c).after 6 t) ∗ owns (c : Thread nD τ) (ms0_7 m t) fullShare ((dats m 0 c).after 7 t) ∗ (dats m 0 c).leavesExact 8 t)

/-- The kernel's own buffer before a step, as the step finds it. -/
theorem Phi_in (c : Dev nD) (t : Fin (cfgM m).N) :
    PhiS m c t.val (Nat.le_of_lt t.isLt) ⊢ iprop(((∃ acc, owns (c : Thread nD τ) scM fullShare acc ∗ ⌜accIn (grid0.coords t) acc = accAt m c t.val t.isLt⌝) ∗ (∃ r, prngReg c r)) ∗ Pipeline.ΦT pre0 (tbl m) c) := by
  obtain ⟨n, hn⟩ := t
  have hc : cond2 (grid0.coords (⟨n, hn⟩ : Fin grid0.N)) = 1#1 ↔ n = 0 := cond2_at ⟨n, hn⟩
  cases n with
  | zero =>
    show PhiS m c 0 _ ⊢ _
    rw [PhiS_zero m c 0 _ rfl, PhiA0_eq]
    iintro ⟨⟨⟨%y0, HS⟩, Hg⟩, HT⟩
    isplitl [HS Hg]
    · isplitl [HS]
      · iexists _; isplitl [HS]; · iexact HS
        ipureintro; unfold accIn; exact if_pos (hc.mpr rfl)
      iexact Hg
    iexact HT
  | succ n =>
    show PhiS m c (n + 1) (Nat.le_of_lt hn) ⊢ _
    rw [show PhiS m c (n + 1) (Nat.le_of_lt hn) = _ from PhiS_succ m c n (Nat.lt_of_succ_lt hn)]
    iintro ⟨⟨HS, Hg⟩, HT⟩
    isplitl [HS Hg]
    · isplitl [HS]
      · iexists _; isplitl [HS]; · iexact HS
        ipureintro; unfold accIn; exact if_neg (fun h => absurd (hc.mp h) (Nat.succ_ne_zero n))
      iexact Hg
    iexact HT

set_option maxHeartbeats 2000000 in
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, after0_0, after0_1, after0_2, after0_3, after0_4, after0_5, after0_6, after0_7]
  rw [show (dats m 0 c).Φ t.succ = PhiS m c (t.val + 1) t.isLt from rfl, PhiS_succ, PhiS_castSucc m c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ' := (Phi_in m c t) $$ HΦ
  icases HΦ' with ⟨⟨⟨%acc, HS, %hacc⟩, Hg⟩, HT⟩
  iapply (bodyOwn c (grid0.coords t) _ _ _ _ _ _ _ _ _ _ _ _ _ _ _ _ _ _ _ _ _ _ (fun h => (cond1_at t).mpr (by rw [(cond2_at t).mp h]; decide)) (iblk m c 0 t) (iblk m c 1 t) (iblk m c 2 t) (iblk m c 3 t) (iblk m c 4 t) (iblk m c 5 t) (iblk m c 6 t) ((dats m 0 c).before 8 t d8) acc Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  rw [hacc, cast_eq m c t d8]
  iintro ⟨H0, H1, H2, H3, H4, H5, H6, H7, H8, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← after0_8 m c t]; iapply (leaves8 m c t); iexact H8

set_option maxHeartbeats 2000000 in
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last (cfgM m).N) ⊢ Pipeline.ΦA spec0 c := by
  have hN : (cfgM m).N = 44 + 1 := points
  rw [show (dats m 0 c).Φ (Fin.last (cfgM m).N) = PhiS m c (cfgM m).N (le_refl _) from rfl]
  have e : ∀ k (hk : k ≤ (cfgM m).N), k = 44 + 1 → PhiS m c k hk ⊢ Pipeline.ΦA spec0 c := by
    intro k hk he; subst he
    rw [PhiS_succ m c 44 hk, PhiA0_eq]
    iintro ⟨⟨HS, Hg⟩, HT⟩
    isplitl [HS]; · iexists _; iexact HS
    iexact Hg
  exact e _ _ hN

set_option backward.isDefEq.respectTransparency.types false in
/-- The launch: the program ends, with the arrays as the steps leave them and every counter at zero. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.Rope
end
-- ==== Proof.Rope.Host.lean ====
module

public import proofs.«01_k».proof.Proof.Rope.Kit
public import Idealize.ShloMosaic.Lib.Pointwise
public import Idealize.ShloMosaic.Lib.ValueIdx

@[expose] public section

set_option maxRecDepth 16384
set_option backward.proofsInPublic true

noncomputable section

/-! # The arrays the call reads, entry by entry

The tables of cosines and sines are extended by 256 rows which leave a row alone. The lane mask splits each head of 128
lanes in quarters of 32: the first and third take the value 32 lanes on, negated; the second and fourth the value 32 lanes back. -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

abbrev A0 (c : Dev nD) : FVec Ideal S16896x4096 .bf16 := m ((c.tc : Thread nD τ).loc main_arg0)
abbrev A1 (c : Dev nD) : FVec Ideal S4096x10240 .bf16 := m ((c.tc : Thread nD τ).loc main_arg1)
abbrev A2 (c : Dev nD) : FVec Ideal S4096x4096 .f32 := m ((c.tc : Thread nD τ).loc main_arg2)
abbrev A3 (c : Dev nD) : FVec Ideal S8192x128 .f32 := m ((c.tc : Thread nD τ).loc main_arg3)
abbrev A4 (c : Dev nD) : FVec Ideal S8192x128 .f32 := m ((c.tc : Thread nD τ).loc main_arg4)

/-- The lane mask. -/
def laneMask : IVec S128 1 :=
  have z : IVec S_ 32 := constantI S_ 32 0#32
  have d : IVec S_ 32 := select (cmpi .eq (constantI S_ 32 64#32) z) (constantI S_ 32 1#32) (constantI S_ 32 64#32)
  have q : IVec S128 32 := Host.remsi (iotaInDim S128 32 0) (broadcastInDim S128 ![] bcast_S_S128 d)
  have zs : IVec S128 32 := broadcastInDim S128 ![] bcast_S_S128 z
  have ng : IVec S128 1 := andi (cmpi .ne (cmpi .slt q zs) (broadcastInDim S128 ![] bcast_S_S128 (cmpi .slt d z))) (cmpi .ne q zs)
  cmpi .slt (select ng (addi q (broadcastInDim S128 ![] bcast_S_S128 d)) q) (broadcastInDim S128 ![] bcast_S_S128 (constantI S_ 32 32#32))

theorem laneMask_at : ∀ l : Fin 128, laneMask (ix1 l) = if l.val % 64 < 32 then 1#1 else 0#1 := by
  decide +kernel

/-- 256 rows of one number below a table. -/
abbrev under (a : FVec Ideal S8192x128 .f32) (z : BitVec 32) : FVec Ideal S8448x128 .f32 :=
  concatenate S8448x128 0 [⟨S8192x128, a⟩, ⟨S256x128, broadcastInDim S256x128 ![] bcast_S_S256x128 (constant S_ .f32 z)⟩] concatenates_S8192x128_S256x128_S8448x128_d0

set_option maxHeartbeats 4000000 in
theorem V_co (c : Dev nD) : (V m c main_v5 : FVec Ideal S8448x128 .f32) = under (A3 m c) 0x3F800000#32 := by
  unfold V hostAll hostOps0 hostOps0_1 hostOps0_2 hostOps0_3 hostOps0_4 hostOps0_5 hostOps0_6
  simp only [List.flatten_cons, List.flatten_nil, List.append_nil, List.cons_append, List.nil_append]
  after_results

set_option maxHeartbeats 4000000 in
theorem V_sl (c : Dev nD) : (V m c main_v9 : FVec Ideal S8448x128 .f32) = under (select (broadcastInDim S8192x128 ![1] bcast_S128_S8192x128_1 laneMask) (Host.negf (A4 m c)) (broadcastInDim S8192x128 ![] bcast_S_S8192x128 (constant S_ .f32 0x00000000#32))) 0x00000000#32 := by
  unfold V hostAll hostOps0 hostOps0_1 hostOps0_2 hostOps0_3 hostOps0_4 hostOps0_5 hostOps0_6
  simp only [List.flatten_cons, List.flatten_nil, List.append_nil, List.cons_append, List.nil_append]
  after_results
  rfl

set_option maxHeartbeats 4000000 in
theorem V_sh (c : Dev nD) : (V m c main_v12 : FVec Ideal S8448x128 .f32) = under (select (broadcastInDim S8192x128 ![1] bcast_S128_S8192x128_1 laneMask) (broadcastInDim S8192x128 ![] bcast_S_S8192x128 (constant S_ .f32 0x00000000#32)) (A4 m c)) 0x00000000#32 := by
  unfold V hostAll hostOps0 hostOps0_1 hostOps0_2 hostOps0_3 hostOps0_4 hostOps0_5 hostOps0_6
  simp only [List.flatten_cons, List.flatten_nil, List.append_nil, List.cons_append, List.nil_append]
  after_results
  rfl

set_option maxHeartbeats 4000000 in
theorem V_wt (c : Dev nD) : (V m c main_v18 : FVec Ideal S2x1x128 .f32) = shapeCast S2x1x128 (concatenate S2x128 0
    [⟨S1x128, broadcastInDim S1x128 ![1] bcast_S128_S1x128_1 (broadcastInDim S128 ![] bcast_S_S128 (constant (F := Ideal) S_ .f32 0x3F800000#32))⟩,
     ⟨S1x128, broadcastInDim S1x128 ![1] bcast_S128_S1x128_1 (broadcastInDim S128 ![] bcast_S_S128 (constant (F := Ideal) S_ .f32 0x3DB504F3#32))⟩] concatenates_S1x128_S1x128_S2x128_d0) shapeCasts_S2x128_S2x1x128 := by
  unfold V hostAll hostOps0 hostOps0_1 hostOps0_2 hostOps0_3 hostOps0_4 hostOps0_5 hostOps0_6
  simp only [List.flatten_cons, List.flatten_nil, List.append_nil, List.cons_append, List.nil_append]
  after_results
  rfl

theorem co_at (c : Dev nD) (r : Fin 8448) (l : Fin 128) : (V m c main_v5 (ix2 r l) : EReal) = if h : r.val < 8192 then A3 m c (ix2 ⟨r.val, h⟩ l) else 1 := by
  refine (congrFun (V_co m c) _).trans ?_
  generalize A3 m c = a
  unfold under
  by_cases h : r.val < 8192
  · rw [dif_pos h]
    pointwise []
    rw [dif_pos h]
  · rw [dif_neg h]
    pointwise []
    rw [dif_neg h]

theorem sl_at (c : Dev nD) (r : Fin 8448) (l : Fin 128) : (V m c main_v9 (ix2 r l) : EReal) = if h : r.val < 8192 then (if l.val % 64 < 32 then -(A4 m c (ix2 ⟨r.val, h⟩ l) : EReal) else 0) else 0 := by
  refine (congrFun (V_sl m c) _).trans ?_
  have hm := laneMask_at l
  generalize laneMask = k at hm ⊢
  generalize A4 m c = a
  unfold under
  by_cases h : r.val < 8192
  · rw [dif_pos h]
    pointwise []
    rw [dif_pos h, hm]
    split <;> simp [Scalar.select]
  · rw [dif_neg h]
    pointwise []
    rw [dif_neg h]

theorem sh_at (c : Dev nD) (r : Fin 8448) (l : Fin 128) : (V m c main_v12 (ix2 r l) : EReal) = if h : r.val < 8192 then (if l.val % 64 < 32 then 0 else (A4 m c (ix2 ⟨r.val, h⟩ l) : EReal)) else 0 := by
  refine (congrFun (V_sh m c) _).trans ?_
  have hm := laneMask_at l
  generalize laneMask = k at hm ⊢
  generalize A4 m c = a
  unfold under
  by_cases h : r.val < 8192
  · rw [dif_pos h]
    pointwise []
    rw [dif_pos h, hm]
    split <;> simp [Scalar.select]
  · rw [dif_neg h]
    pointwise []
    rw [dif_neg h]

/-- The number the keys are multiplied by: the literal `128 ** -0.5`. -/
def kscale : EReal := Ideal.ofBits .f32 0x3DB504F3#32

theorem wt_at (c : Dev nD) (s : Fin 2) (l : Fin 128) : (V m c main_v18 (ix3 s 0 l) : EReal) = if s.val < 1 then 1 else kscale := by
  refine (congrFun (V_wt m c) _).trans ?_
  by_cases h : s.val < 1
  · rw [if_pos h]
    pointwise []
    rw [dif_pos h]
  · rw [if_neg h]
    pointwise []
    rw [dif_neg h]
    rfl

end Cert.Proof.Rope
end
-- ==== Proof.Rope.Tile.lean ====
module

public import proofs.«01_k».proof.Proof.Rope.Halves
public import Idealize.ShloMosaic.Lib.Pointwise
public import Idealize.ShloMosaic.Lib.ValueIdx

@[expose] public section

set_option maxRecDepth 16384
set_option backward.proofsInPublic true

noncomputable section

/-! # A head and a product, entry by entry -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The lane 32 places on, and the lane 32 places back, round the head. -/
def on32 (l : Fin 128) : Fin 128 := ⟨(l.val + 128 - 96) % 128, Nat.mod_lt _ (by decide)⟩
def back32 (l : Fin 128) : Fin 128 := ⟨(l.val + 128 - 32) % 128, Nat.mod_lt _ (by decide)⟩

theorem prod_at (x0 : Vec Ideal S768x4096 .bf16) (x1 : Vec Ideal S4096x1024 .bf16) (r : Fin 768) (n : Fin 1024) :
    (k0_pay3 (F := Ideal) x0 x1 (ix2 r n) : EReal) = ∑ k : Fin 4096, (x0 (ix2 r k) : EReal) * x1 (ix2 k n) := by
  pointwise [k0_pay3]

theorem cast_at (x : Vec Ideal S256x2048 .f32) (r : Fin 256) (n : Fin 2048) : (k0_pay4 (F := Ideal) x (ix2 r n) : EReal) = x (ix2 r n) := by
  pointwise [k0_pay4]

theorem head_at (co sl sh : Vec Ideal S768x128 .f32) (wt : Vec Ideal S1x1x128 .f32) (x : Vec Ideal S768x128 .f32) (r : Fin 768) (l : Fin 128) :
    (headOf (F := Ideal) co sl sh wt x (ix3 0 r l) : EReal)
      = (x (ix2 r l) * co (ix2 r l) + x (ix2 r (on32 l)) * sl (ix2 r l) + x (ix2 r (back32 l)) * sh (ix2 r l)) * wt (ix3 0 0 l) := by
  unfold headOf
  pointwise [k0_pay10, k0_pay9, k0_pay8, k0_pay7, k0_pay6]
  try rfl

end Cert.Proof.Rope
end
-- ==== Proof.Rope.Ref.lean ====
module

public import proofs.«01_k».proof.Proof.Rope.Tile
public import proofs.«01_k».proof.Proof.Rope.Host
public import proofs.«01_k».proof.Proof.Gen.Reference5Ideal.Read

@[expose] public section

set_option maxRecDepth 16384
set_option backward.proofsInPublic true

noncomputable section

/-! # The rotated projection the reference takes, entry by entry -/

namespace Cert.Proof.Rope

open Cert.Reference5Ideal Cert.Reference5Ideal.Gen Cert.Reference5Ideal.Read
open Idealize.ShloMosaic Idealize.ShloMosaic.TcCoe Idealize.ShloMosaic.Tactic

variable (x0 : FVec Ideal S16896x4096 .bf16) (x1 : FVec Ideal S4096x10240 .bf16) (x2 : FVec Ideal S4096x4096 .f32) (x3 x4 : FVec Ideal S8192x128 .f32)

/-- One entry of the product. -/
def proj (r : Fin 16896) (n : Fin 2048) : EReal := ∑ k : Fin 4096, (x0 (ix2 r k) : EReal) * x1 (ix2 k (⟨4096 + n.val, by omega⟩ : Fin 10240))

/-- Lane `l` of head `u`, of the eight of the queries and the eight of the keys. -/
def lane (u : Fin 16) (l : Fin 128) : Fin 2048 := ⟨128 * u.val + l.val, by omega⟩

/-- One entry of the product, rotated by its token's angles, a context token left as it is. -/
def rot (r : Fin 16896) (u : Fin 16) (l : Fin 128) : EReal :=
  if h : r.val % 8448 < 8192 then
    proj x0 x1 r (lane u l) * x3 (ix2 ⟨r.val % 8448, h⟩ l)
      + (if l.val % 64 < 32 then -proj x0 x1 r (lane u (on32 l)) else proj x0 x1 r (lane u (back32 l))) * x4 (ix2 ⟨r.val % 8448, h⟩ l)
  else proj x0 x1 r (lane u l)

/-- One entry of the result: a query's as it is, a key's scaled. -/
def scaled (r : Fin 16896) (u : Fin 16) (l : Fin 128) : EReal :=
  if u.val < 8 then rot x0 x1 x3 x4 r u l else rot x0 x1 x3 x4 r u l * kscale

def row (b : Fin 2) (τ : Fin 8448) : Fin 16896 := ⟨8448 * b.val + τ.val, by omega⟩
def head (s : Fin 2) (j : Fin 8) : Fin 16 := ⟨8 * s.val + j.val, by omega⟩

theorem v3_at (r : Fin 16896) (n : Fin 2048) : (val_main_v3 (F := Ideal) x0 x1 (ix2 r n) : EReal) = proj x0 x1 r n := by
  rw [val_main_v3_apply]
  refine Finset.sum_congr rfl fun k _ => congrArg₂ (· * ·) ((val_main_v2_apply (F := Ideal) x0 (lidx_main_v3 (ix2 r n) k)).trans (congrArg x0 ?_))
    ((val_main_v1_apply (F := Ideal) x1 (ridx_main_v3 (ix2 r n) k)).trans ((val_main_v0_apply (F := Ideal) x1 (ridx_main_v3 (ix2 r n) k)).trans (congrArg x1 ?_)))
  · funext a; match a with | ⟨0, _⟩ => rfl | ⟨1, _⟩ => rfl
  · funext a; match a with | ⟨0, _⟩ => rfl | ⟨1, _⟩ => rfl

theorem v4_at (b : Fin 2) (τ : Fin 8448) (s : Fin 2) (j : Fin 8) (l : Fin 128) : (val_main_v4 (F := Ideal) x0 x1 (ix5 b τ s j l) : EReal) = proj x0 x1 (row b τ) (lane (head s j) l) := by
  rw [val_main_v4_apply, ← v3_at]
  congr 1
  funext a
  match a with
  | ⟨0, _⟩ => exact Fin.ext (show ((((b.val * 8448 + τ.val) * 2 + s.val) * 8 + j.val) * 128 + l.val) / 2048 = 8448 * b.val + τ.val by omega)
  | ⟨1, _⟩ => exact Fin.ext (show ((((b.val * 8448 + τ.val) * 2 + s.val) * 8 + j.val) * 128 + l.val) % 2048 = 128 * (8 * s.val + j.val) + l.val by omega)

theorem v5_at (b : Fin 2) (τ : Fin 8192) (s : Fin 2) (j : Fin 8) (l : Fin 128) : (val_main_v5 (F := Ideal) x0 x1 (ix5 b τ s j l) : EReal) = proj x0 x1 (row b ⟨τ.val, by omega⟩) (lane (head s j) l) := by
  rw [← v4_at, val_main_v5_apply]
  congr 1
  funext a
  match a with | ⟨0, _⟩ => rfl | ⟨1, _⟩ => rfl | ⟨2, _⟩ => rfl | ⟨3, _⟩ => rfl | ⟨4, _⟩ => rfl

theorem v12_at (b : Fin 2) (τ : Fin 8192) (s : Fin 2) (j : Fin 8) (l : Fin 128) : (val_main_v12 (F := Ideal) x0 x1 (ix5 b τ s j l) : EReal)
    = if l.val % 64 < 32 then -(val_main_v5 (F := Ideal) x0 x1 (ix5 b τ s j (on32 l)) : EReal) else val_main_v5 (F := Ideal) x0 x1 (ix5 b τ s j (back32 l)) := by
  pointwise [val_main_v12, val_main_v11, val_main_v10, val_main_v9, val_main_v8, val_main_v7, val_main_v6]
  have h1 : ∀ (i k : Fin 128), i.val = k.val → (val_main_v5 (F := Ideal) x0 x1 (ix5 b τ s j i) : EReal) = val_main_v5 (F := Ideal) x0 x1 (ix5 b τ s j k) :=
    fun i k e => by rw [Fin.ext e]
  have hl := l.isLt
  by_cases a : l.val < 32
  · have hb : l.val % 64 < 32 := by omega
    exact (dif_pos a).trans ((congrArg Neg.neg (h1 _ _ (by show 32 + l.val = (l.val + 128 - 96) % 128; omega))).trans (if_pos hb).symm)
  by_cases a2 : l.val - 32 < 32
  · have hb : ¬ l.val % 64 < 32 := by omega
    exact (dif_neg a).trans ((dif_pos a2).trans ((h1 _ _ (by show l.val - 32 = (l.val + 128 - 32) % 128; omega)).trans (if_neg hb).symm))
  by_cases a3 : l.val - 32 - 32 < 32
  · have hb : l.val % 64 < 32 := by omega
    exact (dif_neg a).trans ((dif_neg a2).trans ((dif_pos a3).trans ((congrArg Neg.neg (h1 _ _ (by show 96 + (l.val - 32 - 32) = (l.val + 128 - 96) % 128; omega))).trans (if_pos hb).symm)))
  · have hb : ¬ l.val % 64 < 32 := by omega
    exact (dif_neg a).trans ((dif_neg a2).trans ((dif_neg a3).trans ((h1 _ _ (by show 64 + (l.val - 32 - 32 - 32) = (l.val + 128 - 32) % 128; omega)).trans (if_neg hb).symm)))

theorem v19_at (b : Fin 2) (τ : Fin 8192) (s : Fin 2) (j : Fin 8) (l : Fin 128) : (val_main_v19 (F := Ideal) x0 x1 x3 x4 (ix5 b τ s j l) : EReal)
    = val_main_v5 (F := Ideal) x0 x1 (ix5 b τ s j l) * x3 (ix2 τ l) + val_main_v12 (F := Ideal) x0 x1 (ix5 b τ s j l) * x4 (ix2 τ l) := by
  pointwise [val_main_v19, val_main_v18, val_main_v17, val_main_v16, val_main_v15, val_main_v14, val_main_v13]

theorem v21_at (b : Fin 2) (τ : Fin 8448) (s : Fin 2) (j : Fin 8) (l : Fin 128) : (val_main_v21 (F := Ideal) x0 x1 x3 x4 (ix5 b τ s j l) : EReal)
    = rot x0 x1 x3 x4 (row b τ) (head s j) l := by
  have hr : (row b τ).val % 8448 = τ.val := by show (8448 * b.val + τ.val) % 8448 = τ.val; omega
  unfold rot
  by_cases h : τ.val < 8192
  · rw [dif_pos (by omega)]
    pointwise [val_main_v21]
    rw [dif_pos h, v19_at, v12_at, v5_at, v5_at, v5_at]
    simp only [hr]
  · rw [dif_neg (by omega)]
    pointwise [val_main_v21, val_main_v20]
    rw [dif_neg h, v4_at]
    refine congrArg (fun t => proj x0 x1 (row b t) (lane (head s j) l)) (Fin.ext ?_)
    simp; omega

theorem v26_at (b : Fin 2) (τ : Fin 8448) (s : Fin 2) (j : Fin 8) (l : Fin 128) : (val_main_v26 (F := Ideal) x0 x1 x3 x4 (ix5 b τ s j l) : EReal)
    = scaled x0 x1 x3 x4 (row b τ) (head s j) l := by
  have e : ∀ i : Fin 2, i = s → (val_main_v21 (F := Ideal) x0 x1 x3 x4 (ix5 b τ i j l) : EReal) = rot x0 x1 x3 x4 (row b τ) (head s j) l :=
    fun i hi => by rw [hi]; exact v21_at x0 x1 x3 x4 b τ s j l
  unfold scaled
  by_cases h : s.val < 1
  · rw [if_pos (by show 8 * s.val + j.val < 8; omega)]
    pointwise [val_main_v26, val_main_v22]
    rw [dif_pos h]
    exact e _ (Fin.ext (by simp; try omega))
  · rw [if_neg (by show ¬ 8 * s.val + j.val < 8; omega)]
    pointwise [val_main_v26, val_main_v25, val_main_v24, val_main_v23, val_main_cst]
    rw [dif_neg h]
    exact congrArg (· * kscale) (e _ (Fin.ext (by simp; try omega)))

theorem ref_at (h : Fin 16) (r : Fin 16896) (d : Fin 128) :
    (val_main_v29 (F := Ideal) x0 x1 x3 x4 (ix3 h r d) : EReal) = scaled x0 x1 x3 x4 r h d := by
  have e : (val_main_v29 (F := Ideal) x0 x1 x3 x4 (ix3 h r d) : EReal)
      = val_main_v26 (F := Ideal) x0 x1 x3 x4 (ix5 (⟨r.val / 8448, by omega⟩ : Fin 2) (⟨r.val % 8448, by omega⟩ : Fin 8448)
        (⟨h.val / 8, by omega⟩ : Fin 2) (⟨h.val % 8, by omega⟩ : Fin 8) d) := by
    pointwise [val_main_v29, val_main_v28]
    rw [val_main_v27_apply]
    congr 1
    funext a
    match a with
    | ⟨0, _⟩ => exact Fin.ext (show ((r.val * 16 + h.val) * 128 + d.val) / 17301504 = r.val / 8448 by omega)
    | ⟨1, _⟩ => exact Fin.ext (show ((r.val * 16 + h.val) * 128 + d.val) / 2048 % 8448 = r.val % 8448 by omega)
    | ⟨2, _⟩ => exact Fin.ext (show ((r.val * 16 + h.val) * 128 + d.val) / 1024 % 2 = h.val / 8 by omega)
    | ⟨3, _⟩ => exact Fin.ext (show ((r.val * 16 + h.val) * 128 + d.val) / 128 % 8 = h.val % 8 by omega)
    | ⟨4, _⟩ => exact Fin.ext (show ((r.val * 16 + h.val) * 128 + d.val) % 128 = d.val by omega)
  rw [e, v26_at]
  refine congrArg₂ (fun a b => scaled x0 x1 x3 x4 a b d) (Fin.ext ?_) (Fin.ext ?_)
  · show 8448 * (r.val / 8448) + r.val % 8448 = r.val; omega
  · show 8 * (h.val / 8) + h.val % 8 = h.val; omega

theorem ref_cast_at (r : Fin 4096) (n : Fin 4096) : (val_main_v30 (F := Ideal) x2 (ix2 r n) : EReal) = x2 (ix2 r n) := by
  pointwise [val_main_v30]

end Cert.Proof.Rope
end
-- ==== Proof.Rope.Value.lean ====
module

public import proofs.«01_k».proof.Proof.Rope.Frame
public import proofs.«01_k».proof.Proof.Rope.Host
public import proofs.«01_k».proof.Proof.Rope.Ref

@[expose] public section

set_option maxRecDepth 16384
set_option backward.proofsInPublic true

noncomputable section

/-! # The rotated projection's results -/

namespace Cert.Proof.Rope

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ)

theorem wi0 (t : Fin (cfgM m).N) : wx0 m t 0 = min t.val 43 / 2 ∧ wx0 m t 1 = 0 := at0 t
/-- The same of any table that holds the two numbers. -/
theorem at1_of (p : pre0.Contents (Elt Ideal)) (h : p = litI) (t : Fin grid0.N) : cc0_transform_1 (F := Ideal) k0_off1_inb numel1_S1 p (grid0.coords t) 0 = 0
    ∧ cc0_transform_1 (F := Ideal) k0_off1_inb numel1_S1 p (grid0.coords t) 1 = 4 + min t.val 43 % 2 := by
  subst h; exact at1 t
abbrev bx1 (a : (pcfg0 (F := Ideal)).Adm) (t : Fin (cfg0 a).N) : Fin 2 → ℕ := ((cfg0 a).win 1).index t
theorem idx1 (a : (pcfg0 (F := Ideal)).Adm) (h : a.1 = litI) (t : Fin (cfg0 a).N) :
    bx1 a t 0 = 0 ∧ bx1 a t 1 = 4 + min t.val 43 % 2 := at1_of a.1 h t
theorem wi1 (t : Fin (cfgM m).N) : wx1 m t 0 = 0 ∧ wx1 m t 1 = 4 + min t.val 43 % 2 := idx1 (adm m) (tblI m) t
theorem wi2 (t : Fin (cfgM m).N) : wx2 m t 0 = (t.val - 1) / 2 % 11 ∧ wx2 m t 1 = 0 := at2 t
theorem wi3 (t : Fin (cfgM m).N) : wx3 m t 0 = (t.val - 1) / 2 % 11 ∧ wx3 m t 1 = 0 := at3 t
theorem wi4 (t : Fin (cfgM m).N) : wx4 m t 0 = (t.val - 1) / 2 % 11 ∧ wx4 m t 1 = 0 := at4 t
theorem wi5 (t : Fin (cfgM m).N) : wx5 m t 0 = (t.val - 1) % 2 ∧ wx5 m t 1 = 0 ∧ wx5 m t 2 = 0 := at5 t
theorem wi7 (t : Fin (cfgM m).N) : wx7 m t 0 = (t.val - 1) % 2 ∧ wx7 m t 1 = (t.val - 1) / 2 ∧ wx7 m t 2 = 0 := at7 t
theorem wi8 (t : Fin (cfgM m).N) : wx8 m t 0 = min t.val 31 / 2 ∧ wx8 m t 1 = min t.val 31 % 2 := at8 t

/-! ## What a step reads -/

theorem row_lt (t : Fin (cfgM m).N) (r : Fin 768) : 768 * (min t.val 43 / 2) + r.val < 16896 := by omega
theorem col_lt (t : Fin (cfgM m).N) (n : Fin 1024) : 1024 * (min t.val 43 % 2) + n.val < 2048 := by omega
theorem tok_lt (t : Fin (cfgM m).N) (r : Fin 768) : 768 * ((t.val - 1) / 2 % 11) + r.val < 8448 := by omega
theorem wgt_lt (t : Fin (cfgM m).N) : (t.val - 1) % 2 < 2 := by omega

theorem ib0 (c : Dev nD) (t : Fin (cfgM m).N) (r : Fin 768) (k : Fin 4096) :
    ((iblk m c 0 t : Vec Ideal S768x4096 .bf16) (ix2 r k) : EReal) = A0 m c (ix2 (⟨_, row_lt m t r⟩ : Fin 16896) k) := by
  have hi := wi0 m t
  refine Eq.trans ?_ (congrFun (V_main_arg0 m c) (ix2 (⟨_, row_lt m t r⟩ : Fin 16896) k))
  refine (View.read_apply (v := (((cfgM m).win 0).blk t).view) _ _).trans ?_
  show V m c main_arg0 ((rect0 m t).emb (ix2 r k)) = V m c main_arg0 _
  congr 1
  funext a
  apply Fin.ext
  match a with
  | ⟨0, _⟩ => show wx0 m t 0 * 768 + 1 * r.val = 768 * (min t.val 43 / 2) + r.val; rw [hi.1]; omega
  | ⟨1, _⟩ => show wx0 m t 1 * 4096 + 1 * k.val = k.val; rw [hi.2]; omega

theorem ib1 (c : Dev nD) (t : Fin (cfgM m).N) (k : Fin 4096) (n : Fin 1024) :
    ((iblk m c 1 t : Vec Ideal S4096x1024 .bf16) (ix2 k n) : EReal) = A1 m c (ix2 k (⟨4096 + (1024 * (min t.val 43 % 2) + n.val), by have := col_lt m t n; omega⟩ : Fin 10240)) := by
  have hi := wi1 m t
  refine Eq.trans ?_ (congrFun (V_main_arg1 m c) (ix2 k (⟨4096 + (1024 * (min t.val 43 % 2) + n.val), by have := col_lt m t n; omega⟩ : Fin 10240)))
  refine (View.read_apply (v := (((cfgM m).win 1).blk t).view) _ _).trans ?_
  show V m c main_arg1 ((rect1 m t).emb (ix2 k n)) = V m c main_arg1 _
  congr 1
  funext a
  apply Fin.ext
  match a with
  | ⟨0, _⟩ => show wx1 m t 0 * 4096 + 1 * k.val = k.val; rw [hi.1]; omega
  | ⟨1, _⟩ => show wx1 m t 1 * 1024 + 1 * n.val = 4096 + (1024 * (min t.val 43 % 2) + n.val); rw [hi.2]; omega

theorem ib2 (c : Dev nD) (t : Fin (cfgM m).N) (r : Fin 768) (l : Fin 128) :
    ((iblk m c 2 t : Vec Ideal S768x128 .f32) (ix2 r l) : EReal) = V m c main_v5 (ix2 (⟨_, tok_lt m t r⟩ : Fin 8448) l) := by
  have hi := wi2 m t
  refine (View.read_apply (v := (((cfgM m).win 2).blk t).view) _ _).trans ?_
  show V m c main_v5 ((rect2 m t).emb (ix2 r l)) = V m c main_v5 _
  congr 1
  funext a
  apply Fin.ext
  match a with
  | ⟨0, _⟩ => show wx2 m t 0 * 768 + 1 * r.val = 768 * ((t.val - 1) / 2 % 11) + r.val; rw [hi.1]; omega
  | ⟨1, _⟩ => show wx2 m t 1 * 128 + 1 * l.val = l.val; rw [hi.2]; omega

theorem ib3 (c : Dev nD) (t : Fin (cfgM m).N) (r : Fin 768) (l : Fin 128) :
    ((iblk m c 3 t : Vec Ideal S768x128 .f32) (ix2 r l) : EReal) = V m c main_v9 (ix2 (⟨_, tok_lt m t r⟩ : Fin 8448) l) := by
  have hi := wi3 m t
  refine (View.read_apply (v := (((cfgM m).win 3).blk t).view) _ _).trans ?_
  show V m c main_v9 ((rect3 m t).emb (ix2 r l)) = V m c main_v9 _
  congr 1
  funext a
  apply Fin.ext
  match a with
  | ⟨0, _⟩ => show wx3 m t 0 * 768 + 1 * r.val = 768 * ((t.val - 1) / 2 % 11) + r.val; rw [hi.1]; omega
  | ⟨1, _⟩ => show wx3 m t 1 * 128 + 1 * l.val = l.val; rw [hi.2]; omega

theorem ib4 (c : Dev nD) (t : Fin (cfgM m).N) (r : Fin 768) (l : Fin 128) :
    ((iblk m c 4 t : Vec Ideal S768x128 .f32) (ix2 r l) : EReal) = V m c main_v12 (ix2 (⟨_, tok_lt m t r⟩ : Fin 8448) l) := by
  have hi := wi4 m t
  refine (View.read_apply (v := (((cfgM m).win 4).blk t).view) _ _).trans ?_
  show V m c main_v12 ((rect4 m t).emb (ix2 r l)) = V m c main_v12 _
  congr 1
  funext a
  apply Fin.ext
  match a with
  | ⟨0, _⟩ => show wx4 m t 0 * 768 + 1 * r.val = 768 * ((t.val - 1) / 2 % 11) + r.val; rw [hi.1]; omega
  | ⟨1, _⟩ => show wx4 m t 1 * 128 + 1 * l.val = l.val; rw [hi.2]; omega

theorem ib5 (c : Dev nD) (t : Fin (cfgM m).N) (l : Fin 128) :
    ((iblk m c 5 t : Vec Ideal S1x1x128 .f32) (ix3 0 0 l) : EReal) = V m c main_v18 (ix3 (⟨_, wgt_lt m t⟩ : Fin 2) 0 l) := by
  have hi := wi5 m t
  refine (View.read_apply (v := (((cfgM m).win 5).blk t).view) _ _).trans ?_
  show V m c main_v18 ((rect5 m t).emb (ix3 0 0 l)) = V m c main_v18 _
  congr 1
  funext a
  apply Fin.ext
  match a with
  | ⟨0, _⟩ => show wx5 m t 0 * 1 + 1 * 0 = (t.val - 1) % 2; rw [hi.1]; omega
  | ⟨1, _⟩ => show wx5 m t 1 * 1 + 1 * 0 = 0; rw [hi.2.1]
  | ⟨2, _⟩ => show wx5 m t 2 * 128 + 1 * l.val = l.val; rw [hi.2.2]; omega

/-- One entry of a step's product. -/
theorem prod_step (c : Dev nD) (t : Fin (cfgM m).N) (r : Fin 768) (n : Fin 1024) :
    (prodAt m c t (ix2 r n) : EReal) = proj (A0 m c) (A1 m c) ⟨_, row_lt m t r⟩ ⟨_, col_lt m t n⟩ := by
  unfold prodAt
  refine (prod_at _ _ r n).trans ?_
  exact Finset.sum_congr rfl fun k _ => congrArg₂ (· * ·) (ib0 m c t r k) (ib1 m c t k n)

/-- The row and the head of the step's heads. -/
def rowS (t : Fin (cfgM m).N) (r : Fin 768) : Fin 16896 := ⟨768 * ((t.val - 1) / 2) + r.val, by have := tlt m t; omega⟩
def uS (t : Fin (cfgM m).N) (h : Fin 8) : Fin 16 := ⟨8 * ((t.val - 1) % 2) + h.val, by omega⟩

/-- The columns a step takes from the product before it. -/
theorem cols_at (c : Dev nD) (t : Fin (cfgM m).N) (h1 : 1 ≤ t.val) (h : Fin 8) (r : Fin 768) (l : Fin 128) :
    (colsOf (accAt m c t.val t.isLt) h (ix2 r l) : EReal) = proj (A0 m c) (A1 m c) (rowS m t r) (lane (uS m t h) l) := by
  obtain ⟨n, hn⟩ := t
  match n, hn, h1 with
  | n + 1, hn, _ =>
    have h45 : n + 1 < 45 := tlt m ⟨n + 1, hn⟩
    refine (prod_step m c ⟨n, Nat.lt_of_succ_lt hn⟩ r _).trans (congrArg₂ (proj (A0 m c) (A1 m c)) (Fin.ext ?_) (Fin.ext ?_))
    · show 768 * (min n 43 / 2) + r.val = 768 * ((n + 1 - 1) / 2) + r.val
      omega
    · show 1024 * (min n 43 % 2) + (128 * h.val + l.val) = 128 * (8 * ((n + 1 - 1) % 2) + h.val) + l.val
      omega

theorem rotK (a b e x w : EReal) (l : ℕ) :
    a * w + b * (if l < 32 then -x else 0) + e * (if l < 32 then 0 else x) = a * w + (if l < 32 then -b else e) * x := by
  split
  · rw [mul_zero, add_zero, mul_comm b, EReal.neg_mul, EReal.neg_mul, mul_comm x]
  · rw [mul_zero, add_zero]

/-- One entry of a step's heads. -/
theorem half_at (c : Dev nD) (t : Fin (cfgM m).N) (h1 : 1 ≤ t.val) (h : Fin 8) (r : Fin 768) (l : Fin 128) :
    (headOf (F := Ideal) (iblk m c 2 t : Vec Ideal S768x128 .f32) (iblk m c 3 t : Vec Ideal S768x128 .f32) (iblk m c 4 t : Vec Ideal S768x128 .f32)
        (iblk m c 5 t : Vec Ideal S1x1x128 .f32) (colsOf (accAt m c t.val t.isLt) h) (ix3 0 r l) : EReal)
      = scaled (A0 m c) (A1 m c) (A3 m c) (A4 m c) (rowS m t r) (uS m t h) l := by
  refine (head_at _ _ _ _ _ r l).trans ?_
  rw [cols_at m c t h1 h r l, cols_at m c t h1 h r (on32 l), cols_at m c t h1 h r (back32 l),
    ib2 m c t r l, ib3 m c t r l, ib4 m c t r l, ib5 m c t l, co_at m c _ l, sl_at m c _ l, sh_at m c _ l, wt_at m c _ l]
  have hr : (rowS m t r).val % 8448 = 768 * ((t.val - 1) / 2 % 11) + r.val := by
    show (768 * ((t.val - 1) / 2) + r.val) % 8448 = _
    omega
  have key : (proj (A0 m c) (A1 m c) (rowS m t r) (lane (uS m t h) l) * (if h : 768 * ((t.val - 1) / 2 % 11) + r.val < 8192 then A3 m c (ix2 ⟨768 * ((t.val - 1) / 2 % 11) + r.val, h⟩ l) else 1)
      + proj (A0 m c) (A1 m c) (rowS m t r) (lane (uS m t h) (on32 l)) * (if h : 768 * ((t.val - 1) / 2 % 11) + r.val < 8192 then (if l.val % 64 < 32 then -(A4 m c (ix2 ⟨768 * ((t.val - 1) / 2 % 11) + r.val, h⟩ l) : EReal) else 0) else 0)
      + proj (A0 m c) (A1 m c) (rowS m t r) (lane (uS m t h) (back32 l)) * (if h : 768 * ((t.val - 1) / 2 % 11) + r.val < 8192 then (if l.val % 64 < 32 then 0 else (A4 m c (ix2 ⟨768 * ((t.val - 1) / 2 % 11) + r.val, h⟩ l) : EReal)) else 0) : EReal)
      = rot (A0 m c) (A1 m c) (A3 m c) (A4 m c) (rowS m t r) (uS m t h) l := by
    unfold rot
    simp only [hr]
    by_cases h8 : 768 * ((t.val - 1) / 2 % 11) + r.val < 8192
    · rw [dif_pos h8, dif_pos h8, dif_pos h8, dif_pos h8]
      exact rotK _ _ _ _ _ _
    · rw [dif_neg h8, dif_neg h8, dif_neg h8, dif_neg h8, mul_one, mul_zero, mul_zero, add_zero, add_zero]
  refine (congrArg (· * _) key).trans ?_
  unfold scaled
  have e : ((t.val - 1) % 2 < 1) = ((uS m t h).val < 8) := propext (by show _ ↔ 8 * ((t.val - 1) % 2) + h.val < 8; omega)
  show _ * (if (t.val - 1) % 2 < 1 then 1 else kscale) = _
  simp only [e]
  split
  · exact mul_one _
  · rfl

/-! ## The heads -/

/-- The whole of the first result, entry by entry. -/
def whole7 (c : Dev nD) : FVec Ideal S16x16896x128 .bf16 := fun j => scaled (A0 m c) (A1 m c) (A3 m c) (A4 m c) (j 1) (j 0) (j 2)

theorem flushed7 (c : Dev nD) (t : Fin (cfgM m).N) (h1 : 1 ≤ t.val) :
    (dats m 0 c).flushed 7 t = (((cfgM m).win 7).blk t).view.read (Elt Ideal) (whole7 m c) := by
  have hi := wi7 m t
  have e : (dats m 0 c).flushed 7 t = ((cfgM m).win 7).cut ((cfgM m).grid.coords t) (outB m c t) :=
    congrArg (((cfgM m).win 7).cut ((cfgM m).grid.coords t)) (after0_7 m c t)
  refine e.trans ?_
  refine funext fun (j : S8x768x128.Idx) => ?_
  refine Eq.trans ?_ (View.read_apply (v := (((cfgM m).win 7).blk t).view) _ _).symm
  obtain ⟨p, r, d, rfl⟩ : ∃ (p : Fin 8) (r : Fin 768) (d : Fin 128), j = ix3 p r d :=
    ⟨j 0, j 1, j 2, by funext a; match a with | ⟨0, _⟩ => rfl | ⟨1, _⟩ => rfl | ⟨2, _⟩ => rfl⟩
  refine (half_at m c t h1 p r d).trans ?_
  show _ = whole7 m c ((rect7 m t).emb (ix3 p r d))
  unfold whole7
  have e3 : ∀ (a a' : Fin 16896) (b b' : Fin 16) (k k' : Fin 128), a.val = a'.val → b.val = b'.val → k.val = k'.val →
      scaled (A0 m c) (A1 m c) (A3 m c) (A4 m c) a b k = scaled (A0 m c) (A1 m c) (A3 m c) (A4 m c) a' b' k' := by
    intro a a' b b' k k' ea eb ek; rw [Fin.ext ea, Fin.ext eb, Fin.ext ek]
  refine e3 _ _ _ _ _ _ ?_ ?_ ?_
  · show 768 * ((t.val - 1) / 2) + r.val = wx7 m t 1 * 768 + 1 * r.val; rw [hi.2.1]; omega
  · show 8 * ((t.val - 1) % 2) + p.val = wx7 m t 0 * 8 + 1 * p.val; rw [hi.1]; omega
  · show d.val = wx7 m t 2 * 128 + 1 * d.val; rw [hi.2.2]; omega

theorem final7 (c : Dev nD) : (dats m 0 c).arrAt 7 (cfgM m).N = whole7 m c :=
  (dats m 0 c).arrAt_eq_of_cover 7 (whole7 m c) (fun t ht => flushed7 m c t ((wflush7 m t).mp ht)) (fun (i : S16x16896x128.Idx) => by
    have h0 : (i 0).val < 16 := (i 0).isLt
    have h1 : (i 1).val < 16896 := (i 1).isLt
    have h2 : (i 2).val < 128 := (i 2).isLt
    obtain ⟨t, hv⟩ : ∃ t : Fin (cfgM m).N, t.val = 2 * ((i 1).val / 768) + (i 0).val / 8 + 1 :=
      ⟨⟨2 * ((i 1).val / 768) + (i 0).val / 8 + 1, Nat.lt_of_lt_of_eq (by omega : _ < 45) points.symm⟩, rfl⟩
    refine ⟨t, (wflush7 m t).mpr (by omega), ?_⟩
    have hi := wi7 m t
    have hb : i ∈ (rect7 m t).set := by
      refine Rect.mem_set_unit.mpr fun a => ?_
      match a with
      | ⟨0, _⟩ => show wx7 m t 0 * 8 ≤ (i 0 : Nat) ∧ (i 0 : Nat) < wx7 m t 0 * 8 + 8
                  rw [hi.1]; omega
      | ⟨1, _⟩ => show wx7 m t 1 * 768 ≤ (i 1 : Nat) ∧ (i 1 : Nat) < wx7 m t 1 * 768 + 768
                  rw [hi.2.1]; omega
      | ⟨2, _⟩ => show wx7 m t 2 * 128 ≤ (i 2 : Nat) ∧ (i 2 : Nat) < wx7 m t 2 * 128 + 128
                  rw [hi.2.2]; omega
    show i ∈ (View.slice (Memref.whole main_v19_0).view (rect7 m t)).set
    rw [View.set_slice_whole]; exact hb)

/-- The call's first result is the reference's. -/
theorem result7 (c : Dev nD) : (dats m 0 c).arrAt 7 (cfgM m).N
    = Cert.Reference5Ideal.Read.val_main_v29 (F := Ideal) (A0 m c) (A1 m c) (A3 m c) (A4 m c) := by
  rw [final7]
  funext j
  obtain ⟨h, r, d, rfl⟩ : ∃ (h : Fin 16) (r : Fin 16896) (d : Fin 128), j = ix3 h r d :=
    ⟨j 0, j 1, j 2, by funext a; match a with | ⟨0, _⟩ => rfl | ⟨1, _⟩ => rfl | ⟨2, _⟩ => rfl⟩
  exact (ref_at (A0 m c) (A1 m c) (A3 m c) (A4 m c) h r d).symm

/-! ## The cast matrix -/

/-- The whole of the second result, entry by entry. -/
def whole8 (c : Dev nD) : FVec Ideal S4096x4096 .bf16 := fun j =>
  A2 m c j

theorem flushed8 (c : Dev nD) (t : Fin (cfgM m).N) :
    (dats m 0 c).flushed 8 t = (((cfgM m).win 8).blk t).view.read (Elt Ideal) (whole8 m c) := by
  have hi := wi8 m t
  have e : (dats m 0 c).flushed 8 t = ((cfgM m).win 8).cut ((cfgM m).grid.coords t) (castB m c t) :=
    congrArg (((cfgM m).win 8).cut ((cfgM m).grid.coords t)) (after0_8 m c t)
  refine e.trans ?_
  refine funext fun (j : S256x2048.Idx) => ?_
  refine Eq.trans ?_ (View.read_apply (v := (((cfgM m).win 8).blk t).view) _ _).symm
  obtain ⟨r, k, rfl⟩ : ∃ (r : Fin 256) (k : Fin 2048), j = ix2 r k :=
    ⟨j 0, j 1, by funext a; match a with | ⟨0, _⟩ => rfl | ⟨1, _⟩ => rfl⟩
  refine (cast_at _ r k).trans ((ib6 m c t r k).trans ((congrFun (V_main_arg2 m c) _).trans ?_))
  show _ = whole8 m c ((rect8 m t).emb (ix2 r k))
  unfold whole8
  refine congrArg (A2 m c) (funext fun a => Fin.ext ?_)
  match a with
  | ⟨0, _⟩ => show 256 * (min t.val 31 / 2) + r.val = wx8 m t 0 * 256 + 1 * r.val; rw [hi.1]; omega
  | ⟨1, _⟩ => show 2048 * (min t.val 31 % 2) + k.val = wx8 m t 1 * 2048 + 1 * k.val; rw [hi.2]; omega

theorem final8 (c : Dev nD) : (dats m 0 c).arrAt 8 (cfgM m).N = whole8 m c :=
  (dats m 0 c).arrAt_eq_of_cover 8 (whole8 m c) (fun t _ => flushed8 m c t) (fun (i : S4096x4096.Idx) => by
    have h0 : (i 0).val < 4096 := (i 0).isLt
    have h1 : (i 1).val < 4096 := (i 1).isLt
    obtain ⟨t, hf, hv⟩ : ∃ t : Fin (cfgM m).N, (t.val < 31 ∨ t.val = 44) ∧ min t.val 31 = 2 * ((i 0).val / 256) + (i 1).val / 2048 := by
      by_cases h : 2 * ((i 0).val / 256) + (i 1).val / 2048 < 31
      · exact ⟨⟨2 * ((i 0).val / 256) + (i 1).val / 2048, Nat.lt_of_lt_of_eq (by omega : _ < 45) points.symm⟩, Or.inl h, Nat.min_eq_left (Nat.le_of_lt h)⟩
      · exact ⟨⟨44, Nat.lt_of_lt_of_eq (by decide : 44 < 45) points.symm⟩, Or.inr rfl, by show 31 = _; omega⟩
    refine ⟨t, (wflush8 m t).mpr hf, ?_⟩
    have hi := wi8 m t
    have hb : i ∈ (rect8 m t).set := by
      refine Rect.mem_set_unit.mpr fun a => ?_
      match a with
      | ⟨0, _⟩ => show wx8 m t 0 * 256 ≤ (i 0 : Nat) ∧ (i 0 : Nat) < wx8 m t 0 * 256 + 256
                  rw [hi.1, hv]; omega
      | ⟨1, _⟩ => show wx8 m t 1 * 2048 ≤ (i 1 : Nat) ∧ (i 1 : Nat) < wx8 m t 1 * 2048 + 2048
                  rw [hi.2, hv]; omega
    show i ∈ (View.slice (Memref.whole main_v19_1).view (rect8 m t)).set
    rw [View.set_slice_whole]; exact hb)

/-- The call's second result is the reference's. -/
theorem result8 (c : Dev nD) : (dats m 0 c).arrAt 8 (cfgM m).N = Cert.Reference5Ideal.Read.val_main_v30 (F := Ideal) (A2 m c) := by
  rw [final8]
  funext j
  obtain ⟨r, n, rfl⟩ : ∃ (r : Fin 4096) (n : Fin 4096), j = ix2 r n :=
    ⟨j 0, j 1, by funext a; match a with | ⟨0, _⟩ => rfl | ⟨1, _⟩ => rfl⟩
  exact (ref_cast_at (A2 m c) r n).symm

/-- The run: both results are the reference's, and the arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v19_0) = Cert.Reference5Ideal.Read.val_main_v29 (F := Ideal) (A0 m c) (A1 m c) (A3 m c) (A4 m c)
      ∧ r.2.mem ((c.tc : Thread nD τ).loc main_v19_1) = Cert.Reference5Ideal.Read.val_main_v30 (F := Ideal) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 7).trans (result7 m c), ((h.1.1 c).1 8).trans (result8 m c), h.2.1 c⟩)
    (θ_run_and (run_main_quiescent m ρ) (frame m ρ))

end Cert.Proof.Rope
end
-- ==== Proof.Rope.FrameK.lean ====
module

public import proofs.«01_k».proof.Defs
public import proofs.«01_k».proof.Proof.Gen.Kernel5
public import proofs.«01_k».proof.Proof.Rope.Frame

@[expose] public section

noncomputable section

namespace Cert.Proof.Rope

open Idealize.ShloMosaic Idealize.SL.Sem

open Cert.Kernel5Ideal in
/-- The idealized kernel's frame, read at bits. -/
def frameBits : Prop := ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

open Cert.Kernel5Ideal in
theorem frame_bits : frameBits := fun m g _ => frame m g

theorem frame_same : frameBits = Cert.quiescent_Kernel5 := by chain_rfl

theorem frame_k : Cert.quiescent_Kernel5 := frame_same ▸ frame_bits

end Cert.Proof.Rope
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Attn.Value
public import proofs.«01_k».proof.Proof.Out.Value
public import proofs.«01_k».proof.Proof.Plain.Value
public import proofs.«01_k».proof.Proof.Attn.FrameK
public import proofs.«01_k».proof.Proof.Norm.Value
public import proofs.«01_k».proof.Proof.Norm.FrameK
public import proofs.«01_k».proof.Proof.Rope.Value
public import proofs.«01_k».proof.Proof.Rope.FrameK
public import Idealize.ShloMosaic.Adequacy
public import Idealize.ShloMosaic.Init

@[expose] public section

noncomputable section

namespace Cert.Proof

open Idealize.ShloMosaic Idealize.SL.Sem Cert.Kernel

/-- The idealized kernel ends with its arguments unchanged and every counter at zero. -/
theorem frame_pi : Cert.quiescent_KernelIdeal := fun m g _ =>
  (θ_run (Cert.KernelIdeal.defs (F := Ideal)) _ _).mono (fun _ h => h.2) (Attn.run m g)

/-- The reference runs on host operations alone and declares no counter. -/
theorem frame_r : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel's result array is the reference's stage at every index. -/
theorem result_eq (m : (ℓ : Loc Cert.KernelIdeal.nD Cert.KernelIdeal.τ Cert.KernelIdeal.sig) → Buf (Elt Ideal) ℓ)
    (hp : Cert.Pre_KernelIdeal_finite m) (c : Dev Cert.KernelIdeal.nD) :
    Attn.resArr m c = Cert.ReferenceIdeal.Read.val_main_v70 (F := Ideal) (Attn.A0 m c) (Attn.A1 m c) (Attn.A2 m c) (Attn.A3 m c)
      (Attn.A4 m c) (Attn.A5 m c) (Attn.A6 m c) := by
  obtain ⟨p0, p1, p2, p3, p4, p5⟩ := hp c
  choose f0 h0 using Attn.real0 _ _ _ _ _ _ _ p0
  choose f1 h1 using Attn.real1 _ _ _ _ _ _ _ p1
  obtain ⟨lam, hlam⟩ := Attn.lam_real _ _ _ _ (Attn.real2 _ _ _ _ _ _ _ p2) (Attn.real3 _ _ _ _ _ _ _ p3) (Attn.real4 _ _ _ _ _ _ _ p4)
    (Attn.real5 _ _ _ _ _ _ _ p5)
  funext j
  have ej : j = ix3 (j 0) (j 1) (j 2) := by
    funext i; match i with | ⟨0, _⟩ => rfl | ⟨1, _⟩ => rfl | ⟨2, _⟩ => rfl
  rw [ej]
  exact Attn.res_at m c h0 h1 hlam (j 0) (j 1) (j 2)

theorem value : Cert.algebraic_KernelIdeal_ReferenceIdeal_pre_finite := by
  intro m g m' g' hp ha
  refine ⟨fun c => Attn.resArr m c, ?_, ?_⟩
  · exact (θ_run (Cert.KernelIdeal.defs (F := Ideal)) _ _).mono (fun _ h c => ⟨h.1 c, h.2.1 c⟩) (Attn.run m g)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6⟩ := ha c
    refine (Cert.ReferenceIdeal.Read.val_main_v70_eq m' c).trans (Eq.trans ?_ (result_eq m hp c).symm)
    rw [e0, e1, e2, e3, e4, e5, e6]

/-! ## The output projection -/

theorem frame_r2 : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

theorem value2 : Cert.algebraic_Kernel2Ideal_Reference2Ideal := by
  intro m g m' g' _ ha
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨e0, e1, e2, e3, e4⟩ := ha c
  refine (Cert.Reference2Ideal.Read.val_main_v8_eq _ _ _ _ _).trans (Eq.trans ?_ (Out.result_eq m c).symm)
  rw [e0, e1, e2, e3, e4]

/-! ## The plain columns of the input projection -/

theorem frame_r3 : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

theorem value3 : Cert.algebraic_Kernel3Ideal_Reference3Ideal := by
  intro m g m' g' _ ha
  refine ⟨fun c => Cert.Reference3Ideal.Read.val_main_v18 (F := Ideal) (Plain.A0 m c) (Plain.A1 m c), Plain.run m g, ?_⟩
  refine (θ_run Cert.Reference3Ideal.defs _ _).mono (fun r h c => ⟨(h c).1.trans ?_, (h c).2⟩) (Cert.Reference3Ideal.Value.run (F := Ideal) m' g')
  obtain ⟨e0, e1⟩ := ha c
  refine (Cert.Reference3Ideal.Read.val_main_v18_eq _ _).trans ?_
  rw [e0, e1]

/-! ## The normalised columns of the input projection -/

theorem frame_pi4 : Cert.quiescent_Kernel4Ideal := fun m g _ => Norm.frame m g

theorem frame_r4 : Cert.quiescent_Reference4Ideal := fun m g _ =>
  (θ_run Cert.Reference4Ideal.defs _ _).mono (fun r h => ⟨fun c => (h c).2.2, Idealize.ShloMosaic.sem_eq_zero_of_no_sems (by decide) r.2⟩)
    (Cert.Reference4Ideal.Value.run (F := Ideal) m g)

theorem value4 : Cert.algebraic_Kernel4Ideal_Reference4Ideal := by
  intro m g m' g' _ ha
  refine ⟨fun c => Cert.Reference4Ideal.Read.val_main_v37 (F := Ideal) (Norm.A0 m c) (Norm.A1 m c) (Norm.A2 m c) (Norm.A3 m c) (Norm.A4 m c) (Norm.A5 m c),
    fun c => Cert.Reference4Ideal.Read.val_main_v39 (F := Ideal) (Norm.A1 m c), Norm.run m g, ?_⟩
  refine (θ_run Cert.Reference4Ideal.defs _ _).mono (fun r h c => ⟨(h c).1.trans ?_, (h c).2.1.trans ?_, (h c).2.2⟩) (Cert.Reference4Ideal.Value.run (F := Ideal) m' g')
  · obtain ⟨e0, e1, e2, e3, e4, e5⟩ := ha c
    refine (Cert.Reference4Ideal.Read.val_main_v37_eq m' c).trans ?_
    rw [e0, e1, e2, e3, e4, e5]
  · obtain ⟨e0, e1, e2, e3, e4, e5⟩ := ha c
    refine (Cert.Reference4Ideal.Read.val_main_v39_eq _).trans ?_
    rw [e1]

/-! ## The rotated columns of the input projection -/

theorem frame_pi5 : Cert.quiescent_Kernel5Ideal := fun m g _ => Rope.frame m g

theorem frame_r5 : Cert.quiescent_Reference5Ideal := fun m g _ =>
  (θ_run Cert.Reference5Ideal.defs _ _).mono (fun r h => ⟨fun c => (h c).2.2, Idealize.ShloMosaic.sem_eq_zero_of_no_sems (by decide) r.2⟩)
    (Cert.Reference5Ideal.Value.run (F := Ideal) m g)

theorem value5 : Cert.algebraic_Kernel5Ideal_Reference5Ideal := by
  intro m g m' g' _ ha
  refine ⟨fun c => Cert.Reference5Ideal.Read.val_main_v29 (F := Ideal) (Rope.A0 m c) (Rope.A1 m c) (Rope.A3 m c) (Rope.A4 m c),
    fun c => Cert.Reference5Ideal.Read.val_main_v30 (F := Ideal) (Rope.A2 m c), Rope.run m g, ?_⟩
  refine (θ_run Cert.Reference5Ideal.defs _ _).mono (fun r h c => ⟨(h c).1.trans ?_, (h c).2.1.trans ?_, (h c).2.2⟩) (Cert.Reference5Ideal.Value.run (F := Ideal) m' g')
  · obtain ⟨e0, e1, e2, e3, e4⟩ := ha c
    refine (Cert.Reference5Ideal.Read.val_main_v29_eq m' c).trans ?_
    rw [e0, e1, e3, e4]
  · obtain ⟨e0, e1, e2, e3, e4⟩ := ha c
    refine (Cert.Reference5Ideal.Read.val_main_v30_eq _).trans ?_
    rw [e2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Attn.pre_facts,
  frame_k, frame_pi, fun m g _ => frame_pi m g trivial, frame_r, fun m g _ => frame_r m g trivial,
  fun m g _ => Cert.Kernel2.Gen.frame m g, fun m g _ => Cert.Kernel2Ideal.Gen.frame m g, frame_r2,
  fun m g _ => Cert.Kernel3.Gen.frame m g (Plain.okB m), fun m g _ => Cert.Kernel3Ideal.Gen.frame m g (Plain.okI m), frame_r3,
  Norm.frame_k, frame_pi4, frame_r4,
  Rope.frame_k, frame_pi5, frame_r5,
  IdealRules.named_const.statement Cert.KernelIdeal.κ "log2e_inv_sqrt_d" .f32 0x3E0293EE#32 (((Real.log 2)⁻¹ * (Real.sqrt 128)⁻¹ : ℝ) : EReal) rfl,
  value, trivial, value2, trivial, value3, trivial, value4, trivial, value5⟩

end Cert.Proof

end
